-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_routed.lean ====
abbrev S8x2048x1024 : Shape := ⟨3, ![8, 2048, 1024]⟩
abbrev S8x2048 : Shape := ⟨2, ![8, 2048]⟩
abbrev S8x2048x2 : Shape := ⟨3, ![8, 2048, 2]⟩
abbrev S8x6144 : Shape := ⟨2, ![8, 6144]⟩
abbrev S128x4x1024 : Shape := ⟨3, ![128, 4, 1024]⟩
abbrev S128x4 : Shape := ⟨2, ![128, 4]⟩
abbrev S128x4x2 : Shape := ⟨3, ![128, 4, 2]⟩
abbrev S128x6144 : Shape := ⟨2, ![128, 6144]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S8x2048x1 : Shape := ⟨3, ![8, 2048, 1]⟩
abbrev S128x4x1 : Shape := ⟨3, ![128, 4, 1]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x2 : S_.BroadcastsInDim S8x2048x2 (![] : Fin 0 → Fin S8x2048x2.rank)
  reducesTo_S8x2048x2_S_d0_1_2 : S8x2048x2.ReducesTo [0, 1, 2] S_
  slices_S8x2048x2_S8x2048x1_0_0_0 : S8x2048x2.Slices ![0, 0, 0] S8x2048x1
  shapeCasts_S8x2048x1_S8x2048 : S8x2048x1.ShapeCasts S8x2048
  slices_S8x2048x2_S8x2048x1_0_0_1 : S8x2048x2.Slices ![0, 0, 1] S8x2048x1
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S128x4 : S_.BroadcastsInDim S128x4 (![] : Fin 0 → Fin S128x4.rank)
  reducesTo_S128x4_S_d0_1 : S128x4.ReducesTo [0, 1] S_
  bcast_S_S128x4x2 : S_.BroadcastsInDim S128x4x2 (![] : Fin 0 → Fin S128x4x2.rank)
  reducesTo_S128x4x2_S_d0_1_2 : S128x4x2.ReducesTo [0, 1, 2] S_
  slices_S128x4x2_S128x4x1_0_0_0 : S128x4x2.Slices ![0, 0, 0] S128x4x1
  shapeCasts_S128x4x1_S128x4 : S128x4x1.ShapeCasts S128x4
  slices_S128x4x2_S128x4x1_0_0_1 : S128x4x2.Slices ![0, 0, 1] S128x4x1
  bcast_S_S128x4x1024 : S_.BroadcastsInDim S128x4x1024 (![] : Fin 0 → Fin S128x4x1024.rank)
  reducesTo_S128x4x1024_S_d0_1_2 : S128x4x1024.ReducesTo [0, 1, 2] S_

variable [Facts]

def fn_part4 {F : FTy → Type} [FloatOps F] (main_v13 : IVec S_ 1) (main_v43 : IVec S_ 1) (main_v68 : IVec S_ 1) (main_v69 : FVec F S128x4x2 .f32) : IVec S_ 1 :=
  let main_cst_24 : FVec F S_ .f32 := constant S_ .f32 0x00000000#32
  let main_v70 : FVec F S128x4x2 .f32 := broadcastInDim S128x4x2 ![] bcast_S_S128x4x2 main_cst_24
  let main_v71 : IVec S128x4x2 1 := cmpf .oeq main_v69 main_v70
  let main_c_25 : IVec S_ 1 := constantI S_ 1 1#1
  let main_v72 : IVec S_ 1 := (fun x v => Host.reduce IntOp.andi x v reducesTo_S128x4x2_S_d0_1_2 h_S_) main_v71 main_c_25
  let main_v73 : IVec S_ 1 := andi main_v68 main_v72
  let main_v74 : IVec S_ 1 := andi main_v43 main_v73
  let main_v75 : IVec S_ 1 := andi main_v74 main_v13
  main_v75

def fn_part3 {F : FTy → Type} [FloatOps F] (main_arg7 : FVec F S128x4x1024 .bf16) (main_arg9 : IVec S128x4x2 32) (main_arg10 : FVec F S128x4x2 .f32) (main_v13 : IVec S_ 1) (main_v43 : IVec S_ 1) (main_v49 : IVec S_ 1) (main_v50 : IVec S128x4x2 32) : IVec S_ 1 :=
  let main_v51 : IVec S128x4x2 1 := cmpi .sge main_arg9 main_v50
  let main_c_19 : IVec S_ 32 := constantI S_ 32 4#32
  let main_v52 : IVec S128x4x2 32 := broadcastInDim S128x4x2 ![] bcast_S_S128x4x2 main_c_19
  let main_v53 : IVec S128x4x2 1 := cmpi .slt main_arg9 main_v52
  let main_v54 : IVec S128x4x2 1 := andi main_v51 main_v53
  let main_c_20 : IVec S_ 1 := constantI S_ 1 1#1
  let main_v55 : IVec S_ 1 := (fun x v => Host.reduce IntOp.andi x v reducesTo_S128x4x2_S_d0_1_2 h_S_) main_v54 main_c_20
  let main_v56 : IVec S_ 1 := andi main_v49 main_v55
  let main_v57 : IVec S128x4x1 32 := (extractStridedSlice S128x4x1 ![0, 0, 0] · slices_S128x4x2_S128x4x1_0_0_0) main_arg9
  let main_v58 : IVec S128x4 32 := shapeCast S128x4 main_v57 shapeCasts_S128x4x1_S128x4
  let main_v59 : IVec S128x4x1 32 := (extractStridedSlice S128x4x1 ![0, 0, 1] · slices_S128x4x2_S128x4x1_0_0_1) main_arg9
  let main_v60 : IVec S128x4 32 := shapeCast S128x4 main_v59 shapeCasts_S128x4x1_S128x4
  let main_v61 : IVec S128x4 1 := cmpi .ne main_v58 main_v60
  let main_c_21 : IVec S_ 1 := constantI S_ 1 1#1
  let main_v62 : IVec S_ 1 := (fun x v => Host.reduce IntOp.andi x v reducesTo_S128x4_S_d0_1 h_S_) main_v61 main_c_21
  let main_v63 : IVec S_ 1 := andi main_v56 main_v62
  let main_v64 : FVec F S128x4x1024 .bf16 := subf main_arg7 main_arg7
  let main_cst_22 : FVec F S_ .bf16 := constant S_ .bf16 0x0000#16
  let main_v65 : FVec F S128x4x1024 .bf16 := broadcastInDim S128x4x1024 ![] bcast_S_S128x4x1024 main_cst_22
  let main_v66 : IVec S128x4x1024 1 := cmpf .oeq main_v64 main_v65
  let main_c_23 : IVec S_ 1 := constantI S_ 1 1#1
  let main_v67 : IVec S_ 1 := (fun x v => Host.reduce IntOp.andi x v reducesTo_S128x4x1024_S_d0_1_2 h_S_) main_v66 main_c_23
  let main_v68 : IVec S_ 1 := andi main_v63 main_v67
  let main_v69 : FVec F S128x4x2 .f32 := subf main_arg10 main_arg10
  fn_part4 (F := F) main_v13 main_v43 main_v68 main_v69

def fn_part2 {F : FTy → Type} [FloatOps F] (main_arg4 : FVec F S8x2048x2 .f32) (main_arg7 : FVec F S128x4x1024 .bf16) (main_arg8 : IVec S128x4 32) (main_arg9 : IVec S128x4x2 32) (main_arg10 : FVec F S128x4x2 .f32) (main_v13 : IVec S_ 1) (main_v33 : IVec S_ 1) (main_v34 : FVec F S8x2048x1024 .bf16) : IVec S_ 1 :=
  let main_cst_11 : FVec F S_ .bf16 := constant S_ .bf16 0x0000#16
  let main_v35 : FVec F S8x2048x1024 .bf16 := broadcastInDim S8x2048x1024 ![] bcast_S_S8x2048x1024 main_cst_11
  let main_v36 : IVec S8x2048x1024 1 := cmpf .oeq main_v34 main_v35
  let main_c_12 : IVec S_ 1 := constantI S_ 1 1#1
  let main_v37 : IVec S_ 1 := (fun x v => Host.reduce IntOp.andi x v reducesTo_S8x2048x1024_S_d0_1_2 h_S_) main_v36 main_c_12
  let main_v38 : IVec S_ 1 := andi main_v33 main_v37
  let main_v39 : FVec F S8x2048x2 .f32 := subf main_arg4 main_arg4
  let main_cst_13 : FVec F S_ .f32 := constant S_ .f32 0x00000000#32
  let main_v40 : FVec F S8x2048x2 .f32 := broadcastInDim S8x2048x2 ![] bcast_S_S8x2048x2 main_cst_13
  let main_v41 : IVec S8x2048x2 1 := cmpf .oeq main_v39 main_v40
  let main_c_14 : IVec S_ 1 := constantI S_ 1 1#1
  let main_v42 : IVec S_ 1 := (fun x v => Host.reduce IntOp.andi x v reducesTo_S8x2048x2_S_d0_1_2 h_S_) main_v41 main_c_14
  let main_v43 : IVec S_ 1 := andi main_v38 main_v42
  let main_c_15 : IVec S_ 32 := constantI S_ 32 0#32
  let main_v44 : IVec S128x4 32 := broadcastInDim S128x4 ![] bcast_S_S128x4 main_c_15
  let main_v45 : IVec S128x4 1 := cmpi .sge main_arg8 main_v44
  let main_c_16 : IVec S_ 32 := constantI S_ 32 4#32
  let main_v46 : IVec S128x4 32 := broadcastInDim S128x4 ![] bcast_S_S128x4 main_c_16
  let main_v47 : IVec S128x4 1 := cmpi .slt main_arg8 main_v46
  let main_v48 : IVec S128x4 1 := andi main_v45 main_v47
  let main_c_17 : IVec S_ 1 := constantI S_ 1 1#1
  let main_v49 : IVec S_ 1 := (fun x v => Host.reduce IntOp.andi x v reducesTo_S128x4_S_d0_1 h_S_) main_v48 main_c_17
  let main_c_18 : IVec S_ 32 := constantI S_ 32 0#32
  let main_v50 : IVec S128x4x2 32 := broadcastInDim S128x4x2 ![] bcast_S_S128x4x2 main_c_18
  fn_part3 (F := F) main_arg7 main_arg9 main_arg10 main_v13 main_v43 main_v49 main_v50

def fn_part1 {F : FTy → Type} [FloatOps F] (main_arg1 : FVec F S8x2048x1024 .bf16) (main_arg2 : IVec S8x2048 32) (main_arg3 : IVec S8x2048x2 32) (main_arg4 : FVec F S8x2048x2 .f32) (main_arg7 : FVec F S128x4x1024 .bf16) (main_arg8 : IVec S128x4 32) (main_arg9 : IVec S128x4x2 32) (main_arg10 : FVec F S128x4x2 .f32) (main_v13 : IVec S_ 1) (main_v15 : IVec S8x2048 1) (main_c_5 : IVec S_ 32) : IVec S_ 1 :=
  let main_v16 : IVec S8x2048 32 := broadcastInDim S8x2048 ![] bcast_S_S8x2048 main_c_5
  let main_v17 : IVec S8x2048 1 := cmpi .slt main_arg2 main_v16
  let main_v18 : IVec S8x2048 1 := andi main_v15 main_v17
  let main_c_6 : IVec S_ 1 := constantI S_ 1 1#1
  let main_v19 : IVec S_ 1 := (fun x v => Host.reduce IntOp.andi x v reducesTo_S8x2048_S_d0_1 h_S_) main_v18 main_c_6
  let main_c_7 : IVec S_ 32 := constantI S_ 32 0#32
  let main_v20 : IVec S8x2048x2 32 := broadcastInDim S8x2048x2 ![] bcast_S_S8x2048x2 main_c_7
  let main_v21 : IVec S8x2048x2 1 := cmpi .sge main_arg3 main_v20
  let main_c_8 : IVec S_ 32 := constantI S_ 32 4#32
  let main_v22 : IVec S8x2048x2 32 := broadcastInDim S8x2048x2 ![] bcast_S_S8x2048x2 main_c_8
  let main_v23 : IVec S8x2048x2 1 := cmpi .slt main_arg3 main_v22
  let main_v24 : IVec S8x2048x2 1 := andi main_v21 main_v23
  let main_c_9 : IVec S_ 1 := constantI S_ 1 1#1
  let main_v25 : IVec S_ 1 := (fun x v => Host.reduce IntOp.andi x v reducesTo_S8x2048x2_S_d0_1_2 h_S_) main_v24 main_c_9
  let main_v26 : IVec S_ 1 := andi main_v19 main_v25
  let main_v27 : IVec S8x2048x1 32 := (extractStridedSlice S8x2048x1 ![0, 0, 0] · slices_S8x2048x2_S8x2048x1_0_0_0) main_arg3
  let main_v28 : IVec S8x2048 32 := shapeCast S8x2048 main_v27 shapeCasts_S8x2048x1_S8x2048
  let main_v29 : IVec S8x2048x1 32 := (extractStridedSlice S8x2048x1 ![0, 0, 1] · slices_S8x2048x2_S8x2048x1_0_0_1) main_arg3
  let main_v30 : IVec S8x2048 32 := shapeCast S8x2048 main_v29 shapeCasts_S8x2048x1_S8x2048
  let main_v31 : IVec S8x2048 1 := cmpi .ne main_v28 main_v30
  let main_c_10 : IVec S_ 1 := constantI S_ 1 1#1
  let main_v32 : IVec S_ 1 := (fun x v => Host.reduce IntOp.andi x v reducesTo_S8x2048_S_d0_1 h_S_) main_v31 main_c_10
  let main_v33 : IVec S_ 1 := andi main_v26 main_v32
  let main_v34 : FVec F S8x2048x1024 .bf16 := subf main_arg1 main_arg1
  fn_part2 (F := F) main_arg4 main_arg7 main_arg8 main_arg9 main_arg10 main_v13 main_v33 main_v34

def fn {F : FTy → Type} [FloatOps F] (main_arg0 : FVec F S8x2048x1024 .f32) (main_arg1 : FVec F S8x2048x1024 .bf16) (main_arg2 : IVec S8x2048 32) (main_arg3 : IVec S8x2048x2 32) (main_arg4 : FVec F S8x2048x2 .f32) (main_arg5 : FVec F S8x6144 .f32) (main_arg6 : FVec F S128x4x1024 .f32) (main_arg7 : FVec F S128x4x1024 .bf16) (main_arg8 : IVec S128x4 32) (main_arg9 : IVec S128x4x2 32) (main_arg10 : FVec F S128x4x2 .f32) (main_arg11 : FVec F S128x6144 .f32) (main_arg12 : FVec F S16x1024x256 .bf16) (main_arg13 : FVec F S16x1024x256 .bf16) (main_arg14 : FVec F S16x256x1024 .bf16) (main_arg15 : FVec F S1024 .f32) : IVec S_ 1 :=
  let main_v0 : FVec F S16x1024x256 .bf16 := subf main_arg12 main_arg12
  let main_cst : FVec F S_ .bf16 := constant S_ .bf16 0x0000#16
  let main_v1 : FVec F S16x1024x256 .bf16 := broadcastInDim S16x1024x256 ![] bcast_S_S16x1024x256 main_cst
  let main_v2 : IVec S16x1024x256 1 := cmpf .oeq main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x256 .bf16 := subf main_arg13 main_arg13
  let main_cst_0 : FVec F S_ .bf16 := constant S_ .bf16 0x0000#16
  let main_v5 : FVec F S16x1024x256 .bf16 := broadcastInDim S16x1024x256 ![] bcast_S_S16x1024x256 main_cst_0
  let main_v6 : IVec S16x1024x256 1 := cmpf .oeq main_v4 main_v5
  let main_c_1 : IVec S_ 1 := constantI S_ 1 1#1
  let main_v7 : IVec S_ 1 := (fun x v => Host.reduce IntOp.andi x v reducesTo_S16x1024x256_S_d0_1_2 h_S_) main_v6 main_c_1
  let main_v8 : IVec S_ 1 := andi main_v3 main_v7
  let main_v9 : FVec F S16x256x1024 .bf16 := subf main_arg14 main_arg14
  let main_cst_2 : FVec F S_ .bf16 := constant S_ .bf16 0x0000#16
  let main_v10 : FVec F S16x256x1024 .bf16 := broadcastInDim S16x256x1024 ![] bcast_S_S16x256x1024 main_cst_2
  let main_v11 : IVec S16x256x1024 1 := cmpf .oeq main_v9 main_v10
  let main_c_3 : IVec S_ 1 := constantI S_ 1 1#1
  let main_v12 : IVec S_ 1 := (fun x v => Host.reduce IntOp.andi x v reducesTo_S16x256x1024_S_d0_1_2 h_S_) main_v11 main_c_3
  let main_v13 : IVec S_ 1 := andi main_v8 main_v12
  let main_c_4 : IVec S_ 32 := constantI S_ 32 0#32
  let main_v14 : IVec S8x2048 32 := broadcastInDim S8x2048 ![] bcast_S_S8x2048 main_c_4
  let main_v15 : IVec S8x2048 1 := cmpi .sge main_arg2 main_v14
  let main_c_5 : IVec S_ 32 := constantI S_ 32 4#32
  fn_part1 (F := F) main_arg1 main_arg2 main_arg3 main_arg4 main_arg7 main_arg8 main_arg9 main_arg10 main_v13 main_v15 main_c_5
-- ==== Kernel.lean ====
abbrev S8x2048x1024 : Shape := ⟨3, ![8, 2048, 1024]⟩
abbrev S8x2048 : Shape := ⟨2, ![8, 2048]⟩
abbrev S8x2048x2 : Shape := ⟨3, ![8, 2048, 2]⟩
abbrev S8x6144 : Shape := ⟨2, ![8, 6144]⟩
abbrev S128x4x1024 : Shape := ⟨3, ![128, 4, 1024]⟩
abbrev S128x4 : Shape := ⟨2, ![128, 4]⟩
abbrev S128x4x2 : Shape := ⟨3, ![128, 4, 2]⟩
abbrev S128x6144 : Shape := ⟨2, ![128, 6144]⟩
abbrev S16x1024x256 : Shape := ⟨3, ![16, 1024, 256]⟩
abbrev S16x256x1024 : Shape := ⟨3, ![16, 256, 1024]⟩
abbrev S1024 : Shape := ⟨1, ![1024]⟩
abbrev S8x32x64 : Shape := ⟨3, ![8, 32, 64]⟩
abbrev S32x8x64 : Shape := ⟨3, ![32, 8, 64]⟩
abbrev S32x512 : Shape := ⟨2, ![32, 512]⟩
abbrev S4x128 : Shape := ⟨2, ![4, 128]⟩
abbrev S1x512 : Shape := ⟨2, ![1, 512]⟩
abbrev S33x512 : Shape := ⟨2, ![33, 512]⟩
abbrev S8x32x64x2 : Shape := ⟨4, ![8, 32, 64, 2]⟩
abbrev S32x8x64x2 : Shape := ⟨4, ![32, 8, 64, 2]⟩
abbrev S32x512x2 : Shape := ⟨3, ![32, 512, 2]⟩
abbrev S4x128x2 : Shape := ⟨3, ![4, 128, 2]⟩
abbrev S1x512x2 : Shape := ⟨3, ![1, 512, 2]⟩
abbrev S33x512x2 : Shape := ⟨3, ![33, 512, 2]⟩
abbrev S33x512x4 : Shape := ⟨3, ![33, 512, 4]⟩
abbrev S_ : Shape := ⟨0, ![]⟩
abbrev S33x4 : Shape := ⟨2, ![33, 4]⟩
abbrev S33x512x512 : Shape := ⟨3, ![33, 512, 512]⟩
abbrev S33x512x1 : Shape := ⟨3, ![33, 512, 1]⟩
abbrev S33x512x124 : Shape := ⟨3, ![33, 512, 124]⟩
abbrev S33x512x128 : Shape := ⟨3, ![33, 512, 128]⟩
abbrev S32x512x128 : Shape := ⟨3, ![32, 512, 128]⟩
abbrev S32x8x64x128 : Shape := ⟨4, ![32, 8, 64, 128]⟩
abbrev S8x32x64x128 : Shape := ⟨4, ![8, 32, 64, 128]⟩
abbrev S8x2048x128 : Shape := ⟨3, ![8, 2048, 128]⟩
abbrev S4x128x1024 : Shape := ⟨3, ![4, 128, 1024]⟩
abbrev S512x1024 : Shape := ⟨2, ![512, 1024]⟩
abbrev S4x1024x1024 : Shape := ⟨3, ![4, 1024, 1024]⟩
abbrev S1x1024 : Shape := ⟨2, ![1, 1024]⟩
abbrev S132 : Shape := ⟨1, ![132]⟩
abbrev S1x512x128 : Shape := ⟨3, ![1, 512, 128]⟩
abbrev S512x128 : Shape := ⟨2, ![512, 128]⟩
abbrev S8x64x1024 : Shape := ⟨3, ![8, 64, 1024]⟩
abbrev S8x64x128 : Shape := ⟨3, ![8, 64, 128]⟩
abbrev S8x1024 : Shape := ⟨2, ![8, 1024]⟩
abbrev S128x1024 : Shape := ⟨2, ![128, 1024]⟩
abbrev S3x4 : Shape := ⟨2, ![3, 4]⟩
abbrev S1x1 : Shape := ⟨2, ![1, 1]⟩
abbrev S4x1024x256 : Shape := ⟨3, ![4, 1024, 256]⟩
abbrev S1x1024x1024 : Shape := ⟨3, ![1, 1024, 1024]⟩
abbrev S1024x1024 : Shape := ⟨2, ![1024, 1024]⟩
abbrev S128x512 : Shape := ⟨2, ![128, 512]⟩
abbrev S512x512 : Shape := ⟨2, ![512, 512]⟩
abbrev S1 : Shape := ⟨1, ![1]⟩
abbrev S256x1 : Shape := ⟨2, ![256, 1]⟩
abbrev S256x1024 : Shape := ⟨2, ![256, 1024]⟩
abbrev S256x128 : Shape := ⟨2, ![256, 128]⟩
abbrev S1x1024x256 : Shape := ⟨3, ![1, 1024, 256]⟩
abbrev S1024x256 : Shape := ⟨2, ![1024, 256]⟩
abbrev S256x256 : Shape := ⟨2, ![256, 256]⟩
abbrev S224x1 : Shape := ⟨2, ![224, 1]⟩
abbrev S224x1024 : Shape := ⟨2, ![224, 1024]⟩
abbrev S224x128 : Shape := ⟨2, ![224, 128]⟩
abbrev S224x256 : Shape := ⟨2, ![224, 256]⟩
abbrev S192x1 : Shape := ⟨2, ![192, 1]⟩
abbrev S192x1024 : Shape := ⟨2, ![192, 1024]⟩
abbrev S192x128 : Shape := ⟨2, ![192, 128]⟩
abbrev S192x256 : Shape := ⟨2, ![192, 256]⟩
abbrev S176x1 : Shape := ⟨2, ![176, 1]⟩
abbrev S176x1024 : Shape := ⟨2, ![176, 1024]⟩
abbrev S176x128 : Shape := ⟨2, ![176, 128]⟩
abbrev S176x256 : Shape := ⟨2, ![176, 256]⟩
abbrev S160x1 : Shape := ⟨2, ![160, 1]⟩
abbrev S160x1024 : Shape := ⟨2, ![160, 1024]⟩
abbrev S160x128 : Shape := ⟨2, ![160, 128]⟩
abbrev S160x256 : Shape := ⟨2, ![160, 256]⟩
abbrev S144x1 : Shape := ⟨2, ![144, 1]⟩
abbrev S144x1024 : Shape := ⟨2, ![144, 1024]⟩
abbrev S144x128 : Shape := ⟨2, ![144, 128]⟩
abbrev S144x256 : Shape := ⟨2, ![144, 256]⟩
abbrev S128x1 : Shape := ⟨2, ![128, 1]⟩
abbrev S128x128 : Shape := ⟨2, ![128, 128]⟩
abbrev S128x256 : Shape := ⟨2, ![128, 256]⟩
abbrev S512x1 : Shape := ⟨2, ![512, 1]⟩
abbrev S8x1x1024 : Shape := ⟨3, ![8, 1, 1024]⟩
abbrev S512 : Shape := ⟨1, ![512]⟩
abbrev S1x128x1024 : Shape := ⟨3, ![1, 128, 1024]⟩

abbrev nBuf : Space → Nat
  | .hbm => 83
  | .vmem => 21
  | .smem => 1
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048, .i32⟩
  | .hbm, ⟨3, _⟩ => ⟨S8x2048x2, .i32⟩
  | .hbm, ⟨4, _⟩ => ⟨S8x2048x2, .f32⟩
  | .hbm, ⟨5, _⟩ => ⟨S8x6144, .f32⟩
  | .hbm, ⟨6, _⟩ => ⟨S128x4x1024, .f32⟩
  | .hbm, ⟨7, _⟩ => ⟨S128x4x1024, .bf16⟩
  | .hbm, ⟨8, _⟩ => ⟨S128x4, .i32⟩
  | .hbm, ⟨9, _⟩ => ⟨S128x4x2, .i32⟩
  | .hbm, ⟨10, _⟩ => ⟨S128x4x2, .f32⟩
  | .hbm, ⟨11, _⟩ => ⟨S128x6144, .f32⟩
  | .hbm, ⟨12, _⟩ => ⟨S16x1024x256, .bf16⟩
  | .hbm, ⟨13, _⟩ => ⟨S16x1024x256, .bf16⟩
  | .hbm, ⟨14, _⟩ => ⟨S16x256x1024, .bf16⟩
  | .hbm, ⟨15, _⟩ => ⟨S1024, .f32⟩
  | .hbm, ⟨16, _⟩ => ⟨S8x32x64, .i32⟩
  | .hbm, ⟨17, _⟩ => ⟨S32x8x64, .i32⟩
  | .hbm, ⟨18, _⟩ => ⟨S32x512, .i32⟩
  | .hbm, ⟨19, _⟩ => ⟨S4x128, .i32⟩
  | .hbm, ⟨20, _⟩ => ⟨S1x512, .i32⟩
  | .hbm, ⟨21, _⟩ => ⟨S33x512, .i32⟩
  | .hbm, ⟨22, _⟩ => ⟨S8x32x64x2, .i32⟩
  | .hbm, ⟨23, _⟩ => ⟨S32x8x64x2, .i32⟩
  | .hbm, ⟨24, _⟩ => ⟨S32x512x2, .i32⟩
  | .hbm, ⟨25, _⟩ => ⟨S4x128x2, .i32⟩
  | .hbm, ⟨26, _⟩ => ⟨S1x512x2, .i32⟩
  | .hbm, ⟨27, _⟩ => ⟨S33x512x2, .i32⟩
  | .hbm, ⟨28, _⟩ => ⟨S8x32x64x2, .f32⟩
  | .hbm, ⟨29, _⟩ => ⟨S32x8x64x2, .f32⟩
  | .hbm, ⟨30, _⟩ => ⟨S32x512x2, .f32⟩
  | .hbm, ⟨31, _⟩ => ⟨S4x128x2, .f32⟩
  | .hbm, ⟨32, _⟩ => ⟨S1x512x2, .f32⟩
  | .hbm, ⟨33, _⟩ => ⟨S33x512x2, .f32⟩
  | .hbm, ⟨34, _⟩ => ⟨S33x512x4, .i32⟩
  | .hbm, ⟨35, _⟩ => ⟨S33x512x4, .i32⟩
  | .hbm, ⟨36, _⟩ => ⟨S33x512x4, .i1⟩
  | .hbm, ⟨37, _⟩ => ⟨S33x512x4, .i32⟩
  | .hbm, ⟨38, _⟩ => ⟨S_, .i32⟩
  | .hbm, ⟨39, _⟩ => ⟨S33x4, .i32⟩
  | .hbm, ⟨40, _⟩ => ⟨S33x512x512, .i32⟩
  | .hbm, ⟨41, _⟩ => ⟨S33x512x512, .i32⟩
  | .hbm, ⟨42, _⟩ => ⟨S33x512x512, .i32⟩
  | .hbm, ⟨43, _⟩ => ⟨S33x512x512, .i32⟩
  | .hbm, ⟨44, _⟩ => ⟨S33x512x512, .i1⟩
  | .hbm, ⟨45, _⟩ => ⟨S33x512x512, .i1⟩
  | .hbm, ⟨46, _⟩ => ⟨S33x512x512, .i1⟩
  | .hbm, ⟨47, _⟩ => ⟨S33x512x512, .i1⟩
  | .hbm, ⟨48, _⟩ => ⟨S33x512x512, .i1⟩
  | .hbm, ⟨49, _⟩ => ⟨S33x512x512, .i32⟩
  | .hbm, ⟨50, _⟩ => ⟨S_, .i32⟩
  | .hbm, ⟨51, _⟩ => ⟨S33x512, .i32⟩
  | .hbm, ⟨52, _⟩ => ⟨S33x512x1, .i32⟩
  | .hbm, ⟨53, _⟩ => ⟨S33x512x4, .i32⟩
  | .hbm, ⟨54, _⟩ => ⟨S33x512x4, .i1⟩
  | .hbm, ⟨55, _⟩ => ⟨S33x512x1, .f32⟩
  | .hbm, ⟨56, _⟩ => ⟨S33x512x4, .f32⟩
  | .hbm, ⟨57, _⟩ => ⟨S_, .f32⟩
  | .hbm, ⟨58, _⟩ => ⟨S33x512x4, .f32⟩
  | .hbm, ⟨59, _⟩ => ⟨S33x512x4, .f32⟩
  | .hbm, ⟨60, _⟩ => ⟨S33x512x1, .i32⟩
  | .hbm, ⟨61, _⟩ => ⟨S33x512x4, .i32⟩
  | .hbm, ⟨62, _⟩ => ⟨S33x512x4, .i1⟩
  | .hbm, ⟨63, _⟩ => ⟨S33x512x1, .f32⟩
  | .hbm, ⟨64, _⟩ => ⟨S33x512x4, .f32⟩
  | .hbm, ⟨65, _⟩ => ⟨S33x512x4, .f32⟩
  | .hbm, ⟨66, _⟩ => ⟨S33x512, .f32⟩
  | .hbm, ⟨67, _⟩ => ⟨S33x512x124, .f32⟩
  | .hbm, ⟨68, _⟩ => ⟨S33x512x128, .f32⟩
  | .hbm, ⟨69, _⟩ => ⟨S32x512x128, .f32⟩
  | .hbm, ⟨70, _⟩ => ⟨S32x8x64x128, .f32⟩
  | .hbm, ⟨71, _⟩ => ⟨S8x32x64x128, .f32⟩
  | .hbm, ⟨72, _⟩ => ⟨S8x2048x128, .f32⟩
  | .hbm, ⟨73, _⟩ => ⟨S4x128x1024, .f32⟩
  | .hbm, ⟨74, _⟩ => ⟨S512x1024, .f32⟩
  | .hbm, ⟨75, _⟩ => ⟨S4x128x1024, .bf16⟩
  | .hbm, ⟨76, _⟩ => ⟨S512x1024, .bf16⟩
  | .hbm, ⟨77, _⟩ => ⟨S4x1024x1024, .bf16⟩
  | .hbm, ⟨78, _⟩ => ⟨S1x1024, .f32⟩
  | .hbm, ⟨79, _⟩ => ⟨S1x512x128, .f32⟩
  | .hbm, ⟨80, _⟩ => ⟨S512x128, .f32⟩
  | .hbm, ⟨81, _⟩ => ⟨S8x2048x1024, .f32⟩
  | .hbm, ⟨82, _⟩ => ⟨S512x1024, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S8x64x128, .f32⟩
  | .local _ .vmem, ⟨5, _⟩ => ⟨S8x64x128, .f32⟩
  | .local _ .vmem, ⟨6, _⟩ => ⟨S8x1024, .f32⟩
  | .local _ .vmem, ⟨7, _⟩ => ⟨S512x1024, .f32⟩
  | .local _ .vmem, ⟨8, _⟩ => ⟨S512x1024, .bf16⟩
  | .local _ .vmem, ⟨9, _⟩ => ⟨S512x128, .f32⟩
  | .local _ .vmem, ⟨10, _⟩ => ⟨S128x1024, .f32⟩
  | .local _ .vmem, ⟨11, _⟩ => ⟨S1x1024, .f32⟩
  | .local _ .vmem, ⟨12, _⟩ => ⟨S8x64x1024, .f32⟩
  | .local _ .vmem, ⟨13, _⟩ => ⟨S8x64x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x1024, .f32⟩
  | .local _ .vmem, ⟨18, _⟩ => ⟨S16x1024x256, .bf16⟩
  | .local _ .vmem, ⟨19, _⟩ => ⟨S16x1024x256, .bf16⟩
  | .local _ .vmem, ⟨20, _⟩ => ⟨S4x1024x1024, .bf16⟩
  | .local _ .smem, ⟨0, _⟩ => ⟨S132, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v61 : Ref sig .tc := ⟨.hbm, 79, rfl⟩
abbrev main_v62 : Ref sig .tc := ⟨.hbm, 80, rfl⟩
abbrev main_v63_0 : Ref sig .tc := ⟨.hbm, 81, rfl⟩
abbrev main_v63_1 : Ref sig .tc := ⟨.hbm, 82, rfl⟩
abbrev main_v60 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![33], ![false]⟩

abbrev pre0 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_4 : BitVec 32 := 0#32
  let c4_i32 : BitVec 32 := 4#32
  let v9 : BitVec 32 := Scalar.addi c0_i32_4 c4_i32
  let c1_i32 : BitVec 32 := 1#32
  ⟨c0_i32_4, v9, c1_i32⟩
def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v15 : BitVec 32 := Scalar.extui v0
  let c0_i32_8 : BitVec 32 := 0#32
  let v16 : BitVec 1 := Scalar.cmpi .ne v15 c0_i32_8
  v16

def k0_off1 (k0_t1 : Fin k0_t1_loop.trips) : Fin 2 → Nat :=
  let c0_i32_14 : BitVec 32 := 0#32
  let c0_i32_4 : BitVec 32 := 0#32
  let c1_i32 : BitVec 32 := 1#32
  let arg23 : BitVec 32 := Scf.iv c0_i32_4 c1_i32 k0_t1
  ![0, arg23.toNat]
def k0_off2 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let c4_i32_13 : BitVec 32 := 4#32
  let v46 : BitVec 32 := Scalar.muli arg23 c4_i32_13
  let c0_i32_15 : BitVec 32 := 0#32
  let c0_i32_16 : BitVec 32 := 0#32
  ![v46.toNat, 0, 0]
def k0_off3 (k0_t1 : Fin k0_t1_loop.trips) : Fin 2 → Nat :=
  let c1_i32_19 : BitVec 32 := 1#32
  let c0_i32_4 : BitVec 32 := 0#32
  let c1_i32 : BitVec 32 := 1#32
  let arg23 : BitVec 32 := Scf.iv c0_i32_4 c1_i32 k0_t1
  ![1, arg23.toNat]
def k0_off4 (k0_t1 : Fin k0_t1_loop.trips) : Fin 2 → Nat :=
  let c2_i32 : BitVec 32 := 2#32
  let c0_i32_4 : BitVec 32 := 0#32
  let c1_i32 : BitVec 32 := 1#32
  let arg23 : BitVec 32 := Scf.iv c0_i32_4 c1_i32 k0_t1
  ![2, arg23.toNat]
def k0_off5 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let c0_i32_24 : BitVec 32 := 0#32
  let c0_i32_25 : BitVec 32 := 0#32
  ![arg23.toNat, 0, 0]
def k0_off6 (i : grid0.Coords) (k0_t1 : Fin k0_t1_loop.trips) : Fin 1 → Nat :=
  let arg0 : BitVec 32 := BitVec.ofNat 32 (i 0).val
  let c4_i32_9 : BitVec 32 := 4#32
  let v17 : BitVec 32 := Scalar.muli arg0 c4_i32_9
  let c0_i32_4 : BitVec 32 := 0#32
  let c1_i32 : BitVec 32 := 1#32
  let arg23 : BitVec 32 := Scf.iv c0_i32_4 c1_i32 k0_t1
  let v18 : BitVec 32 := Scalar.addi v17 arg23
  let v19 : Index := Scalar.indexCast v18
  ![v19.toNat]
@[reducible] def k0_t2_loop (arg24 : BitVec 32) (v20 : BitVec 32) : Scf.Loop 32 :=
  let c0_i32_25 : BitVec 32 := 0#32
  let v21 : BitVec 32 := Scalar.addi arg24 v20
  let v56 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c255_i32 : BitVec 32 := 255#32
  let v57 : BitVec 32 := Scalar.addi v24 c255_i32
  let c256_i32 : BitVec 32 := 256#32
  let v58 : BitVec 32 := Scalar.divsi v57 c256_i32
  let c0_i32_23 : BitVec 32 := 0#32
  let v59 : BitVec 32 := Scalar.select v56 v58 c0_i32_23
  let v60 : BitVec 32 := Scalar.subi v59 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_27 : BitVec 32 := 1#32
  ⟨c0_i32_25, v64, c1_i32_27⟩
def k0_cond5 (arg24 : BitVec 32) (v20 : BitVec 32) : BitVec 1 :=
  let c0_i32_10 : BitVec 32 := 0#32
  let v21 : BitVec 32 := Scalar.addi arg24 v20
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c128_i32 : BitVec 32 := 128#32
  let v25 : BitVec 1 := Scalar.cmpi .sgt v24 c128_i32
  let v26 : BitVec 32 := Scalar.extui v25
  let v27 : BitVec 32 := Scalar.addi c0_i32_10 v26
  let c144_i32 : BitVec 32 := 144#32
  let v28 : BitVec 1 := Scalar.cmpi .sgt v24 c144_i32
  let v29 : BitVec 32 := Scalar.extui v28
  let v30 : BitVec 32 := Scalar.addi v27 v29
  let c160_i32 : BitVec 32 := 160#32
  let v31 : BitVec 1 := Scalar.cmpi .sgt v24 c160_i32
  let v32 : BitVec 32 := Scalar.extui v31
  let v33 : BitVec 32 := Scalar.addi v30 v32
  let c176_i32 : BitVec 32 := 176#32
  let v34 : BitVec 1 := Scalar.cmpi .sgt v24 c176_i32
  let v35 : BitVec 32 := Scalar.extui v34
  let v36 : BitVec 32 := Scalar.addi v33 v35
  let c192_i32 : BitVec 32 := 192#32
  let v37 : BitVec 1 := Scalar.cmpi .sgt v24 c192_i32
  let v38 : BitVec 32 := Scalar.extui v37
  let v39 : BitVec 32 := Scalar.addi v36 v38
  let c224_i32 : BitVec 32 := 224#32
  let v40 : BitVec 1 := Scalar.cmpi .sgt v24 c224_i32
  let v41 : BitVec 32 := Scalar.extui v40
  let v42 : BitVec 32 := Scalar.addi v39 v41
  let c0_i32_11 : BitVec 32 := 0#32
  let v43 : BitVec 32 := Scalar.maxsi v42 c0_i32_11
  let c6_i32 : BitVec 32 := 6#32
  let v44 : BitVec 32 := Scalar.minsi v43 c6_i32
  let c0_i32_12 : BitVec 32 := 0#32
  let v45 : BitVec 1 := Scalar.cmpi .ne v44 c0_i32_12
  v45

def k0_cond6 (arg24 : BitVec 32) (v20 : BitVec 32) : BitVec 1 :=
  let c0_i32_10 : BitVec 32 := 0#32
  let v21 : BitVec 32 := Scalar.addi arg24 v20
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c128_i32 : BitVec 32 := 128#32
  let v25 : BitVec 1 := Scalar.cmpi .sgt v24 c128_i32
  let v26 : BitVec 32 := Scalar.extui v25
  let v27 : BitVec 32 := Scalar.addi c0_i32_10 v26
  let c144_i32 : BitVec 32 := 144#32
  let v28 : BitVec 1 := Scalar.cmpi .sgt v24 c144_i32
  let v29 : BitVec 32 := Scalar.extui v28
  let v30 : BitVec 32 := Scalar.addi v27 v29
  let c160_i32 : BitVec 32 := 160#32
  let v31 : BitVec 1 := Scalar.cmpi .sgt v24 c160_i32
  let v32 : BitVec 32 := Scalar.extui v31
  let v33 : BitVec 32 := Scalar.addi v30 v32
  let c176_i32 : BitVec 32 := 176#32
  let v34 : BitVec 1 := Scalar.cmpi .sgt v24 c176_i32
  let v35 : BitVec 32 := Scalar.extui v34
  let v36 : BitVec 32 := Scalar.addi v33 v35
  let c192_i32 : BitVec 32 := 192#32
  let v37 : BitVec 1 := Scalar.cmpi .sgt v24 c192_i32
  let v38 : BitVec 32 := Scalar.extui v37
  let v39 : BitVec 32 := Scalar.addi v36 v38
  let c224_i32 : BitVec 32 := 224#32
  let v40 : BitVec 1 := Scalar.cmpi .sgt v24 c224_i32
  let v41 : BitVec 32 := Scalar.extui v40
  let v42 : BitVec 32 := Scalar.addi v39 v41
  let c0_i32_11 : BitVec 32 := 0#32
  let v43 : BitVec 32 := Scalar.maxsi v42 c0_i32_11
  let c6_i32 : BitVec 32 := 6#32
  let v44 : BitVec 32 := Scalar.minsi v43 c6_i32
  let c1_i32_13 : BitVec 32 := 1#32
  let v46 : BitVec 32 := Scalar.subi v44 c1_i32_13
  let c0_i32_14 : BitVec 32 := 0#32
  let v47 : BitVec 1 := Scalar.cmpi .ne v46 c0_i32_14
  v47

def k0_cond7 (arg24 : BitVec 32) (v20 : BitVec 32) : BitVec 1 :=
  let c0_i32_10 : BitVec 32 := 0#32
  let v21 : BitVec 32 := Scalar.addi arg24 v20
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c128_i32 : BitVec 32 := 128#32
  let v25 : BitVec 1 := Scalar.cmpi .sgt v24 c128_i32
  let v26 : BitVec 32 := Scalar.extui v25
  let v27 : BitVec 32 := Scalar.addi c0_i32_10 v26
  let c144_i32 : BitVec 32 := 144#32
  let v28 : BitVec 1 := Scalar.cmpi .sgt v24 c144_i32
  let v29 : BitVec 32 := Scalar.extui v28
  let v30 : BitVec 32 := Scalar.addi v27 v29
  let c160_i32 : BitVec 32 := 160#32
  let v31 : BitVec 1 := Scalar.cmpi .sgt v24 c160_i32
  let v32 : BitVec 32 := Scalar.extui v31
  let v33 : BitVec 32 := Scalar.addi v30 v32
  let c176_i32 : BitVec 32 := 176#32
  let v34 : BitVec 1 := Scalar.cmpi .sgt v24 c176_i32
  let v35 : BitVec 32 := Scalar.extui v34
  let v36 : BitVec 32 := Scalar.addi v33 v35
  let c192_i32 : BitVec 32 := 192#32
  let v37 : BitVec 1 := Scalar.cmpi .sgt v24 c192_i32
  let v38 : BitVec 32 := Scalar.extui v37
  let v39 : BitVec 32 := Scalar.addi v36 v38
  let c224_i32 : BitVec 32 := 224#32
  let v40 : BitVec 1 := Scalar.cmpi .sgt v24 c224_i32
  let v41 : BitVec 32 := Scalar.extui v40
  let v42 : BitVec 32 := Scalar.addi v39 v41
  let c0_i32_11 : BitVec 32 := 0#32
  let v43 : BitVec 32 := Scalar.maxsi v42 c0_i32_11
  let c6_i32 : BitVec 32 := 6#32
  let v44 : BitVec 32 := Scalar.minsi v43 c6_i32
  let c1_i32_13 : BitVec 32 := 1#32
  let v46 : BitVec 32 := Scalar.subi v44 c1_i32_13
  let c1_i32_15 : BitVec 32 := 1#32
  let v48 : BitVec 32 := Scalar.subi v46 c1_i32_15
  let c0_i32_16 : BitVec 32 := 0#32
  let v49 : BitVec 1 := Scalar.cmpi .ne v48 c0_i32_16
  v49

def k0_cond8 (arg24 : BitVec 32) (v20 : BitVec 32) : BitVec 1 :=
  let c0_i32_10 : BitVec 32 := 0#32
  let v21 : BitVec 32 := Scalar.addi arg24 v20
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c128_i32 : BitVec 32 := 128#32
  let v25 : BitVec 1 := Scalar.cmpi .sgt v24 c128_i32
  let v26 : BitVec 32 := Scalar.extui v25
  let v27 : BitVec 32 := Scalar.addi c0_i32_10 v26
  let c144_i32 : BitVec 32 := 144#32
  let v28 : BitVec 1 := Scalar.cmpi .sgt v24 c144_i32
  let v29 : BitVec 32 := Scalar.extui v28
  let v30 : BitVec 32 := Scalar.addi v27 v29
  let c160_i32 : BitVec 32 := 160#32
  let v31 : BitVec 1 := Scalar.cmpi .sgt v24 c160_i32
  let v32 : BitVec 32 := Scalar.extui v31
  let v33 : BitVec 32 := Scalar.addi v30 v32
  let c176_i32 : BitVec 32 := 176#32
  let v34 : BitVec 1 := Scalar.cmpi .sgt v24 c176_i32
  let v35 : BitVec 32 := Scalar.extui v34
  let v36 : BitVec 32 := Scalar.addi v33 v35
  let c192_i32 : BitVec 32 := 192#32
  let v37 : BitVec 1 := Scalar.cmpi .sgt v24 c192_i32
  let v38 : BitVec 32 := Scalar.extui v37
  let v39 : BitVec 32 := Scalar.addi v36 v38
  let c224_i32 : BitVec 32 := 224#32
  let v40 : BitVec 1 := Scalar.cmpi .sgt v24 c224_i32
  let v41 : BitVec 32 := Scalar.extui v40
  let v42 : BitVec 32 := Scalar.addi v39 v41
  let c0_i32_11 : BitVec 32 := 0#32
  let v43 : BitVec 32 := Scalar.maxsi v42 c0_i32_11
  let c6_i32 : BitVec 32 := 6#32
  let v44 : BitVec 32 := Scalar.minsi v43 c6_i32
  let c1_i32_13 : BitVec 32 := 1#32
  let v46 : BitVec 32 := Scalar.subi v44 c1_i32_13
  let c1_i32_15 : BitVec 32 := 1#32
  let v48 : BitVec 32 := Scalar.subi v46 c1_i32_15
  let c1_i32_17 : BitVec 32 := 1#32
  let v50 : BitVec 32 := Scalar.subi v48 c1_i32_17
  let c0_i32_18 : BitVec 32 := 0#32
  let v51 : BitVec 1 := Scalar.cmpi .ne v50 c0_i32_18
  v51

def k0_cond9 (arg24 : BitVec 32) (v20 : BitVec 32) : BitVec 1 :=
  let c0_i32_10 : BitVec 32 := 0#32
  let v21 : BitVec 32 := Scalar.addi arg24 v20
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c128_i32 : BitVec 32 := 128#32
  let v25 : BitVec 1 := Scalar.cmpi .sgt v24 c128_i32
  let v26 : BitVec 32 := Scalar.extui v25
  let v27 : BitVec 32 := Scalar.addi c0_i32_10 v26
  let c144_i32 : BitVec 32 := 144#32
  let v28 : BitVec 1 := Scalar.cmpi .sgt v24 c144_i32
  let v29 : BitVec 32 := Scalar.extui v28
  let v30 : BitVec 32 := Scalar.addi v27 v29
  let c160_i32 : BitVec 32 := 160#32
  let v31 : BitVec 1 := Scalar.cmpi .sgt v24 c160_i32
  let v32 : BitVec 32 := Scalar.extui v31
  let v33 : BitVec 32 := Scalar.addi v30 v32
  let c176_i32 : BitVec 32 := 176#32
  let v34 : BitVec 1 := Scalar.cmpi .sgt v24 c176_i32
  let v35 : BitVec 32 := Scalar.extui v34
  let v36 : BitVec 32 := Scalar.addi v33 v35
  let c192_i32 : BitVec 32 := 192#32
  let v37 : BitVec 1 := Scalar.cmpi .sgt v24 c192_i32
  let v38 : BitVec 32 := Scalar.extui v37
  let v39 : BitVec 32 := Scalar.addi v36 v38
  let c224_i32 : BitVec 32 := 224#32
  let v40 : BitVec 1 := Scalar.cmpi .sgt v24 c224_i32
  let v41 : BitVec 32 := Scalar.extui v40
  let v42 : BitVec 32 := Scalar.addi v39 v41
  let c0_i32_11 : BitVec 32 := 0#32
  let v43 : BitVec 32 := Scalar.maxsi v42 c0_i32_11
  let c6_i32 : BitVec 32 := 6#32
  let v44 : BitVec 32 := Scalar.minsi v43 c6_i32
  let c1_i32_13 : BitVec 32 := 1#32
  let v46 : BitVec 32 := Scalar.subi v44 c1_i32_13
  let c1_i32_15 : BitVec 32 := 1#32
  let v48 : BitVec 32 := Scalar.subi v46 c1_i32_15
  let c1_i32_17 : BitVec 32 := 1#32
  let v50 : BitVec 32 := Scalar.subi v48 c1_i32_17
  let c1_i32_19 : BitVec 32 := 1#32
  let v52 : BitVec 32 := Scalar.subi v50 c1_i32_19
  let c0_i32_20 : BitVec 32 := 0#32
  let v53 : BitVec 1 := Scalar.cmpi .ne v52 c0_i32_20
  v53

def k0_cond10 (arg24 : BitVec 32) (v20 : BitVec 32) : BitVec 1 :=
  let c0_i32_10 : BitVec 32 := 0#32
  let v21 : BitVec 32 := Scalar.addi arg24 v20
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c128_i32 : BitVec 32 := 128#32
  let v25 : BitVec 1 := Scalar.cmpi .sgt v24 c128_i32
  let v26 : BitVec 32 := Scalar.extui v25
  let v27 : BitVec 32 := Scalar.addi c0_i32_10 v26
  let c144_i32 : BitVec 32 := 144#32
  let v28 : BitVec 1 := Scalar.cmpi .sgt v24 c144_i32
  let v29 : BitVec 32 := Scalar.extui v28
  let v30 : BitVec 32 := Scalar.addi v27 v29
  let c160_i32 : BitVec 32 := 160#32
  let v31 : BitVec 1 := Scalar.cmpi .sgt v24 c160_i32
  let v32 : BitVec 32 := Scalar.extui v31
  let v33 : BitVec 32 := Scalar.addi v30 v32
  let c176_i32 : BitVec 32 := 176#32
  let v34 : BitVec 1 := Scalar.cmpi .sgt v24 c176_i32
  let v35 : BitVec 32 := Scalar.extui v34
  let v36 : BitVec 32 := Scalar.addi v33 v35
  let c192_i32 : BitVec 32 := 192#32
  let v37 : BitVec 1 := Scalar.cmpi .sgt v24 c192_i32
  let v38 : BitVec 32 := Scalar.extui v37
  let v39 : BitVec 32 := Scalar.addi v36 v38
  let c224_i32 : BitVec 32 := 224#32
  let v40 : BitVec 1 := Scalar.cmpi .sgt v24 c224_i32
  let v41 : BitVec 32 := Scalar.extui v40
  let v42 : BitVec 32 := Scalar.addi v39 v41
  let c0_i32_11 : BitVec 32 := 0#32
  let v43 : BitVec 32 := Scalar.maxsi v42 c0_i32_11
  let c6_i32 : BitVec 32 := 6#32
  let v44 : BitVec 32 := Scalar.minsi v43 c6_i32
  let c1_i32_13 : BitVec 32 := 1#32
  let v46 : BitVec 32 := Scalar.subi v44 c1_i32_13
  let c1_i32_15 : BitVec 32 := 1#32
  let v48 : BitVec 32 := Scalar.subi v46 c1_i32_15
  let c1_i32_17 : BitVec 32 := 1#32
  let v50 : BitVec 32 := Scalar.subi v48 c1_i32_17
  let c1_i32_19 : BitVec 32 := 1#32
  let v52 : BitVec 32 := Scalar.subi v50 c1_i32_19
  let c1_i32_21 : BitVec 32 := 1#32
  let v54 : BitVec 32 := Scalar.subi v52 c1_i32_21
  let c0_i32_22 : BitVec 32 := 0#32
  let v55 : BitVec 1 := Scalar.cmpi .ne v54 c0_i32_22
  v55

def k0_mult1 (arg24 : BitVec 32) (v20 : BitVec 32) (k0_t2 : Fin (k0_t2_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_25 : BitVec 32 := 0#32
  let c1_i32_27 : BitVec 32 := 1#32
  let arg25 : BitVec 32 := Scf.iv c0_i32_25 c1_i32_27 k0_t2
  let c256_i32_29 : BitVec 32 := 256#32
  let v65 : BitVec 32 := Scalar.muli arg25 c256_i32_29
  let v66 : BitVec 32 := Scalar.addi v23 v65
  let c256_i32_30 : BitVec 32 := 256#32
  let v67 : BitVec 32 := Scalar.minsi v66 c256_i32_30
  v67
def k0_off7 (arg24 : BitVec 32) (v20 : BitVec 32) (k0_t2 : Fin (k0_t2_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_25 : BitVec 32 := 0#32
  let c1_i32_27 : BitVec 32 := 1#32
  let arg25 : BitVec 32 := Scf.iv c0_i32_25 c1_i32_27 k0_t2
  let c256_i32_29 : BitVec 32 := 256#32
  let v65 : BitVec 32 := Scalar.muli arg25 c256_i32_29
  let v66 : BitVec 32 := Scalar.addi v23 v65
  let c256_i32_30 : BitVec 32 := 256#32
  let v67 : BitVec 32 := Scalar.minsi v66 c256_i32_30
  let v68 : BitVec 32 := v67
  let v78 : Index := Scalar.indexCast v68
  let c0 : Index := 0#32
  ![v78.toNat, 0]
def k0_off8 (arg24 : BitVec 32) (v20 : BitVec 32) (k0_t2 : Fin (k0_t2_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_25 : BitVec 32 := 0#32
  let c1_i32_27 : BitVec 32 := 1#32
  let arg25 : BitVec 32 := Scf.iv c0_i32_25 c1_i32_27 k0_t2
  let c256_i32_29 : BitVec 32 := 256#32
  let v65 : BitVec 32 := Scalar.muli arg25 c256_i32_29
  let v66 : BitVec 32 := Scalar.addi v23 v65
  let c256_i32_30 : BitVec 32 := 256#32
  let v67 : BitVec 32 := Scalar.minsi v66 c256_i32_30
  let v68 : BitVec 32 := v67
  let v81 : Index := Scalar.indexCast v68
  let c0_31 : Index := 0#32
  ![v81.toNat, 0]
def k0_off9 (k0_t1 : Fin k0_t1_loop.trips) (c0_i32_33 : BitVec 32) : Fin 3 → Nat :=
  let c0_i32_4 : BitVec 32 := 0#32
  let c1_i32 : BitVec 32 := 1#32
  let arg23 : BitVec 32 := Scf.iv c0_i32_4 c1_i32 k0_t1
  let c4_i32_32 : BitVec 32 := 4#32
  let v87 : BitVec 32 := Scalar.muli arg23 c4_i32_32
  let v88 : BitVec 32 := Scalar.addi v87 c0_i32_33
  let v95 : Index := Scalar.indexCast v88
  let c0_39 : Index := 0#32
  let c0_40 : Index := 0#32
  ![v95.toNat, 0, 0]
def k0_off10 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v155 : Index := Scalar.indexCast arg23
  let c0_67 : Index := 0#32
  let c0_68 : Index := 0#32
  ![v155.toNat, 0, 0]
@[reducible] def k0_t3_loop (arg24 : BitVec 32) (v20 : BitVec 32) : Scf.Loop 32 :=
  let c0_i32_25 : BitVec 32 := 0#32
  let v21 : BitVec 32 := Scalar.addi arg24 v20
  let v56 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c255_i32 : BitVec 32 := 255#32
  let v57 : BitVec 32 := Scalar.addi v24 c255_i32
  let c256_i32 : BitVec 32 := 256#32
  let v58 : BitVec 32 := Scalar.divsi v57 c256_i32
  let c0_i32_23 : BitVec 32 := 0#32
  let v59 : BitVec 32 := Scalar.select v56 v58 c0_i32_23
  let v60 : BitVec 32 := Scalar.subi v59 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let v61 : BitVec 32 := Scalar.addi c0_i32_25 v60
  let c1_i32_28 : BitVec 32 := 1#32
  ⟨v64, v61, c1_i32_28⟩
def k0_mult2 (arg24 : BitVec 32) (v20 : BitVec 32) (k0_t3 : Fin (k0_t3_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_25 : BitVec 32 := 0#32
  let v21 : BitVec 32 := Scalar.addi arg24 v20
  let v56 : BitVec 1 := Scalar.cmpi .sgt v21 arg24
  let v24 : BitVec 32 := Scalar.subi v21 v23
  let c255_i32 : BitVec 32 := 255#32
  let v57 : BitVec 32 := Scalar.addi v24 c255_i32
  let c256_i32 : BitVec 32 := 256#32
  let v58 : BitVec 32 := Scalar.divsi v57 c256_i32
  let c0_i32_23 : BitVec 32 := 0#32
  let v59 : BitVec 32 := Scalar.select v56 v58 c0_i32_23
  let v60 : BitVec 32 := Scalar.subi v59 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_28 : BitVec 32 := 1#32
  let arg25 : BitVec 32 := Scf.iv v64 c1_i32_28 k0_t3
  let c256_i32_29 : BitVec 32 := 256#32
  let v65 : BitVec 32 := Scalar.muli arg25 c256_i32_29
  let v66 : BitVec 32 := Scalar.addi v23 v65
  let c256_i32_30 : BitVec 32 := 256#32
  let v67 : BitVec 32 := Scalar.minsi v66 c256_i32_30
  v67
def k0_off11 (arg24 : BitVec 32) (v20 : BitVec 32) (k0_t3 : Fin (k0_t3_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_25 : BitVec 32 := 0#32
  let v21 : BitVec 32 := Scalar.addi arg24 v20
  let v56 : BitVec 1 := Scalar.cmpi .sgt v21 arg24
  let v24 : BitVec 32 := Scalar.subi v21 v23
  let c255_i32 : BitVec 32 := 255#32
  let v57 : BitVec 32 := Scalar.addi v24 c255_i32
  let c256_i32 : BitVec 32 := 256#32
  let v58 : BitVec 32 := Scalar.divsi v57 c256_i32
  let c0_i32_23 : BitVec 32 := 0#32
  let v59 : BitVec 32 := Scalar.select v56 v58 c0_i32_23
  let v60 : BitVec 32 := Scalar.subi v59 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_28 : BitVec 32 := 1#32
  let arg25 : BitVec 32 := Scf.iv v64 c1_i32_28 k0_t3
  let c256_i32_29 : BitVec 32 := 256#32
  let v65 : BitVec 32 := Scalar.muli arg25 c256_i32_29
  let v66 : BitVec 32 := Scalar.addi v23 v65
  let c256_i32_30 : BitVec 32 := 256#32
  let v67 : BitVec 32 := Scalar.minsi v66 c256_i32_30
  let v68 : BitVec 32 := v67
  let v78 : Index := Scalar.indexCast v68
  let c0 : Index := 0#32
  ![v78.toNat, 0]
def k0_off12 (arg24 : BitVec 32) (v20 : BitVec 32) (k0_t3 : Fin (k0_t3_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_25 : BitVec 32 := 0#32
  let v21 : BitVec 32 := Scalar.addi arg24 v20
  let v56 : BitVec 1 := Scalar.cmpi .sgt v21 arg24
  let v24 : BitVec 32 := Scalar.subi v21 v23
  let c255_i32 : BitVec 32 := 255#32
  let v57 : BitVec 32 := Scalar.addi v24 c255_i32
  let c256_i32 : BitVec 32 := 256#32
  let v58 : BitVec 32 := Scalar.divsi v57 c256_i32
  let c0_i32_23 : BitVec 32 := 0#32
  let v59 : BitVec 32 := Scalar.select v56 v58 c0_i32_23
  let v60 : BitVec 32 := Scalar.subi v59 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_28 : BitVec 32 := 1#32
  let arg25 : BitVec 32 := Scf.iv v64 c1_i32_28 k0_t3
  let c256_i32_29 : BitVec 32 := 256#32
  let v65 : BitVec 32 := Scalar.muli arg25 c256_i32_29
  let v66 : BitVec 32 := Scalar.addi v23 v65
  let c256_i32_30 : BitVec 32 := 256#32
  let v67 : BitVec 32 := Scalar.minsi v66 c256_i32_30
  let v68 : BitVec 32 := v67
  let v81 : Index := Scalar.indexCast v68
  let c0_31 : Index := 0#32
  ![v81.toNat, 0]
def k0_off13 (k0_t1 : Fin k0_t1_loop.trips) (c0_i32_33 : BitVec 32) : Fin 3 → Nat :=
  let c0_i32_4 : BitVec 32 := 0#32
  let c1_i32 : BitVec 32 := 1#32
  let arg23 : BitVec 32 := Scf.iv c0_i32_4 c1_i32 k0_t1
  let c4_i32_32 : BitVec 32 := 4#32
  let v87 : BitVec 32 := Scalar.muli arg23 c4_i32_32
  let v88 : BitVec 32 := Scalar.addi v87 c0_i32_33
  let v95 : Index := Scalar.indexCast v88
  let c0_39 : Index := 0#32
  let c0_40 : Index := 0#32
  ![v95.toNat, 0, 0]
def k0_off14 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v155 : Index := Scalar.indexCast arg23
  let c0_67 : Index := 0#32
  let c0_68 : Index := 0#32
  ![v155.toNat, 0, 0]
@[reducible] def k0_t4_loop (arg24 : BitVec 32) (v20 : BitVec 32) : Scf.Loop 32 :=
  let c0_i32_26 : BitVec 32 := 0#32
  let v21 : BitVec 32 := Scalar.addi arg24 v20
  let v56 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c223_i32 : BitVec 32 := 223#32
  let v57 : BitVec 32 := Scalar.addi v24 c223_i32
  let c224_i32_23 : BitVec 32 := 224#32
  let v58 : BitVec 32 := Scalar.divsi v57 c224_i32_23
  let c0_i32_24 : BitVec 32 := 0#32
  let v59 : BitVec 32 := Scalar.select v56 v58 c0_i32_24
  let v60 : BitVec 32 := Scalar.subi v59 c0_i32_26
  let c1_i32_27 : BitVec 32 := 1#32
  let v62 : BitVec 32 := Scalar.divsi v60 c1_i32_27
  let v63 : BitVec 32 := Scalar.muli v62 c1_i32_27
  let v64 : BitVec 32 := Scalar.addi c0_i32_26 v63
  let c1_i32_28 : BitVec 32 := 1#32
  ⟨c0_i32_26, v64, c1_i32_28⟩
def k0_mult3 (arg24 : BitVec 32) (v20 : BitVec 32) (k0_t4 : Fin (k0_t4_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_26 : BitVec 32 := 0#32
  let c1_i32_28 : BitVec 32 := 1#32
  let arg25 : BitVec 32 := Scf.iv c0_i32_26 c1_i32_28 k0_t4
  let c224_i32_30 : BitVec 32 := 224#32
  let v65 : BitVec 32 := Scalar.muli arg25 c224_i32_30
  let v66 : BitVec 32 := Scalar.addi v23 v65
  let c288_i32 : BitVec 32 := 288#32
  let v67 : BitVec 32 := Scalar.minsi v66 c288_i32
  v67
def k0_off15 (arg24 : BitVec 32) (v20 : BitVec 32) (k0_t4 : Fin (k0_t4_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_26 : BitVec 32 := 0#32
  let c1_i32_28 : BitVec 32 := 1#32
  let arg25 : BitVec 32 := Scf.iv c0_i32_26 c1_i32_28 k0_t4
  let c224_i32_30 : BitVec 32 := 224#32
  let v65 : BitVec 32 := Scalar.muli arg25 c224_i32_30
  let v66 : BitVec 32 := Scalar.addi v23 v65
  let c288_i32 : BitVec 32 := 288#32
  let v67 : BitVec 32 := Scalar.minsi v66 c288_i32
  let v68 : BitVec 32 := v67
  let v78 : Index := Scalar.indexCast v68
  let c0 : Index := 0#32
  ![v78.toNat, 0]
def k0_off16 (arg24 : BitVec 32) (v20 : BitVec 32) (k0_t4 : Fin (k0_t4_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_26 : BitVec 32 := 0#32
  let c1_i32_28 : BitVec 32 := 1#32
  let arg25 : BitVec 32 := Scf.iv c0_i32_26 c1_i32_28 k0_t4
  let c224_i32_30 : BitVec 32 := 224#32
  let v65 : BitVec 32 := Scalar.muli arg25 c224_i32_30
  let v66 : BitVec 32 := Scalar.addi v23 v65
  let c288_i32 : BitVec 32 := 288#32
  let v67 : BitVec 32 := Scalar.minsi v66 c288_i32
  let v68 : BitVec 32 := v67
  let v81 : Index := Scalar.indexCast v68
  let c0_31 : Index := 0#32
  ![v81.toNat, 0]
def k0_off17 (k0_t1 : Fin k0_t1_loop.trips) (c0_i32_33 : BitVec 32) : Fin 3 → Nat :=
  let c0_i32_4 : BitVec 32 := 0#32
  let c1_i32 : BitVec 32 := 1#32
  let arg23 : BitVec 32 := Scf.iv c0_i32_4 c1_i32 k0_t1
  let c4_i32_32 : BitVec 32 := 4#32
  let v87 : BitVec 32 := Scalar.muli arg23 c4_i32_32
  let v88 : BitVec 32 := Scalar.addi v87 c0_i32_33
  let v95 : Index := Scalar.indexCast v88
  let c0_39 : Index := 0#32
  let c0_40 : Index := 0#32
  ![v95.toNat, 0, 0]
def k0_off18 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v155 : Index := Scalar.indexCast arg23
  let c0_67 : Index := 0#32
  let c0_68 : Index := 0#32
  ![v155.toNat, 0, 0]
@[reducible] def k0_t5_loop (arg24 : BitVec 32) (v20 : BitVec 32) : Scf.Loop 32 :=
  let c0_i32_26 : BitVec 32 := 0#32
  let v21 : BitVec 32 := Scalar.addi arg24 v20
  let v56 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c223_i32 : BitVec 32 := 223#32
  let v57 : BitVec 32 := Scalar.addi v24 c223_i32
  let c224_i32_23 : BitVec 32 := 224#32
  let v58 : BitVec 32 := Scalar.divsi v57 c224_i32_23
  let c0_i32_24 : BitVec 32 := 0#32
  let v59 : BitVec 32 := Scalar.select v56 v58 c0_i32_24
  let v60 : BitVec 32 := Scalar.subi v59 c0_i32_26
  let c1_i32_27 : BitVec 32 := 1#32
  let v62 : BitVec 32 := Scalar.divsi v60 c1_i32_27
  let v63 : BitVec 32 := Scalar.muli v62 c1_i32_27
  let v64 : BitVec 32 := Scalar.addi c0_i32_26 v63
  let v61 : BitVec 32 := Scalar.addi c0_i32_26 v60
  let c1_i32_29 : BitVec 32 := 1#32
  ⟨v64, v61, c1_i32_29⟩
def k0_mult4 (arg24 : BitVec 32) (v20 : BitVec 32) (k0_t5 : Fin (k0_t5_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_26 : BitVec 32 := 0#32
  let v21 : BitVec 32 := Scalar.addi arg24 v20
  let v56 : BitVec 1 := Scalar.cmpi .sgt v21 arg24
  let v24 : BitVec 32 := Scalar.subi v21 v23
  let c223_i32 : BitVec 32 := 223#32
  let v57 : BitVec 32 := Scalar.addi v24 c223_i32
  let c224_i32_23 : BitVec 32 := 224#32
  let v58 : BitVec 32 := Scalar.divsi v57 c224_i32_23
  let c0_i32_24 : BitVec 32 := 0#32
  let v59 : BitVec 32 := Scalar.select v56 v58 c0_i32_24
  let v60 : BitVec 32 := Scalar.subi v59 c0_i32_26
  let c1_i32_27 : BitVec 32 := 1#32
  let v62 : BitVec 32 := Scalar.divsi v60 c1_i32_27
  let v63 : BitVec 32 := Scalar.muli v62 c1_i32_27
  let v64 : BitVec 32 := Scalar.addi c0_i32_26 v63
  let c1_i32_29 : BitVec 32 := 1#32
  let arg25 : BitVec 32 := Scf.iv v64 c1_i32_29 k0_t5
  let c224_i32_30 : BitVec 32 := 224#32
  let v65 : BitVec 32 := Scalar.muli arg25 c224_i32_30
  let v66 : BitVec 32 := Scalar.addi v23 v65
  let c288_i32 : BitVec 32 := 288#32
  let v67 : BitVec 32 := Scalar.minsi v66 c288_i32
  v67
def k0_off19 (arg24 : BitVec 32) (v20 : BitVec 32) (k0_t5 : Fin (k0_t5_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_26 : BitVec 32 := 0#32
  let v21 : BitVec 32 := Scalar.addi arg24 v20
  let v56 : BitVec 1 := Scalar.cmpi .sgt v21 arg24
  let v24 : BitVec 32 := Scalar.subi v21 v23
  let c223_i32 : BitVec 32 := 223#32
  let v57 : BitVec 32 := Scalar.addi v24 c223_i32
  let c224_i32_23 : BitVec 32 := 224#32
  let v58 : BitVec 32 := Scalar.divsi v57 c224_i32_23
  let c0_i32_24 : BitVec 32 := 0#32
  let v59 : BitVec 32 := Scalar.select v56 v58 c0_i32_24
  let v60 : BitVec 32 := Scalar.subi v59 c0_i32_26
  let c1_i32_27 : BitVec 32 := 1#32
  let v62 : BitVec 32 := Scalar.divsi v60 c1_i32_27
  let v63 : BitVec 32 := Scalar.muli v62 c1_i32_27
  let v64 : BitVec 32 := Scalar.addi c0_i32_26 v63
  let c1_i32_29 : BitVec 32 := 1#32
  let arg25 : BitVec 32 := Scf.iv v64 c1_i32_29 k0_t5
  let c224_i32_30 : BitVec 32 := 224#32
  let v65 : BitVec 32 := Scalar.muli arg25 c224_i32_30
  let v66 : BitVec 32 := Scalar.addi v23 v65
  let c288_i32 : BitVec 32 := 288#32
  let v67 : BitVec 32 := Scalar.minsi v66 c288_i32
  let v68 : BitVec 32 := v67
  let v78 : Index := Scalar.indexCast v68
  let c0 : Index := 0#32
  ![v78.toNat, 0]
def k0_off20 (arg24 : BitVec 32) (v20 : BitVec 32) (k0_t5 : Fin (k0_t5_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_26 : BitVec 32 := 0#32
  let v21 : BitVec 32 := Scalar.addi arg24 v20
  let v56 : BitVec 1 := Scalar.cmpi .sgt v21 arg24
  let v24 : BitVec 32 := Scalar.subi v21 v23
  let c223_i32 : BitVec 32 := 223#32
  let v57 : BitVec 32 := Scalar.addi v24 c223_i32
  let c224_i32_23 : BitVec 32 := 224#32
  let v58 : BitVec 32 := Scalar.divsi v57 c224_i32_23
  let c0_i32_24 : BitVec 32 := 0#32
  let v59 : BitVec 32 := Scalar.select v56 v58 c0_i32_24
  let v60 : BitVec 32 := Scalar.subi v59 c0_i32_26
  let c1_i32_27 : BitVec 32 := 1#32
  let v62 : BitVec 32 := Scalar.divsi v60 c1_i32_27
  let v63 : BitVec 32 := Scalar.muli v62 c1_i32_27
  let v64 : BitVec 32 := Scalar.addi c0_i32_26 v63
  let c1_i32_29 : BitVec 32 := 1#32
  let arg25 : BitVec 32 := Scf.iv v64 c1_i32_29 k0_t5
  let c224_i32_30 : BitVec 32 := 224#32
  let v65 : BitVec 32 := Scalar.muli arg25 c224_i32_30
  let v66 : BitVec 32 := Scalar.addi v23 v65
  let c288_i32 : BitVec 32 := 288#32
  let v67 : BitVec 32 := Scalar.minsi v66 c288_i32
  let v68 : BitVec 32 := v67
  let v81 : Index := Scalar.indexCast v68
  let c0_31 : Index := 0#32
  ![v81.toNat, 0]
def k0_off21 (k0_t1 : Fin k0_t1_loop.trips) (c0_i32_33 : BitVec 32) : Fin 3 → Nat :=
  let c0_i32_4 : BitVec 32 := 0#32
  let c1_i32 : BitVec 32 := 1#32
  let arg23 : BitVec 32 := Scf.iv c0_i32_4 c1_i32 k0_t1
  let c4_i32_32 : BitVec 32 := 4#32
  let v87 : BitVec 32 := Scalar.muli arg23 c4_i32_32
  let v88 : BitVec 32 := Scalar.addi v87 c0_i32_33
  let v95 : Index := Scalar.indexCast v88
  let c0_39 : Index := 0#32
  let c0_40 : Index := 0#32
  ![v95.toNat, 0, 0]
def k0_off22 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v155 : Index := Scalar.indexCast arg23
  let c0_67 : Index := 0#32
  let c0_68 : Index := 0#32
  ![v155.toNat, 0, 0]
@[reducible] def k0_t6_loop (arg24 : BitVec 32) (v20 : BitVec 32) : Scf.Loop 32 :=
  let c0_i32_24 : BitVec 32 := 0#32
  let v21 : BitVec 32 := Scalar.addi arg24 v20
  let v54 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c191_i32 : BitVec 32 := 191#32
  let v55 : BitVec 32 := Scalar.addi v24 c191_i32
  let c192_i32_21 : BitVec 32 := 192#32
  let v56 : BitVec 32 := Scalar.divsi v55 c192_i32_21
  let c0_i32_22 : BitVec 32 := 0#32
  let v57 : BitVec 32 := Scalar.select v54 v56 c0_i32_22
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_26 : BitVec 32 := 1#32
  ⟨c0_i32_24, v62, c1_i32_26⟩
def k0_mult5 (arg24 : BitVec 32) (v20 : BitVec 32) (k0_t6 : Fin (k0_t6_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_24 : BitVec 32 := 0#32
  let c1_i32_26 : BitVec 32 := 1#32
  let arg25 : BitVec 32 := Scf.iv c0_i32_24 c1_i32_26 k0_t6
  let c192_i32_28 : BitVec 32 := 192#32
  let v63 : BitVec 32 := Scalar.muli arg25 c192_i32_28
  let v64 : BitVec 32 := Scalar.addi v23 v63
  let c320_i32 : BitVec 32 := 320#32
  let v65 : BitVec 32 := Scalar.minsi v64 c320_i32
  v65
def k0_off23 (arg24 : BitVec 32) (v20 : BitVec 32) (k0_t6 : Fin (k0_t6_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_24 : BitVec 32 := 0#32
  let c1_i32_26 : BitVec 32 := 1#32
  let arg25 : BitVec 32 := Scf.iv c0_i32_24 c1_i32_26 k0_t6
  let c192_i32_28 : BitVec 32 := 192#32
  let v63 : BitVec 32 := Scalar.muli arg25 c192_i32_28
  let v64 : BitVec 32 := Scalar.addi v23 v63
  let c320_i32 : BitVec 32 := 320#32
  let v65 : BitVec 32 := Scalar.minsi v64 c320_i32
  let v66 : BitVec 32 := v65
  let v76 : Index := Scalar.indexCast v66
  let c0 : Index := 0#32
  ![v76.toNat, 0]
def k0_off24 (arg24 : BitVec 32) (v20 : BitVec 32) (k0_t6 : Fin (k0_t6_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_24 : BitVec 32 := 0#32
  let c1_i32_26 : BitVec 32 := 1#32
  let arg25 : BitVec 32 := Scf.iv c0_i32_24 c1_i32_26 k0_t6
  let c192_i32_28 : BitVec 32 := 192#32
  let v63 : BitVec 32 := Scalar.muli arg25 c192_i32_28
  let v64 : BitVec 32 := Scalar.addi v23 v63
  let c320_i32 : BitVec 32 := 320#32
  let v65 : BitVec 32 := Scalar.minsi v64 c320_i32
  let v66 : BitVec 32 := v65
  let v79 : Index := Scalar.indexCast v66
  let c0_29 : Index := 0#32
  ![v79.toNat, 0]
def k0_off25 (k0_t1 : Fin k0_t1_loop.trips) (c0_i32_31 : BitVec 32) : Fin 3 → Nat :=
  let c0_i32_4 : BitVec 32 := 0#32
  let c1_i32 : BitVec 32 := 1#32
  let arg23 : BitVec 32 := Scf.iv c0_i32_4 c1_i32 k0_t1
  let c4_i32_30 : BitVec 32 := 4#32
  let v85 : BitVec 32 := Scalar.muli arg23 c4_i32_30
  let v86 : BitVec 32 := Scalar.addi v85 c0_i32_31
  let v93 : Index := Scalar.indexCast v86
  let c0_37 : Index := 0#32
  let c0_38 : Index := 0#32
  ![v93.toNat, 0, 0]
def k0_off26 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v153 : Index := Scalar.indexCast arg23
  let c0_65 : Index := 0#32
  let c0_66 : Index := 0#32
  ![v153.toNat, 0, 0]
@[reducible] def k0_t7_loop (arg24 : BitVec 32) (v20 : BitVec 32) : Scf.Loop 32 :=
  let c0_i32_24 : BitVec 32 := 0#32
  let v21 : BitVec 32 := Scalar.addi arg24 v20
  let v54 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c191_i32 : BitVec 32 := 191#32
  let v55 : BitVec 32 := Scalar.addi v24 c191_i32
  let c192_i32_21 : BitVec 32 := 192#32
  let v56 : BitVec 32 := Scalar.divsi v55 c192_i32_21
  let c0_i32_22 : BitVec 32 := 0#32
  let v57 : BitVec 32 := Scalar.select v54 v56 c0_i32_22
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let v59 : BitVec 32 := Scalar.addi c0_i32_24 v58
  let c1_i32_27 : BitVec 32 := 1#32
  ⟨v62, v59, c1_i32_27⟩
def k0_mult6 (arg24 : BitVec 32) (v20 : BitVec 32) (k0_t7 : Fin (k0_t7_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_24 : BitVec 32 := 0#32
  let v21 : BitVec 32 := Scalar.addi arg24 v20
  let v54 : BitVec 1 := Scalar.cmpi .sgt v21 arg24
  let v24 : BitVec 32 := Scalar.subi v21 v23
  let c191_i32 : BitVec 32 := 191#32
  let v55 : BitVec 32 := Scalar.addi v24 c191_i32
  let c192_i32_21 : BitVec 32 := 192#32
  let v56 : BitVec 32 := Scalar.divsi v55 c192_i32_21
  let c0_i32_22 : BitVec 32 := 0#32
  let v57 : BitVec 32 := Scalar.select v54 v56 c0_i32_22
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg25 : BitVec 32 := Scf.iv v62 c1_i32_27 k0_t7
  let c192_i32_28 : BitVec 32 := 192#32
  let v63 : BitVec 32 := Scalar.muli arg25 c192_i32_28
  let v64 : BitVec 32 := Scalar.addi v23 v63
  let c320_i32 : BitVec 32 := 320#32
  let v65 : BitVec 32 := Scalar.minsi v64 c320_i32
  v65
def k0_off27 (arg24 : BitVec 32) (v20 : BitVec 32) (k0_t7 : Fin (k0_t7_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_24 : BitVec 32 := 0#32
  let v21 : BitVec 32 := Scalar.addi arg24 v20
  let v54 : BitVec 1 := Scalar.cmpi .sgt v21 arg24
  let v24 : BitVec 32 := Scalar.subi v21 v23
  let c191_i32 : BitVec 32 := 191#32
  let v55 : BitVec 32 := Scalar.addi v24 c191_i32
  let c192_i32_21 : BitVec 32 := 192#32
  let v56 : BitVec 32 := Scalar.divsi v55 c192_i32_21
  let c0_i32_22 : BitVec 32 := 0#32
  let v57 : BitVec 32 := Scalar.select v54 v56 c0_i32_22
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg25 : BitVec 32 := Scf.iv v62 c1_i32_27 k0_t7
  let c192_i32_28 : BitVec 32 := 192#32
  let v63 : BitVec 32 := Scalar.muli arg25 c192_i32_28
  let v64 : BitVec 32 := Scalar.addi v23 v63
  let c320_i32 : BitVec 32 := 320#32
  let v65 : BitVec 32 := Scalar.minsi v64 c320_i32
  let v66 : BitVec 32 := v65
  let v76 : Index := Scalar.indexCast v66
  let c0 : Index := 0#32
  ![v76.toNat, 0]
def k0_off28 (arg24 : BitVec 32) (v20 : BitVec 32) (k0_t7 : Fin (k0_t7_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_24 : BitVec 32 := 0#32
  let v21 : BitVec 32 := Scalar.addi arg24 v20
  let v54 : BitVec 1 := Scalar.cmpi .sgt v21 arg24
  let v24 : BitVec 32 := Scalar.subi v21 v23
  let c191_i32 : BitVec 32 := 191#32
  let v55 : BitVec 32 := Scalar.addi v24 c191_i32
  let c192_i32_21 : BitVec 32 := 192#32
  let v56 : BitVec 32 := Scalar.divsi v55 c192_i32_21
  let c0_i32_22 : BitVec 32 := 0#32
  let v57 : BitVec 32 := Scalar.select v54 v56 c0_i32_22
  let v58 : BitVec 32 := Scalar.subi v57 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg25 : BitVec 32 := Scf.iv v62 c1_i32_27 k0_t7
  let c192_i32_28 : BitVec 32 := 192#32
  let v63 : BitVec 32 := Scalar.muli arg25 c192_i32_28
  let v64 : BitVec 32 := Scalar.addi v23 v63
  let c320_i32 : BitVec 32 := 320#32
  let v65 : BitVec 32 := Scalar.minsi v64 c320_i32
  let v66 : BitVec 32 := v65
  let v79 : Index := Scalar.indexCast v66
  let c0_29 : Index := 0#32
  ![v79.toNat, 0]
def k0_off29 (k0_t1 : Fin k0_t1_loop.trips) (c0_i32_31 : BitVec 32) : Fin 3 → Nat :=
  let c0_i32_4 : BitVec 32 := 0#32
  let c1_i32 : BitVec 32 := 1#32
  let arg23 : BitVec 32 := Scf.iv c0_i32_4 c1_i32 k0_t1
  let c4_i32_30 : BitVec 32 := 4#32
  let v85 : BitVec 32 := Scalar.muli arg23 c4_i32_30
  let v86 : BitVec 32 := Scalar.addi v85 c0_i32_31
  let v93 : Index := Scalar.indexCast v86
  let c0_37 : Index := 0#32
  let c0_38 : Index := 0#32
  ![v93.toNat, 0, 0]
def k0_off30 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v153 : Index := Scalar.indexCast arg23
  let c0_65 : Index := 0#32
  let c0_66 : Index := 0#32
  ![v153.toNat, 0, 0]
@[reducible] def k0_t8_loop (arg24 : BitVec 32) (v20 : BitVec 32) : Scf.Loop 32 :=
  let c0_i32_22 : BitVec 32 := 0#32
  let v21 : BitVec 32 := Scalar.addi arg24 v20
  let v52 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c175_i32 : BitVec 32 := 175#32
  let v53 : BitVec 32 := Scalar.addi v24 c175_i32
  let c176_i32_19 : BitVec 32 := 176#32
  let v54 : BitVec 32 := Scalar.divsi v53 c176_i32_19
  let c0_i32_20 : BitVec 32 := 0#32
  let v55 : BitVec 32 := Scalar.select v52 v54 c0_i32_20
  let v56 : BitVec 32 := Scalar.subi v55 c0_i32_22
  let c1_i32_23 : BitVec 32 := 1#32
  let v58 : BitVec 32 := Scalar.divsi v56 c1_i32_23
  let v59 : BitVec 32 := Scalar.muli v58 c1_i32_23
  let v60 : BitVec 32 := Scalar.addi c0_i32_22 v59
  let c1_i32_24 : BitVec 32 := 1#32
  ⟨c0_i32_22, v60, c1_i32_24⟩
def k0_mult7 (arg24 : BitVec 32) (v20 : BitVec 32) (k0_t8 : Fin (k0_t8_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_22 : BitVec 32 := 0#32
  let c1_i32_24 : BitVec 32 := 1#32
  let arg25 : BitVec 32 := Scf.iv c0_i32_22 c1_i32_24 k0_t8
  let c176_i32_26 : BitVec 32 := 176#32
  let v61 : BitVec 32 := Scalar.muli arg25 c176_i32_26
  let v62 : BitVec 32 := Scalar.addi v23 v61
  let c336_i32 : BitVec 32 := 336#32
  let v63 : BitVec 32 := Scalar.minsi v62 c336_i32
  v63
def k0_off31 (arg24 : BitVec 32) (v20 : BitVec 32) (k0_t8 : Fin (k0_t8_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_22 : BitVec 32 := 0#32
  let c1_i32_24 : BitVec 32 := 1#32
  let arg25 : BitVec 32 := Scf.iv c0_i32_22 c1_i32_24 k0_t8
  let c176_i32_26 : BitVec 32 := 176#32
  let v61 : BitVec 32 := Scalar.muli arg25 c176_i32_26
  let v62 : BitVec 32 := Scalar.addi v23 v61
  let c336_i32 : BitVec 32 := 336#32
  let v63 : BitVec 32 := Scalar.minsi v62 c336_i32
  let v64 : BitVec 32 := v63
  let v74 : Index := Scalar.indexCast v64
  let c0 : Index := 0#32
  ![v74.toNat, 0]
def k0_off32 (arg24 : BitVec 32) (v20 : BitVec 32) (k0_t8 : Fin (k0_t8_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_22 : BitVec 32 := 0#32
  let c1_i32_24 : BitVec 32 := 1#32
  let arg25 : BitVec 32 := Scf.iv c0_i32_22 c1_i32_24 k0_t8
  let c176_i32_26 : BitVec 32 := 176#32
  let v61 : BitVec 32 := Scalar.muli arg25 c176_i32_26
  let v62 : BitVec 32 := Scalar.addi v23 v61
  let c336_i32 : BitVec 32 := 336#32
  let v63 : BitVec 32 := Scalar.minsi v62 c336_i32
  let v64 : BitVec 32 := v63
  let v77 : Index := Scalar.indexCast v64
  let c0_27 : Index := 0#32
  ![v77.toNat, 0]
def k0_off33 (k0_t1 : Fin k0_t1_loop.trips) (c0_i32_29 : BitVec 32) : Fin 3 → Nat :=
  let c0_i32_4 : BitVec 32 := 0#32
  let c1_i32 : BitVec 32 := 1#32
  let arg23 : BitVec 32 := Scf.iv c0_i32_4 c1_i32 k0_t1
  let c4_i32_28 : BitVec 32 := 4#32
  let v83 : BitVec 32 := Scalar.muli arg23 c4_i32_28
  let v84 : BitVec 32 := Scalar.addi v83 c0_i32_29
  let v91 : Index := Scalar.indexCast v84
  let c0_35 : Index := 0#32
  let c0_36 : Index := 0#32
  ![v91.toNat, 0, 0]
def k0_off34 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v151 : Index := Scalar.indexCast arg23
  let c0_63 : Index := 0#32
  let c0_64 : Index := 0#32
  ![v151.toNat, 0, 0]
@[reducible] def k0_t9_loop (arg24 : BitVec 32) (v20 : BitVec 32) : Scf.Loop 32 :=
  let c0_i32_22 : BitVec 32 := 0#32
  let v21 : BitVec 32 := Scalar.addi arg24 v20
  let v52 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c175_i32 : BitVec 32 := 175#32
  let v53 : BitVec 32 := Scalar.addi v24 c175_i32
  let c176_i32_19 : BitVec 32 := 176#32
  let v54 : BitVec 32 := Scalar.divsi v53 c176_i32_19
  let c0_i32_20 : BitVec 32 := 0#32
  let v55 : BitVec 32 := Scalar.select v52 v54 c0_i32_20
  let v56 : BitVec 32 := Scalar.subi v55 c0_i32_22
  let c1_i32_23 : BitVec 32 := 1#32
  let v58 : BitVec 32 := Scalar.divsi v56 c1_i32_23
  let v59 : BitVec 32 := Scalar.muli v58 c1_i32_23
  let v60 : BitVec 32 := Scalar.addi c0_i32_22 v59
  let v57 : BitVec 32 := Scalar.addi c0_i32_22 v56
  let c1_i32_25 : BitVec 32 := 1#32
  ⟨v60, v57, c1_i32_25⟩
def k0_mult8 (arg24 : BitVec 32) (v20 : BitVec 32) (k0_t9 : Fin (k0_t9_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_22 : BitVec 32 := 0#32
  let v21 : BitVec 32 := Scalar.addi arg24 v20
  let v52 : BitVec 1 := Scalar.cmpi .sgt v21 arg24
  let v24 : BitVec 32 := Scalar.subi v21 v23
  let c175_i32 : BitVec 32 := 175#32
  let v53 : BitVec 32 := Scalar.addi v24 c175_i32
  let c176_i32_19 : BitVec 32 := 176#32
  let v54 : BitVec 32 := Scalar.divsi v53 c176_i32_19
  let c0_i32_20 : BitVec 32 := 0#32
  let v55 : BitVec 32 := Scalar.select v52 v54 c0_i32_20
  let v56 : BitVec 32 := Scalar.subi v55 c0_i32_22
  let c1_i32_23 : BitVec 32 := 1#32
  let v58 : BitVec 32 := Scalar.divsi v56 c1_i32_23
  let v59 : BitVec 32 := Scalar.muli v58 c1_i32_23
  let v60 : BitVec 32 := Scalar.addi c0_i32_22 v59
  let c1_i32_25 : BitVec 32 := 1#32
  let arg25 : BitVec 32 := Scf.iv v60 c1_i32_25 k0_t9
  let c176_i32_26 : BitVec 32 := 176#32
  let v61 : BitVec 32 := Scalar.muli arg25 c176_i32_26
  let v62 : BitVec 32 := Scalar.addi v23 v61
  let c336_i32 : BitVec 32 := 336#32
  let v63 : BitVec 32 := Scalar.minsi v62 c336_i32
  v63
def k0_off35 (arg24 : BitVec 32) (v20 : BitVec 32) (k0_t9 : Fin (k0_t9_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_22 : BitVec 32 := 0#32
  let v21 : BitVec 32 := Scalar.addi arg24 v20
  let v52 : BitVec 1 := Scalar.cmpi .sgt v21 arg24
  let v24 : BitVec 32 := Scalar.subi v21 v23
  let c175_i32 : BitVec 32 := 175#32
  let v53 : BitVec 32 := Scalar.addi v24 c175_i32
  let c176_i32_19 : BitVec 32 := 176#32
  let v54 : BitVec 32 := Scalar.divsi v53 c176_i32_19
  let c0_i32_20 : BitVec 32 := 0#32
  let v55 : BitVec 32 := Scalar.select v52 v54 c0_i32_20
  let v56 : BitVec 32 := Scalar.subi v55 c0_i32_22
  let c1_i32_23 : BitVec 32 := 1#32
  let v58 : BitVec 32 := Scalar.divsi v56 c1_i32_23
  let v59 : BitVec 32 := Scalar.muli v58 c1_i32_23
  let v60 : BitVec 32 := Scalar.addi c0_i32_22 v59
  let c1_i32_25 : BitVec 32 := 1#32
  let arg25 : BitVec 32 := Scf.iv v60 c1_i32_25 k0_t9
  let c176_i32_26 : BitVec 32 := 176#32
  let v61 : BitVec 32 := Scalar.muli arg25 c176_i32_26
  let v62 : BitVec 32 := Scalar.addi v23 v61
  let c336_i32 : BitVec 32 := 336#32
  let v63 : BitVec 32 := Scalar.minsi v62 c336_i32
  let v64 : BitVec 32 := v63
  let v74 : Index := Scalar.indexCast v64
  let c0 : Index := 0#32
  ![v74.toNat, 0]
def k0_off36 (arg24 : BitVec 32) (v20 : BitVec 32) (k0_t9 : Fin (k0_t9_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_22 : BitVec 32 := 0#32
  let v21 : BitVec 32 := Scalar.addi arg24 v20
  let v52 : BitVec 1 := Scalar.cmpi .sgt v21 arg24
  let v24 : BitVec 32 := Scalar.subi v21 v23
  let c175_i32 : BitVec 32 := 175#32
  let v53 : BitVec 32 := Scalar.addi v24 c175_i32
  let c176_i32_19 : BitVec 32 := 176#32
  let v54 : BitVec 32 := Scalar.divsi v53 c176_i32_19
  let c0_i32_20 : BitVec 32 := 0#32
  let v55 : BitVec 32 := Scalar.select v52 v54 c0_i32_20
  let v56 : BitVec 32 := Scalar.subi v55 c0_i32_22
  let c1_i32_23 : BitVec 32 := 1#32
  let v58 : BitVec 32 := Scalar.divsi v56 c1_i32_23
  let v59 : BitVec 32 := Scalar.muli v58 c1_i32_23
  let v60 : BitVec 32 := Scalar.addi c0_i32_22 v59
  let c1_i32_25 : BitVec 32 := 1#32
  let arg25 : BitVec 32 := Scf.iv v60 c1_i32_25 k0_t9
  let c176_i32_26 : BitVec 32 := 176#32
  let v61 : BitVec 32 := Scalar.muli arg25 c176_i32_26
  let v62 : BitVec 32 := Scalar.addi v23 v61
  let c336_i32 : BitVec 32 := 336#32
  let v63 : BitVec 32 := Scalar.minsi v62 c336_i32
  let v64 : BitVec 32 := v63
  let v77 : Index := Scalar.indexCast v64
  let c0_27 : Index := 0#32
  ![v77.toNat, 0]
def k0_off37 (k0_t1 : Fin k0_t1_loop.trips) (c0_i32_29 : BitVec 32) : Fin 3 → Nat :=
  let c0_i32_4 : BitVec 32 := 0#32
  let c1_i32 : BitVec 32 := 1#32
  let arg23 : BitVec 32 := Scf.iv c0_i32_4 c1_i32 k0_t1
  let c4_i32_28 : BitVec 32 := 4#32
  let v83 : BitVec 32 := Scalar.muli arg23 c4_i32_28
  let v84 : BitVec 32 := Scalar.addi v83 c0_i32_29
  let v91 : Index := Scalar.indexCast v84
  let c0_35 : Index := 0#32
  let c0_36 : Index := 0#32
  ![v91.toNat, 0, 0]
def k0_off38 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v151 : Index := Scalar.indexCast arg23
  let c0_63 : Index := 0#32
  let c0_64 : Index := 0#32
  ![v151.toNat, 0, 0]
@[reducible] def k0_t10_loop (arg24 : BitVec 32) (v20 : BitVec 32) : Scf.Loop 32 :=
  let c0_i32_20 : BitVec 32 := 0#32
  let v21 : BitVec 32 := Scalar.addi arg24 v20
  let v50 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c159_i32 : BitVec 32 := 159#32
  let v51 : BitVec 32 := Scalar.addi v24 c159_i32
  let c160_i32_17 : BitVec 32 := 160#32
  let v52 : BitVec 32 := Scalar.divsi v51 c160_i32_17
  let c0_i32_18 : BitVec 32 := 0#32
  let v53 : BitVec 32 := Scalar.select v50 v52 c0_i32_18
  let v54 : BitVec 32 := Scalar.subi v53 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_22 : BitVec 32 := 1#32
  ⟨c0_i32_20, v58, c1_i32_22⟩
def k0_mult9 (arg24 : BitVec 32) (v20 : BitVec 32) (k0_t10 : Fin (k0_t10_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_20 : BitVec 32 := 0#32
  let c1_i32_22 : BitVec 32 := 1#32
  let arg25 : BitVec 32 := Scf.iv c0_i32_20 c1_i32_22 k0_t10
  let c160_i32_24 : BitVec 32 := 160#32
  let v59 : BitVec 32 := Scalar.muli arg25 c160_i32_24
  let v60 : BitVec 32 := Scalar.addi v23 v59
  let c352_i32 : BitVec 32 := 352#32
  let v61 : BitVec 32 := Scalar.minsi v60 c352_i32
  v61
def k0_off39 (arg24 : BitVec 32) (v20 : BitVec 32) (k0_t10 : Fin (k0_t10_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_20 : BitVec 32 := 0#32
  let c1_i32_22 : BitVec 32 := 1#32
  let arg25 : BitVec 32 := Scf.iv c0_i32_20 c1_i32_22 k0_t10
  let c160_i32_24 : BitVec 32 := 160#32
  let v59 : BitVec 32 := Scalar.muli arg25 c160_i32_24
  let v60 : BitVec 32 := Scalar.addi v23 v59
  let c352_i32 : BitVec 32 := 352#32
  let v61 : BitVec 32 := Scalar.minsi v60 c352_i32
  let v62 : BitVec 32 := v61
  let v72 : Index := Scalar.indexCast v62
  let c0 : Index := 0#32
  ![v72.toNat, 0]
def k0_off40 (arg24 : BitVec 32) (v20 : BitVec 32) (k0_t10 : Fin (k0_t10_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_20 : BitVec 32 := 0#32
  let c1_i32_22 : BitVec 32 := 1#32
  let arg25 : BitVec 32 := Scf.iv c0_i32_20 c1_i32_22 k0_t10
  let c160_i32_24 : BitVec 32 := 160#32
  let v59 : BitVec 32 := Scalar.muli arg25 c160_i32_24
  let v60 : BitVec 32 := Scalar.addi v23 v59
  let c352_i32 : BitVec 32 := 352#32
  let v61 : BitVec 32 := Scalar.minsi v60 c352_i32
  let v62 : BitVec 32 := v61
  let v75 : Index := Scalar.indexCast v62
  let c0_25 : Index := 0#32
  ![v75.toNat, 0]
def k0_off41 (k0_t1 : Fin k0_t1_loop.trips) (c0_i32_27 : BitVec 32) : Fin 3 → Nat :=
  let c0_i32_4 : BitVec 32 := 0#32
  let c1_i32 : BitVec 32 := 1#32
  let arg23 : BitVec 32 := Scf.iv c0_i32_4 c1_i32 k0_t1
  let c4_i32_26 : BitVec 32 := 4#32
  let v81 : BitVec 32 := Scalar.muli arg23 c4_i32_26
  let v82 : BitVec 32 := Scalar.addi v81 c0_i32_27
  let v89 : Index := Scalar.indexCast v82
  let c0_33 : Index := 0#32
  let c0_34 : Index := 0#32
  ![v89.toNat, 0, 0]
def k0_off42 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v149 : Index := Scalar.indexCast arg23
  let c0_61 : Index := 0#32
  let c0_62 : Index := 0#32
  ![v149.toNat, 0, 0]
@[reducible] def k0_t11_loop (arg24 : BitVec 32) (v20 : BitVec 32) : Scf.Loop 32 :=
  let c0_i32_20 : BitVec 32 := 0#32
  let v21 : BitVec 32 := Scalar.addi arg24 v20
  let v50 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c159_i32 : BitVec 32 := 159#32
  let v51 : BitVec 32 := Scalar.addi v24 c159_i32
  let c160_i32_17 : BitVec 32 := 160#32
  let v52 : BitVec 32 := Scalar.divsi v51 c160_i32_17
  let c0_i32_18 : BitVec 32 := 0#32
  let v53 : BitVec 32 := Scalar.select v50 v52 c0_i32_18
  let v54 : BitVec 32 := Scalar.subi v53 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let v55 : BitVec 32 := Scalar.addi c0_i32_20 v54
  let c1_i32_23 : BitVec 32 := 1#32
  ⟨v58, v55, c1_i32_23⟩
def k0_mult10 (arg24 : BitVec 32) (v20 : BitVec 32) (k0_t11 : Fin (k0_t11_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_20 : BitVec 32 := 0#32
  let v21 : BitVec 32 := Scalar.addi arg24 v20
  let v50 : BitVec 1 := Scalar.cmpi .sgt v21 arg24
  let v24 : BitVec 32 := Scalar.subi v21 v23
  let c159_i32 : BitVec 32 := 159#32
  let v51 : BitVec 32 := Scalar.addi v24 c159_i32
  let c160_i32_17 : BitVec 32 := 160#32
  let v52 : BitVec 32 := Scalar.divsi v51 c160_i32_17
  let c0_i32_18 : BitVec 32 := 0#32
  let v53 : BitVec 32 := Scalar.select v50 v52 c0_i32_18
  let v54 : BitVec 32 := Scalar.subi v53 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_23 : BitVec 32 := 1#32
  let arg25 : BitVec 32 := Scf.iv v58 c1_i32_23 k0_t11
  let c160_i32_24 : BitVec 32 := 160#32
  let v59 : BitVec 32 := Scalar.muli arg25 c160_i32_24
  let v60 : BitVec 32 := Scalar.addi v23 v59
  let c352_i32 : BitVec 32 := 352#32
  let v61 : BitVec 32 := Scalar.minsi v60 c352_i32
  v61
def k0_off43 (arg24 : BitVec 32) (v20 : BitVec 32) (k0_t11 : Fin (k0_t11_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_20 : BitVec 32 := 0#32
  let v21 : BitVec 32 := Scalar.addi arg24 v20
  let v50 : BitVec 1 := Scalar.cmpi .sgt v21 arg24
  let v24 : BitVec 32 := Scalar.subi v21 v23
  let c159_i32 : BitVec 32 := 159#32
  let v51 : BitVec 32 := Scalar.addi v24 c159_i32
  let c160_i32_17 : BitVec 32 := 160#32
  let v52 : BitVec 32 := Scalar.divsi v51 c160_i32_17
  let c0_i32_18 : BitVec 32 := 0#32
  let v53 : BitVec 32 := Scalar.select v50 v52 c0_i32_18
  let v54 : BitVec 32 := Scalar.subi v53 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_23 : BitVec 32 := 1#32
  let arg25 : BitVec 32 := Scf.iv v58 c1_i32_23 k0_t11
  let c160_i32_24 : BitVec 32 := 160#32
  let v59 : BitVec 32 := Scalar.muli arg25 c160_i32_24
  let v60 : BitVec 32 := Scalar.addi v23 v59
  let c352_i32 : BitVec 32 := 352#32
  let v61 : BitVec 32 := Scalar.minsi v60 c352_i32
  let v62 : BitVec 32 := v61
  let v72 : Index := Scalar.indexCast v62
  let c0 : Index := 0#32
  ![v72.toNat, 0]
def k0_off44 (arg24 : BitVec 32) (v20 : BitVec 32) (k0_t11 : Fin (k0_t11_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_20 : BitVec 32 := 0#32
  let v21 : BitVec 32 := Scalar.addi arg24 v20
  let v50 : BitVec 1 := Scalar.cmpi .sgt v21 arg24
  let v24 : BitVec 32 := Scalar.subi v21 v23
  let c159_i32 : BitVec 32 := 159#32
  let v51 : BitVec 32 := Scalar.addi v24 c159_i32
  let c160_i32_17 : BitVec 32 := 160#32
  let v52 : BitVec 32 := Scalar.divsi v51 c160_i32_17
  let c0_i32_18 : BitVec 32 := 0#32
  let v53 : BitVec 32 := Scalar.select v50 v52 c0_i32_18
  let v54 : BitVec 32 := Scalar.subi v53 c0_i32_20
  let c1_i32_21 : BitVec 32 := 1#32
  let v56 : BitVec 32 := Scalar.divsi v54 c1_i32_21
  let v57 : BitVec 32 := Scalar.muli v56 c1_i32_21
  let v58 : BitVec 32 := Scalar.addi c0_i32_20 v57
  let c1_i32_23 : BitVec 32 := 1#32
  let arg25 : BitVec 32 := Scf.iv v58 c1_i32_23 k0_t11
  let c160_i32_24 : BitVec 32 := 160#32
  let v59 : BitVec 32 := Scalar.muli arg25 c160_i32_24
  let v60 : BitVec 32 := Scalar.addi v23 v59
  let c352_i32 : BitVec 32 := 352#32
  let v61 : BitVec 32 := Scalar.minsi v60 c352_i32
  let v62 : BitVec 32 := v61
  let v75 : Index := Scalar.indexCast v62
  let c0_25 : Index := 0#32
  ![v75.toNat, 0]
def k0_off45 (k0_t1 : Fin k0_t1_loop.trips) (c0_i32_27 : BitVec 32) : Fin 3 → Nat :=
  let c0_i32_4 : BitVec 32 := 0#32
  let c1_i32 : BitVec 32 := 1#32
  let arg23 : BitVec 32 := Scf.iv c0_i32_4 c1_i32 k0_t1
  let c4_i32_26 : BitVec 32 := 4#32
  let v81 : BitVec 32 := Scalar.muli arg23 c4_i32_26
  let v82 : BitVec 32 := Scalar.addi v81 c0_i32_27
  let v89 : Index := Scalar.indexCast v82
  let c0_33 : Index := 0#32
  let c0_34 : Index := 0#32
  ![v89.toNat, 0, 0]
def k0_off46 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v149 : Index := Scalar.indexCast arg23
  let c0_61 : Index := 0#32
  let c0_62 : Index := 0#32
  ![v149.toNat, 0, 0]
@[reducible] def k0_t12_loop (arg24 : BitVec 32) (v20 : BitVec 32) : Scf.Loop 32 :=
  let c0_i32_18 : BitVec 32 := 0#32
  let v21 : BitVec 32 := Scalar.addi arg24 v20
  let v48 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c143_i32 : BitVec 32 := 143#32
  let v49 : BitVec 32 := Scalar.addi v24 c143_i32
  let c144_i32_15 : BitVec 32 := 144#32
  let v50 : BitVec 32 := Scalar.divsi v49 c144_i32_15
  let c0_i32_16 : BitVec 32 := 0#32
  let v51 : BitVec 32 := Scalar.select v48 v50 c0_i32_16
  let v52 : BitVec 32 := Scalar.subi v51 c0_i32_18
  let c1_i32_19 : BitVec 32 := 1#32
  let v54 : BitVec 32 := Scalar.divsi v52 c1_i32_19
  let v55 : BitVec 32 := Scalar.muli v54 c1_i32_19
  let v56 : BitVec 32 := Scalar.addi c0_i32_18 v55
  let c1_i32_20 : BitVec 32 := 1#32
  ⟨c0_i32_18, v56, c1_i32_20⟩
def k0_mult11 (arg24 : BitVec 32) (v20 : BitVec 32) (k0_t12 : Fin (k0_t12_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_18 : BitVec 32 := 0#32
  let c1_i32_20 : BitVec 32 := 1#32
  let arg25 : BitVec 32 := Scf.iv c0_i32_18 c1_i32_20 k0_t12
  let c144_i32_22 : BitVec 32 := 144#32
  let v57 : BitVec 32 := Scalar.muli arg25 c144_i32_22
  let v58 : BitVec 32 := Scalar.addi v23 v57
  let c368_i32 : BitVec 32 := 368#32
  let v59 : BitVec 32 := Scalar.minsi v58 c368_i32
  v59
def k0_off47 (arg24 : BitVec 32) (v20 : BitVec 32) (k0_t12 : Fin (k0_t12_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_18 : BitVec 32 := 0#32
  let c1_i32_20 : BitVec 32 := 1#32
  let arg25 : BitVec 32 := Scf.iv c0_i32_18 c1_i32_20 k0_t12
  let c144_i32_22 : BitVec 32 := 144#32
  let v57 : BitVec 32 := Scalar.muli arg25 c144_i32_22
  let v58 : BitVec 32 := Scalar.addi v23 v57
  let c368_i32 : BitVec 32 := 368#32
  let v59 : BitVec 32 := Scalar.minsi v58 c368_i32
  let v60 : BitVec 32 := v59
  let v70 : Index := Scalar.indexCast v60
  let c0 : Index := 0#32
  ![v70.toNat, 0]
def k0_off48 (arg24 : BitVec 32) (v20 : BitVec 32) (k0_t12 : Fin (k0_t12_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_18 : BitVec 32 := 0#32
  let c1_i32_20 : BitVec 32 := 1#32
  let arg25 : BitVec 32 := Scf.iv c0_i32_18 c1_i32_20 k0_t12
  let c144_i32_22 : BitVec 32 := 144#32
  let v57 : BitVec 32 := Scalar.muli arg25 c144_i32_22
  let v58 : BitVec 32 := Scalar.addi v23 v57
  let c368_i32 : BitVec 32 := 368#32
  let v59 : BitVec 32 := Scalar.minsi v58 c368_i32
  let v60 : BitVec 32 := v59
  let v73 : Index := Scalar.indexCast v60
  let c0_23 : Index := 0#32
  ![v73.toNat, 0]
def k0_off49 (k0_t1 : Fin k0_t1_loop.trips) (c0_i32_25 : BitVec 32) : Fin 3 → Nat :=
  let c0_i32_4 : BitVec 32 := 0#32
  let c1_i32 : BitVec 32 := 1#32
  let arg23 : BitVec 32 := Scf.iv c0_i32_4 c1_i32 k0_t1
  let c4_i32_24 : BitVec 32 := 4#32
  let v79 : BitVec 32 := Scalar.muli arg23 c4_i32_24
  let v80 : BitVec 32 := Scalar.addi v79 c0_i32_25
  let v87 : Index := Scalar.indexCast v80
  let c0_31 : Index := 0#32
  let c0_32 : Index := 0#32
  ![v87.toNat, 0, 0]
def k0_off50 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v147 : Index := Scalar.indexCast arg23
  let c0_59 : Index := 0#32
  let c0_60 : Index := 0#32
  ![v147.toNat, 0, 0]
@[reducible] def k0_t13_loop (arg24 : BitVec 32) (v20 : BitVec 32) : Scf.Loop 32 :=
  let c0_i32_18 : BitVec 32 := 0#32
  let v21 : BitVec 32 := Scalar.addi arg24 v20
  let v48 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c143_i32 : BitVec 32 := 143#32
  let v49 : BitVec 32 := Scalar.addi v24 c143_i32
  let c144_i32_15 : BitVec 32 := 144#32
  let v50 : BitVec 32 := Scalar.divsi v49 c144_i32_15
  let c0_i32_16 : BitVec 32 := 0#32
  let v51 : BitVec 32 := Scalar.select v48 v50 c0_i32_16
  let v52 : BitVec 32 := Scalar.subi v51 c0_i32_18
  let c1_i32_19 : BitVec 32 := 1#32
  let v54 : BitVec 32 := Scalar.divsi v52 c1_i32_19
  let v55 : BitVec 32 := Scalar.muli v54 c1_i32_19
  let v56 : BitVec 32 := Scalar.addi c0_i32_18 v55
  let v53 : BitVec 32 := Scalar.addi c0_i32_18 v52
  let c1_i32_21 : BitVec 32 := 1#32
  ⟨v56, v53, c1_i32_21⟩
def k0_mult12 (arg24 : BitVec 32) (v20 : BitVec 32) (k0_t13 : Fin (k0_t13_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_18 : BitVec 32 := 0#32
  let v21 : BitVec 32 := Scalar.addi arg24 v20
  let v48 : BitVec 1 := Scalar.cmpi .sgt v21 arg24
  let v24 : BitVec 32 := Scalar.subi v21 v23
  let c143_i32 : BitVec 32 := 143#32
  let v49 : BitVec 32 := Scalar.addi v24 c143_i32
  let c144_i32_15 : BitVec 32 := 144#32
  let v50 : BitVec 32 := Scalar.divsi v49 c144_i32_15
  let c0_i32_16 : BitVec 32 := 0#32
  let v51 : BitVec 32 := Scalar.select v48 v50 c0_i32_16
  let v52 : BitVec 32 := Scalar.subi v51 c0_i32_18
  let c1_i32_19 : BitVec 32 := 1#32
  let v54 : BitVec 32 := Scalar.divsi v52 c1_i32_19
  let v55 : BitVec 32 := Scalar.muli v54 c1_i32_19
  let v56 : BitVec 32 := Scalar.addi c0_i32_18 v55
  let c1_i32_21 : BitVec 32 := 1#32
  let arg25 : BitVec 32 := Scf.iv v56 c1_i32_21 k0_t13
  let c144_i32_22 : BitVec 32 := 144#32
  let v57 : BitVec 32 := Scalar.muli arg25 c144_i32_22
  let v58 : BitVec 32 := Scalar.addi v23 v57
  let c368_i32 : BitVec 32 := 368#32
  let v59 : BitVec 32 := Scalar.minsi v58 c368_i32
  v59
def k0_off51 (arg24 : BitVec 32) (v20 : BitVec 32) (k0_t13 : Fin (k0_t13_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_18 : BitVec 32 := 0#32
  let v21 : BitVec 32 := Scalar.addi arg24 v20
  let v48 : BitVec 1 := Scalar.cmpi .sgt v21 arg24
  let v24 : BitVec 32 := Scalar.subi v21 v23
  let c143_i32 : BitVec 32 := 143#32
  let v49 : BitVec 32 := Scalar.addi v24 c143_i32
  let c144_i32_15 : BitVec 32 := 144#32
  let v50 : BitVec 32 := Scalar.divsi v49 c144_i32_15
  let c0_i32_16 : BitVec 32 := 0#32
  let v51 : BitVec 32 := Scalar.select v48 v50 c0_i32_16
  let v52 : BitVec 32 := Scalar.subi v51 c0_i32_18
  let c1_i32_19 : BitVec 32 := 1#32
  let v54 : BitVec 32 := Scalar.divsi v52 c1_i32_19
  let v55 : BitVec 32 := Scalar.muli v54 c1_i32_19
  let v56 : BitVec 32 := Scalar.addi c0_i32_18 v55
  let c1_i32_21 : BitVec 32 := 1#32
  let arg25 : BitVec 32 := Scf.iv v56 c1_i32_21 k0_t13
  let c144_i32_22 : BitVec 32 := 144#32
  let v57 : BitVec 32 := Scalar.muli arg25 c144_i32_22
  let v58 : BitVec 32 := Scalar.addi v23 v57
  let c368_i32 : BitVec 32 := 368#32
  let v59 : BitVec 32 := Scalar.minsi v58 c368_i32
  let v60 : BitVec 32 := v59
  let v70 : Index := Scalar.indexCast v60
  let c0 : Index := 0#32
  ![v70.toNat, 0]
def k0_off52 (arg24 : BitVec 32) (v20 : BitVec 32) (k0_t13 : Fin (k0_t13_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_18 : BitVec 32 := 0#32
  let v21 : BitVec 32 := Scalar.addi arg24 v20
  let v48 : BitVec 1 := Scalar.cmpi .sgt v21 arg24
  let v24 : BitVec 32 := Scalar.subi v21 v23
  let c143_i32 : BitVec 32 := 143#32
  let v49 : BitVec 32 := Scalar.addi v24 c143_i32
  let c144_i32_15 : BitVec 32 := 144#32
  let v50 : BitVec 32 := Scalar.divsi v49 c144_i32_15
  let c0_i32_16 : BitVec 32 := 0#32
  let v51 : BitVec 32 := Scalar.select v48 v50 c0_i32_16
  let v52 : BitVec 32 := Scalar.subi v51 c0_i32_18
  let c1_i32_19 : BitVec 32 := 1#32
  let v54 : BitVec 32 := Scalar.divsi v52 c1_i32_19
  let v55 : BitVec 32 := Scalar.muli v54 c1_i32_19
  let v56 : BitVec 32 := Scalar.addi c0_i32_18 v55
  let c1_i32_21 : BitVec 32 := 1#32
  let arg25 : BitVec 32 := Scf.iv v56 c1_i32_21 k0_t13
  let c144_i32_22 : BitVec 32 := 144#32
  let v57 : BitVec 32 := Scalar.muli arg25 c144_i32_22
  let v58 : BitVec 32 := Scalar.addi v23 v57
  let c368_i32 : BitVec 32 := 368#32
  let v59 : BitVec 32 := Scalar.minsi v58 c368_i32
  let v60 : BitVec 32 := v59
  let v73 : Index := Scalar.indexCast v60
  let c0_23 : Index := 0#32
  ![v73.toNat, 0]
def k0_off53 (k0_t1 : Fin k0_t1_loop.trips) (c0_i32_25 : BitVec 32) : Fin 3 → Nat :=
  let c0_i32_4 : BitVec 32 := 0#32
  let c1_i32 : BitVec 32 := 1#32
  let arg23 : BitVec 32 := Scf.iv c0_i32_4 c1_i32 k0_t1
  let c4_i32_24 : BitVec 32 := 4#32
  let v79 : BitVec 32 := Scalar.muli arg23 c4_i32_24
  let v80 : BitVec 32 := Scalar.addi v79 c0_i32_25
  let v87 : Index := Scalar.indexCast v80
  let c0_31 : Index := 0#32
  let c0_32 : Index := 0#32
  ![v87.toNat, 0, 0]
def k0_off54 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v147 : Index := Scalar.indexCast arg23
  let c0_59 : Index := 0#32
  let c0_60 : Index := 0#32
  ![v147.toNat, 0, 0]
@[reducible] def k0_t14_loop (arg24 : BitVec 32) (v20 : BitVec 32) : Scf.Loop 32 :=
  let c0_i32_16 : BitVec 32 := 0#32
  let v21 : BitVec 32 := Scalar.addi arg24 v20
  let v46 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c127_i32 : BitVec 32 := 127#32
  let v47 : BitVec 32 := Scalar.addi v24 c127_i32
  let c128_i32_13 : BitVec 32 := 128#32
  let v48 : BitVec 32 := Scalar.divsi v47 c128_i32_13
  let c0_i32_14 : BitVec 32 := 0#32
  let v49 : BitVec 32 := Scalar.select v46 v48 c0_i32_14
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_18 : BitVec 32 := 1#32
  ⟨c0_i32_16, v54, c1_i32_18⟩
def k0_mult13 (arg24 : BitVec 32) (v20 : BitVec 32) (k0_t14 : Fin (k0_t14_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_16 : BitVec 32 := 0#32
  let c1_i32_18 : BitVec 32 := 1#32
  let arg25 : BitVec 32 := Scf.iv c0_i32_16 c1_i32_18 k0_t14
  let c128_i32_20 : BitVec 32 := 128#32
  let v55 : BitVec 32 := Scalar.muli arg25 c128_i32_20
  let v56 : BitVec 32 := Scalar.addi v23 v55
  let c384_i32 : BitVec 32 := 384#32
  let v57 : BitVec 32 := Scalar.minsi v56 c384_i32
  v57
def k0_off55 (arg24 : BitVec 32) (v20 : BitVec 32) (k0_t14 : Fin (k0_t14_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_16 : BitVec 32 := 0#32
  let c1_i32_18 : BitVec 32 := 1#32
  let arg25 : BitVec 32 := Scf.iv c0_i32_16 c1_i32_18 k0_t14
  let c128_i32_20 : BitVec 32 := 128#32
  let v55 : BitVec 32 := Scalar.muli arg25 c128_i32_20
  let v56 : BitVec 32 := Scalar.addi v23 v55
  let c384_i32 : BitVec 32 := 384#32
  let v57 : BitVec 32 := Scalar.minsi v56 c384_i32
  let v58 : BitVec 32 := v57
  let v68 : Index := Scalar.indexCast v58
  let c0 : Index := 0#32
  ![v68.toNat, 0]
def k0_off56 (arg24 : BitVec 32) (v20 : BitVec 32) (k0_t14 : Fin (k0_t14_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_16 : BitVec 32 := 0#32
  let c1_i32_18 : BitVec 32 := 1#32
  let arg25 : BitVec 32 := Scf.iv c0_i32_16 c1_i32_18 k0_t14
  let c128_i32_20 : BitVec 32 := 128#32
  let v55 : BitVec 32 := Scalar.muli arg25 c128_i32_20
  let v56 : BitVec 32 := Scalar.addi v23 v55
  let c384_i32 : BitVec 32 := 384#32
  let v57 : BitVec 32 := Scalar.minsi v56 c384_i32
  let v58 : BitVec 32 := v57
  let v71 : Index := Scalar.indexCast v58
  let c0_21 : Index := 0#32
  ![v71.toNat, 0]
def k0_off57 (k0_t1 : Fin k0_t1_loop.trips) (c0_i32_23 : BitVec 32) : Fin 3 → Nat :=
  let c0_i32_4 : BitVec 32 := 0#32
  let c1_i32 : BitVec 32 := 1#32
  let arg23 : BitVec 32 := Scf.iv c0_i32_4 c1_i32 k0_t1
  let c4_i32_22 : BitVec 32 := 4#32
  let v77 : BitVec 32 := Scalar.muli arg23 c4_i32_22
  let v78 : BitVec 32 := Scalar.addi v77 c0_i32_23
  let v85 : Index := Scalar.indexCast v78
  let c0_29 : Index := 0#32
  let c0_30 : Index := 0#32
  ![v85.toNat, 0, 0]
def k0_off58 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v145 : Index := Scalar.indexCast arg23
  let c0_57 : Index := 0#32
  let c0_58 : Index := 0#32
  ![v145.toNat, 0, 0]
@[reducible] def k0_t15_loop (arg24 : BitVec 32) (v20 : BitVec 32) : Scf.Loop 32 :=
  let c0_i32_16 : BitVec 32 := 0#32
  let v21 : BitVec 32 := Scalar.addi arg24 v20
  let v46 : BitVec 1 := Scalar.cmpi .sgt v21 arg24
  let c3_i32 : BitVec 32 := 3#32
  let v22 : BitVec 32 := Scalar.shrui arg24 c3_i32
  let c8_i32 : BitVec 32 := 8#32
  let v23 : BitVec 32 := Scalar.muli v22 c8_i32
  let v24 : BitVec 32 := Scalar.subi v21 v23
  let c127_i32 : BitVec 32 := 127#32
  let v47 : BitVec 32 := Scalar.addi v24 c127_i32
  let c128_i32_13 : BitVec 32 := 128#32
  let v48 : BitVec 32 := Scalar.divsi v47 c128_i32_13
  let c0_i32_14 : BitVec 32 := 0#32
  let v49 : BitVec 32 := Scalar.select v46 v48 c0_i32_14
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let v51 : BitVec 32 := Scalar.addi c0_i32_16 v50
  let c1_i32_19 : BitVec 32 := 1#32
  ⟨v54, v51, c1_i32_19⟩
def k0_mult14 (arg24 : BitVec 32) (v20 : BitVec 32) (k0_t15 : Fin (k0_t15_loop arg24 v20).trips) : BitVec 32 :=
  let c3_i32 : BitVec 32 := 3#32
  let v22 : BitVec 32 := Scalar.shrui arg24 c3_i32
  let c8_i32 : BitVec 32 := 8#32
  let v23 : BitVec 32 := Scalar.muli v22 c8_i32
  let c0_i32_16 : BitVec 32 := 0#32
  let v21 : BitVec 32 := Scalar.addi arg24 v20
  let v46 : BitVec 1 := Scalar.cmpi .sgt v21 arg24
  let v24 : BitVec 32 := Scalar.subi v21 v23
  let c127_i32 : BitVec 32 := 127#32
  let v47 : BitVec 32 := Scalar.addi v24 c127_i32
  let c128_i32_13 : BitVec 32 := 128#32
  let v48 : BitVec 32 := Scalar.divsi v47 c128_i32_13
  let c0_i32_14 : BitVec 32 := 0#32
  let v49 : BitVec 32 := Scalar.select v46 v48 c0_i32_14
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_19 : BitVec 32 := 1#32
  let arg25 : BitVec 32 := Scf.iv v54 c1_i32_19 k0_t15
  let c128_i32_20 : BitVec 32 := 128#32
  let v55 : BitVec 32 := Scalar.muli arg25 c128_i32_20
  let v56 : BitVec 32 := Scalar.addi v23 v55
  let c384_i32 : BitVec 32 := 384#32
  let v57 : BitVec 32 := Scalar.minsi v56 c384_i32
  v57
def k0_off59 (arg24 : BitVec 32) (v20 : BitVec 32) (k0_t15 : Fin (k0_t15_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_16 : BitVec 32 := 0#32
  let v21 : BitVec 32 := Scalar.addi arg24 v20
  let v46 : BitVec 1 := Scalar.cmpi .sgt v21 arg24
  let v24 : BitVec 32 := Scalar.subi v21 v23
  let c127_i32 : BitVec 32 := 127#32
  let v47 : BitVec 32 := Scalar.addi v24 c127_i32
  let c128_i32_13 : BitVec 32 := 128#32
  let v48 : BitVec 32 := Scalar.divsi v47 c128_i32_13
  let c0_i32_14 : BitVec 32 := 0#32
  let v49 : BitVec 32 := Scalar.select v46 v48 c0_i32_14
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_19 : BitVec 32 := 1#32
  let arg25 : BitVec 32 := Scf.iv v54 c1_i32_19 k0_t15
  let c128_i32_20 : BitVec 32 := 128#32
  let v55 : BitVec 32 := Scalar.muli arg25 c128_i32_20
  let v56 : BitVec 32 := Scalar.addi v23 v55
  let c384_i32 : BitVec 32 := 384#32
  let v57 : BitVec 32 := Scalar.minsi v56 c384_i32
  let v58 : BitVec 32 := v57
  let v68 : Index := Scalar.indexCast v58
  let c0 : Index := 0#32
  ![v68.toNat, 0]
def k0_off60 (arg24 : BitVec 32) (v20 : BitVec 32) (k0_t15 : Fin (k0_t15_loop arg24 v20).trips) : Fin 2 → Nat :=
  let c3_i32 : BitVec 32 := 3#32
  let v22 : BitVec 32 := Scalar.shrui arg24 c3_i32
  let c8_i32 : BitVec 32 := 8#32
  let v23 : BitVec 32 := Scalar.muli v22 c8_i32
  let c0_i32_16 : BitVec 32 := 0#32
  let v21 : BitVec 32 := Scalar.addi arg24 v20
  let v46 : BitVec 1 := Scalar.cmpi .sgt v21 arg24
  let v24 : BitVec 32 := Scalar.subi v21 v23
  let c127_i32 : BitVec 32 := 127#32
  let v47 : BitVec 32 := Scalar.addi v24 c127_i32
  let c128_i32_13 : BitVec 32 := 128#32
  let v48 : BitVec 32 := Scalar.divsi v47 c128_i32_13
  let c0_i32_14 : BitVec 32 := 0#32
  let v49 : BitVec 32 := Scalar.select v46 v48 c0_i32_14
  let v50 : BitVec 32 := Scalar.subi v49 c0_i32_16
  let c1_i32_17 : BitVec 32 := 1#32
  let v52 : BitVec 32 := Scalar.divsi v50 c1_i32_17
  let v53 : BitVec 32 := Scalar.muli v52 c1_i32_17
  let v54 : BitVec 32 := Scalar.addi c0_i32_16 v53
  let c1_i32_19 : BitVec 32 := 1#32
  let arg25 : BitVec 32 := Scf.iv v54 c1_i32_19 k0_t15
  let c128_i32_20 : BitVec 32 := 128#32
  let v55 : BitVec 32 := Scalar.muli arg25 c128_i32_20
  let v56 : BitVec 32 := Scalar.addi v23 v55
  let c384_i32 : BitVec 32 := 384#32
  let v57 : BitVec 32 := Scalar.minsi v56 c384_i32
  let v58 : BitVec 32 := v57
  let v71 : Index := Scalar.indexCast v58
  let c0_21 : Index := 0#32
  ![v71.toNat, 0]

def k0_chk1_0 (arg24 : BitVec 32) (v20 : BitVec 32) : Prop :=
  (∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), (k0_t2_loop arg24 v20).OK) ∧
  (∀ k0_t2 : Fin (k0_t2_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), 8 ∣ (k0_mult1 arg24 v20 k0_t2).toNat) ∧
  (∀ k0_t2 : Fin (k0_t2_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off7 arg24 v20 k0_t2) a + S256x1024.size a ≤ S512x1024.size a) ∧
  (∀ k0_t2 : Fin (k0_t2_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off8 arg24 v20 k0_t2) a + S256x128.size a ≤ S512x128.size a) ∧
  (∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), (k0_t3_loop arg24 v20).OK) ∧
  (∀ k0_t3 : Fin (k0_t3_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), 8 ∣ (k0_mult2 arg24 v20 k0_t3).toNat) ∧
  (∀ k0_t3 : Fin (k0_t3_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off11 arg24 v20 k0_t3) a + S256x1024.size a ≤ S512x1024.size a) ∧
  (∀ k0_t3 : Fin (k0_t3_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off12 arg24 v20 k0_t3) a + S256x128.size a ≤ S512x128.size a) ∧
  (∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), (k0_t4_loop arg24 v20).OK) ∧
  (∀ k0_t4 : Fin (k0_t4_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), 8 ∣ (k0_mult3 arg24 v20 k0_t4).toNat) ∧
  (∀ k0_t4 : Fin (k0_t4_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off15 arg24 v20 k0_t4) a + S224x1024.size a ≤ S512x1024.size a) ∧
  (∀ k0_t4 : Fin (k0_t4_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off16 arg24 v20 k0_t4) a + S224x128.size a ≤ S512x128.size a) ∧
  (∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), (k0_t5_loop arg24 v20).OK) ∧
  (∀ k0_t5 : Fin (k0_t5_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), 8 ∣ (k0_mult4 arg24 v20 k0_t5).toNat) ∧
  (∀ k0_t5 : Fin (k0_t5_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off19 arg24 v20 k0_t5) a + S224x1024.size a ≤ S512x1024.size a) ∧
  (∀ k0_t5 : Fin (k0_t5_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off20 arg24 v20 k0_t5) a + S224x128.size a ≤ S512x128.size a) ∧
  (∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), (k0_t6_loop arg24 v20).OK) ∧
  (∀ k0_t6 : Fin (k0_t6_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), 8 ∣ (k0_mult5 arg24 v20 k0_t6).toNat) ∧
  (∀ k0_t6 : Fin (k0_t6_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off23 arg24 v20 k0_t6) a + S192x1024.size a ≤ S512x1024.size a) ∧
  (∀ k0_t6 : Fin (k0_t6_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off24 arg24 v20 k0_t6) a + S192x128.size a ≤ S512x128.size a) ∧
  (∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), (k0_t7_loop arg24 v20).OK) ∧
  (∀ k0_t7 : Fin (k0_t7_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), 8 ∣ (k0_mult6 arg24 v20 k0_t7).toNat) ∧
  (∀ k0_t7 : Fin (k0_t7_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off27 arg24 v20 k0_t7) a + S192x1024.size a ≤ S512x1024.size a) ∧
  (∀ k0_t7 : Fin (k0_t7_loop arg24 v20).trips, ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off28 arg24 v20 k0_t7) a + S192x128.size a ≤ S512x128.size a) ∧
  (∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), (k0_t8_loop arg24 v20).OK) ∧
  (∀ k0_t8 : Fin (k0_t8_loop arg24 v20).trips, ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), 8 ∣ (k0_mult7 arg24 v20 k0_t8).toNat) ∧
  (∀ k0_t8 : Fin (k0_t8_loop arg24 v20).trips, ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off31 arg24 v20 k0_t8) a + S176x1024.size a ≤ S512x1024.size a) ∧
  (∀ k0_t8 : Fin (k0_t8_loop arg24 v20).trips, ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off32 arg24 v20 k0_t8) a + S176x128.size a ≤ S512x128.size a) ∧
  (∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), (k0_t9_loop arg24 v20).OK) ∧
  (∀ k0_t9 : Fin (k0_t9_loop arg24 v20).trips, ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), 8 ∣ (k0_mult8 arg24 v20 k0_t9).toNat) ∧
  (∀ k0_t9 : Fin (k0_t9_loop arg24 v20).trips, ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off35 arg24 v20 k0_t9) a + S176x1024.size a ≤ S512x1024.size a) ∧
  (∀ k0_t9 : Fin (k0_t9_loop arg24 v20).trips, ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off36 arg24 v20 k0_t9) a + S176x128.size a ≤ S512x128.size a)
def k0_chk1_1 (arg24 : BitVec 32) (v20 : BitVec 32) : Prop :=
  (∀ (k0_h5 : k0_cond5 arg24 v20 = 1#1), ∀ (k0_h6 : k0_cond6 arg24 v20 = 1#1), ∀ (k0_h7 : ¬(k0_cond7 arg24 v20 = 1#1)), (k0_t10_loop arg24 v20).OK) ∧
  (∀ k0_t10 : Fin (k0_t10_loop arg24 v20).trips, ∀ (k0_h5 : k0_cond5 arg24 v20 = 1#1), ∀ (k0_h6 : k0_cond6 arg24 v20 = 1#1), ∀ (k0_h7 : ¬(k0_cond7 arg24 v20 = 1#1)), 8 ∣ (k0_mult9 arg24 v20 k0_t10).toNat) ∧
  (∀ k0_t10 : Fin (k0_t10_loop arg24 v20).trips, ∀ (k0_h5 : k0_cond5 arg24 v20 = 1#1), ∀ (k0_h6 : k0_cond6 arg24 v20 = 1#1), ∀ (k0_h7 : ¬(k0_cond7 arg24 v20 = 1#1)), ∀ a, (k0_off39 arg24 v20 k0_t10) a + S160x1024.size a ≤ S512x1024.size a) ∧
  (∀ k0_t10 : Fin (k0_t10_loop arg24 v20).trips, ∀ (k0_h5 : k0_cond5 arg24 v20 = 1#1), ∀ (k0_h6 : k0_cond6 arg24 v20 = 1#1), ∀ (k0_h7 : ¬(k0_cond7 arg24 v20 = 1#1)), ∀ a, (k0_off40 arg24 v20 k0_t10) a + S160x128.size a ≤ S512x128.size a) ∧
  (∀ (k0_h5 : k0_cond5 arg24 v20 = 1#1), ∀ (k0_h6 : k0_cond6 arg24 v20 = 1#1), ∀ (k0_h7 : ¬(k0_cond7 arg24 v20 = 1#1)), (k0_t11_loop arg24 v20).OK) ∧
  (∀ k0_t11 : Fin (k0_t11_loop arg24 v20).trips, ∀ (k0_h5 : k0_cond5 arg24 v20 = 1#1), ∀ (k0_h6 : k0_cond6 arg24 v20 = 1#1), ∀ (k0_h7 : ¬(k0_cond7 arg24 v20 = 1#1)), 8 ∣ (k0_mult10 arg24 v20 k0_t11).toNat) ∧
  (∀ k0_t11 : Fin (k0_t11_loop arg24 v20).trips, ∀ (k0_h5 : k0_cond5 arg24 v20 = 1#1), ∀ (k0_h6 : k0_cond6 arg24 v20 = 1#1), ∀ (k0_h7 : ¬(k0_cond7 arg24 v20 = 1#1)), ∀ a, (k0_off43 arg24 v20 k0_t11) a + S160x1024.size a ≤ S512x1024.size a) ∧
  (∀ k0_t11 : Fin (k0_t11_loop arg24 v20).trips, ∀ (k0_h5 : k0_cond5 arg24 v20 = 1#1), ∀ (k0_h6 : k0_cond6 arg24 v20 = 1#1), ∀ (k0_h7 : ¬(k0_cond7 arg24 v20 = 1#1)), ∀ a, (k0_off44 arg24 v20 k0_t11) a + S160x128.size a ≤ S512x128.size a) ∧
  (∀ (k0_h5 : k0_cond5 arg24 v20 = 1#1), ∀ (k0_h6 : ¬(k0_cond6 arg24 v20 = 1#1)), (k0_t12_loop arg24 v20).OK) ∧
  (∀ k0_t12 : Fin (k0_t12_loop arg24 v20).trips, ∀ (k0_h5 : k0_cond5 arg24 v20 = 1#1), ∀ (k0_h6 : ¬(k0_cond6 arg24 v20 = 1#1)), 8 ∣ (k0_mult11 arg24 v20 k0_t12).toNat) ∧
  (∀ k0_t12 : Fin (k0_t12_loop arg24 v20).trips, ∀ (k0_h5 : k0_cond5 arg24 v20 = 1#1), ∀ (k0_h6 : ¬(k0_cond6 arg24 v20 = 1#1)), ∀ a, (k0_off47 arg24 v20 k0_t12) a + S144x1024.size a ≤ S512x1024.size a) ∧
  (∀ k0_t12 : Fin (k0_t12_loop arg24 v20).trips, ∀ (k0_h5 : k0_cond5 arg24 v20 = 1#1), ∀ (k0_h6 : ¬(k0_cond6 arg24 v20 = 1#1)), ∀ a, (k0_off48 arg24 v20 k0_t12) a + S144x128.size a ≤ S512x128.size a) ∧
  (∀ (k0_h5 : k0_cond5 arg24 v20 = 1#1), ∀ (k0_h6 : ¬(k0_cond6 arg24 v20 = 1#1)), (k0_t13_loop arg24 v20).OK) ∧
  (∀ k0_t13 : Fin (k0_t13_loop arg24 v20).trips, ∀ (k0_h5 : k0_cond5 arg24 v20 = 1#1), ∀ (k0_h6 : ¬(k0_cond6 arg24 v20 = 1#1)), 8 ∣ (k0_mult12 arg24 v20 k0_t13).toNat) ∧
  (∀ k0_t13 : Fin (k0_t13_loop arg24 v20).trips, ∀ (k0_h5 : k0_cond5 arg24 v20 = 1#1), ∀ (k0_h6 : ¬(k0_cond6 arg24 v20 = 1#1)), ∀ a, (k0_off51 arg24 v20 k0_t13) a + S144x1024.size a ≤ S512x1024.size a) ∧
  (∀ k0_t13 : Fin (k0_t13_loop arg24 v20).trips, ∀ (k0_h5 : k0_cond5 arg24 v20 = 1#1), ∀ (k0_h6 : ¬(k0_cond6 arg24 v20 = 1#1)), ∀ a, (k0_off52 arg24 v20 k0_t13) a + S144x128.size a ≤ S512x128.size a) ∧
  (∀ (k0_h5 : ¬(k0_cond5 arg24 v20 = 1#1)), (k0_t14_loop arg24 v20).OK) ∧
  (∀ k0_t14 : Fin (k0_t14_loop arg24 v20).trips, ∀ (k0_h5 : ¬(k0_cond5 arg24 v20 = 1#1)), 8 ∣ (k0_mult13 arg24 v20 k0_t14).toNat) ∧
  (∀ k0_t14 : Fin (k0_t14_loop arg24 v20).trips, ∀ (k0_h5 : ¬(k0_cond5 arg24 v20 = 1#1)), ∀ a, (k0_off55 arg24 v20 k0_t14) a + S128x1024.size a ≤ S512x1024.size a) ∧
  (∀ k0_t14 : Fin (k0_t14_loop arg24 v20).trips, ∀ (k0_h5 : ¬(k0_cond5 arg24 v20 = 1#1)), ∀ a, (k0_off56 arg24 v20 k0_t14) a + S128x128.size a ≤ S512x128.size a) ∧
  (∀ (k0_h5 : ¬(k0_cond5 arg24 v20 = 1#1)), (k0_t15_loop arg24 v20).OK) ∧
  (∀ k0_t15 : Fin (k0_t15_loop arg24 v20).trips, ∀ (k0_h5 : ¬(k0_cond5 arg24 v20 = 1#1)), 8 ∣ (k0_mult14 arg24 v20 k0_t15).toNat) ∧
  (∀ k0_t15 : Fin (k0_t15_loop arg24 v20).trips, ∀ (k0_h5 : ¬(k0_cond5 arg24 v20 = 1#1)), ∀ a, (k0_off59 arg24 v20 k0_t15) a + S128x1024.size a ≤ S512x1024.size a) ∧
  (∀ k0_t15 : Fin (k0_t15_loop arg24 v20).trips, ∀ (k0_h5 : ¬(k0_cond5 arg24 v20 = 1#1)), ∀ a, (k0_off60 arg24 v20 k0_t15) a + S128x128.size a ≤ S512x128.size a)
def k0_chk1 (arg24 : BitVec 32) (v20 : BitVec 32) : Prop :=
  k0_chk1_0 arg24 v20 ∧
  k0_chk1_1 arg24 v20
theorem k0_t2_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), (k0_t2_loop arg24 v20).OK := fun arg24 v20 k0_hw1 k0_h5 k0_h6 k0_h7 k0_h8 k0_h9 k0_h10 => k0_hw1.1.1 k0_h5 k0_h6 k0_h7 k0_h8 k0_h9 k0_h10
theorem k0_mult1_dvd : ∀ (arg24 : BitVec 32) (v20 : BitVec 32) (k0_hw1 : k0_chk1 arg24 v20) (k0_t2 : Fin (k0_t2_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), 8 ∣ (k0_mult1 arg24 v20 k0_t2).toNat := fun arg24 v20 k0_hw1 k0_t2 k0_h5 k0_h6 k0_h7 k0_h8 k0_h9 k0_h10 => k0_hw1.1.2.1 k0_t2 k0_h5 k0_h6 k0_h7 k0_h8 k0_h9 k0_h10
theorem k0_off7_inb : ∀ (arg24 : BitVec 32) (v20 : BitVec 32) (k0_hw1 : k0_chk1 arg24 v20) (k0_t2 : Fin (k0_t2_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off7 arg24 v20 k0_t2) a + S256x1024.size a ≤ S512x1024.size a := fun arg24 v20 k0_hw1 k0_t2 k0_h5 k0_h6 k0_h7 k0_h8 k0_h9 k0_h10 => k0_hw1.1.2.2.1 k0_t2 k0_h5 k0_h6 k0_h7 k0_h8 k0_h9 k0_h10
theorem k0_off8_inb : ∀ (arg24 : BitVec 32) (v20 : BitVec 32) (k0_hw1 : k0_chk1 arg24 v20) (k0_t2 : Fin (k0_t2_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off8 arg24 v20 k0_t2) a + S256x128.size a ≤ S512x128.size a := fun arg24 v20 k0_hw1 k0_t2 k0_h5 k0_h6 k0_h7 k0_h8 k0_h9 k0_h10 => k0_hw1.1.2.2.2.1 k0_t2 k0_h5 k0_h6 k0_h7 k0_h8 k0_h9 k0_h10
theorem k0_t3_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), (k0_t3_loop arg24 v20).OK := fun arg24 v20 k0_hw1 k0_h5 k0_h6 k0_h7 k0_h8 k0_h9 k0_h10 => k0_hw1.1.2.2.2.2.1 k0_h5 k0_h6 k0_h7 k0_h8 k0_h9 k0_h10
theorem k0_mult2_dvd : ∀ (arg24 : BitVec 32) (v20 : BitVec 32) (k0_hw1 : k0_chk1 arg24 v20) (k0_t3 : Fin (k0_t3_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), 8 ∣ (k0_mult2 arg24 v20 k0_t3).toNat := fun arg24 v20 k0_hw1 k0_t3 k0_h5 k0_h6 k0_h7 k0_h8 k0_h9 k0_h10 => k0_hw1.1.2.2.2.2.2.1 k0_t3 k0_h5 k0_h6 k0_h7 k0_h8 k0_h9 k0_h10
theorem k0_off11_inb : ∀ (arg24 : BitVec 32) (v20 : BitVec 32) (k0_hw1 : k0_chk1 arg24 v20) (k0_t3 : Fin (k0_t3_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off11 arg24 v20 k0_t3) a + S256x1024.size a ≤ S512x1024.size a := fun arg24 v20 k0_hw1 k0_t3 k0_h5 k0_h6 k0_h7 k0_h8 k0_h9 k0_h10 => k0_hw1.1.2.2.2.2.2.2.1 k0_t3 k0_h5 k0_h6 k0_h7 k0_h8 k0_h9 k0_h10
theorem k0_off12_inb : ∀ (arg24 : BitVec 32) (v20 : BitVec 32) (k0_hw1 : k0_chk1 arg24 v20) (k0_t3 : Fin (k0_t3_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : k0_cond10 arg24 v20 = 1#1), ∀ a, (k0_off12 arg24 v20 k0_t3) a + S256x128.size a ≤ S512x128.size a := fun arg24 v20 k0_hw1 k0_t3 k0_h5 k0_h6 k0_h7 k0_h8 k0_h9 k0_h10 => k0_hw1.1.2.2.2.2.2.2.2.1 k0_t3 k0_h5 k0_h6 k0_h7 k0_h8 k0_h9 k0_h10
theorem k0_t4_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), (k0_t4_loop arg24 v20).OK := fun arg24 v20 k0_hw1 k0_h5 k0_h6 k0_h7 k0_h8 k0_h9 k0_h10 => k0_hw1.1.2.2.2.2.2.2.2.2.1 k0_h5 k0_h6 k0_h7 k0_h8 k0_h9 k0_h10
theorem k0_mult3_dvd : ∀ (arg24 : BitVec 32) (v20 : BitVec 32) (k0_hw1 : k0_chk1 arg24 v20) (k0_t4 : Fin (k0_t4_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), 8 ∣ (k0_mult3 arg24 v20 k0_t4).toNat := fun arg24 v20 k0_hw1 k0_t4 k0_h5 k0_h6 k0_h7 k0_h8 k0_h9 k0_h10 => k0_hw1.1.2.2.2.2.2.2.2.2.2.1 k0_t4 k0_h5 k0_h6 k0_h7 k0_h8 k0_h9 k0_h10
theorem k0_off15_inb : ∀ (arg24 : BitVec 32) (v20 : BitVec 32) (k0_hw1 : k0_chk1 arg24 v20) (k0_t4 : Fin (k0_t4_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off15 arg24 v20 k0_t4) a + S224x1024.size a ≤ S512x1024.size a := fun arg24 v20 k0_hw1 k0_t4 k0_h5 k0_h6 k0_h7 k0_h8 k0_h9 k0_h10 => k0_hw1.1.2.2.2.2.2.2.2.2.2.2.1 k0_t4 k0_h5 k0_h6 k0_h7 k0_h8 k0_h9 k0_h10
theorem k0_off16_inb : ∀ (arg24 : BitVec 32) (v20 : BitVec 32) (k0_hw1 : k0_chk1 arg24 v20) (k0_t4 : Fin (k0_t4_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off16 arg24 v20 k0_t4) a + S224x128.size a ≤ S512x128.size a := fun arg24 v20 k0_hw1 k0_t4 k0_h5 k0_h6 k0_h7 k0_h8 k0_h9 k0_h10 => k0_hw1.1.2.2.2.2.2.2.2.2.2.2.2.1 k0_t4 k0_h5 k0_h6 k0_h7 k0_h8 k0_h9 k0_h10
theorem k0_t5_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), (k0_t5_loop arg24 v20).OK := fun arg24 v20 k0_hw1 k0_h5 k0_h6 k0_h7 k0_h8 k0_h9 k0_h10 => k0_hw1.1.2.2.2.2.2.2.2.2.2.2.2.2.1 k0_h5 k0_h6 k0_h7 k0_h8 k0_h9 k0_h10
theorem k0_mult4_dvd : ∀ (arg24 : BitVec 32) (v20 : BitVec 32) (k0_hw1 : k0_chk1 arg24 v20) (k0_t5 : Fin (k0_t5_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), 8 ∣ (k0_mult4 arg24 v20 k0_t5).toNat := fun arg24 v20 k0_hw1 k0_t5 k0_h5 k0_h6 k0_h7 k0_h8 k0_h9 k0_h10 => k0_hw1.1.2.2.2.2.2.2.2.2.2.2.2.2.2.1 k0_t5 k0_h5 k0_h6 k0_h7 k0_h8 k0_h9 k0_h10
theorem k0_off19_inb : ∀ (arg24 : BitVec 32) (v20 : BitVec 32) (k0_hw1 : k0_chk1 arg24 v20) (k0_t5 : Fin (k0_t5_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off19 arg24 v20 k0_t5) a + S224x1024.size a ≤ S512x1024.size a := fun arg24 v20 k0_hw1 k0_t5 k0_h5 k0_h6 k0_h7 k0_h8 k0_h9 k0_h10 => k0_hw1.1.2.2.2.2.2.2.2.2.2.2.2.2.2.2.1 k0_t5 k0_h5 k0_h6 k0_h7 k0_h8 k0_h9 k0_h10
theorem k0_off20_inb : ∀ (arg24 : BitVec 32) (v20 : BitVec 32) (k0_hw1 : k0_chk1 arg24 v20) (k0_t5 : Fin (k0_t5_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : k0_cond9 arg24 v20 = 1#1), ∀ (k0_h10 : ¬(k0_cond10 arg24 v20 = 1#1)), ∀ a, (k0_off20 arg24 v20 k0_t5) a + S224x128.size a ≤ S512x128.size a := fun arg24 v20 k0_hw1 k0_t5 k0_h5 k0_h6 k0_h7 k0_h8 k0_h9 k0_h10 => k0_hw1.1.2.2.2.2.2.2.2.2.2.2.2.2.2.2.2.1 k0_t5 k0_h5 k0_h6 k0_h7 k0_h8 k0_h9 k0_h10
theorem k0_t6_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), (k0_t6_loop arg24 v20).OK := fun arg24 v20 k0_hw1 k0_h5 k0_h6 k0_h7 k0_h8 k0_h9 => k0_hw1.1.2.2.2.2.2.2.2.2.2.2.2.2.2.2.2.2.1 k0_h5 k0_h6 k0_h7 k0_h8 k0_h9
theorem k0_mult5_dvd : ∀ (arg24 : BitVec 32) (v20 : BitVec 32) (k0_hw1 : k0_chk1 arg24 v20) (k0_t6 : Fin (k0_t6_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), 8 ∣ (k0_mult5 arg24 v20 k0_t6).toNat := fun arg24 v20 k0_hw1 k0_t6 k0_h5 k0_h6 k0_h7 k0_h8 k0_h9 => k0_hw1.1.2.2.2.2.2.2.2.2.2.2.2.2.2.2.2.2.2.1 k0_t6 k0_h5 k0_h6 k0_h7 k0_h8 k0_h9
theorem k0_off23_inb : ∀ (arg24 : BitVec 32) (v20 : BitVec 32) (k0_hw1 : k0_chk1 arg24 v20) (k0_t6 : Fin (k0_t6_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off23 arg24 v20 k0_t6) a + S192x1024.size a ≤ S512x1024.size a := fun arg24 v20 k0_hw1 k0_t6 k0_h5 k0_h6 k0_h7 k0_h8 k0_h9 => k0_hw1.1.2.2.2.2.2.2.2.2.2.2.2.2.2.2.2.2.2.2.1 k0_t6 k0_h5 k0_h6 k0_h7 k0_h8 k0_h9
theorem k0_off24_inb : ∀ (arg24 : BitVec 32) (v20 : BitVec 32) (k0_hw1 : k0_chk1 arg24 v20) (k0_t6 : Fin (k0_t6_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off24 arg24 v20 k0_t6) a + S192x128.size a ≤ S512x128.size a := fun arg24 v20 k0_hw1 k0_t6 k0_h5 k0_h6 k0_h7 k0_h8 k0_h9 => k0_hw1.1.2.2.2.2.2.2.2.2.2.2.2.2.2.2.2.2.2.2.2.1 k0_t6 k0_h5 k0_h6 k0_h7 k0_h8 k0_h9
theorem k0_t7_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), (k0_t7_loop arg24 v20).OK := fun arg24 v20 k0_hw1 k0_h5 k0_h6 k0_h7 k0_h8 k0_h9 => k0_hw1.1.2.2.2.2.2.2.2.2.2.2.2.2.2.2.2.2.2.2.2.2.1 k0_h5 k0_h6 k0_h7 k0_h8 k0_h9
theorem k0_mult6_dvd : ∀ (arg24 : BitVec 32) (v20 : BitVec 32) (k0_hw1 : k0_chk1 arg24 v20) (k0_t7 : Fin (k0_t7_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), 8 ∣ (k0_mult6 arg24 v20 k0_t7).toNat := fun arg24 v20 k0_hw1 k0_t7 k0_h5 k0_h6 k0_h7 k0_h8 k0_h9 => k0_hw1.1.2.2.2.2.2.2.2.2.2.2.2.2.2.2.2.2.2.2.2.2.2.1 k0_t7 k0_h5 k0_h6 k0_h7 k0_h8 k0_h9
theorem k0_off27_inb : ∀ (arg24 : BitVec 32) (v20 : BitVec 32) (k0_hw1 : k0_chk1 arg24 v20) (k0_t7 : Fin (k0_t7_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off27 arg24 v20 k0_t7) a + S192x1024.size a ≤ S512x1024.size a := fun arg24 v20 k0_hw1 k0_t7 k0_h5 k0_h6 k0_h7 k0_h8 k0_h9 => k0_hw1.1.2.2.2.2.2.2.2.2.2.2.2.2.2.2.2.2.2.2.2.2.2.2.1 k0_t7 k0_h5 k0_h6 k0_h7 k0_h8 k0_h9
theorem k0_off28_inb : ∀ (arg24 : BitVec 32) (v20 : BitVec 32) (k0_hw1 : k0_chk1 arg24 v20) (k0_t7 : Fin (k0_t7_loop arg24 v20).trips), ∀ (k0_h5 : k0_cond5 arg24 v20 = 1#1), ∀ (k0_h6 : k0_cond6 arg24 v20 = 1#1), ∀ (k0_h7 : k0_cond7 arg24 v20 = 1#1), ∀ (k0_h8 : k0_cond8 arg24 v20 = 1#1), ∀ (k0_h9 : ¬(k0_cond9 arg24 v20 = 1#1)), ∀ a, (k0_off28 arg24 v20 k0_t7) a + S192x128.size a ≤ S512x128.size a := fun arg24 v20 k0_hw1 k0_t7 k0_h5 k0_h6 k0_h7 k0_h8 k0_h9 => k0_hw1.1.2.2.2.2.2.2.2.2.2.2.2.2.2.2.2.2.2.2.2.2.2.2.2.1 k0_t7 k0_h5 k0_h6 k0_h7 k0_h8 k0_h9
theorem k0_t8_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), (k0_t8_loop arg24 v20).OK := fun arg24 v20 k0_hw1 k0_h5 k0_h6 k0_h7 k0_h8 => k0_hw1.1.2.2.2.2.2.2.2.2.2.2.2.2.2.2.2.2.2.2.2.2.2.2.2.2.1 k0_h5 k0_h6 k0_h7 k0_h8
theorem k0_mult7_dvd : ∀ (arg24 : BitVec 32) (v20 : BitVec 32) (k0_hw1 : k0_chk1 arg24 v20) (k0_t8 : Fin (k0_t8_loop arg24 v20).trips), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), 8 ∣ (k0_mult7 arg24 v20 k0_t8).toNat := fun arg24 v20 k0_hw1 k0_t8 k0_h5 k0_h6 k0_h7 k0_h8 => k0_hw1.1.2.2.2.2.2.2.2.2.2.2.2.2.2.2.2.2.2.2.2.2.2.2.2.2.2.1 k0_t8 k0_h5 k0_h6 k0_h7 k0_h8
theorem k0_off31_inb : ∀ (arg24 : BitVec 32) (v20 : BitVec 32) (k0_hw1 : k0_chk1 arg24 v20) (k0_t8 : Fin (k0_t8_loop arg24 v20).trips), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off31 arg24 v20 k0_t8) a + S176x1024.size a ≤ S512x1024.size a := fun arg24 v20 k0_hw1 k0_t8 k0_h5 k0_h6 k0_h7 k0_h8 => k0_hw1.1.2.2.2.2.2.2.2.2.2.2.2.2.2.2.2.2.2.2.2.2.2.2.2.2.2.2.1 k0_t8 k0_h5 k0_h6 k0_h7 k0_h8
theorem k0_off32_inb : ∀ (arg24 : BitVec 32) (v20 : BitVec 32) (k0_hw1 : k0_chk1 arg24 v20) (k0_t8 : Fin (k0_t8_loop arg24 v20).trips), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off32 arg24 v20 k0_t8) a + S176x128.size a ≤ S512x128.size a := fun arg24 v20 k0_hw1 k0_t8 k0_h5 k0_h6 k0_h7 k0_h8 => k0_hw1.1.2.2.2.2.2.2.2.2.2.2.2.2.2.2.2.2.2.2.2.2.2.2.2.2.2.2.2.1 k0_t8 k0_h5 k0_h6 k0_h7 k0_h8
theorem k0_t9_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), (k0_t9_loop arg24 v20).OK := fun arg24 v20 k0_hw1 k0_h5 k0_h6 k0_h7 k0_h8 => k0_hw1.1.2.2.2.2.2.2.2.2.2.2.2.2.2.2.2.2.2.2.2.2.2.2.2.2.2.2.2.2.1 k0_h5 k0_h6 k0_h7 k0_h8
theorem k0_mult8_dvd : ∀ (arg24 : BitVec 32) (v20 : BitVec 32) (k0_hw1 : k0_chk1 arg24 v20) (k0_t9 : Fin (k0_t9_loop arg24 v20).trips), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), 8 ∣ (k0_mult8 arg24 v20 k0_t9).toNat := fun arg24 v20 k0_hw1 k0_t9 k0_h5 k0_h6 k0_h7 k0_h8 => k0_hw1.1.2.2.2.2.2.2.2.2.2.2.2.2.2.2.2.2.2.2.2.2.2.2.2.2.2.2.2.2.2.1 k0_t9 k0_h5 k0_h6 k0_h7 k0_h8
theorem k0_off35_inb : ∀ (arg24 : BitVec 32) (v20 : BitVec 32) (k0_hw1 : k0_chk1 arg24 v20) (k0_t9 : Fin (k0_t9_loop arg24 v20).trips), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off35 arg24 v20 k0_t9) a + S176x1024.size a ≤ S512x1024.size a := fun arg24 v20 k0_hw1 k0_t9 k0_h5 k0_h6 k0_h7 k0_h8 => k0_hw1.1.2.2.2.2.2.2.2.2.2.2.2.2.2.2.2.2.2.2.2.2.2.2.2.2.2.2.2.2.2.2.1 k0_t9 k0_h5 k0_h6 k0_h7 k0_h8
theorem k0_off36_inb : ∀ (arg24 : BitVec 32) (v20 : BitVec 32) (k0_hw1 : k0_chk1 arg24 v20) (k0_t9 : Fin (k0_t9_loop arg24 v20).trips), ∀ (k0_h5 : k0_cond5 arg24 v20 = 1#1), ∀ (k0_h6 : k0_cond6 arg24 v20 = 1#1), ∀ (k0_h7 : k0_cond7 arg24 v20 = 1#1), ∀ (k0_h8 : ¬(k0_cond8 arg24 v20 = 1#1)), ∀ a, (k0_off36 arg24 v20 k0_t9) a + S176x128.size a ≤ S512x128.size a := fun arg24 v20 k0_hw1 k0_t9 k0_h5 k0_h6 k0_h7 k0_h8 => k0_hw1.1.2.2.2.2.2.2.2.2.2.2.2.2.2.2.2.2.2.2.2.2.2.2.2.2.2.2.2.2.2.2.2 k0_t9 k0_h5 k0_h6 k0_h7 k0_h8
theorem k0_t10_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : ¬(k0_cond7 arg24 v20 = 1#1)), (k0_t10_loop arg24 v20).OK := fun arg24 v20 k0_hw1 k0_h5 k0_h6 k0_h7 => k0_hw1.2.1 k0_h5 k0_h6 k0_h7
theorem k0_mult9_dvd : ∀ (arg24 : BitVec 32) (v20 : BitVec 32) (k0_hw1 : k0_chk1 arg24 v20) (k0_t10 : Fin (k0_t10_loop arg24 v20).trips), ∀ (k0_h5 : k0_cond5 arg24 v20 = 1#1), ∀ (k0_h6 : k0_cond6 arg24 v20 = 1#1), ∀ (k0_h7 : ¬(k0_cond7 arg24 v20 = 1#1)), 8 ∣ (k0_mult9 arg24 v20 k0_t10).toNat := fun arg24 v20 k0_hw1 k0_t10 k0_h5 k0_h6 k0_h7 => k0_hw1.2.2.1 k0_t10 k0_h5 k0_h6 k0_h7
theorem k0_off39_inb : ∀ (arg24 : BitVec 32) (v20 : BitVec 32) (k0_hw1 : k0_chk1 arg24 v20) (k0_t10 : Fin (k0_t10_loop arg24 v20).trips), ∀ (k0_h5 : k0_cond5 arg24 v20 = 1#1), ∀ (k0_h6 : k0_cond6 arg24 v20 = 1#1), ∀ (k0_h7 : ¬(k0_cond7 arg24 v20 = 1#1)), ∀ a, (k0_off39 arg24 v20 k0_t10) a + S160x1024.size a ≤ S512x1024.size a := fun arg24 v20 k0_hw1 k0_t10 k0_h5 k0_h6 k0_h7 => k0_hw1.2.2.2.1 k0_t10 k0_h5 k0_h6 k0_h7
theorem k0_off40_inb : ∀ (arg24 : BitVec 32) (v20 : BitVec 32) (k0_hw1 : k0_chk1 arg24 v20) (k0_t10 : Fin (k0_t10_loop arg24 v20).trips), ∀ (k0_h5 : k0_cond5 arg24 v20 = 1#1), ∀ (k0_h6 : k0_cond6 arg24 v20 = 1#1), ∀ (k0_h7 : ¬(k0_cond7 arg24 v20 = 1#1)), ∀ a, (k0_off40 arg24 v20 k0_t10) a + S160x128.size a ≤ S512x128.size a := fun arg24 v20 k0_hw1 k0_t10 k0_h5 k0_h6 k0_h7 => k0_hw1.2.2.2.2.1 k0_t10 k0_h5 k0_h6 k0_h7
theorem k0_t11_ok : ∀ (arg24 : BitVec 32) (v20 : BitVec 32) (k0_hw1 : k0_chk1 arg24 v20), ∀ (k0_h5 : k0_cond5 arg24 v20 = 1#1), ∀ (k0_h6 : k0_cond6 arg24 v20 = 1#1), ∀ (k0_h7 : ¬(k0_cond7 arg24 v20 = 1#1)), (k0_t11_loop arg24 v20).OK := fun arg24 v20 k0_hw1 k0_h5 k0_h6 k0_h7 => k0_hw1.2.2.2.2.2.1 k0_h5 k0_h6 k0_h7
theorem k0_mult10_dvd : ∀ (arg24 : BitVec 32) (v20 : BitVec 32) (k0_hw1 : k0_chk1 arg24 v20) (k0_t11 : Fin (k0_t11_loop arg24 v20).trips), ∀ (k0_h5 : k0_cond5 arg24 v20 = 1#1), ∀ (k0_h6 : k0_cond6 arg24 v20 = 1#1), ∀ (k0_h7 : ¬(k0_cond7 arg24 v20 = 1#1)), 8 ∣ (k0_mult10 arg24 v20 k0_t11).toNat := fun arg24 v20 k0_hw1 k0_t11 k0_h5 k0_h6 k0_h7 => k0_hw1.2.2.2.2.2.2.1 k0_t11 k0_h5 k0_h6 k0_h7
theorem k0_off43_inb : ∀ (arg24 : BitVec 32) (v20 : BitVec 32) (k0_hw1 : k0_chk1 arg24 v20) (k0_t11 : Fin (k0_t11_loop arg24 v20).trips), ∀ (k0_h5 : k0_cond5 arg24 v20 = 1#1), ∀ (k0_h6 : k0_cond6 arg24 v20 = 1#1), ∀ (k0_h7 : ¬(k0_cond7 arg24 v20 = 1#1)), ∀ a, (k0_off43 arg24 v20 k0_t11) a + S160x1024.size a ≤ S512x1024.size a := fun arg24 v20 k0_hw1 k0_t11 k0_h5 k0_h6 k0_h7 => k0_hw1.2.2.2.2.2.2.2.1 k0_t11 k0_h5 k0_h6 k0_h7
theorem k0_off44_inb : ∀ (arg24 : BitVec 32) (v20 : BitVec 32) (k0_hw1 : k0_chk1 arg24 v20) (k0_t11 : Fin (k0_t11_loop arg24 v20).trips), ∀ (k0_h5 : k0_cond5 arg24 v20 = 1#1), ∀ (k0_h6 : k0_cond6 arg24 v20 = 1#1), ∀ (k0_h7 : ¬(k0_cond7 arg24 v20 = 1#1)), ∀ a, (k0_off44 arg24 v20 k0_t11) a + S160x128.size a ≤ S512x128.size a := fun arg24 v20 k0_hw1 k0_t11 k0_h5 k0_h6 k0_h7 => k0_hw1.2.2.2.2.2.2.2.2.1 k0_t11 k0_h5 k0_h6 k0_h7
theorem k0_t12_ok : ∀ (arg24 : BitVec 32) (v20 : BitVec 32) (k0_hw1 : k0_chk1 arg24 v20), ∀ (k0_h5 : k0_cond5 arg24 v20 = 1#1), ∀ (k0_h6 : ¬(k0_cond6 arg24 v20 = 1#1)), (k0_t12_loop arg24 v20).OK := fun arg24 v20 k0_hw1 k0_h5 k0_h6 => k0_hw1.2.2.2.2.2.2.2.2.2.1 k0_h5 k0_h6
theorem k0_mult11_dvd : ∀ (arg24 : BitVec 32) (v20 : BitVec 32) (k0_hw1 : k0_chk1 arg24 v20) (k0_t12 : Fin (k0_t12_loop arg24 v20).trips), ∀ (k0_h5 : k0_cond5 arg24 v20 = 1#1), ∀ (k0_h6 : ¬(k0_cond6 arg24 v20 = 1#1)), 8 ∣ (k0_mult11 arg24 v20 k0_t12).toNat := fun arg24 v20 k0_hw1 k0_t12 k0_h5 k0_h6 => k0_hw1.2.2.2.2.2.2.2.2.2.2.1 k0_t12 k0_h5 k0_h6
theorem k0_off47_inb : ∀ (arg24 : BitVec 32) (v20 : BitVec 32) (k0_hw1 : k0_chk1 arg24 v20) (k0_t12 : Fin (k0_t12_loop arg24 v20).trips), ∀ (k0_h5 : k0_cond5 arg24 v20 = 1#1), ∀ (k0_h6 : ¬(k0_cond6 arg24 v20 = 1#1)), ∀ a, (k0_off47 arg24 v20 k0_t12) a + S144x1024.size a ≤ S512x1024.size a := fun arg24 v20 k0_hw1 k0_t12 k0_h5 k0_h6 => k0_hw1.2.2.2.2.2.2.2.2.2.2.2.1 k0_t12 k0_h5 k0_h6
theorem k0_off48_inb : ∀ (arg24 : BitVec 32) (v20 : BitVec 32) (k0_hw1 : k0_chk1 arg24 v20) (k0_t12 : Fin (k0_t12_loop arg24 v20).trips), ∀ (k0_h5 : k0_cond5 arg24 v20 = 1#1), ∀ (k0_h6 : ¬(k0_cond6 arg24 v20 = 1#1)), ∀ a, (k0_off48 arg24 v20 k0_t12) a + S144x128.size a ≤ S512x128.size a := fun arg24 v20 k0_hw1 k0_t12 k0_h5 k0_h6 => k0_hw1.2.2.2.2.2.2.2.2.2.2.2.2.1 k0_t12 k0_h5 k0_h6
theorem k0_t13_ok : ∀ (arg24 : BitVec 32) (v20 : BitVec 32) (k0_hw1 : k0_chk1 arg24 v20), ∀ (k0_h5 : k0_cond5 arg24 v20 = 1#1), ∀ (k0_h6 : ¬(k0_cond6 arg24 v20 = 1#1)), (k0_t13_loop arg24 v20).OK := fun arg24 v20 k0_hw1 k0_h5 k0_h6 => k0_hw1.2.2.2.2.2.2.2.2.2.2.2.2.2.1 k0_h5 k0_h6
theorem k0_mult12_dvd : ∀ (arg24 : BitVec 32) (v20 : BitVec 32) (k0_hw1 : k0_chk1 arg24 v20) (k0_t13 : Fin (k0_t13_loop arg24 v20).trips), ∀ (k0_h5 : k0_cond5 arg24 v20 = 1#1), ∀ (k0_h6 : ¬(k0_cond6 arg24 v20 = 1#1)), 8 ∣ (k0_mult12 arg24 v20 k0_t13).toNat := fun arg24 v20 k0_hw1 k0_t13 k0_h5 k0_h6 => k0_hw1.2.2.2.2.2.2.2.2.2.2.2.2.2.2.1 k0_t13 k0_h5 k0_h6
theorem k0_off51_inb : ∀ (arg24 : BitVec 32) (v20 : BitVec 32) (k0_hw1 : k0_chk1 arg24 v20) (k0_t13 : Fin (k0_t13_loop arg24 v20).trips), ∀ (k0_h5 : k0_cond5 arg24 v20 = 1#1), ∀ (k0_h6 : ¬(k0_cond6 arg24 v20 = 1#1)), ∀ a, (k0_off51 arg24 v20 k0_t13) a + S144x1024.size a ≤ S512x1024.size a := fun arg24 v20 k0_hw1 k0_t13 k0_h5 k0_h6 => k0_hw1.2.2.2.2.2.2.2.2.2.2.2.2.2.2.2.1 k0_t13 k0_h5 k0_h6
theorem k0_off52_inb : ∀ (arg24 : BitVec 32) (v20 : BitVec 32) (k0_hw1 : k0_chk1 arg24 v20) (k0_t13 : Fin (k0_t13_loop arg24 v20).trips), ∀ (k0_h5 : k0_cond5 arg24 v20 = 1#1), ∀ (k0_h6 : ¬(k0_cond6 arg24 v20 = 1#1)), ∀ a, (k0_off52 arg24 v20 k0_t13) a + S144x128.size a ≤ S512x128.size a := fun arg24 v20 k0_hw1 k0_t13 k0_h5 k0_h6 => k0_hw1.2.2.2.2.2.2.2.2.2.2.2.2.2.2.2.2.1 k0_t13 k0_h5 k0_h6
theorem k0_t14_ok : ∀ (arg24 : BitVec 32) (v20 : BitVec 32) (k0_hw1 : k0_chk1 arg24 v20), ∀ (k0_h5 : ¬(k0_cond5 arg24 v20 = 1#1)), (k0_t14_loop arg24 v20).OK := fun arg24 v20 k0_hw1 k0_h5 => k0_hw1.2.2.2.2.2.2.2.2.2.2.2.2.2.2.2.2.2.1 k0_h5
theorem k0_mult13_dvd : ∀ (arg24 : BitVec 32) (v20 : BitVec 32) (k0_hw1 : k0_chk1 arg24 v20) (k0_t14 : Fin (k0_t14_loop arg24 v20).trips), ∀ (k0_h5 : ¬(k0_cond5 arg24 v20 = 1#1)), 8 ∣ (k0_mult13 arg24 v20 k0_t14).toNat := fun arg24 v20 k0_hw1 k0_t14 k0_h5 => k0_hw1.2.2.2.2.2.2.2.2.2.2.2.2.2.2.2.2.2.2.1 k0_t14 k0_h5
theorem k0_off55_inb : ∀ (arg24 : BitVec 32) (v20 : BitVec 32) (k0_hw1 : k0_chk1 arg24 v20) (k0_t14 : Fin (k0_t14_loop arg24 v20).trips), ∀ (k0_h5 : ¬(k0_cond5 arg24 v20 = 1#1)), ∀ a, (k0_off55 arg24 v20 k0_t14) a + S128x1024.size a ≤ S512x1024.size a := fun arg24 v20 k0_hw1 k0_t14 k0_h5 => k0_hw1.2.2.2.2.2.2.2.2.2.2.2.2.2.2.2.2.2.2.2.1 k0_t14 k0_h5
theorem k0_off56_inb : ∀ (arg24 : BitVec 32) (v20 : BitVec 32) (k0_hw1 : k0_chk1 arg24 v20) (k0_t14 : Fin (k0_t14_loop arg24 v20).trips), ∀ (k0_h5 : ¬(k0_cond5 arg24 v20 = 1#1)), ∀ a, (k0_off56 arg24 v20 k0_t14) a + S128x128.size a ≤ S512x128.size a := fun arg24 v20 k0_hw1 k0_t14 k0_h5 => k0_hw1.2.2.2.2.2.2.2.2.2.2.2.2.2.2.2.2.2.2.2.2.1 k0_t14 k0_h5
theorem k0_t15_ok : ∀ (arg24 : BitVec 32) (v20 : BitVec 32) (k0_hw1 : k0_chk1 arg24 v20), ∀ (k0_h5 : ¬(k0_cond5 arg24 v20 = 1#1)), (k0_t15_loop arg24 v20).OK := fun arg24 v20 k0_hw1 k0_h5 => k0_hw1.2.2.2.2.2.2.2.2.2.2.2.2.2.2.2.2.2.2.2.2.2.1 k0_h5
theorem k0_mult14_dvd : ∀ (arg24 : BitVec 32) (v20 : BitVec 32) (k0_hw1 : k0_chk1 arg24 v20) (k0_t15 : Fin (k0_t15_loop arg24 v20).trips), ∀ (k0_h5 : ¬(k0_cond5 arg24 v20 = 1#1)), 8 ∣ (k0_mult14 arg24 v20 k0_t15).toNat := fun arg24 v20 k0_hw1 k0_t15 k0_h5 => k0_hw1.2.2.2.2.2.2.2.2.2.2.2.2.2.2.2.2.2.2.2.2.2.2.1 k0_t15 k0_h5
theorem k0_off59_inb : ∀ (arg24 : BitVec 32) (v20 : BitVec 32) (k0_hw1 : k0_chk1 arg24 v20) (k0_t15 : Fin (k0_t15_loop arg24 v20).trips), ∀ (k0_h5 : ¬(k0_cond5 arg24 v20 = 1#1)), ∀ a, (k0_off59 arg24 v20 k0_t15) a + S128x1024.size a ≤ S512x1024.size a := fun arg24 v20 k0_hw1 k0_t15 k0_h5 => k0_hw1.2.2.2.2.2.2.2.2.2.2.2.2.2.2.2.2.2.2.2.2.2.2.2.1 k0_t15 k0_h5
theorem k0_off60_inb : ∀ (arg24 : BitVec 32) (v20 : BitVec 32) (k0_hw1 : k0_chk1 arg24 v20) (k0_t15 : Fin (k0_t15_loop arg24 v20).trips), ∀ (k0_h5 : ¬(k0_cond5 arg24 v20 = 1#1)), ∀ a, (k0_off60 arg24 v20 k0_t15) a + S128x128.size a ≤ S512x128.size a := fun arg24 v20 k0_hw1 k0_t15 k0_h5 => k0_hw1.2.2.2.2.2.2.2.2.2.2.2.2.2.2.2.2.2.2.2.2.2.2.2.2 k0_t15 k0_h5

def k0_off61 (k0_t1 : Fin k0_t1_loop.trips) (c0_i32_23 : BitVec 32) : Fin 3 → Nat :=
  let c0_i32_4 : BitVec 32 := 0#32
  let c1_i32 : BitVec 32 := 1#32
  let arg23 : BitVec 32 := Scf.iv c0_i32_4 c1_i32 k0_t1
  let c4_i32_22 : BitVec 32 := 4#32
  let v77 : BitVec 32 := Scalar.muli arg23 c4_i32_22
  let v78 : BitVec 32 := Scalar.addi v77 c0_i32_23
  let v85 : Index := Scalar.indexCast v78
  let c0_29 : Index := 0#32
  let c0_30 : Index := 0#32
  ![v85.toNat, 0, 0]
def k0_off62 (k0_t1 : Fin k0_t1_loop.trips) : Fin 3 → Nat :=
  let c0_i32_4 : BitVec 32 := 0#32
  let c1_i32 : BitVec 32 := 1#32
  let arg23 : BitVec 32 := Scf.iv c0_i32_4 c1_i32 k0_t1
  let v145 : Index := Scalar.indexCast arg23
  let c0_57 : Index := 0#32
  let c0_58 : Index := 0#32
  ![v145.toNat, 0, 0]
def k0_cond11 (i : grid0.Coords) : BitVec 1 :=
  let arg0 : BitVec 32 := BitVec.ofNat 32 (i 0).val
  let c32_i32 : BitVec 32 := 32#32
  let v3 : BitVec 1 := Scalar.cmpi .eq arg0 c32_i32
  let v_true : BitVec 1 := 1#1
  let v4 : BitVec 1 := Scalar.xori v3 v_true
  let v11 : BitVec 32 := Scalar.extui v4
  let c0_i32_6 : BitVec 32 := 0#32
  let v12 : BitVec 1 := Scalar.cmpi .ne v11 c0_i32_6
  v12

def k0_cond12 (i : grid0.Coords) : BitVec 1 :=
  let arg0 : BitVec 32 := BitVec.ofNat 32 (i 0).val
  let c32_i32 : BitVec 32 := 32#32
  let v3 : BitVec 1 := Scalar.cmpi .eq arg0 c32_i32
  let v13 : BitVec 32 := Scalar.extui v3
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8x2048x1024 : Shape := ⟨3, ![8, 2048, 1024]⟩
abbrev S8x2048 : Shape := ⟨2, ![8, 2048]⟩
abbrev S8x2048x2 : Shape := ⟨3, ![8, 2048, 2]⟩
abbrev S8x6144 : Shape := ⟨2, ![8, 6144]⟩
abbrev S128x4x1024 : Shape := ⟨3, ![128, 4, 1024]⟩
abbrev S128x4 : Shape := ⟨2, ![128, 4]⟩
abbrev S128x4x2 : Shape := ⟨3, ![128, 4, 2]⟩
abbrev S128x6144 : Shape := ⟨2, ![128, 6144]⟩
abbrev S16x1024x256 : Shape := ⟨3, ![16, 1024, 256]⟩
abbrev S16x256x1024 : Shape := ⟨3, ![16, 256, 1024]⟩
abbrev S1024 : Shape := ⟨1, ![1024]⟩
abbrev S8x1024 : Shape := ⟨2, ![8, 1024]⟩
abbrev S8x1x1024 : Shape := ⟨3, ![8, 1, 1024]⟩
abbrev S16384x1024 : Shape := ⟨2, ![16384, 1024]⟩
abbrev S16384x1 : Shape := ⟨2, ![16384, 1]⟩
abbrev S_ : Shape := ⟨0, ![]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16 : Shape := ⟨2, ![16384, 16]⟩
abbrev S16384x16x256 : Shape := ⟨3, ![16384, 16, 256]⟩
abbrev S16384x16x1 : Shape := ⟨3, ![16384, 16, 1]⟩
abbrev S8x2048x1 : Shape := ⟨3, ![8, 2048, 1]⟩
abbrev S1x1x1024 : Shape := ⟨3, ![1, 1, 1024]⟩
abbrev S128x1024 : Shape := ⟨2, ![128, 1024]⟩
abbrev S128x1x1024 : Shape := ⟨3, ![128, 1, 1024]⟩
abbrev S512x1024 : Shape := ⟨2, ![512, 1024]⟩
abbrev S512x1 : Shape := ⟨2, ![512, 1]⟩
abbrev S512x2 : Shape := ⟨2, ![512, 2]⟩
abbrev S512x2x1 : Shape := ⟨3, ![512, 2, 1]⟩
abbrev S512x2x16 : Shape := ⟨3, ![512, 2, 16]⟩
abbrev S512x16 : Shape := ⟨2, ![512, 16]⟩
abbrev S512x16x256 : Shape := ⟨3, ![512, 16, 256]⟩
abbrev S512x16x1 : Shape := ⟨3, ![512, 16, 1]⟩
abbrev S128x4x1 : Shape := ⟨3, ![128, 4, 1]⟩
abbrev S4x128x1024 : Shape := ⟨3, ![4, 128, 1024]⟩

abbrev nBuf : Space → Nat
  | .hbm => 139
  | .vmem => 0
  | .smem => 0
  | _ => 0

abbrev hbmTy0_0 (i : Nat) : BufTy := match i % 128 with
  | 0 => ⟨S8x2048x1024, .f32⟩
  | 1 => ⟨S8x2048x1024, .bf16⟩
  | 2 => ⟨S8x2048, .i32⟩
  | 3 => ⟨S8x2048x2, .i32⟩
  | 4 => ⟨S8x2048x2, .f32⟩
  | 5 => ⟨S8x6144, .f32⟩
  | 6 => ⟨S128x4x1024, .f32⟩
  | 7 => ⟨S128x4x1024, .bf16⟩
  | 8 => ⟨S128x4, .i32⟩
  | 9 => ⟨S128x4x2, .i32⟩
  | 10 => ⟨S128x4x2, .f32⟩
  | 11 => ⟨S128x6144, .f32⟩
  | 12 => ⟨S16x1024x256, .bf16⟩
  | 13 => ⟨S16x1024x256, .bf16⟩
  | 14 => ⟨S16x256x1024, .bf16⟩
  | 15 => ⟨S1024, .f32⟩
  | 16 => ⟨S16x1024x256, .f32⟩
  | 17 => ⟨S16x1024x256, .f32⟩
  | 18 => ⟨S16x256x1024, .f32⟩
  | 19 => ⟨S8x2048x1024, .f32⟩
  | 20 => ⟨S8x1024, .f32⟩
  | 21 => ⟨S8x1x1024, .f32⟩
  | 22 => ⟨S16384x1024, .f32⟩
  | 23 => ⟨S16384x1, .i32⟩
  | 24 => ⟨S_, .i32⟩
  | 25 => ⟨S16384x1, .i32⟩
  | 26 => ⟨S16384x1, .i32⟩
  | 27 => ⟨S16384x2, .i32⟩
  | 28 => ⟨S16384x2, .i32⟩
  | 29 => ⟨S16384x2, .i32⟩
  | 30 => ⟨S16384x2x1, .i32⟩
  | 31 => ⟨S1x1x16, .i32⟩
  | 32 => ⟨S16384x2x16, .i32⟩
  | 33 => ⟨S16384x2x16, .i32⟩
  | 34 => ⟨S16384x2x16, .i1⟩
  | 35 => ⟨S16384x2x16, .f32⟩
  | 36 => ⟨S16384x2, .f32⟩
  | 37 => ⟨S16384x2x1, .f32⟩
  | 38 => ⟨S16384x2x16, .f32⟩
  | 39 => ⟨S16384x2x16, .f32⟩
  | 40 => ⟨S_, .f32⟩
  | 41 => ⟨S16384x16, .f32⟩
  | 42 => ⟨S16384x16x256, .f32⟩
  | 43 => ⟨S16384x16x256, .f32⟩
  | 44 => ⟨S16384x16x256, .f32⟩
  | 45 => ⟨S_, .f32⟩
  | 46 => ⟨S16384x16x256, .f32⟩
  | 47 => ⟨S16384x16x256, .f32⟩
  | 48 => ⟨S_, .f32⟩
  | 49 => ⟨S16384x16x256, .f32⟩
  | 50 => ⟨S16384x16x256, .f32⟩
  | 51 => ⟨S16384x16x256, .f32⟩
  | 52 => ⟨S16384x16x256, .f32⟩
  | 53 => ⟨S16384x16x256, .f32⟩
  | 54 => ⟨S16384x16x1, .f32⟩
  | 55 => ⟨S16384x16x256, .f32⟩
  | 56 => ⟨S16384x16x256, .f32⟩
  | 57 => ⟨S16384x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S_, .f32⟩
  | 64 => ⟨S8x2048, .f32⟩
  | 65 => ⟨S8x2048x1, .f32⟩
  | 66 => ⟨S_, .f32⟩
  | 67 => ⟨S8x2048x1, .f32⟩
  | 68 => ⟨S8x2048x1, .f32⟩
  | 69 => ⟨S_, .f32⟩
  | 70 => ⟨S8x2048x1, .f32⟩
  | 71 => ⟨S8x2048x1, .f32⟩
  | 72 => ⟨S8x2048x1, .f32⟩
  | 73 => ⟨S8x2048x1024, .f32⟩
  | 74 => ⟨S8x2048x1024, .f32⟩
  | 75 => ⟨S1x1x1024, .f32⟩
  | 76 => ⟨S8x2048x1024, .f32⟩
  | 77 => ⟨S8x2048x1024, .f32⟩
  | 78 => ⟨S128x4x1024, .f32⟩
  | 79 => ⟨S128x1024, .f32⟩
  | 80 => ⟨S128x1x1024, .f32⟩
  | 81 => ⟨S512x1024, .f32⟩
  | 82 => ⟨S512x1, .i32⟩
  | 83 => ⟨S_, .i32⟩
  | 84 => ⟨S512x1, .i32⟩
  | 85 => ⟨S512x1, .i32⟩
  | 86 => ⟨S512x2, .i32⟩
  | 87 => ⟨S512x2, .i32⟩
  | 88 => ⟨S512x2, .i32⟩
  | 89 => ⟨S512x2x1, .i32⟩
  | 90 => ⟨S1x1x16, .i32⟩
  | 91 => ⟨S512x2x16, .i32⟩
  | 92 => ⟨S512x2x16, .i32⟩
  | 93 => ⟨S512x2x16, .i1⟩
  | 94 => ⟨S512x2x16, .f32⟩
  | 95 => ⟨S512x2, .f32⟩
  | 96 => ⟨S512x2x1, .f32⟩
  | 97 => ⟨S512x2x16, .f32⟩
  | 98 => ⟨S512x2x16, .f32⟩
  | 99 => ⟨S_, .f32⟩
  | 100 => ⟨S512x16, .f32⟩
  | 101 => ⟨S512x16x256, .f32⟩
  | 102 => ⟨S512x16x256, .f32⟩
  | 103 => ⟨S512x16x256, .f32⟩
  | 104 => ⟨S_, .f32⟩
  | 105 => ⟨S512x16x256, .f32⟩
  | 106 => ⟨S512x16x256, .f32⟩
  | 107 => ⟨S_, .f32⟩
  | 108 => ⟨S512x16x256, .f32⟩
  | 109 => ⟨S512x16x256, .f32⟩
  | 110 => ⟨S512x16x256, .f32⟩
  | 111 => ⟨S512x16x256, .f32⟩
  | 112 => ⟨S512x16x256, .f32⟩
  | 113 => ⟨S512x16x1, .f32⟩
  | 114 => ⟨S512x16x256, .f32⟩
  | 115 => ⟨S512x16x256, .f32⟩
  | 116 => ⟨S512x1024, .f32⟩
  | 117 => ⟨S128x4x1024, .f32⟩
  | 118 => ⟨S128x4x1024, .f32⟩
  | 119 => ⟨S128x4x1024, .f32⟩
  | 120 => ⟨S128x4x1024, .f32⟩
  | 121 => ⟨S128x4x1024, .f32⟩
  | 122 => ⟨S_, .f32⟩
  | 123 => ⟨S128x4, .f32⟩
  | 124 => ⟨S128x4x1, .f32⟩
  | 125 => ⟨S_, .f32⟩
  | 126 => ⟨S128x4x1, .f32⟩
  | 127 => ⟨S128x4x1, .f32⟩
  | _ => ⟨S8x2048x1024, .f32⟩

abbrev hbmTy0_1 (i : Nat) : BufTy := match i % 128 with
  | 0 => ⟨S_, .f32⟩
  | 1 => ⟨S128x4x1, .f32⟩
  | 2 => ⟨S128x4x1, .f32⟩
  | 3 => ⟨S128x4x1, .f32⟩
  | 4 => ⟨S128x4x1024, .f32⟩
  | 5 => ⟨S128x4x1024, .f32⟩
  | 6 => ⟨S1x1x1024, .f32⟩
  | 7 => ⟨S128x4x1024, .f32⟩
  | 8 => ⟨S128x4x1024, .f32⟩
  | 9 => ⟨S4x128x1024, .f32⟩
  | 10 => ⟨S512x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_0 : Ref sig .tc := ⟨.hbm, 63, rfl⟩
abbrev main_v32 : Ref sig .tc := ⟨.hbm, 64, rfl⟩
abbrev main_v33 : Ref sig .tc := ⟨.hbm, 65, rfl⟩
abbrev main_cst_1 : Ref sig .tc := ⟨.hbm, 66, rfl⟩
abbrev main_v34 : Ref sig .tc := ⟨.hbm, 67, rfl⟩
abbrev main_v35 : Ref sig .tc := ⟨.hbm, 68, rfl⟩
abbrev main_cst_2 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_3 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_4 : Ref sig .tc := ⟨.hbm, 99, rfl⟩
abbrev main_v59 : Ref sig .tc := ⟨.hbm, 100, rfl⟩
abbrev main_v60 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_5 : Ref sig .tc := ⟨.hbm, 122, rfl⟩
abbrev main_v73 : Ref sig .tc := ⟨.hbm, 123, rfl⟩
abbrev main_v74 : Ref sig .tc := ⟨.hbm, 124, rfl⟩
abbrev main_cst_6 : Ref sig .tc := ⟨.hbm, 125, rfl⟩
abbrev main_v75 : Ref sig .tc := ⟨.hbm, 126, rfl⟩
abbrev main_v76 : Ref sig .tc := ⟨.hbm, 127, rfl⟩
abbrev main_cst_7 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩

abbrev nD : Nat := 1
abbrev τ : Topo := Topo.v7x

variable {F : FTy → Type} [FloatOps F]
-- ==== Proof.Pass.lean ====
/-
  One pass of the expert product over a window of the sorted rows, stated once for every window height `R`.

  A pass takes `R` rows of the sorted activations starting at row `w`, keeps the weights of the rows whose number is
  at least `lo` and below `hi` and puts zero for the others, forms the gated hidden values of the group's four experts
  and adds their product with the group's second matrix into the same rows of the accumulator. The kernel has seven
  copies of this text, one per height; `Sized R` lists what each copy needs of its shapes.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- A block of `R` rows of `n` lanes. -/
abbrev sR (R n : ℕ) : Shape := ⟨2, ![R, n]⟩

/-- What the operations of a pass need of the shapes at height `R`. -/
structure Sized (R : ℕ) : Prop where
  iota : (sR R 1).Iotas .tc 32 [0]
  cast1 : (sR R 1).ShapeCasts (sR R 1)
  bc128 : (sR R 1).Broadcasts (sR R 128)
  bc256 : (sR R 1).Broadcasts (sR R 256)
  sl0 : (sR R 128).Slices ![0, 0] (sR R 1)
  sl1 : (sR R 128).Slices ![0, 1] (sR R 1)
  sl2 : (sR R 128).Slices ![0, 2] (sR R 1)
  sl3 : (sR R 128).Slices ![0, 3] (sR R 1)
  cat : Shape.Concatenates [sR R 256, sR R 256, sR R 256, sR R 256] (sR R 1024) 1
  cast : (sR R 1024).ShapeCasts (sR R 1024)
  wf1 : DotDims.WF (sR R 1024) S1024x256 (sR R 256) [1] [0] [0] [1] [] []
  wf2 : DotDims.WF (sR R 1024) S1024x1024 (sR R 1024) [1] [0] [0] [1] [] []

/-- Rows times one expert's matrix. -/
def dot1 {R : ℕ} (h : Sized R) : DotDims (sR R 1024) S1024x256 (sR R 256) where
  lhsContracting := [1]
  rhsContracting := [0]
  lhsNonContracting := [0]
  rhsNonContracting := [1]
  lhsBatch := []
  rhsBatch := []
  wf := h.wf1

/-- Hidden values times the group's second matrix. -/
def dot2 {R : ℕ} (h : Sized R) : DotDims (sR R 1024) S1024x1024 (sR R 1024) where
  lhsContracting := [1]
  rhsContracting := [0]
  lhsNonContracting := [0]
  rhsNonContracting := [1]
  lhsBatch := []
  rhsBatch := []
  wf := h.wf2

/-- The shapes of height 256. -/
theorem sized256 : Sized 256 :=
  ⟨iota_S256x1_d0_w32, shapeCasts_S256x1_S256x1, broadcasts_S256x1_S256x128, broadcasts_S256x1_S256x256, slices_S256x128_o0_0_S256x1,
    slices_S256x128_o0_1_S256x1, slices_S256x128_o0_2_S256x1, slices_S256x128_o0_3_S256x1,
    concatenates_S256x256_S256x256_S256x256_S256x256_S256x1024_d1, shapeCasts_S256x1024_S256x1024,
    dot_S256x1024_S1024x256_S256x256_1_0_0_1_n_n_wf, dot_S256x1024_S1024x1024_S256x1024_1_0_0_1_n_n_wf⟩

/-- The shapes of height 224. -/
theorem sized224 : Sized 224 :=
  ⟨iota_S224x1_d0_w32, shapeCasts_S224x1_S224x1, broadcasts_S224x1_S224x128, broadcasts_S224x1_S224x256, slices_S224x128_o0_0_S224x1,
    slices_S224x128_o0_1_S224x1, slices_S224x128_o0_2_S224x1, slices_S224x128_o0_3_S224x1,
    concatenates_S224x256_S224x256_S224x256_S224x256_S224x1024_d1, shapeCasts_S224x1024_S224x1024,
    dot_S224x1024_S1024x256_S224x256_1_0_0_1_n_n_wf, dot_S224x1024_S1024x1024_S224x1024_1_0_0_1_n_n_wf⟩

/-- The shapes of height 192. -/
theorem sized192 : Sized 192 :=
  ⟨iota_S192x1_d0_w32, shapeCasts_S192x1_S192x1, broadcasts_S192x1_S192x128, broadcasts_S192x1_S192x256, slices_S192x128_o0_0_S192x1,
    slices_S192x128_o0_1_S192x1, slices_S192x128_o0_2_S192x1, slices_S192x128_o0_3_S192x1,
    concatenates_S192x256_S192x256_S192x256_S192x256_S192x1024_d1, shapeCasts_S192x1024_S192x1024,
    dot_S192x1024_S1024x256_S192x256_1_0_0_1_n_n_wf, dot_S192x1024_S1024x1024_S192x1024_1_0_0_1_n_n_wf⟩

/-- The shapes of height 176. -/
theorem sized176 : Sized 176 :=
  ⟨iota_S176x1_d0_w32, shapeCasts_S176x1_S176x1, broadcasts_S176x1_S176x128, broadcasts_S176x1_S176x256, slices_S176x128_o0_0_S176x1,
    slices_S176x128_o0_1_S176x1, slices_S176x128_o0_2_S176x1, slices_S176x128_o0_3_S176x1,
    concatenates_S176x256_S176x256_S176x256_S176x256_S176x1024_d1, shapeCasts_S176x1024_S176x1024,
    dot_S176x1024_S1024x256_S176x256_1_0_0_1_n_n_wf, dot_S176x1024_S1024x1024_S176x1024_1_0_0_1_n_n_wf⟩

/-- The shapes of height 160. -/
theorem sized160 : Sized 160 :=
  ⟨iota_S160x1_d0_w32, shapeCasts_S160x1_S160x1, broadcasts_S160x1_S160x128, broadcasts_S160x1_S160x256, slices_S160x128_o0_0_S160x1,
    slices_S160x128_o0_1_S160x1, slices_S160x128_o0_2_S160x1, slices_S160x128_o0_3_S160x1,
    concatenates_S160x256_S160x256_S160x256_S160x256_S160x1024_d1, shapeCasts_S160x1024_S160x1024,
    dot_S160x1024_S1024x256_S160x256_1_0_0_1_n_n_wf, dot_S160x1024_S1024x1024_S160x1024_1_0_0_1_n_n_wf⟩

/-- The shapes of height 144. -/
theorem sized144 : Sized 144 :=
  ⟨iota_S144x1_d0_w32, shapeCasts_S144x1_S144x1, broadcasts_S144x1_S144x128, broadcasts_S144x1_S144x256, slices_S144x128_o0_0_S144x1,
    slices_S144x128_o0_1_S144x1, slices_S144x128_o0_2_S144x1, slices_S144x128_o0_3_S144x1,
    concatenates_S144x256_S144x256_S144x256_S144x256_S144x1024_d1, shapeCasts_S144x1024_S144x1024,
    dot_S144x1024_S1024x256_S144x256_1_0_0_1_n_n_wf, dot_S144x1024_S1024x1024_S144x1024_1_0_0_1_n_n_wf⟩

/-- The shapes of height 128. -/
theorem sized128 : Sized 128 :=
  ⟨iota_S128x1_d0_w32, shapeCasts_S128x1_S128x1, broadcasts_S128x1_S128x128, broadcasts_S128x1_S128x256, slices_S128x128_o0_0_S128x1,
    slices_S128x128_o0_1_S128x1, slices_S128x128_o0_2_S128x1, slices_S128x128_o0_3_S128x1,
    concatenates_S128x256_S128x256_S128x256_S128x256_S128x1024_d1, shapeCasts_S128x1024_S128x1024,
    dot_S128x1024_S1024x256_S128x256_1_0_0_1_n_n_wf, dot_S128x1024_S1024x1024_S128x1024_1_0_0_1_n_n_wf⟩

section Value

variable {R : ℕ} (h : Sized R)

/-- The four experts' products of the rows side by side. -/
def hidden (rows : FVec F (sR R 1024) .bf16) (a0 a1 a2 a3 : Vec F S1x1024x256 .bf16) : FVec F (sR R 1024) .f32 :=
  have p0 : FVec F (sR R 256) .f32 := matmul (dot1 h) none rows (shapeCast S1024x256 a0 shapeCasts_S1x1024x256_S1024x256) (constant (sR R 256) .f32 0x00000000#32)
  have p1 : FVec F (sR R 256) .f32 := matmul (dot1 h) none rows (shapeCast S1024x256 a1 shapeCasts_S1x1024x256_S1024x256) (constant (sR R 256) .f32 0x00000000#32)
  have p2 : FVec F (sR R 256) .f32 := matmul (dot1 h) none rows (shapeCast S1024x256 a2 shapeCasts_S1x1024x256_S1024x256) (constant (sR R 256) .f32 0x00000000#32)
  have p3 : FVec F (sR R 256) .f32 := matmul (dot1 h) none rows (shapeCast S1024x256 a3 shapeCasts_S1x1024x256_S1024x256) (constant (sR R 256) .f32 0x00000000#32)
  concatenate (sR R 1024) 1 [⟨sR R 256, p0⟩, ⟨sR R 256, p1⟩, ⟨sR R 256, p2⟩, ⟨sR R 256, p3⟩] h.cat

/-- The weights of the rows, zero for a row whose number is below `lo` or not below `hi`. -/
def masked (w lo hi : BitVec 32) (cs : Vec F (sR R 128) .f32) : Vec F (sR R 128) .f32 :=
  have rowNo : IVec (sR R 1) 32 := addi (broadcast (sR R 1) w) (iota .tc (sR R 1) 32 [0] h.iota)
  have inside : IVec (sR R 1) 1 := andi (cmpi .sge rowNo (broadcast (sR R 1) lo)) (cmpi .slt rowNo (broadcast (sR R 1) hi))
  have zero : FVec F (sR R 128) .f32 := broadcast (sR R 128) (Scalar.ofBits .f32 0x00000000#32)
  select (broadcastTo (sR R 128) (shapeCast (sR R 1) inside h.cast1) h.bc128) cs zero

/-- Each expert's weight of a row over that expert's lanes. -/
def spread (m : Vec F (sR R 128) .f32) : FVec F (sR R 1024) .f32 :=
  have q0 : FVec F (sR R 256) .f32 := broadcastTo (sR R 256) (shapeCast (sR R 1) (extractStridedSlice (sR R 1) ![0, 0] m h.sl0) h.cast1) h.bc256
  have q1 : FVec F (sR R 256) .f32 := broadcastTo (sR R 256) (shapeCast (sR R 1) (extractStridedSlice (sR R 1) ![0, 1] m h.sl1) h.cast1) h.bc256
  have q2 : FVec F (sR R 256) .f32 := broadcastTo (sR R 256) (shapeCast (sR R 1) (extractStridedSlice (sR R 1) ![0, 2] m h.sl2) h.cast1) h.bc256
  have q3 : FVec F (sR R 256) .f32 := broadcastTo (sR R 256) (shapeCast (sR R 1) (extractStridedSlice (sR R 1) ![0, 3] m h.sl3) h.cast1) h.bc256
  concatenate (sR R 1024) 1 [⟨sR R 256, q0⟩, ⟨sR R 256, q1⟩, ⟨sR R 256, q2⟩, ⟨sR R 256, q3⟩] h.cat

/-- The gated hidden values of a pass. -/
def gated (u g : FVec F (sR R 1024) .f32) (s : FVec F (sR R 1024) .f32) : FVec F (sR R 1024) .f32 :=
  have half : FVec F (sR R 1024) .f32 := broadcast (sR R 1024) (Scalar.ofBits .f32 0x3F000000#32)
  have th : FVec F (sR R 1024) .f32 := tanh (mulf half u)
  have sg : FVec F (sR R 1024) .f32 := addf (mulf half th) half
  mulf (mulf (mulf u sg) g) s

/-- What a pass leaves in its rows of the accumulator. -/
def passVal (w lo hi : BitVec 32) (rows : Vec F (sR R 1024) .f32) (cs : Vec F (sR R 128) .f32) (a0 a1 a2 a3 b0 b1 b2 b3 : Vec F S1x1024x256 .bf16)
    (w2 : Vec F S1x1024x1024 .bf16) (acc : Vec F (sR R 1024) .f32) : FVec F (sR R 1024) .f32 :=
  have rb : FVec F (sR R 1024) .bf16 := truncf .bf16 rows bitsLt_bf16_f32
  have act : FVec F (sR R 1024) .f32 := gated (hidden h rb a0 a1 a2 a3) (hidden h rb b0 b1 b2 b3) (spread h (masked h w lo hi cs))
  have y : FVec F (sR R 1024) .f32 := matmul (dot2 h) none (truncf .bf16 act bitsLt_bf16_f32) (shapeCast S1024x1024 w2 shapeCasts_S1x1024x1024_S1024x1024) (constant (sR R 1024) .f32 0x00000000#32)
  shapeCast (sR R 1024) (addf acc y) h.cast

end Value

/-- The contents of the sorted activations, of the sorted weights, of the accumulator and of the three weight buffers. -/
abbrev C16 (F : FTy → Type) [FloatOps F] : Type := BufTy.Contents (Elt F) (Memref.whole cc0_scratch0).view.ty
abbrev C17 (F : FTy → Type) [FloatOps F] : Type := BufTy.Contents (Elt F) (Memref.whole cc0_scratch1).view.ty
abbrev C18 (F : FTy → Type) [FloatOps F] : Type := BufTy.Contents (Elt F) (Memref.whole cc0_scratch2).view.ty
abbrev C19 (F : FTy → Type) [FloatOps F] : Type := BufTy.Contents (Elt F) (Memref.whole cc0_scratch3).view.ty
abbrev C20 (F : FTy → Type) [FloatOps F] : Type := BufTy.Contents (Elt F) (Memref.whole cc0_scratch4).view.ty
abbrev C21 (F : FTy → Type) [FloatOps F] : Type := BufTy.Contents (Elt F) (Memref.whole cc0_scratch5).view.ty

/-- The first row of pass `n`'s window, before it is clamped to the buffer: the group's first row rounded down to a
    multiple of eight, plus `n` heights. -/
def place (R : ℕ) (start : BitVec 32) (n : ℕ) : BitVec 32 :=
  Scalar.addi (Scalar.muli (Scalar.shrui start 3#32) 8#32) (Scalar.muli (Scf.iv 0#32 1#32 n) (BitVec.ofNat 32 R))

/-- The first row of pass `n`'s window. -/
def clamp (R : ℕ) (start : BitVec 32) (n : ℕ) : BitVec 32 :=
  Scalar.minsi (place R start n) (BitVec.ofNat 32 (512 - R))

/-- A window of `R` rows of `n` lanes from row `w`. -/
theorem rows_inb {R n : ℕ} {w : BitVec 32} (h : w.toNat + R ≤ 512) : ∀ a, (![w.toNat, 0] : Fin 2 → ℕ) a + (sR R n).size a ≤ (sR 512 n).size a := by
  intro a; fin_cases a
  · exact h
  · exact (Nat.zero_add n).le

/-- Expert `e` of group `g` in the first or the third weight buffer. -/
def slab (g : Fin k0_t1_loop.trips) (e : Fin 4) : Rect S16x1024x256 :=
  Rect.unit (s := S16x1024x256) (k0_off9 g (BitVec.ofNat 32 e.val)) S1x1024x256.size (k0_off9_inb g e)

/-- Group `g` in the second weight buffer. -/
def slab2 (g : Fin k0_t1_loop.trips) : Rect S4x1024x1024 :=
  Rect.unit (s := S4x1024x1024) (k0_off10 g) S1x1024x1024.size (k0_off10_inb g)

open Classical in
/-- THE ACCUMULATOR AFTER PASS `n` of group `g`, at height `R`. -/
def pass {R : ℕ} (h : Sized R) (g : Fin k0_t1_loop.trips) (start cnt : BitVec 32) (X16 : C16 F) (X17 : C17 F) (X19 : C19 F) (X20 : C20 F) (X21 : C21 F)
    (n : ℕ) (f : C18 F) : C18 F :=
  if hw : (clamp R start n).toNat + R ≤ 512 then
    (Memref.whole cc0_scratch2).view.writes (Elt F) f
      [⟨Rect.unit (s := S512x1024) ![(clamp R start n).toNat, 0] (sR R 1024).size (rows_inb hw),
        passVal h (clamp R start n) (Scalar.maxsi start (place R start n)) (Scalar.addi start cnt)
          ((Memref.whole cc0_scratch0).view.readAt (Elt F) (Rect.unit (s := S512x1024) ![(clamp R start n).toNat, 0] (sR R 1024).size (rows_inb hw)).toLoadRect X16)
          ((Memref.whole cc0_scratch1).view.readAt (Elt F) (Rect.unit (s := S512x128) ![(clamp R start n).toNat, 0] (sR R 128).size (rows_inb hw)).toLoadRect X17)
          ((Memref.whole cc0_scratch3).view.readAt (Elt F) (slab g 0).toLoadRect X19)
          ((Memref.whole cc0_scratch3).view.readAt (Elt F) (slab g 1).toLoadRect X19)
          ((Memref.whole cc0_scratch3).view.readAt (Elt F) (slab g 2).toLoadRect X19)
          ((Memref.whole cc0_scratch3).view.readAt (Elt F) (slab g 3).toLoadRect X19)
          ((Memref.whole cc0_scratch4).view.readAt (Elt F) (slab g 0).toLoadRect X20)
          ((Memref.whole cc0_scratch4).view.readAt (Elt F) (slab g 1).toLoadRect X20)
          ((Memref.whole cc0_scratch4).view.readAt (Elt F) (slab g 2).toLoadRect X20)
          ((Memref.whole cc0_scratch4).view.readAt (Elt F) (slab g 3).toLoadRect X20)
          ((Memref.whole cc0_scratch5).view.readAt (Elt F) (slab2 g).toLoadRect X21)
          ((Memref.whole cc0_scratch2).view.readAt (Elt F) (Rect.unit (s := S512x1024) ![(clamp R start n).toNat, 0] (sR R 1024).size (rows_inb hw)).toLoadRect f)⟩]
  else f

/-- The accumulator after the first `n` passes. -/
def passes {R : ℕ} (h : Sized R) (g : Fin k0_t1_loop.trips) (start cnt : BitVec 32) (X16 : C16 F) (X17 : C17 F) (X19 : C19 F) (X20 : C20 F) (X21 : C21 F)
    (f : C18 F) : ℕ → C18 F
  | 0 => f
  | n + 1 => pass h g start cnt X16 X17 X19 X20 X21 n (passes h g start cnt X16 X17 X19 X20 X21 f n)

/-- THE ACCUMULATOR AFTER GROUP `g`: the passes at the height the kernel's switch takes for the group. -/
def group (g : Fin k0_t1_loop.trips) (start cnt : BitVec 32) (X16 : C16 F) (X17 : C17 F) (X19 : C19 F) (X20 : C20 F) (X21 : C21 F) (f : C18 F) : C18 F :=
  if k0_cond5 start cnt = 1#1 then
    if k0_cond6 start cnt = 1#1 then
      if k0_cond7 start cnt = 1#1 then
        if k0_cond8 start cnt = 1#1 then
          if k0_cond9 start cnt = 1#1 then
            if k0_cond10 start cnt = 1#1 then passes sized256 g start cnt X16 X17 X19 X20 X21 f (k0_t2_loop start cnt).trips
            else passes sized224 g start cnt X16 X17 X19 X20 X21 f (k0_t4_loop start cnt).trips
          else passes sized192 g start cnt X16 X17 X19 X20 X21 f (k0_t6_loop start cnt).trips
        else passes sized176 g start cnt X16 X17 X19 X20 X21 f (k0_t8_loop start cnt).trips
      else passes sized160 g start cnt X16 X17 X19 X20 X21 f (k0_t10_loop start cnt).trips
    else passes sized144 g start cnt X16 X17 X19 X20 X21 f (k0_t12_loop start cnt).trips
  else passes sized128 g start cnt X16 X17 X19 X20 X21 f (k0_t14_loop start cnt).trips

end Cert.KernelIdeal.Moe
-- ==== Proof.Held.lean ====
/-
  What a pass of the expert product holds of the scratch buffers.
-/
module

public import proofs.«01_k».proof.Proof.Pass
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- What a pass holds: the sorted rows and weights whole, of each weight buffer the box `r` that is known, and the
    accumulator whole. -/
abbrev Held (c : Dev nD) (r19 : Rect S16x1024x256) (h19 : ∀ a, r19.stride a = 1) (r20 : Rect S16x1024x256) (h20 : ∀ a, r20.stride a = 1)
    (r21 : Rect S4x1024x1024) (h21 : ∀ a, r21.stride a = 1)
    (X16 : C16 F) (X17 : C17 F) (X19 : C19 F) (X20 : C20 F) (X21 : C21 F) (f : C18 F) : sProp 𝕄 :=
  iprop(((Memref.whole cc0_scratch0).view.loc (c : Thread nD τ) ↦[(Memref.whole cc0_scratch0).view.set]{fullShare} X16)
    ∗ ((Memref.whole cc0_scratch1).view.loc (c : Thread nD τ) ↦[(Memref.whole cc0_scratch1).view.set]{fullShare} X17)
    ∗ (((Memref.whole cc0_scratch3).slice r19 h19).view.loc (c : Thread nD τ) ↦[((Memref.whole cc0_scratch3).slice r19 h19).view.set]{fullShare} X19)
    ∗ (((Memref.whole cc0_scratch4).slice r20 h20).view.loc (c : Thread nD τ) ↦[((Memref.whole cc0_scratch4).slice r20 h20).view.set]{fullShare} X20)
    ∗ (((Memref.whole cc0_scratch5).slice r21 h21).view.loc (c : Thread nD τ) ↦[((Memref.whole cc0_scratch5).slice r21 h21).view.set]{fullShare} X21)
    ∗ ((Memref.whole cc0_scratch2).view.loc (c : Thread nD τ) ↦[(Memref.whole cc0_scratch2).view.set]{fullShare} f))

/-- The boxes held of the weight buffers cover what a pass of group `g` reads. -/
structure Covers (g : Fin k0_t1_loop.trips) (r19 : Rect S16x1024x256) (h19 : ∀ a, r19.stride a = 1) (r20 : Rect S16x1024x256) (h20 : ∀ a, r20.stride a = 1)
    (r21 : Rect S4x1024x1024) (h21 : ∀ a, r21.stride a = 1) : Prop where
  c19 : ∀ e, ((Memref.whole cc0_scratch3).access (slab g e) : View sig .tc .vmem _ _).set ⊆ ((Memref.whole cc0_scratch3).slice r19 h19).view.set
  c20 : ∀ e, ((Memref.whole cc0_scratch4).access (slab g e) : View sig .tc .vmem _ _).set ⊆ ((Memref.whole cc0_scratch4).slice r20 h20).view.set
  c21 : ((Memref.whole cc0_scratch5).access (slab2 g) : View sig .tc .vmem _ _).set ⊆ ((Memref.whole cc0_scratch5).slice r21 h21).view.set

end Cert.KernelIdeal.Moe
-- ==== Proof.Trip256.lean ====
/-
  The expert loop at window height 256: one pass, run once at a symbolic trip number, and the loop of its passes.
-/
module

public import proofs.«01_k».proof.Proof.Held
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-! ## Height 256 -/

/-- One pass at height 256, run; what it writes is the run's own find. -/
def trip256 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : k0_cond10 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t2_loop arg24 v20).trips) :
    { L : C18 F → List (View.Piece (Elt F) S512x1024 .f32) // ∀ (E : Set ℕ) (f : C18 F),
      Held (F := F) c r19 h19 r20 h20 r21 h21 X16 X17 X19 X20 X21 f ⊢ wp frame (wpE (defs₀ (F := F)) 𝒱 (c : Thread nD τ) bd) E
        (k0_t2_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10 k PUnit.unit)
        (fun _ => Held (F := F) c r19 h19 r20 h20 r21 h21 X16 X17 X19 X20 X21 ((Memref.whole cc0_scratch2).view.writes (Elt F) f (L f))) } := by
  refine ⟨?_, fun E f => ?run⟩
  case run =>
    have c19_0 : ((Memref.whole cc0_scratch3).access (Rect.unit (s := S16x1024x256) (k0_off9 k0_t1 0#32) S1x1024x256.size (k0_off9_inb k0_t1 0)) : View sig .tc .vmem _ _).set ⊆ ((Memref.whole cc0_scratch3).slice r19 h19).view.set := hc.c19 0
    have c20_0 : ((Memref.whole cc0_scratch4).access (Rect.unit (s := S16x1024x256) (k0_off9 k0_t1 0#32) S1x1024x256.size (k0_off9_inb k0_t1 0)) : View sig .tc .vmem _ _).set ⊆ ((Memref.whole cc0_scratch4).slice r20 h20).view.set := hc.c20 0
    have c19_1 : ((Memref.whole cc0_scratch3).access (Rect.unit (s := S16x1024x256) (k0_off9 k0_t1 1#32) S1x1024x256.size (k0_off9_inb k0_t1 1)) : View sig .tc .vmem _ _).set ⊆ ((Memref.whole cc0_scratch3).slice r19 h19).view.set := hc.c19 1
    have c20_1 : ((Memref.whole cc0_scratch4).access (Rect.unit (s := S16x1024x256) (k0_off9 k0_t1 1#32) S1x1024x256.size (k0_off9_inb k0_t1 1)) : View sig .tc .vmem _ _).set ⊆ ((Memref.whole cc0_scratch4).slice r20 h20).view.set := hc.c20 1
    have c19_2 : ((Memref.whole cc0_scratch3).access (Rect.unit (s := S16x1024x256) (k0_off9 k0_t1 2#32) S1x1024x256.size (k0_off9_inb k0_t1 2)) : View sig .tc .vmem _ _).set ⊆ ((Memref.whole cc0_scratch3).slice r19 h19).view.set := hc.c19 2
    have c20_2 : ((Memref.whole cc0_scratch4).access (Rect.unit (s := S16x1024x256) (k0_off9 k0_t1 2#32) S1x1024x256.size (k0_off9_inb k0_t1 2)) : View sig .tc .vmem _ _).set ⊆ ((Memref.whole cc0_scratch4).slice r20 h20).view.set := hc.c20 2
    have c19_3 : ((Memref.whole cc0_scratch3).access (Rect.unit (s := S16x1024x256) (k0_off9 k0_t1 3#32) S1x1024x256.size (k0_off9_inb k0_t1 3)) : View sig .tc .vmem _ _).set ⊆ ((Memref.whole cc0_scratch3).slice r19 h19).view.set := hc.c19 3
    have c20_3 : ((Memref.whole cc0_scratch4).access (Rect.unit (s := S16x1024x256) (k0_off9 k0_t1 3#32) S1x1024x256.size (k0_off9_inb k0_t1 3)) : View sig .tc .vmem _ _).set ⊆ ((Memref.whole cc0_scratch4).slice r20 h20).view.set := hc.c20 3
    have c21 : ((Memref.whole cc0_scratch5).access (Rect.unit (s := S4x1024x1024) (k0_off10 k0_t1) S1x1024x1024.size (k0_off10_inb k0_t1)) : View sig .tc .vmem _ _).set ⊆ ((Memref.whole cc0_scratch5).slice r21 h21).view.set := hc.c21
    unfold k0_t2_body
    iintro ⟨HR_arg16, HR_arg17, HR_arg19, HR_arg20, HR_arg21, HW_arg18⟩
    sl_exec
    sl_step
    sl_close

/-- The window of a pass at height 256 lies in the buffer. -/
theorem window256 {arg24 v20 : BitVec 32} (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : k0_cond10 arg24 v20 = 1#1)
    (k : Fin (k0_t2_loop arg24 v20).trips) : (clamp 256 arg24 k).toNat + 256 ≤ 512 :=
  k0_off7_inb arg24 v20 k0_hw1 k k0_h5 k0_h6 k0_h7 k0_h8 k0_h9 k0_h10 0

/-- One pass at height 256 does what `pass` says. -/
theorem trip256_pass {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : k0_cond10 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t2_loop arg24 v20).trips) (E : Set ℕ) (f : C18 F) :
    Held (F := F) c r19 h19 r20 h20 r21 h21 X16 X17 X19 X20 X21 f ⊢ wp frame (wpE (defs₀ (F := F)) 𝒱 (c : Thread nD τ) bd) E
      (k0_t2_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10 k PUnit.unit)
      (fun _ => Held (F := F) c r19 h19 r20 h20 r21 h21 X16 X17 X19 X20 X21 (pass sized256 k0_t1 arg24 v20 X16 X17 X19 X20 X21 k f)) := by
  have h := (trip256 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 k0_h10 r19 h19 r20 h20 r21 h21 hc X16 X17 X19 X20 X21 k).2 E f
  have e : pass sized256 k0_t1 arg24 v20 X16 X17 X19 X20 X21 k f
      = (Memref.whole cc0_scratch2).view.writes (Elt F) f ((trip256 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 k0_h10 r19 h19 r20 h20 r21 h21 hc X16 X17 X19 X20 X21 k).1 f) := by
    unfold pass; rw [dif_pos (window256 k0_hw1 k0_h5 k0_h6 k0_h7 k0_h8 k0_h9 k0_h10 k)]; rfl
  rw [e]; exact h

/-- The whole loop at height 256. -/
theorem loop256 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : k0_cond10 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (E : Set ℕ) (f : C18 F) :
    Held (F := F) c r19 h19 r20 h20 r21 h21 X16 X17 X19 X20 X21 f ⊢ wp frame (wpE (defs₀ (F := F)) 𝒱 (c : Thread nD τ) bd) E
      (Scf.Loop.for (k0_t2_loop arg24 v20) (k0_t2_ok arg24 v20 k0_hw1 k0_h5 k0_h6 k0_h7 k0_h8 k0_h9 k0_h10) ⟨⟩ (k0_t2_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10))
      (fun _ => Held (F := F) c r19 h19 r20 h20 r21 h21 X16 X17 X19 X20 X21 (passes sized256 k0_t1 arg24 v20 X16 X17 X19 X20 X21 f (k0_t2_loop arg24 v20).trips)) := by
  have T := fun k E f => trip256_pass (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 k0_h10 r19 h19 r20 h20 r21 h21 hc X16 X17 X19 X20 X21 k E f
  generalize (k0_t2_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10) = B at T ⊢
  have key := Scf.wp_for (Fr := frame) (wpE := wpE (defs₀ (F := F)) 𝒱 (c : Thread nD τ) bd) (Es := E) (k0_t2_loop arg24 v20).lb (k0_t2_loop arg24 v20).ub (k0_t2_loop arg24 v20).st (k0_t2_ok arg24 v20 k0_hw1 k0_h5 k0_h6 k0_h7 k0_h8 k0_h9 k0_h10) (PUnit.unit : Unit) B
    (fun k _ => Held (F := F) c r19 h19 r20 h20 r21 h21 X16 X17 X19 X20 X21 (passes sized256 k0_t1 arg24 v20 X16 X17 X19 X20 X21 f k)) (fun k _ => T k E _)
    (Q := fun _ => Held (F := F) c r19 h19 r20 h20 r21 h21 X16 X17 X19 X20 X21 (passes sized256 k0_t1 arg24 v20 X16 X17 X19 X20 X21 f (k0_t2_loop arg24 v20).trips))
  refine BIBase.Entails.trans ?_ key
  iintro H
  isplitl [H]
  · iexact H
  · iintro %acc H
    iexact H

end Cert.KernelIdeal.Moe
-- ==== Proof.Trip224.lean ====
/-
  The expert loop at window height 224: one pass, run once at a symbolic trip number, and the loop of its passes.
-/
module

public import proofs.«01_k».proof.Proof.Held
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-! ## Height 224 -/

/-- One pass at height 224, run; what it writes is the run's own find. -/
def trip224 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : ¬k0_cond10 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t4_loop arg24 v20).trips) :
    { L : C18 F → List (View.Piece (Elt F) S512x1024 .f32) // ∀ (E : Set ℕ) (f : C18 F),
      Held (F := F) c r19 h19 r20 h20 r21 h21 X16 X17 X19 X20 X21 f ⊢ wp frame (wpE (defs₀ (F := F)) 𝒱 (c : Thread nD τ) bd) E
        (k0_t4_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10 k PUnit.unit)
        (fun _ => Held (F := F) c r19 h19 r20 h20 r21 h21 X16 X17 X19 X20 X21 ((Memref.whole cc0_scratch2).view.writes (Elt F) f (L f))) } := by
  refine ⟨?_, fun E f => ?run⟩
  case run =>
    have c19_0 : ((Memref.whole cc0_scratch3).access (Rect.unit (s := S16x1024x256) (k0_off17 k0_t1 0#32) S1x1024x256.size (k0_off17_inb k0_t1 0)) : View sig .tc .vmem _ _).set ⊆ ((Memref.whole cc0_scratch3).slice r19 h19).view.set := hc.c19 0
    have c20_0 : ((Memref.whole cc0_scratch4).access (Rect.unit (s := S16x1024x256) (k0_off17 k0_t1 0#32) S1x1024x256.size (k0_off17_inb k0_t1 0)) : View sig .tc .vmem _ _).set ⊆ ((Memref.whole cc0_scratch4).slice r20 h20).view.set := hc.c20 0
    have c19_1 : ((Memref.whole cc0_scratch3).access (Rect.unit (s := S16x1024x256) (k0_off17 k0_t1 1#32) S1x1024x256.size (k0_off17_inb k0_t1 1)) : View sig .tc .vmem _ _).set ⊆ ((Memref.whole cc0_scratch3).slice r19 h19).view.set := hc.c19 1
    have c20_1 : ((Memref.whole cc0_scratch4).access (Rect.unit (s := S16x1024x256) (k0_off17 k0_t1 1#32) S1x1024x256.size (k0_off17_inb k0_t1 1)) : View sig .tc .vmem _ _).set ⊆ ((Memref.whole cc0_scratch4).slice r20 h20).view.set := hc.c20 1
    have c19_2 : ((Memref.whole cc0_scratch3).access (Rect.unit (s := S16x1024x256) (k0_off17 k0_t1 2#32) S1x1024x256.size (k0_off17_inb k0_t1 2)) : View sig .tc .vmem _ _).set ⊆ ((Memref.whole cc0_scratch3).slice r19 h19).view.set := hc.c19 2
    have c20_2 : ((Memref.whole cc0_scratch4).access (Rect.unit (s := S16x1024x256) (k0_off17 k0_t1 2#32) S1x1024x256.size (k0_off17_inb k0_t1 2)) : View sig .tc .vmem _ _).set ⊆ ((Memref.whole cc0_scratch4).slice r20 h20).view.set := hc.c20 2
    have c19_3 : ((Memref.whole cc0_scratch3).access (Rect.unit (s := S16x1024x256) (k0_off17 k0_t1 3#32) S1x1024x256.size (k0_off17_inb k0_t1 3)) : View sig .tc .vmem _ _).set ⊆ ((Memref.whole cc0_scratch3).slice r19 h19).view.set := hc.c19 3
    have c20_3 : ((Memref.whole cc0_scratch4).access (Rect.unit (s := S16x1024x256) (k0_off17 k0_t1 3#32) S1x1024x256.size (k0_off17_inb k0_t1 3)) : View sig .tc .vmem _ _).set ⊆ ((Memref.whole cc0_scratch4).slice r20 h20).view.set := hc.c20 3
    have c21 : ((Memref.whole cc0_scratch5).access (Rect.unit (s := S4x1024x1024) (k0_off18 k0_t1) S1x1024x1024.size (k0_off18_inb k0_t1)) : View sig .tc .vmem _ _).set ⊆ ((Memref.whole cc0_scratch5).slice r21 h21).view.set := hc.c21
    unfold k0_t4_body
    iintro ⟨HR_arg16, HR_arg17, HR_arg19, HR_arg20, HR_arg21, HW_arg18⟩
    sl_exec
    sl_step
    sl_close

/-- The window of a pass at height 224 lies in the buffer. -/
theorem window224 {arg24 v20 : BitVec 32} (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : ¬k0_cond10 arg24 v20 = 1#1)
    (k : Fin (k0_t4_loop arg24 v20).trips) : (clamp 224 arg24 k).toNat + 224 ≤ 512 :=
  k0_off15_inb arg24 v20 k0_hw1 k k0_h5 k0_h6 k0_h7 k0_h8 k0_h9 k0_h10 0

/-- One pass at height 224 does what `pass` says. -/
theorem trip224_pass {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : ¬k0_cond10 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t4_loop arg24 v20).trips) (E : Set ℕ) (f : C18 F) :
    Held (F := F) c r19 h19 r20 h20 r21 h21 X16 X17 X19 X20 X21 f ⊢ wp frame (wpE (defs₀ (F := F)) 𝒱 (c : Thread nD τ) bd) E
      (k0_t4_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10 k PUnit.unit)
      (fun _ => Held (F := F) c r19 h19 r20 h20 r21 h21 X16 X17 X19 X20 X21 (pass sized224 k0_t1 arg24 v20 X16 X17 X19 X20 X21 k f)) := by
  have h := (trip224 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 k0_h10 r19 h19 r20 h20 r21 h21 hc X16 X17 X19 X20 X21 k).2 E f
  have e : pass sized224 k0_t1 arg24 v20 X16 X17 X19 X20 X21 k f
      = (Memref.whole cc0_scratch2).view.writes (Elt F) f ((trip224 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 k0_h10 r19 h19 r20 h20 r21 h21 hc X16 X17 X19 X20 X21 k).1 f) := by
    unfold pass; rw [dif_pos (window224 k0_hw1 k0_h5 k0_h6 k0_h7 k0_h8 k0_h9 k0_h10 k)]; rfl
  rw [e]; exact h

/-- The whole loop at height 224. -/
theorem loop224 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : k0_cond9 arg24 v20 = 1#1) (k0_h10 : ¬k0_cond10 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (E : Set ℕ) (f : C18 F) :
    Held (F := F) c r19 h19 r20 h20 r21 h21 X16 X17 X19 X20 X21 f ⊢ wp frame (wpE (defs₀ (F := F)) 𝒱 (c : Thread nD τ) bd) E
      (Scf.Loop.for (k0_t4_loop arg24 v20) (k0_t4_ok arg24 v20 k0_hw1 k0_h5 k0_h6 k0_h7 k0_h8 k0_h9 k0_h10) ⟨⟩ (k0_t4_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10))
      (fun _ => Held (F := F) c r19 h19 r20 h20 r21 h21 X16 X17 X19 X20 X21 (passes sized224 k0_t1 arg24 v20 X16 X17 X19 X20 X21 f (k0_t4_loop arg24 v20).trips)) := by
  have T := fun k E f => trip224_pass (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 k0_h10 r19 h19 r20 h20 r21 h21 hc X16 X17 X19 X20 X21 k E f
  generalize (k0_t4_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k0_h10) = B at T ⊢
  have key := Scf.wp_for (Fr := frame) (wpE := wpE (defs₀ (F := F)) 𝒱 (c : Thread nD τ) bd) (Es := E) (k0_t4_loop arg24 v20).lb (k0_t4_loop arg24 v20).ub (k0_t4_loop arg24 v20).st (k0_t4_ok arg24 v20 k0_hw1 k0_h5 k0_h6 k0_h7 k0_h8 k0_h9 k0_h10) (PUnit.unit : Unit) B
    (fun k _ => Held (F := F) c r19 h19 r20 h20 r21 h21 X16 X17 X19 X20 X21 (passes sized224 k0_t1 arg24 v20 X16 X17 X19 X20 X21 f k)) (fun k _ => T k E _)
    (Q := fun _ => Held (F := F) c r19 h19 r20 h20 r21 h21 X16 X17 X19 X20 X21 (passes sized224 k0_t1 arg24 v20 X16 X17 X19 X20 X21 f (k0_t4_loop arg24 v20).trips))
  refine BIBase.Entails.trans ?_ key
  iintro H
  isplitl [H]
  · iexact H
  · iintro %acc H
    iexact H

end Cert.KernelIdeal.Moe
-- ==== Proof.Trip192.lean ====
/-
  The expert loop at window height 192: one pass, run once at a symbolic trip number, and the loop of its passes.
-/
module

public import proofs.«01_k».proof.Proof.Held
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-! ## Height 192 -/

/-- One pass at height 192, run; what it writes is the run's own find. -/
def trip192 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : ¬k0_cond9 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t6_loop arg24 v20).trips) :
    { L : C18 F → List (View.Piece (Elt F) S512x1024 .f32) // ∀ (E : Set ℕ) (f : C18 F),
      Held (F := F) c r19 h19 r20 h20 r21 h21 X16 X17 X19 X20 X21 f ⊢ wp frame (wpE (defs₀ (F := F)) 𝒱 (c : Thread nD τ) bd) E
        (k0_t6_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k PUnit.unit)
        (fun _ => Held (F := F) c r19 h19 r20 h20 r21 h21 X16 X17 X19 X20 X21 ((Memref.whole cc0_scratch2).view.writes (Elt F) f (L f))) } := by
  refine ⟨?_, fun E f => ?run⟩
  case run =>
    have c19_0 : ((Memref.whole cc0_scratch3).access (Rect.unit (s := S16x1024x256) (k0_off25 k0_t1 0#32) S1x1024x256.size (k0_off25_inb k0_t1 0)) : View sig .tc .vmem _ _).set ⊆ ((Memref.whole cc0_scratch3).slice r19 h19).view.set := hc.c19 0
    have c20_0 : ((Memref.whole cc0_scratch4).access (Rect.unit (s := S16x1024x256) (k0_off25 k0_t1 0#32) S1x1024x256.size (k0_off25_inb k0_t1 0)) : View sig .tc .vmem _ _).set ⊆ ((Memref.whole cc0_scratch4).slice r20 h20).view.set := hc.c20 0
    have c19_1 : ((Memref.whole cc0_scratch3).access (Rect.unit (s := S16x1024x256) (k0_off25 k0_t1 1#32) S1x1024x256.size (k0_off25_inb k0_t1 1)) : View sig .tc .vmem _ _).set ⊆ ((Memref.whole cc0_scratch3).slice r19 h19).view.set := hc.c19 1
    have c20_1 : ((Memref.whole cc0_scratch4).access (Rect.unit (s := S16x1024x256) (k0_off25 k0_t1 1#32) S1x1024x256.size (k0_off25_inb k0_t1 1)) : View sig .tc .vmem _ _).set ⊆ ((Memref.whole cc0_scratch4).slice r20 h20).view.set := hc.c20 1
    have c19_2 : ((Memref.whole cc0_scratch3).access (Rect.unit (s := S16x1024x256) (k0_off25 k0_t1 2#32) S1x1024x256.size (k0_off25_inb k0_t1 2)) : View sig .tc .vmem _ _).set ⊆ ((Memref.whole cc0_scratch3).slice r19 h19).view.set := hc.c19 2
    have c20_2 : ((Memref.whole cc0_scratch4).access (Rect.unit (s := S16x1024x256) (k0_off25 k0_t1 2#32) S1x1024x256.size (k0_off25_inb k0_t1 2)) : View sig .tc .vmem _ _).set ⊆ ((Memref.whole cc0_scratch4).slice r20 h20).view.set := hc.c20 2
    have c19_3 : ((Memref.whole cc0_scratch3).access (Rect.unit (s := S16x1024x256) (k0_off25 k0_t1 3#32) S1x1024x256.size (k0_off25_inb k0_t1 3)) : View sig .tc .vmem _ _).set ⊆ ((Memref.whole cc0_scratch3).slice r19 h19).view.set := hc.c19 3
    have c20_3 : ((Memref.whole cc0_scratch4).access (Rect.unit (s := S16x1024x256) (k0_off25 k0_t1 3#32) S1x1024x256.size (k0_off25_inb k0_t1 3)) : View sig .tc .vmem _ _).set ⊆ ((Memref.whole cc0_scratch4).slice r20 h20).view.set := hc.c20 3
    have c21 : ((Memref.whole cc0_scratch5).access (Rect.unit (s := S4x1024x1024) (k0_off26 k0_t1) S1x1024x1024.size (k0_off26_inb k0_t1)) : View sig .tc .vmem _ _).set ⊆ ((Memref.whole cc0_scratch5).slice r21 h21).view.set := hc.c21
    unfold k0_t6_body
    iintro ⟨HR_arg16, HR_arg17, HR_arg19, HR_arg20, HR_arg21, HW_arg18⟩
    sl_exec
    sl_step
    sl_close

/-- The window of a pass at height 192 lies in the buffer. -/
theorem window192 {arg24 v20 : BitVec 32} (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : ¬k0_cond9 arg24 v20 = 1#1)
    (k : Fin (k0_t6_loop arg24 v20).trips) : (clamp 192 arg24 k).toNat + 192 ≤ 512 :=
  k0_off23_inb arg24 v20 k0_hw1 k k0_h5 k0_h6 k0_h7 k0_h8 k0_h9 0

/-- One pass at height 192 does what `pass` says. -/
theorem trip192_pass {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : ¬k0_cond9 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t6_loop arg24 v20).trips) (E : Set ℕ) (f : C18 F) :
    Held (F := F) c r19 h19 r20 h20 r21 h21 X16 X17 X19 X20 X21 f ⊢ wp frame (wpE (defs₀ (F := F)) 𝒱 (c : Thread nD τ) bd) E
      (k0_t6_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9 k PUnit.unit)
      (fun _ => Held (F := F) c r19 h19 r20 h20 r21 h21 X16 X17 X19 X20 X21 (pass sized192 k0_t1 arg24 v20 X16 X17 X19 X20 X21 k f)) := by
  have h := (trip192 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 r19 h19 r20 h20 r21 h21 hc X16 X17 X19 X20 X21 k).2 E f
  have e : pass sized192 k0_t1 arg24 v20 X16 X17 X19 X20 X21 k f
      = (Memref.whole cc0_scratch2).view.writes (Elt F) f ((trip192 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 r19 h19 r20 h20 r21 h21 hc X16 X17 X19 X20 X21 k).1 f) := by
    unfold pass; rw [dif_pos (window192 k0_hw1 k0_h5 k0_h6 k0_h7 k0_h8 k0_h9 k)]; rfl
  rw [e]; exact h

/-- The whole loop at height 192. -/
theorem loop192 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : k0_cond8 arg24 v20 = 1#1) (k0_h9 : ¬k0_cond9 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (E : Set ℕ) (f : C18 F) :
    Held (F := F) c r19 h19 r20 h20 r21 h21 X16 X17 X19 X20 X21 f ⊢ wp frame (wpE (defs₀ (F := F)) 𝒱 (c : Thread nD τ) bd) E
      (Scf.Loop.for (k0_t6_loop arg24 v20) (k0_t6_ok arg24 v20 k0_hw1 k0_h5 k0_h6 k0_h7 k0_h8 k0_h9) ⟨⟩ (k0_t6_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9))
      (fun _ => Held (F := F) c r19 h19 r20 h20 r21 h21 X16 X17 X19 X20 X21 (passes sized192 k0_t1 arg24 v20 X16 X17 X19 X20 X21 f (k0_t6_loop arg24 v20).trips)) := by
  have T := fun k E f => trip192_pass (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 k0_h9 r19 h19 r20 h20 r21 h21 hc X16 X17 X19 X20 X21 k E f
  generalize (k0_t6_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k0_h9) = B at T ⊢
  have key := Scf.wp_for (Fr := frame) (wpE := wpE (defs₀ (F := F)) 𝒱 (c : Thread nD τ) bd) (Es := E) (k0_t6_loop arg24 v20).lb (k0_t6_loop arg24 v20).ub (k0_t6_loop arg24 v20).st (k0_t6_ok arg24 v20 k0_hw1 k0_h5 k0_h6 k0_h7 k0_h8 k0_h9) (PUnit.unit : Unit) B
    (fun k _ => Held (F := F) c r19 h19 r20 h20 r21 h21 X16 X17 X19 X20 X21 (passes sized192 k0_t1 arg24 v20 X16 X17 X19 X20 X21 f k)) (fun k _ => T k E _)
    (Q := fun _ => Held (F := F) c r19 h19 r20 h20 r21 h21 X16 X17 X19 X20 X21 (passes sized192 k0_t1 arg24 v20 X16 X17 X19 X20 X21 f (k0_t6_loop arg24 v20).trips))
  refine BIBase.Entails.trans ?_ key
  iintro H
  isplitl [H]
  · iexact H
  · iintro %acc H
    iexact H

end Cert.KernelIdeal.Moe
-- ==== Proof.Trip176.lean ====
/-
  The expert loop at window height 176: one pass, run once at a symbolic trip number, and the loop of its passes.
-/
module

public import proofs.«01_k».proof.Proof.Held
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-! ## Height 176 -/

/-- One pass at height 176, run; what it writes is the run's own find. -/
def trip176 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : ¬k0_cond8 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t8_loop arg24 v20).trips) :
    { L : C18 F → List (View.Piece (Elt F) S512x1024 .f32) // ∀ (E : Set ℕ) (f : C18 F),
      Held (F := F) c r19 h19 r20 h20 r21 h21 X16 X17 X19 X20 X21 f ⊢ wp frame (wpE (defs₀ (F := F)) 𝒱 (c : Thread nD τ) bd) E
        (k0_t8_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k PUnit.unit)
        (fun _ => Held (F := F) c r19 h19 r20 h20 r21 h21 X16 X17 X19 X20 X21 ((Memref.whole cc0_scratch2).view.writes (Elt F) f (L f))) } := by
  refine ⟨?_, fun E f => ?run⟩
  case run =>
    have c19_0 : ((Memref.whole cc0_scratch3).access (Rect.unit (s := S16x1024x256) (k0_off33 k0_t1 0#32) S1x1024x256.size (k0_off33_inb k0_t1 0)) : View sig .tc .vmem _ _).set ⊆ ((Memref.whole cc0_scratch3).slice r19 h19).view.set := hc.c19 0
    have c20_0 : ((Memref.whole cc0_scratch4).access (Rect.unit (s := S16x1024x256) (k0_off33 k0_t1 0#32) S1x1024x256.size (k0_off33_inb k0_t1 0)) : View sig .tc .vmem _ _).set ⊆ ((Memref.whole cc0_scratch4).slice r20 h20).view.set := hc.c20 0
    have c19_1 : ((Memref.whole cc0_scratch3).access (Rect.unit (s := S16x1024x256) (k0_off33 k0_t1 1#32) S1x1024x256.size (k0_off33_inb k0_t1 1)) : View sig .tc .vmem _ _).set ⊆ ((Memref.whole cc0_scratch3).slice r19 h19).view.set := hc.c19 1
    have c20_1 : ((Memref.whole cc0_scratch4).access (Rect.unit (s := S16x1024x256) (k0_off33 k0_t1 1#32) S1x1024x256.size (k0_off33_inb k0_t1 1)) : View sig .tc .vmem _ _).set ⊆ ((Memref.whole cc0_scratch4).slice r20 h20).view.set := hc.c20 1
    have c19_2 : ((Memref.whole cc0_scratch3).access (Rect.unit (s := S16x1024x256) (k0_off33 k0_t1 2#32) S1x1024x256.size (k0_off33_inb k0_t1 2)) : View sig .tc .vmem _ _).set ⊆ ((Memref.whole cc0_scratch3).slice r19 h19).view.set := hc.c19 2
    have c20_2 : ((Memref.whole cc0_scratch4).access (Rect.unit (s := S16x1024x256) (k0_off33 k0_t1 2#32) S1x1024x256.size (k0_off33_inb k0_t1 2)) : View sig .tc .vmem _ _).set ⊆ ((Memref.whole cc0_scratch4).slice r20 h20).view.set := hc.c20 2
    have c19_3 : ((Memref.whole cc0_scratch3).access (Rect.unit (s := S16x1024x256) (k0_off33 k0_t1 3#32) S1x1024x256.size (k0_off33_inb k0_t1 3)) : View sig .tc .vmem _ _).set ⊆ ((Memref.whole cc0_scratch3).slice r19 h19).view.set := hc.c19 3
    have c20_3 : ((Memref.whole cc0_scratch4).access (Rect.unit (s := S16x1024x256) (k0_off33 k0_t1 3#32) S1x1024x256.size (k0_off33_inb k0_t1 3)) : View sig .tc .vmem _ _).set ⊆ ((Memref.whole cc0_scratch4).slice r20 h20).view.set := hc.c20 3
    have c21 : ((Memref.whole cc0_scratch5).access (Rect.unit (s := S4x1024x1024) (k0_off34 k0_t1) S1x1024x1024.size (k0_off34_inb k0_t1)) : View sig .tc .vmem _ _).set ⊆ ((Memref.whole cc0_scratch5).slice r21 h21).view.set := hc.c21
    unfold k0_t8_body
    iintro ⟨HR_arg16, HR_arg17, HR_arg19, HR_arg20, HR_arg21, HW_arg18⟩
    sl_exec
    sl_step
    sl_close

/-- The window of a pass at height 176 lies in the buffer. -/
theorem window176 {arg24 v20 : BitVec 32} (k0_hw1 : k0_chk1 arg24 v20) (k0_h5 : k0_cond5 arg24 v20 = 1#1) (k0_h6 : k0_cond6 arg24 v20 = 1#1) (k0_h7 : k0_cond7 arg24 v20 = 1#1) (k0_h8 : ¬k0_cond8 arg24 v20 = 1#1)
    (k : Fin (k0_t8_loop arg24 v20).trips) : (clamp 176 arg24 k).toNat + 176 ≤ 512 :=
  k0_off31_inb arg24 v20 k0_hw1 k k0_h5 k0_h6 k0_h7 k0_h8 0

/-- One pass at height 176 does what `pass` says. -/
theorem trip176_pass {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : ¬k0_cond8 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t8_loop arg24 v20).trips) (E : Set ℕ) (f : C18 F) :
    Held (F := F) c r19 h19 r20 h20 r21 h21 X16 X17 X19 X20 X21 f ⊢ wp frame (wpE (defs₀ (F := F)) 𝒱 (c : Thread nD τ) bd) E
      (k0_t8_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8 k PUnit.unit)
      (fun _ => Held (F := F) c r19 h19 r20 h20 r21 h21 X16 X17 X19 X20 X21 (pass sized176 k0_t1 arg24 v20 X16 X17 X19 X20 X21 k f)) := by
  have h := (trip176 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 r19 h19 r20 h20 r21 h21 hc X16 X17 X19 X20 X21 k).2 E f
  have e : pass sized176 k0_t1 arg24 v20 X16 X17 X19 X20 X21 k f
      = (Memref.whole cc0_scratch2).view.writes (Elt F) f ((trip176 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 r19 h19 r20 h20 r21 h21 hc X16 X17 X19 X20 X21 k).1 f) := by
    unfold pass; rw [dif_pos (window176 k0_hw1 k0_h5 k0_h6 k0_h7 k0_h8 k)]; rfl
  rw [e]; exact h

/-- The whole loop at height 176. -/
theorem loop176 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : k0_cond7 arg24 v20 = 1#1) (k0_h8 : ¬k0_cond8 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (E : Set ℕ) (f : C18 F) :
    Held (F := F) c r19 h19 r20 h20 r21 h21 X16 X17 X19 X20 X21 f ⊢ wp frame (wpE (defs₀ (F := F)) 𝒱 (c : Thread nD τ) bd) E
      (Scf.Loop.for (k0_t8_loop arg24 v20) (k0_t8_ok arg24 v20 k0_hw1 k0_h5 k0_h6 k0_h7 k0_h8) ⟨⟩ (k0_t8_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8))
      (fun _ => Held (F := F) c r19 h19 r20 h20 r21 h21 X16 X17 X19 X20 X21 (passes sized176 k0_t1 arg24 v20 X16 X17 X19 X20 X21 f (k0_t8_loop arg24 v20).trips)) := by
  have T := fun k E f => trip176_pass (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 k0_h8 r19 h19 r20 h20 r21 h21 hc X16 X17 X19 X20 X21 k E f
  generalize (k0_t8_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k0_h8) = B at T ⊢
  have key := Scf.wp_for (Fr := frame) (wpE := wpE (defs₀ (F := F)) 𝒱 (c : Thread nD τ) bd) (Es := E) (k0_t8_loop arg24 v20).lb (k0_t8_loop arg24 v20).ub (k0_t8_loop arg24 v20).st (k0_t8_ok arg24 v20 k0_hw1 k0_h5 k0_h6 k0_h7 k0_h8) (PUnit.unit : Unit) B
    (fun k _ => Held (F := F) c r19 h19 r20 h20 r21 h21 X16 X17 X19 X20 X21 (passes sized176 k0_t1 arg24 v20 X16 X17 X19 X20 X21 f k)) (fun k _ => T k E _)
    (Q := fun _ => Held (F := F) c r19 h19 r20 h20 r21 h21 X16 X17 X19 X20 X21 (passes sized176 k0_t1 arg24 v20 X16 X17 X19 X20 X21 f (k0_t8_loop arg24 v20).trips))
  refine BIBase.Entails.trans ?_ key
  iintro H
  isplitl [H]
  · iexact H
  · iintro %acc H
    iexact H

end Cert.KernelIdeal.Moe
-- ==== Proof.Trip160.lean ====
/-
  The expert loop at window height 160: one pass, run once at a symbolic trip number, and the loop of its passes.
-/
module

public import proofs.«01_k».proof.Proof.Held
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-! ## Height 160 -/

/-- One pass at height 160, run; what it writes is the run's own find. -/
def trip160 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : ¬k0_cond7 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t10_loop arg24 v20).trips) :
    { L : C18 F → List (View.Piece (Elt F) S512x1024 .f32) // ∀ (E : Set ℕ) (f : C18 F),
      Held (F := F) c r19 h19 r20 h20 r21 h21 X16 X17 X19 X20 X21 f ⊢ wp frame (wpE (defs₀ (F := F)) 𝒱 (c : Thread nD τ) bd) E
        (k0_t10_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k PUnit.unit)
        (fun _ => Held (F := F) c r19 h19 r20 h20 r21 h21 X16 X17 X19 X20 X21 ((Memref.whole cc0_scratch2).view.writes (Elt F) f (L f))) } := by
  refine ⟨?_, fun E f => ?run⟩
  case run =>
    have c19_0 : ((Memref.whole cc0_scratch3).access (Rect.unit (s := S16x1024x256) (k0_off41 k0_t1 0#32) S1x1024x256.size (k0_off41_inb k0_t1 0)) : View sig .tc .vmem _ _).set ⊆ ((Memref.whole cc0_scratch3).slice r19 h19).view.set := hc.c19 0
    have c20_0 : ((Memref.whole cc0_scratch4).access (Rect.unit (s := S16x1024x256) (k0_off41 k0_t1 0#32) S1x1024x256.size (k0_off41_inb k0_t1 0)) : View sig .tc .vmem _ _).set ⊆ ((Memref.whole cc0_scratch4).slice r20 h20).view.set := hc.c20 0
    have c19_1 : ((Memref.whole cc0_scratch3).access (Rect.unit (s := S16x1024x256) (k0_off41 k0_t1 1#32) S1x1024x256.size (k0_off41_inb k0_t1 1)) : View sig .tc .vmem _ _).set ⊆ ((Memref.whole cc0_scratch3).slice r19 h19).view.set := hc.c19 1
    have c20_1 : ((Memref.whole cc0_scratch4).access (Rect.unit (s := S16x1024x256) (k0_off41 k0_t1 1#32) S1x1024x256.size (k0_off41_inb k0_t1 1)) : View sig .tc .vmem _ _).set ⊆ ((Memref.whole cc0_scratch4).slice r20 h20).view.set := hc.c20 1
    have c19_2 : ((Memref.whole cc0_scratch3).access (Rect.unit (s := S16x1024x256) (k0_off41 k0_t1 2#32) S1x1024x256.size (k0_off41_inb k0_t1 2)) : View sig .tc .vmem _ _).set ⊆ ((Memref.whole cc0_scratch3).slice r19 h19).view.set := hc.c19 2
    have c20_2 : ((Memref.whole cc0_scratch4).access (Rect.unit (s := S16x1024x256) (k0_off41 k0_t1 2#32) S1x1024x256.size (k0_off41_inb k0_t1 2)) : View sig .tc .vmem _ _).set ⊆ ((Memref.whole cc0_scratch4).slice r20 h20).view.set := hc.c20 2
    have c19_3 : ((Memref.whole cc0_scratch3).access (Rect.unit (s := S16x1024x256) (k0_off41 k0_t1 3#32) S1x1024x256.size (k0_off41_inb k0_t1 3)) : View sig .tc .vmem _ _).set ⊆ ((Memref.whole cc0_scratch3).slice r19 h19).view.set := hc.c19 3
    have c20_3 : ((Memref.whole cc0_scratch4).access (Rect.unit (s := S16x1024x256) (k0_off41 k0_t1 3#32) S1x1024x256.size (k0_off41_inb k0_t1 3)) : View sig .tc .vmem _ _).set ⊆ ((Memref.whole cc0_scratch4).slice r20 h20).view.set := hc.c20 3
    have c21 : ((Memref.whole cc0_scratch5).access (Rect.unit (s := S4x1024x1024) (k0_off42 k0_t1) S1x1024x1024.size (k0_off42_inb k0_t1)) : View sig .tc .vmem _ _).set ⊆ ((Memref.whole cc0_scratch5).slice r21 h21).view.set := hc.c21
    unfold k0_t10_body
    iintro ⟨HR_arg16, HR_arg17, HR_arg19, HR_arg20, HR_arg21, HW_arg18⟩
    sl_exec
    sl_step
    sl_close

/-- The window of a pass at height 160 lies in the buffer. -/
theorem window160 {arg24 v20 : BitVec 32} (k0_hw1 : k0_chk1 arg24 v20) (k0_h5 : k0_cond5 arg24 v20 = 1#1) (k0_h6 : k0_cond6 arg24 v20 = 1#1) (k0_h7 : ¬k0_cond7 arg24 v20 = 1#1)
    (k : Fin (k0_t10_loop arg24 v20).trips) : (clamp 160 arg24 k).toNat + 160 ≤ 512 :=
  k0_off39_inb arg24 v20 k0_hw1 k k0_h5 k0_h6 k0_h7 0

/-- One pass at height 160 does what `pass` says. -/
theorem trip160_pass {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : ¬k0_cond7 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t10_loop arg24 v20).trips) (E : Set ℕ) (f : C18 F) :
    Held (F := F) c r19 h19 r20 h20 r21 h21 X16 X17 X19 X20 X21 f ⊢ wp frame (wpE (defs₀ (F := F)) 𝒱 (c : Thread nD τ) bd) E
      (k0_t10_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7 k PUnit.unit)
      (fun _ => Held (F := F) c r19 h19 r20 h20 r21 h21 X16 X17 X19 X20 X21 (pass sized160 k0_t1 arg24 v20 X16 X17 X19 X20 X21 k f)) := by
  have h := (trip160 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 r19 h19 r20 h20 r21 h21 hc X16 X17 X19 X20 X21 k).2 E f
  have e : pass sized160 k0_t1 arg24 v20 X16 X17 X19 X20 X21 k f
      = (Memref.whole cc0_scratch2).view.writes (Elt F) f ((trip160 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 r19 h19 r20 h20 r21 h21 hc X16 X17 X19 X20 X21 k).1 f) := by
    unfold pass; rw [dif_pos (window160 k0_hw1 k0_h5 k0_h6 k0_h7 k)]; rfl
  rw [e]; exact h

/-- The whole loop at height 160. -/
theorem loop160 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : k0_cond6 arg24 v20 = 1#1) (k0_h7 : ¬k0_cond7 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (E : Set ℕ) (f : C18 F) :
    Held (F := F) c r19 h19 r20 h20 r21 h21 X16 X17 X19 X20 X21 f ⊢ wp frame (wpE (defs₀ (F := F)) 𝒱 (c : Thread nD τ) bd) E
      (Scf.Loop.for (k0_t10_loop arg24 v20) (k0_t10_ok arg24 v20 k0_hw1 k0_h5 k0_h6 k0_h7) ⟨⟩ (k0_t10_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7))
      (fun _ => Held (F := F) c r19 h19 r20 h20 r21 h21 X16 X17 X19 X20 X21 (passes sized160 k0_t1 arg24 v20 X16 X17 X19 X20 X21 f (k0_t10_loop arg24 v20).trips)) := by
  have T := fun k E f => trip160_pass (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 k0_h7 r19 h19 r20 h20 r21 h21 hc X16 X17 X19 X20 X21 k E f
  generalize (k0_t10_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k0_h7) = B at T ⊢
  have key := Scf.wp_for (Fr := frame) (wpE := wpE (defs₀ (F := F)) 𝒱 (c : Thread nD τ) bd) (Es := E) (k0_t10_loop arg24 v20).lb (k0_t10_loop arg24 v20).ub (k0_t10_loop arg24 v20).st (k0_t10_ok arg24 v20 k0_hw1 k0_h5 k0_h6 k0_h7) (PUnit.unit : Unit) B
    (fun k _ => Held (F := F) c r19 h19 r20 h20 r21 h21 X16 X17 X19 X20 X21 (passes sized160 k0_t1 arg24 v20 X16 X17 X19 X20 X21 f k)) (fun k _ => T k E _)
    (Q := fun _ => Held (F := F) c r19 h19 r20 h20 r21 h21 X16 X17 X19 X20 X21 (passes sized160 k0_t1 arg24 v20 X16 X17 X19 X20 X21 f (k0_t10_loop arg24 v20).trips))
  refine BIBase.Entails.trans ?_ key
  iintro H
  isplitl [H]
  · iexact H
  · iintro %acc H
    iexact H

end Cert.KernelIdeal.Moe
-- ==== Proof.Trip144.lean ====
/-
  The expert loop at window height 144: one pass, run once at a symbolic trip number, and the loop of its passes.
-/
module

public import proofs.«01_k».proof.Proof.Held
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-! ## Height 144 -/

/-- One pass at height 144, run; what it writes is the run's own find. -/
def trip144 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : ¬k0_cond6 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t12_loop arg24 v20).trips) :
    { L : C18 F → List (View.Piece (Elt F) S512x1024 .f32) // ∀ (E : Set ℕ) (f : C18 F),
      Held (F := F) c r19 h19 r20 h20 r21 h21 X16 X17 X19 X20 X21 f ⊢ wp frame (wpE (defs₀ (F := F)) 𝒱 (c : Thread nD τ) bd) E
        (k0_t12_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k PUnit.unit)
        (fun _ => Held (F := F) c r19 h19 r20 h20 r21 h21 X16 X17 X19 X20 X21 ((Memref.whole cc0_scratch2).view.writes (Elt F) f (L f))) } := by
  refine ⟨?_, fun E f => ?run⟩
  case run =>
    have c19_0 : ((Memref.whole cc0_scratch3).access (Rect.unit (s := S16x1024x256) (k0_off49 k0_t1 0#32) S1x1024x256.size (k0_off49_inb k0_t1 0)) : View sig .tc .vmem _ _).set ⊆ ((Memref.whole cc0_scratch3).slice r19 h19).view.set := hc.c19 0
    have c20_0 : ((Memref.whole cc0_scratch4).access (Rect.unit (s := S16x1024x256) (k0_off49 k0_t1 0#32) S1x1024x256.size (k0_off49_inb k0_t1 0)) : View sig .tc .vmem _ _).set ⊆ ((Memref.whole cc0_scratch4).slice r20 h20).view.set := hc.c20 0
    have c19_1 : ((Memref.whole cc0_scratch3).access (Rect.unit (s := S16x1024x256) (k0_off49 k0_t1 1#32) S1x1024x256.size (k0_off49_inb k0_t1 1)) : View sig .tc .vmem _ _).set ⊆ ((Memref.whole cc0_scratch3).slice r19 h19).view.set := hc.c19 1
    have c20_1 : ((Memref.whole cc0_scratch4).access (Rect.unit (s := S16x1024x256) (k0_off49 k0_t1 1#32) S1x1024x256.size (k0_off49_inb k0_t1 1)) : View sig .tc .vmem _ _).set ⊆ ((Memref.whole cc0_scratch4).slice r20 h20).view.set := hc.c20 1
    have c19_2 : ((Memref.whole cc0_scratch3).access (Rect.unit (s := S16x1024x256) (k0_off49 k0_t1 2#32) S1x1024x256.size (k0_off49_inb k0_t1 2)) : View sig .tc .vmem _ _).set ⊆ ((Memref.whole cc0_scratch3).slice r19 h19).view.set := hc.c19 2
    have c20_2 : ((Memref.whole cc0_scratch4).access (Rect.unit (s := S16x1024x256) (k0_off49 k0_t1 2#32) S1x1024x256.size (k0_off49_inb k0_t1 2)) : View sig .tc .vmem _ _).set ⊆ ((Memref.whole cc0_scratch4).slice r20 h20).view.set := hc.c20 2
    have c19_3 : ((Memref.whole cc0_scratch3).access (Rect.unit (s := S16x1024x256) (k0_off49 k0_t1 3#32) S1x1024x256.size (k0_off49_inb k0_t1 3)) : View sig .tc .vmem _ _).set ⊆ ((Memref.whole cc0_scratch3).slice r19 h19).view.set := hc.c19 3
    have c20_3 : ((Memref.whole cc0_scratch4).access (Rect.unit (s := S16x1024x256) (k0_off49 k0_t1 3#32) S1x1024x256.size (k0_off49_inb k0_t1 3)) : View sig .tc .vmem _ _).set ⊆ ((Memref.whole cc0_scratch4).slice r20 h20).view.set := hc.c20 3
    have c21 : ((Memref.whole cc0_scratch5).access (Rect.unit (s := S4x1024x1024) (k0_off50 k0_t1) S1x1024x1024.size (k0_off50_inb k0_t1)) : View sig .tc .vmem _ _).set ⊆ ((Memref.whole cc0_scratch5).slice r21 h21).view.set := hc.c21
    unfold k0_t12_body
    iintro ⟨HR_arg16, HR_arg17, HR_arg19, HR_arg20, HR_arg21, HW_arg18⟩
    sl_exec
    sl_step
    sl_close

/-- The window of a pass at height 144 lies in the buffer. -/
theorem window144 {arg24 v20 : BitVec 32} (k0_hw1 : k0_chk1 arg24 v20) (k0_h5 : k0_cond5 arg24 v20 = 1#1) (k0_h6 : ¬k0_cond6 arg24 v20 = 1#1)
    (k : Fin (k0_t12_loop arg24 v20).trips) : (clamp 144 arg24 k).toNat + 144 ≤ 512 :=
  k0_off47_inb arg24 v20 k0_hw1 k k0_h5 k0_h6 0

/-- One pass at height 144 does what `pass` says. -/
theorem trip144_pass {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : ¬k0_cond6 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t12_loop arg24 v20).trips) (E : Set ℕ) (f : C18 F) :
    Held (F := F) c r19 h19 r20 h20 r21 h21 X16 X17 X19 X20 X21 f ⊢ wp frame (wpE (defs₀ (F := F)) 𝒱 (c : Thread nD τ) bd) E
      (k0_t12_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6 k PUnit.unit)
      (fun _ => Held (F := F) c r19 h19 r20 h20 r21 h21 X16 X17 X19 X20 X21 (pass sized144 k0_t1 arg24 v20 X16 X17 X19 X20 X21 k f)) := by
  have h := (trip144 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 r19 h19 r20 h20 r21 h21 hc X16 X17 X19 X20 X21 k).2 E f
  have e : pass sized144 k0_t1 arg24 v20 X16 X17 X19 X20 X21 k f
      = (Memref.whole cc0_scratch2).view.writes (Elt F) f ((trip144 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 r19 h19 r20 h20 r21 h21 hc X16 X17 X19 X20 X21 k).1 f) := by
    unfold pass; rw [dif_pos (window144 k0_hw1 k0_h5 k0_h6 k)]; rfl
  rw [e]; exact h

/-- The whole loop at height 144. -/
theorem loop144 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : k0_cond5 arg24 v20 = 1#1) (k0_h6 : ¬k0_cond6 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (E : Set ℕ) (f : C18 F) :
    Held (F := F) c r19 h19 r20 h20 r21 h21 X16 X17 X19 X20 X21 f ⊢ wp frame (wpE (defs₀ (F := F)) 𝒱 (c : Thread nD τ) bd) E
      (Scf.Loop.for (k0_t12_loop arg24 v20) (k0_t12_ok arg24 v20 k0_hw1 k0_h5 k0_h6) ⟨⟩ (k0_t12_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6))
      (fun _ => Held (F := F) c r19 h19 r20 h20 r21 h21 X16 X17 X19 X20 X21 (passes sized144 k0_t1 arg24 v20 X16 X17 X19 X20 X21 f (k0_t12_loop arg24 v20).trips)) := by
  have T := fun k E f => trip144_pass (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 k0_h6 r19 h19 r20 h20 r21 h21 hc X16 X17 X19 X20 X21 k E f
  generalize (k0_t12_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k0_h6) = B at T ⊢
  have key := Scf.wp_for (Fr := frame) (wpE := wpE (defs₀ (F := F)) 𝒱 (c : Thread nD τ) bd) (Es := E) (k0_t12_loop arg24 v20).lb (k0_t12_loop arg24 v20).ub (k0_t12_loop arg24 v20).st (k0_t12_ok arg24 v20 k0_hw1 k0_h5 k0_h6) (PUnit.unit : Unit) B
    (fun k _ => Held (F := F) c r19 h19 r20 h20 r21 h21 X16 X17 X19 X20 X21 (passes sized144 k0_t1 arg24 v20 X16 X17 X19 X20 X21 f k)) (fun k _ => T k E _)
    (Q := fun _ => Held (F := F) c r19 h19 r20 h20 r21 h21 X16 X17 X19 X20 X21 (passes sized144 k0_t1 arg24 v20 X16 X17 X19 X20 X21 f (k0_t12_loop arg24 v20).trips))
  refine BIBase.Entails.trans ?_ key
  iintro H
  isplitl [H]
  · iexact H
  · iintro %acc H
    iexact H

end Cert.KernelIdeal.Moe
-- ==== Proof.Trip128.lean ====
/-
  The expert loop at window height 128: one pass, run once at a symbolic trip number, and the loop of its passes.
-/
module

public import proofs.«01_k».proof.Proof.Held
public import Idealize.ShloMosaic.Lib.Exec
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-! ## Height 128 -/

/-- One pass at height 128, run; what it writes is the run's own find. -/
def trip128 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : ¬k0_cond5 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t14_loop arg24 v20).trips) :
    { L : C18 F → List (View.Piece (Elt F) S512x1024 .f32) // ∀ (E : Set ℕ) (f : C18 F),
      Held (F := F) c r19 h19 r20 h20 r21 h21 X16 X17 X19 X20 X21 f ⊢ wp frame (wpE (defs₀ (F := F)) 𝒱 (c : Thread nD τ) bd) E
        (k0_t14_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k PUnit.unit)
        (fun _ => Held (F := F) c r19 h19 r20 h20 r21 h21 X16 X17 X19 X20 X21 ((Memref.whole cc0_scratch2).view.writes (Elt F) f (L f))) } := by
  refine ⟨?_, fun E f => ?run⟩
  case run =>
    have c19_0 : ((Memref.whole cc0_scratch3).access (Rect.unit (s := S16x1024x256) (k0_off57 k0_t1 0#32) S1x1024x256.size (k0_off57_inb k0_t1 0)) : View sig .tc .vmem _ _).set ⊆ ((Memref.whole cc0_scratch3).slice r19 h19).view.set := hc.c19 0
    have c20_0 : ((Memref.whole cc0_scratch4).access (Rect.unit (s := S16x1024x256) (k0_off57 k0_t1 0#32) S1x1024x256.size (k0_off57_inb k0_t1 0)) : View sig .tc .vmem _ _).set ⊆ ((Memref.whole cc0_scratch4).slice r20 h20).view.set := hc.c20 0
    have c19_1 : ((Memref.whole cc0_scratch3).access (Rect.unit (s := S16x1024x256) (k0_off57 k0_t1 1#32) S1x1024x256.size (k0_off57_inb k0_t1 1)) : View sig .tc .vmem _ _).set ⊆ ((Memref.whole cc0_scratch3).slice r19 h19).view.set := hc.c19 1
    have c20_1 : ((Memref.whole cc0_scratch4).access (Rect.unit (s := S16x1024x256) (k0_off57 k0_t1 1#32) S1x1024x256.size (k0_off57_inb k0_t1 1)) : View sig .tc .vmem _ _).set ⊆ ((Memref.whole cc0_scratch4).slice r20 h20).view.set := hc.c20 1
    have c19_2 : ((Memref.whole cc0_scratch3).access (Rect.unit (s := S16x1024x256) (k0_off57 k0_t1 2#32) S1x1024x256.size (k0_off57_inb k0_t1 2)) : View sig .tc .vmem _ _).set ⊆ ((Memref.whole cc0_scratch3).slice r19 h19).view.set := hc.c19 2
    have c20_2 : ((Memref.whole cc0_scratch4).access (Rect.unit (s := S16x1024x256) (k0_off57 k0_t1 2#32) S1x1024x256.size (k0_off57_inb k0_t1 2)) : View sig .tc .vmem _ _).set ⊆ ((Memref.whole cc0_scratch4).slice r20 h20).view.set := hc.c20 2
    have c19_3 : ((Memref.whole cc0_scratch3).access (Rect.unit (s := S16x1024x256) (k0_off57 k0_t1 3#32) S1x1024x256.size (k0_off57_inb k0_t1 3)) : View sig .tc .vmem _ _).set ⊆ ((Memref.whole cc0_scratch3).slice r19 h19).view.set := hc.c19 3
    have c20_3 : ((Memref.whole cc0_scratch4).access (Rect.unit (s := S16x1024x256) (k0_off57 k0_t1 3#32) S1x1024x256.size (k0_off57_inb k0_t1 3)) : View sig .tc .vmem _ _).set ⊆ ((Memref.whole cc0_scratch4).slice r20 h20).view.set := hc.c20 3
    have c21 : ((Memref.whole cc0_scratch5).access (Rect.unit (s := S4x1024x1024) (k0_off58 k0_t1) S1x1024x1024.size (k0_off58_inb k0_t1)) : View sig .tc .vmem _ _).set ⊆ ((Memref.whole cc0_scratch5).slice r21 h21).view.set := hc.c21
    unfold k0_t14_body
    iintro ⟨HR_arg16, HR_arg17, HR_arg19, HR_arg20, HR_arg21, HW_arg18⟩
    sl_exec
    sl_step
    sl_close

/-- The window of a pass at height 128 lies in the buffer. -/
theorem window128 {arg24 v20 : BitVec 32} (k0_hw1 : k0_chk1 arg24 v20) (k0_h5 : ¬k0_cond5 arg24 v20 = 1#1)
    (k : Fin (k0_t14_loop arg24 v20).trips) : (clamp 128 arg24 k).toNat + 128 ≤ 512 :=
  k0_off55_inb arg24 v20 k0_hw1 k k0_h5 0

/-- One pass at height 128 does what `pass` says. -/
theorem trip128_pass {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : ¬k0_cond5 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (k : Fin (k0_t14_loop arg24 v20).trips) (E : Set ℕ) (f : C18 F) :
    Held (F := F) c r19 h19 r20 h20 r21 h21 X16 X17 X19 X20 X21 f ⊢ wp frame (wpE (defs₀ (F := F)) 𝒱 (c : Thread nD τ) bd) E
      (k0_t14_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5 k PUnit.unit)
      (fun _ => Held (F := F) c r19 h19 r20 h20 r21 h21 X16 X17 X19 X20 X21 (pass sized128 k0_t1 arg24 v20 X16 X17 X19 X20 X21 k f)) := by
  have h := (trip128 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 r19 h19 r20 h20 r21 h21 hc X16 X17 X19 X20 X21 k).2 E f
  have e : pass sized128 k0_t1 arg24 v20 X16 X17 X19 X20 X21 k f
      = (Memref.whole cc0_scratch2).view.writes (Elt F) f ((trip128 (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 r19 h19 r20 h20 r21 h21 hc X16 X17 X19 X20 X21 k).1 f) := by
    unfold pass; rw [dif_pos (window128 k0_hw1 k0_h5 k)]; rfl
  rw [e]; exact h

/-- The whole loop at height 128. -/
theorem loop128 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (k0_t1 : Fin k0_t1_loop.trips) (arg24 : BitVec 32) (v20 : BitVec 32) (k0_hw1 : k0_chk1 arg24 v20) (k0_h5 : ¬k0_cond5 arg24 v20 = 1#1)
    (r19 : Rect S16x1024x256) (h19 : ∀ a, r19.stride a = 1) (r20 : Rect S16x1024x256) (h20 : ∀ a, r20.stride a = 1) (r21 : Rect S4x1024x1024) (h21 : ∀ a, r21.stride a = 1)
    (hc : Covers k0_t1 r19 h19 r20 h20 r21 h21) (X16 : C16 F) (X17 : C17 F) (X19 : C19 F) (X20 : C20 F) (X21 : C21 F)
    (E : Set ℕ) (f : C18 F) :
    Held (F := F) c r19 h19 r20 h20 r21 h21 X16 X17 X19 X20 X21 f ⊢ wp frame (wpE (defs₀ (F := F)) 𝒱 (c : Thread nD τ) bd) E
      (Scf.Loop.for (k0_t14_loop arg24 v20) (k0_t14_ok arg24 v20 k0_hw1 k0_h5) ⟨⟩ (k0_t14_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5))
      (fun _ => Held (F := F) c r19 h19 r20 h20 r21 h21 X16 X17 X19 X20 X21 (passes sized128 k0_t1 arg24 v20 X16 X17 X19 X20 X21 f (k0_t14_loop arg24 v20).trips)) := by
  have T := fun k E f => trip128_pass (𝒱 := 𝒱) c (bd := bd) i arg2 harg2 arg3 harg3 arg4 harg4 arg5 harg5 arg6 harg6 arg7 harg7 arg8 harg8 arg9 harg9 arg13 harg13 arg14 harg14 arg15 harg15 k0_t1 arg24 v20 k0_hw1 k0_h5 r19 h19 r20 h20 r21 h21 hc X16 X17 X19 X20 X21 k E f
  generalize (k0_t14_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 k0_t1 arg24 (Scf.iv 0#32 1#32 k0_t1) v20 k0_hw1 (Scalar.addi arg24 v20) (Scalar.muli (Scalar.shrui arg24 3#32) 8#32) k0_h5) = B at T ⊢
  have key := Scf.wp_for (Fr := frame) (wpE := wpE (defs₀ (F := F)) 𝒱 (c : Thread nD τ) bd) (Es := E) (k0_t14_loop arg24 v20).lb (k0_t14_loop arg24 v20).ub (k0_t14_loop arg24 v20).st (k0_t14_ok arg24 v20 k0_hw1 k0_h5) (PUnit.unit : Unit) B
    (fun k _ => Held (F := F) c r19 h19 r20 h20 r21 h21 X16 X17 X19 X20 X21 (passes sized128 k0_t1 arg24 v20 X16 X17 X19 X20 X21 f k)) (fun k _ => T k E _)
    (Q := fun _ => Held (F := F) c r19 h19 r20 h20 r21 h21 X16 X17 X19 X20 X21 (passes sized128 k0_t1 arg24 v20 X16 X17 X19 X20 X21 f (k0_t14_loop arg24 v20).trips))
  refine BIBase.Entails.trans ?_ key
  iintro H
  isplitl [H]
  · iexact H
  · iintro %acc H
    iexact H

end Cert.KernelIdeal.Moe
-- ==== Proof.Group.lean ====
/-
  One group of a step: its copies awaited at the first step, then its rows at the height its count asks for.
-/
module

public import proofs.«01_k».proof.Proof.Trip256
public import proofs.«01_k».proof.Proof.Trip224
public import proofs.«01_k».proof.Proof.Trip192
public import proofs.«01_k».proof.Proof.Trip176
public import proofs.«01_k».proof.Proof.Trip160
public import proofs.«01_k».proof.Proof.Trip144
public import proofs.«01_k».proof.Proof.Trip128
public import Idealize.ShloMosaic.Lib.Exec
public import Idealize.ShloMosaic.Lib.Tactic
public import Idealize.ShloMosaic.Lib.LoopRemainder

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- What the table of counts holds. -/
abbrev CT (F : FTy → Type) [FloatOps F] : Type := BufTy.Contents (Elt F) (Memref.whole main_v60).view.ty

/-- The table held, at the share the prefetch leaves the kernel. -/
abbrev Tab (c : Dev nD) (T : CT F) : sProp 𝕄 :=
  iprop((Memref.whole main_v60).view.loc (c : Thread nD τ) ↦[(Memref.whole main_v60).view.set]{fullShare.right} T)

/-- The count of group `g` at step `i`, as the kernel reads it. -/
def word (T : CT F) (i : grid0.Coords) (g : Fin k0_t1_loop.trips) : BitVec 32 :=
  (Memref.whole main_v60).view.readAt (Elt F) (Rect.unit (s := S132) (k0_off6 i g) S1.size (k0_off6_inb i g)).toLoadRect T (Shape.Idx.first (numel1_S1.symm ▸ Nat.one_pos))

/-- A run put at the head of a longer program. -/
theorem through {𝒱 : Variants} {c : Thread nD τ} {bd : Option 𝒱.V} {E : Set ℕ} {α β : Type} {p : Prog (TpuEff nD τ sig (Elt F) Λ₀ c.2) α} {P : sProp 𝕄} {Q' : α → sProp 𝕄}
    (h : P ⊢ wp frame (wpE (defs₀ (F := F)) 𝒱 c bd) E p Q') {k : α → Prog (TpuEff nD τ sig (Elt F) Λ₀ c.2) β} {Q : β → sProp 𝕄} :
    P ⊢ iprop((∀ a, Q' a -∗ wp frame (wpE (defs₀ (F := F)) 𝒱 c bd) E (k a) Q) -∗ wp frame (wpE (defs₀ (F := F)) 𝒱 c bd) E (p >>= k) Q) := by
  rw [wp_bind]
  iintro HP HK
  iapply (wp_wand_r frame (wpE (defs₀ (F := F)) 𝒱 c bd) E)
  isplitl [HP]
  · iapply h; iexact HP
  · iexact HK

/-- A later step's group at height 256. -/
theorem group256 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) (k0_h5 : k0_cond5 start (word T i g) = 1#1) (k0_h6 : k0_cond6 start (word T i g) = 1#1) (k0_h7 : k0_cond7 start (word T i g) = 1#1) (k0_h8 : k0_cond8 start (word T i g) = 1#1) (k0_h9 : k0_cond9 start (word T i g) = 1#1) (k0_h10 : k0_cond10 start (word T i g) = 1#1) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  have L := loop256 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 k0_h9 k0_h10 r19 h19 r20 h20 r21 h21 hc X16 X17 X19 X20 X21 E f
  have e : group g start (word T i g) X16 X17 X19 X20 X21 f = passes sized256 g start (word T i g) X16 X17 X19 X20 X21 f (k0_t2_loop start (word T i g)).trips := by
    unfold group; simp only [if_pos k0_h5, if_pos k0_h6, if_pos k0_h7, if_pos k0_h8, if_pos k0_h9, if_pos k0_h10]
  rw [e]
  unfold k0_t1_body
  iintro ⟨H, HT⟩
  sl_exec
  iapply (through L) $$ H
  iintro %_ ⟨H0, H1, H2, H3, H4, H5⟩
  sl_exec
  sl_step
  sl_close

/-- A later step's group at height 224. -/
theorem group224 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) (k0_h5 : k0_cond5 start (word T i g) = 1#1) (k0_h6 : k0_cond6 start (word T i g) = 1#1) (k0_h7 : k0_cond7 start (word T i g) = 1#1) (k0_h8 : k0_cond8 start (word T i g) = 1#1) (k0_h9 : k0_cond9 start (word T i g) = 1#1) (k0_h10 : ¬k0_cond10 start (word T i g) = 1#1) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  have L := loop224 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 k0_h9 k0_h10 r19 h19 r20 h20 r21 h21 hc X16 X17 X19 X20 X21 E f
  have e : group g start (word T i g) X16 X17 X19 X20 X21 f = passes sized224 g start (word T i g) X16 X17 X19 X20 X21 f (k0_t4_loop start (word T i g)).trips := by
    unfold group; simp only [if_pos k0_h5, if_pos k0_h6, if_pos k0_h7, if_pos k0_h8, if_pos k0_h9, if_neg k0_h10]
  rw [e]
  unfold k0_t1_body
  iintro ⟨H, HT⟩
  sl_exec
  iapply (through L) $$ H
  iintro %_ ⟨H0, H1, H2, H3, H4, H5⟩
  sl_exec
  sl_step
  sl_close

/-- A later step's group at height 192. -/
theorem group192 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) (k0_h5 : k0_cond5 start (word T i g) = 1#1) (k0_h6 : k0_cond6 start (word T i g) = 1#1) (k0_h7 : k0_cond7 start (word T i g) = 1#1) (k0_h8 : k0_cond8 start (word T i g) = 1#1) (k0_h9 : ¬k0_cond9 start (word T i g) = 1#1) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  have L := loop192 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 k0_h9 r19 h19 r20 h20 r21 h21 hc X16 X17 X19 X20 X21 E f
  have e : group g start (word T i g) X16 X17 X19 X20 X21 f = passes sized192 g start (word T i g) X16 X17 X19 X20 X21 f (k0_t6_loop start (word T i g)).trips := by
    unfold group; simp only [if_pos k0_h5, if_pos k0_h6, if_pos k0_h7, if_pos k0_h8, if_neg k0_h9]
  rw [e]
  unfold k0_t1_body
  iintro ⟨H, HT⟩
  sl_exec
  iapply (through L) $$ H
  iintro %_ ⟨H0, H1, H2, H3, H4, H5⟩
  sl_exec
  sl_step
  sl_close

/-- A later step's group at height 176. -/
theorem group176 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) (k0_h5 : k0_cond5 start (word T i g) = 1#1) (k0_h6 : k0_cond6 start (word T i g) = 1#1) (k0_h7 : k0_cond7 start (word T i g) = 1#1) (k0_h8 : ¬k0_cond8 start (word T i g) = 1#1) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  have L := loop176 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 r19 h19 r20 h20 r21 h21 hc X16 X17 X19 X20 X21 E f
  have e : group g start (word T i g) X16 X17 X19 X20 X21 f = passes sized176 g start (word T i g) X16 X17 X19 X20 X21 f (k0_t8_loop start (word T i g)).trips := by
    unfold group; simp only [if_pos k0_h5, if_pos k0_h6, if_pos k0_h7, if_neg k0_h8]
  rw [e]
  unfold k0_t1_body
  iintro ⟨H, HT⟩
  sl_exec
  iapply (through L) $$ H
  iintro %_ ⟨H0, H1, H2, H3, H4, H5⟩
  sl_exec
  sl_step
  sl_close

/-- A later step's group at height 160. -/
theorem group160 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) (k0_h5 : k0_cond5 start (word T i g) = 1#1) (k0_h6 : k0_cond6 start (word T i g) = 1#1) (k0_h7 : ¬k0_cond7 start (word T i g) = 1#1) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  have L := loop160 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 r19 h19 r20 h20 r21 h21 hc X16 X17 X19 X20 X21 E f
  have e : group g start (word T i g) X16 X17 X19 X20 X21 f = passes sized160 g start (word T i g) X16 X17 X19 X20 X21 f (k0_t10_loop start (word T i g)).trips := by
    unfold group; simp only [if_pos k0_h5, if_pos k0_h6, if_neg k0_h7]
  rw [e]
  unfold k0_t1_body
  iintro ⟨H, HT⟩
  sl_exec
  iapply (through L) $$ H
  iintro %_ ⟨H0, H1, H2, H3, H4, H5⟩
  sl_exec
  sl_step
  sl_close

/-- A later step's group at height 144. -/
theorem group144 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) (k0_h5 : k0_cond5 start (word T i g) = 1#1) (k0_h6 : ¬k0_cond6 start (word T i g) = 1#1) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  have L := loop144 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 r19 h19 r20 h20 r21 h21 hc X16 X17 X19 X20 X21 E f
  have e : group g start (word T i g) X16 X17 X19 X20 X21 f = passes sized144 g start (word T i g) X16 X17 X19 X20 X21 f (k0_t12_loop start (word T i g)).trips := by
    unfold group; simp only [if_pos k0_h5, if_neg k0_h6]
  rw [e]
  unfold k0_t1_body
  iintro ⟨H, HT⟩
  sl_exec
  iapply (through L) $$ H
  iintro %_ ⟨H0, H1, H2, H3, H4, H5⟩
  sl_exec
  sl_step
  sl_close

/-- A later step's group at height 128. -/
theorem group128 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) (k0_h5 : ¬k0_cond5 start (word T i g) = 1#1) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  have L := loop128 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 r19 h19 r20 h20 r21 h21 hc X16 X17 X19 X20 X21 E f
  have e : group g start (word T i g) X16 X17 X19 X20 X21 f = passes sized128 g start (word T i g) X16 X17 X19 X20 X21 f (k0_t14_loop start (word T i g)).trips := by
    unfold group; simp only [if_neg k0_h5]
  rw [e]
  unfold k0_t1_body
  iintro ⟨H, HT⟩
  sl_exec
  iapply (through L) $$ H
  iintro %_ ⟨H0, H1, H2, H3, H4, H5⟩
  sl_exec
  sl_step
  sl_close

/-- A LATER STEP'S GROUP: the accumulator gains the group's rows; the weights are there already. -/
theorem group_later {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (r19 : Rect S16x1024x256) (h19 : ∀ a, r19.stride a = 1) (r20 : Rect S16x1024x256) (h20 : ∀ a, r20.stride a = 1) (r21 : Rect S4x1024x1024) (h21 : ∀ a, r21.stride a = 1) (hc : Covers g r19 h19 r20 h20 r21 h21) (X16 : C16 F) (X17 : C17 F) (X19 : C19 F) (X20 : C20 F) (X21 : C21 F) (E : Set ℕ) (f : C18 F) (h4 : ¬ k0_cond4 i = 1#1) (hchk : k0_chk1 start (word T i g)) :
   iprop(Held (F := F) c r19 h19 r20 h20 r21 h21 X16 X17 X19 X20 X21 f ∗ Tab c T) ⊢ wp frame (wpE (defs₀ (F := F)) 𝒱 (c : Thread nD τ) bd) E
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ Held c r19 h19 r20 h20 r21 h21 X16 X17 X19 X20 X21 (group g start (word T i g) X16 X17 X19 X20 X21 f) ∗ Tab c T)) := by
  by_cases k0_h5 : k0_cond5 start (word T i g) = 1#1
  · by_cases k0_h6 : k0_cond6 start (word T i g) = 1#1
    · by_cases k0_h7 : k0_cond7 start (word T i g) = 1#1
      · by_cases k0_h8 : k0_cond8 start (word T i g) = 1#1
        · by_cases k0_h9 : k0_cond9 start (word T i g) = 1#1
          · by_cases k0_h10 : k0_cond10 start (word T i g) = 1#1
            · exact group256 (𝒱 := 𝒱) c (bd := bd) i arg2 harg2 arg3 harg3 arg4 harg4 arg5 harg5 arg6 harg6 arg7 harg7 arg8 harg8 arg9 harg9 arg13 harg13 arg14 harg14 arg15 harg15 g start T r19 h19 r20 h20 r21 h21 hc X16 X17 X19 X20 X21 E f h4 hchk k0_h5 k0_h6 k0_h7 k0_h8 k0_h9 k0_h10
            · exact group224 (𝒱 := 𝒱) c (bd := bd) i arg2 harg2 arg3 harg3 arg4 harg4 arg5 harg5 arg6 harg6 arg7 harg7 arg8 harg8 arg9 harg9 arg13 harg13 arg14 harg14 arg15 harg15 g start T r19 h19 r20 h20 r21 h21 hc X16 X17 X19 X20 X21 E f h4 hchk k0_h5 k0_h6 k0_h7 k0_h8 k0_h9 k0_h10
          · exact group192 (𝒱 := 𝒱) c (bd := bd) i arg2 harg2 arg3 harg3 arg4 harg4 arg5 harg5 arg6 harg6 arg7 harg7 arg8 harg8 arg9 harg9 arg13 harg13 arg14 harg14 arg15 harg15 g start T r19 h19 r20 h20 r21 h21 hc X16 X17 X19 X20 X21 E f h4 hchk k0_h5 k0_h6 k0_h7 k0_h8 k0_h9
        · exact group176 (𝒱 := 𝒱) c (bd := bd) i arg2 harg2 arg3 harg3 arg4 harg4 arg5 harg5 arg6 harg6 arg7 harg7 arg8 harg8 arg9 harg9 arg13 harg13 arg14 harg14 arg15 harg15 g start T r19 h19 r20 h20 r21 h21 hc X16 X17 X19 X20 X21 E f h4 hchk k0_h5 k0_h6 k0_h7 k0_h8
      · exact group160 (𝒱 := 𝒱) c (bd := bd) i arg2 harg2 arg3 harg3 arg4 harg4 arg5 harg5 arg6 harg6 arg7 harg7 arg8 harg8 arg9 harg9 arg13 harg13 arg14 harg14 arg15 harg15 g start T r19 h19 r20 h20 r21 h21 hc X16 X17 X19 X20 X21 E f h4 hchk k0_h5 k0_h6 k0_h7
    · exact group144 (𝒱 := 𝒱) c (bd := bd) i arg2 harg2 arg3 harg3 arg4 harg4 arg5 harg5 arg6 harg6 arg7 harg7 arg8 harg8 arg9 harg9 arg13 harg13 arg14 harg14 arg15 harg15 g start T r19 h19 r20 h20 r21 h21 hc X16 X17 X19 X20 X21 E f h4 hchk k0_h5 k0_h6
  · exact group128 (𝒱 := 𝒱) c (bd := bd) i arg2 harg2 arg3 harg3 arg4 harg4 arg5 harg5 arg6 harg6 arg7 harg7 arg8 harg8 arg9 harg9 arg13 harg13 arg14 harg14 arg15 harg15 g start T r19 h19 r20 h20 r21 h21 hc X16 X17 X19 X20 X21 E f h4 hchk k0_h5

end Cert.KernelIdeal.Moe
-- ==== Proof.Slots.lean ====
/-
  The blocks of the weight arrays, a group's each: before its copies have landed, and after.
-/
module

public import proofs.«01_k».proof.Proof.Held
public import proofs.«01_k».proof.Proof.Pass
public import Idealize.ShloMosaic.Lib.Writes
public import Idealize.ShloMosaic.Lib.Transfers

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- What the weight arrays hold. -/
abbrev W1 (F : FTy → Type) [FloatOps F] : Type := BufTy.Contents (Elt F) (Memref.whole main_arg12).view.ty
abbrev W3 (F : FTy → Type) [FloatOps F] : Type := BufTy.Contents (Elt F) (Memref.whole main_arg13).view.ty
abbrev W2 (F : FTy → Type) [FloatOps F] : Type := BufTy.Contents (Elt F) (Memref.whole main_v58).view.ty

theorem box_inb : ∀ (g : Fin k0_t1_loop.trips) a, k0_off2 g a + S4x1024x256.size a ≤ S16x1024x256.size a := by decide +kernel
theorem box2_inb : ∀ (g : Fin k0_t1_loop.trips) a, k0_off5 g a + S1x1024x1024.size a ≤ S4x1024x1024.size a := by decide +kernel
theorem sem1_inb : ∀ (g : Fin k0_t1_loop.trips) a, k0_off1 g a + S1x1.size a ≤ S3x4.size a := by decide +kernel
theorem sem3_inb : ∀ (g : Fin k0_t1_loop.trips) a, k0_off3 g a + S1x1.size a ≤ S3x4.size a := by decide +kernel
theorem sem2_inb : ∀ (g : Fin k0_t1_loop.trips) a, k0_off4 g a + S1x1.size a ≤ S3x4.size a := by decide +kernel

/-- The block of group `g` in the first and third weight arrays, and in the second. -/
abbrev box (g : Fin k0_t1_loop.trips) : Rect S16x1024x256 := Rect.unit (s := S16x1024x256) (k0_off2 g) S4x1024x256.size (box_inb g)
abbrev box2 (g : Fin k0_t1_loop.trips) : Rect S4x1024x1024 := Rect.unit (s := S4x1024x1024) (k0_off5 g) S1x1024x1024.size (box2_inb g)

/-- The semaphores of group `g`'s three copies. -/
abbrev sem1 (g : Fin k0_t1_loop.trips) : SemLoc sig :=
  .dma ((cc0_scratch6.slice (Rect.unit (s := S3x4) (k0_off1 g) S1x1.size (sem1_inb g))).squeeze S_ squeezes_S1x1_S_).sem
abbrev sem3 (g : Fin k0_t1_loop.trips) : SemLoc sig :=
  .dma ((cc0_scratch6.slice (Rect.unit (s := S3x4) (k0_off3 g) S1x1.size (sem3_inb g))).squeeze S_ squeezes_S1x1_S_).sem
abbrev sem2 (g : Fin k0_t1_loop.trips) : SemLoc sig :=
  .dma ((cc0_scratch6.slice (Rect.unit (s := S3x4) (k0_off4 g) S1x1.size (sem2_inb g))).squeeze S_ squeezes_S1x1_S_).sem

/-- The block of group `g` of each weight array, in the kernel's buffer (`D`) and at its source (`S`). -/
abbrev D1 (c : Dev nD) (g : Fin k0_t1_loop.trips) (X : C19 F) : sProp 𝕄 :=
  iprop(((Memref.whole cc0_scratch3).slice (box g) (fun _ => rfl)).view.loc (c : Thread nD τ) ↦[((Memref.whole cc0_scratch3).slice (box g) (fun _ => rfl)).view.set]{fullShare} X)
abbrev D3 (c : Dev nD) (g : Fin k0_t1_loop.trips) (X : C20 F) : sProp 𝕄 :=
  iprop(((Memref.whole cc0_scratch4).slice (box g) (fun _ => rfl)).view.loc (c : Thread nD τ) ↦[((Memref.whole cc0_scratch4).slice (box g) (fun _ => rfl)).view.set]{fullShare} X)
abbrev D2 (c : Dev nD) (g : Fin k0_t1_loop.trips) (X : C21 F) : sProp 𝕄 :=
  iprop(((Memref.whole cc0_scratch5).slice (box2 g) (fun _ => rfl)).view.loc (c : Thread nD τ) ↦[((Memref.whole cc0_scratch5).slice (box2 g) (fun _ => rfl)).view.set]{fullShare} X)
abbrev Src1 (c : Dev nD) (g : Fin k0_t1_loop.trips) (V : W1 F) : sProp 𝕄 :=
  iprop(((Memref.whole main_arg12).slice (box g) (fun _ => rfl)).view.loc (c : Thread nD τ) ↦[((Memref.whole main_arg12).slice (box g) (fun _ => rfl)).view.set]{fullShare} V)
abbrev Src3 (c : Dev nD) (g : Fin k0_t1_loop.trips) (V : W3 F) : sProp 𝕄 :=
  iprop(((Memref.whole main_arg13).slice (box g) (fun _ => rfl)).view.loc (c : Thread nD τ) ↦[((Memref.whole main_arg13).slice (box g) (fun _ => rfl)).view.set]{fullShare} V)
abbrev Src2 (c : Dev nD) (g : Fin k0_t1_loop.trips) (V : W2 F) : sProp 𝕄 :=
  iprop(((Memref.whole main_v58).slice (box2 g) (fun _ => rfl)).view.loc (c : Thread nD τ) ↦[((Memref.whole main_v58).slice (box2 g) (fun _ => rfl)).view.set]{fullShare} V)

/-- GROUP `g` ON ITS WAY: its three copies in flight, each to deliver its block at the source's contents. -/
def InFlight (c : Dev nD) (g : Fin k0_t1_loop.trips) (V1 : W1 F) (V3 : W3 F) (V2 : W2 F) : sProp 𝕄 :=
  iprop(Transfers.Flight countersEmb (c : Thread nD τ) (sem1 g) default 65536 iprop(D1 c g V1 ∗ Src1 c g V1)
    ∗ Transfers.Flight countersEmb (c : Thread nD τ) (sem3 g) default 65536 iprop(D3 c g V3 ∗ Src3 c g V3)
    ∗ Transfers.Flight countersEmb (c : Thread nD τ) (sem2 g) default 65536 iprop(D2 c g V2 ∗ Src2 c g V2))

/-- GROUP `g` LANDED: its blocks at the source's contents, its semaphores back at zero. -/
def Landed (c : Dev nD) (g : Fin k0_t1_loop.trips) (V1 : W1 F) (V3 : W3 F) (V2 : W2 F) : sProp 𝕄 :=
  iprop((D1 c g V1 ∗ Src1 c g V1 ∗ semVal ((c : Thread nD τ), sem1 g) 0)
    ∗ (D3 c g V3 ∗ Src3 c g V3 ∗ semVal ((c : Thread nD τ), sem3 g) 0)
    ∗ (D2 c g V2 ∗ Src2 c g V2 ∗ semVal ((c : Thread nD τ), sem2 g) 0))

/-- The slabs of group `g` lie in its block. -/
theorem covers_box (g : Fin k0_t1_loop.trips) : Covers g (box g) (fun _ => rfl) (box g) (fun _ => rfl) (box2 g) (fun _ => rfl) := by
  have h : ∀ (g : Fin k0_t1_loop.trips) (e : Fin 4), (slab g e).set ⊆ (box g).set := fun g e i hi => by
    rw [slab, Rect.mem_set_unit] at hi; rw [Rect.mem_set_unit]
    have b : ∀ (g : Fin k0_t1_loop.trips) (e : Fin 4) a, k0_off2 g a ≤ k0_off9 g (BitVec.ofNat 32 e.val) a ∧ k0_off9 g (BitVec.ofNat 32 e.val) a + S1x1024x256.size a ≤ k0_off2 g a + S4x1024x256.size a := by decide +kernel
    intro a; have := hi a; have := b g e a; omega
  refine ⟨fun e => ?_, fun e => ?_, ?_⟩
  · exact (View.set_slice_whole _ _).le.trans ((h g e).trans (View.set_slice_whole _ _).ge)
  · exact (View.set_slice_whole _ _).le.trans ((h g e).trans (View.set_slice_whole _ _).ge)
  · refine (View.set_slice_whole _ _).le.trans (Finset.Subset.trans ?_ (View.set_slice_whole _ _).ge)
    intro i hi
    rw [slab2, Rect.mem_set_unit] at hi; rw [Rect.mem_set_unit]
    have b : ∀ (g : Fin k0_t1_loop.trips) a, k0_off5 g a = k0_off10 g a := by decide +kernel
    intro a; have := hi a; rw [b]; exact this

/-- The whole buffers cover every group. -/
theorem covers_whole (g : Fin k0_t1_loop.trips) (h19 h20 : ∀ a, (Rect.whole S16x1024x256).stride a = 1) (h21 : ∀ a, (Rect.whole S4x1024x1024).stride a = 1) :
    Covers g (Rect.whole _) h19 (Rect.whole _) h20 (Rect.whole _) h21 := by
  refine ⟨fun e => ?_, fun e => ?_, ?_⟩ <;>
  exact (Finset.subset_univ _).trans ((View.set_slice_whole _ _).trans (Rect.set_whole _)).ge

end Cert.KernelIdeal.Moe
-- ==== Proof.GroupFirst.lean ====
/-
  One group of the first step: its copies awaited, then its rows.
-/
module

public import proofs.«01_k».proof.Proof.Group
public import proofs.«01_k».proof.Proof.Slots
public import Idealize.ShloMosaic.Lib.Exec
public import Idealize.ShloMosaic.Lib.Tactic
public import Idealize.ShloMosaic.Lib.LoopRemainder

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- The first step's group at height 256. -/
theorem first256 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit)) (k0_h5 : k0_cond5 start (word T i g) = 1#1) (k0_h6 : k0_cond6 start (word T i g) = 1#1) (k0_h7 : k0_cond7 start (word T i g) = 1#1) (k0_h8 : k0_cond8 start (word T i g) = 1#1) (k0_h9 : k0_cond9 start (word T i g) = 1#1) (k0_h10 : k0_cond10 start (word T i g) = 1#1) :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  have L := loop256 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 k0_h9 k0_h10 (box g) (fun _ => rfl) (box g) (fun _ => rfl) (box2 g) (fun _ => rfl) (covers_box g) X16 X17 V1 V3 V2 Set.univ f
  have e : group g start (word T i g) X16 X17 V1 V3 V2 f = passes sized256 g start (word T i g) X16 X17 V1 V3 V2 f (k0_t2_loop start (word T i g)).trips := by
    unfold group; simp only [if_pos k0_h5, if_pos k0_h6, if_pos k0_h7, if_pos k0_h8, if_pos k0_h9, if_pos k0_h10]
  rw [e]
  unfold k0_t1_body InFlight Landed
  iintro ⟨H0, H1, H5, ⟨HF1, HF3, HF2⟩, HT, HW⟩
  sl_exec
  iapply (through L) $$ [H0 H1 H5 HF1_dst HF3_dst HF2_dst]
  · sl_close
  iintro %_ ⟨H0, H1, H2, H3, H4, H5⟩
  sl_exec
  sl_step
  sl_close

/-- The first step's group at height 224. -/
theorem first224 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit)) (k0_h5 : k0_cond5 start (word T i g) = 1#1) (k0_h6 : k0_cond6 start (word T i g) = 1#1) (k0_h7 : k0_cond7 start (word T i g) = 1#1) (k0_h8 : k0_cond8 start (word T i g) = 1#1) (k0_h9 : k0_cond9 start (word T i g) = 1#1) (k0_h10 : ¬k0_cond10 start (word T i g) = 1#1) :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  have L := loop224 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 k0_h9 k0_h10 (box g) (fun _ => rfl) (box g) (fun _ => rfl) (box2 g) (fun _ => rfl) (covers_box g) X16 X17 V1 V3 V2 Set.univ f
  have e : group g start (word T i g) X16 X17 V1 V3 V2 f = passes sized224 g start (word T i g) X16 X17 V1 V3 V2 f (k0_t4_loop start (word T i g)).trips := by
    unfold group; simp only [if_pos k0_h5, if_pos k0_h6, if_pos k0_h7, if_pos k0_h8, if_pos k0_h9, if_neg k0_h10]
  rw [e]
  unfold k0_t1_body InFlight Landed
  iintro ⟨H0, H1, H5, ⟨HF1, HF3, HF2⟩, HT, HW⟩
  sl_exec
  iapply (through L) $$ [H0 H1 H5 HF1_dst HF3_dst HF2_dst]
  · sl_close
  iintro %_ ⟨H0, H1, H2, H3, H4, H5⟩
  sl_exec
  sl_step
  sl_close

/-- The first step's group at height 192. -/
theorem first192 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit)) (k0_h5 : k0_cond5 start (word T i g) = 1#1) (k0_h6 : k0_cond6 start (word T i g) = 1#1) (k0_h7 : k0_cond7 start (word T i g) = 1#1) (k0_h8 : k0_cond8 start (word T i g) = 1#1) (k0_h9 : ¬k0_cond9 start (word T i g) = 1#1) :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  have L := loop192 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 k0_h9 (box g) (fun _ => rfl) (box g) (fun _ => rfl) (box2 g) (fun _ => rfl) (covers_box g) X16 X17 V1 V3 V2 Set.univ f
  have e : group g start (word T i g) X16 X17 V1 V3 V2 f = passes sized192 g start (word T i g) X16 X17 V1 V3 V2 f (k0_t6_loop start (word T i g)).trips := by
    unfold group; simp only [if_pos k0_h5, if_pos k0_h6, if_pos k0_h7, if_pos k0_h8, if_neg k0_h9]
  rw [e]
  unfold k0_t1_body InFlight Landed
  iintro ⟨H0, H1, H5, ⟨HF1, HF3, HF2⟩, HT, HW⟩
  sl_exec
  iapply (through L) $$ [H0 H1 H5 HF1_dst HF3_dst HF2_dst]
  · sl_close
  iintro %_ ⟨H0, H1, H2, H3, H4, H5⟩
  sl_exec
  sl_step
  sl_close

/-- The first step's group at height 176. -/
theorem first176 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit)) (k0_h5 : k0_cond5 start (word T i g) = 1#1) (k0_h6 : k0_cond6 start (word T i g) = 1#1) (k0_h7 : k0_cond7 start (word T i g) = 1#1) (k0_h8 : ¬k0_cond8 start (word T i g) = 1#1) :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  have L := loop176 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 k0_h8 (box g) (fun _ => rfl) (box g) (fun _ => rfl) (box2 g) (fun _ => rfl) (covers_box g) X16 X17 V1 V3 V2 Set.univ f
  have e : group g start (word T i g) X16 X17 V1 V3 V2 f = passes sized176 g start (word T i g) X16 X17 V1 V3 V2 f (k0_t8_loop start (word T i g)).trips := by
    unfold group; simp only [if_pos k0_h5, if_pos k0_h6, if_pos k0_h7, if_neg k0_h8]
  rw [e]
  unfold k0_t1_body InFlight Landed
  iintro ⟨H0, H1, H5, ⟨HF1, HF3, HF2⟩, HT, HW⟩
  sl_exec
  iapply (through L) $$ [H0 H1 H5 HF1_dst HF3_dst HF2_dst]
  · sl_close
  iintro %_ ⟨H0, H1, H2, H3, H4, H5⟩
  sl_exec
  sl_step
  sl_close

/-- The first step's group at height 160. -/
theorem first160 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit)) (k0_h5 : k0_cond5 start (word T i g) = 1#1) (k0_h6 : k0_cond6 start (word T i g) = 1#1) (k0_h7 : ¬k0_cond7 start (word T i g) = 1#1) :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  have L := loop160 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 k0_h7 (box g) (fun _ => rfl) (box g) (fun _ => rfl) (box2 g) (fun _ => rfl) (covers_box g) X16 X17 V1 V3 V2 Set.univ f
  have e : group g start (word T i g) X16 X17 V1 V3 V2 f = passes sized160 g start (word T i g) X16 X17 V1 V3 V2 f (k0_t10_loop start (word T i g)).trips := by
    unfold group; simp only [if_pos k0_h5, if_pos k0_h6, if_neg k0_h7]
  rw [e]
  unfold k0_t1_body InFlight Landed
  iintro ⟨H0, H1, H5, ⟨HF1, HF3, HF2⟩, HT, HW⟩
  sl_exec
  iapply (through L) $$ [H0 H1 H5 HF1_dst HF3_dst HF2_dst]
  · sl_close
  iintro %_ ⟨H0, H1, H2, H3, H4, H5⟩
  sl_exec
  sl_step
  sl_close

/-- The first step's group at height 144. -/
theorem first144 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit)) (k0_h5 : k0_cond5 start (word T i g) = 1#1) (k0_h6 : ¬k0_cond6 start (word T i g) = 1#1) :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  have L := loop144 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 k0_h6 (box g) (fun _ => rfl) (box g) (fun _ => rfl) (box2 g) (fun _ => rfl) (covers_box g) X16 X17 V1 V3 V2 Set.univ f
  have e : group g start (word T i g) X16 X17 V1 V3 V2 f = passes sized144 g start (word T i g) X16 X17 V1 V3 V2 f (k0_t12_loop start (word T i g)).trips := by
    unfold group; simp only [if_pos k0_h5, if_neg k0_h6]
  rw [e]
  unfold k0_t1_body InFlight Landed
  iintro ⟨H0, H1, H5, ⟨HF1, HF3, HF2⟩, HT, HW⟩
  sl_exec
  iapply (through L) $$ [H0 H1 H5 HF1_dst HF3_dst HF2_dst]
  · sl_close
  iintro %_ ⟨H0, H1, H2, H3, H4, H5⟩
  sl_exec
  sl_step
  sl_close

/-- The first step's group at height 128. -/
theorem first128 {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit)) (k0_h5 : ¬k0_cond5 start (word T i g) = 1#1) :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  have L := loop128 (𝒱 := 𝒱) c (bd := bd) i arg2 harg2 arg3 harg3 arg4 harg4 arg5 harg5 arg6 harg6 arg7 harg7 arg8 harg8 arg9 harg9 arg13 harg13 arg14 harg14 arg15 harg15 g start (word T i g) hchk k0_h5 (box g) (fun _ => rfl) (box g) (fun _ => rfl) (box2 g) (fun _ => rfl) (covers_box g) X16 X17 V1 V3 V2 Set.univ f
  have e : group g start (word T i g) X16 X17 V1 V3 V2 f = passes sized128 g start (word T i g) X16 X17 V1 V3 V2 f (k0_t14_loop start (word T i g)).trips := by
    unfold group; simp only [if_neg k0_h5]
  rw [e]
  unfold k0_t1_body InFlight Landed
  iintro ⟨H0, H1, H5, ⟨HF1, HF3, HF2⟩, HT, HW⟩
  sl_exec
  iapply (through L) $$ [H0 H1 H5 HF1_dst HF3_dst HF2_dst]
  · sl_close
  iintro %_ ⟨H0, H1, H2, H3, H4, H5⟩
  sl_exec
  sl_step
  sl_close

/-- THE FIRST STEP'S GROUP: its three copies awaited, then the accumulator gains the group's rows. -/
theorem group_first {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (g : Fin k0_t1_loop.trips) (start : BitVec 32)
   (T : CT F) (V1 : W1 F) (V3 : W3 F) (V2 : W2 F) (X16 : C16 F) (X17 : C17 F) (f : C18 F) (h4 : k0_cond4 i = 1#1) (hchk : k0_chk1 start (word T i g)) (W : Finset (SemLoc sig × Unit))  :
   iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ InFlight (F := F) c g V1 V3 V2 ∗ Tab c T ∗ owes (c : Thread nD τ) 0 W) ⊢ wp frame (wpE (defs₀ (F := F)) 𝒱 (c : Thread nD τ) bd) Set.univ
      (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 g start)
      (fun r => iprop(⌜r = Scalar.addi start (word T i g)⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (group g start (word T i g) X16 X17 V1 V3 V2 f)) ∗ Landed c g V1 V3 V2 ∗ Tab c T ∗ (∃ W', owes (c : Thread nD τ) 0 W'))) := by
  by_cases k0_h5 : k0_cond5 start (word T i g) = 1#1
  · by_cases k0_h6 : k0_cond6 start (word T i g) = 1#1
    · by_cases k0_h7 : k0_cond7 start (word T i g) = 1#1
      · by_cases k0_h8 : k0_cond8 start (word T i g) = 1#1
        · by_cases k0_h9 : k0_cond9 start (word T i g) = 1#1
          · by_cases k0_h10 : k0_cond10 start (word T i g) = 1#1
            · exact first256 (𝒱 := 𝒱) c (bd := bd) i arg2 harg2 arg3 harg3 arg4 harg4 arg5 harg5 arg6 harg6 arg7 harg7 arg8 harg8 arg9 harg9 arg13 harg13 arg14 harg14 arg15 harg15 g start T V1 V3 V2 X16 X17 f h4 hchk W k0_h5 k0_h6 k0_h7 k0_h8 k0_h9 k0_h10
            · exact first224 (𝒱 := 𝒱) c (bd := bd) i arg2 harg2 arg3 harg3 arg4 harg4 arg5 harg5 arg6 harg6 arg7 harg7 arg8 harg8 arg9 harg9 arg13 harg13 arg14 harg14 arg15 harg15 g start T V1 V3 V2 X16 X17 f h4 hchk W k0_h5 k0_h6 k0_h7 k0_h8 k0_h9 k0_h10
          · exact first192 (𝒱 := 𝒱) c (bd := bd) i arg2 harg2 arg3 harg3 arg4 harg4 arg5 harg5 arg6 harg6 arg7 harg7 arg8 harg8 arg9 harg9 arg13 harg13 arg14 harg14 arg15 harg15 g start T V1 V3 V2 X16 X17 f h4 hchk W k0_h5 k0_h6 k0_h7 k0_h8 k0_h9
        · exact first176 (𝒱 := 𝒱) c (bd := bd) i arg2 harg2 arg3 harg3 arg4 harg4 arg5 harg5 arg6 harg6 arg7 harg7 arg8 harg8 arg9 harg9 arg13 harg13 arg14 harg14 arg15 harg15 g start T V1 V3 V2 X16 X17 f h4 hchk W k0_h5 k0_h6 k0_h7 k0_h8
      · exact first160 (𝒱 := 𝒱) c (bd := bd) i arg2 harg2 arg3 harg3 arg4 harg4 arg5 harg5 arg6 harg6 arg7 harg7 arg8 harg8 arg9 harg9 arg13 harg13 arg14 harg14 arg15 harg15 g start T V1 V3 V2 X16 X17 f h4 hchk W k0_h5 k0_h6 k0_h7
    · exact first144 (𝒱 := 𝒱) c (bd := bd) i arg2 harg2 arg3 harg3 arg4 harg4 arg5 harg5 arg6 harg6 arg7 harg7 arg8 harg8 arg9 harg9 arg13 harg13 arg14 harg14 arg15 harg15 g start T V1 V3 V2 X16 X17 f h4 hchk W k0_h5 k0_h6
  · exact first128 (𝒱 := 𝒱) c (bd := bd) i arg2 harg2 arg3 harg3 arg4 harg4 arg5 harg5 arg6 harg6 arg7 harg7 arg8 harg8 arg9 harg9 arg13 harg13 arg14 harg14 arg15 harg15 g start T V1 V3 V2 X16 X17 f h4 hchk W k0_h5

end Cert.KernelIdeal.Moe
-- ==== Proof.Outer.lean ====
/-
  The loop over the four groups of a step.
-/
module

public import proofs.«01_k».proof.Proof.Group
public import proofs.«01_k».proof.Proof.GroupFirst
public import proofs.«01_k».proof.Proof.Slots
public import Idealize.ShloMosaic.Lib.Exec
public import Idealize.ShloMosaic.Lib.Tactic
public import Idealize.ShloMosaic.Lib.LoopRemainder

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- Where group `n`'s rows start. -/
def starts (T : CT F) (i : grid0.Coords) : ℕ → BitVec 32
  | 0 => 0#32
  | n + 1 => if h : n < k0_t1_loop.trips then Scalar.addi (starts T i n) (word T i ⟨n, h⟩) else starts T i n

/-- THE ACCUMULATOR after `n` groups. -/
def accs (T : CT F) (i : grid0.Coords) (X16 : C16 F) (X17 : C17 F) (X19 : C19 F) (X20 : C20 F) (X21 : C21 F) (f : C18 F) : ℕ → C18 F
  | 0 => f
  | n + 1 => if h : n < k0_t1_loop.trips then group ⟨n, h⟩ (starts T i n) (word T i ⟨n, h⟩) X16 X17 X19 X20 X21 (accs T i X16 X17 X19 X20 X21 f n) else accs T i X16 X17 X19 X20 X21 f n

theorem starts_succ (T : CT F) (i : grid0.Coords) (g : Fin k0_t1_loop.trips) : starts T i (g.val + 1) = Scalar.addi (starts T i g.val) (word T i g) := by
  rw [starts, dif_pos g.isLt]

theorem accs_succ (T : CT F) (i : grid0.Coords) (X16 : C16 F) (X17 : C17 F) (X19 : C19 F) (X20 : C20 F) (X21 : C21 F) (f : C18 F) (g : Fin k0_t1_loop.trips) :
    accs T i X16 X17 X19 X20 X21 f (g.val + 1) = group g (starts T i g.val) (word T i g) X16 X17 X19 X20 X21 (accs T i X16 X17 X19 X20 X21 f g.val) := by
  rw [accs, dif_pos g.isLt]

/-- A later step's loop. -/
theorem outer_later {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (T : CT F) (r19 : Rect S16x1024x256) (h19 : ∀ a, r19.stride a = 1) (r20 : Rect S16x1024x256) (h20 : ∀ a, r20.stride a = 1) (r21 : Rect S4x1024x1024) (h21 : ∀ a, r21.stride a = 1) (hc : ∀ g, Covers g r19 h19 r20 h20 r21 h21) (X16 : C16 F) (X17 : C17 F) (X19 : C19 F) (X20 : C20 F) (X21 : C21 F) (E : Set ℕ) (f : C18 F)
    (h4 : ¬ k0_cond4 i = 1#1) (hchk : ∀ g, k0_chk1 (starts T i g.val) (word T i g)) :
    iprop(Held (F := F) c r19 h19 r20 h20 r21 h21 X16 X17 X19 X20 X21 f ∗ Tab c T) ⊢ wp frame (wpE (defs₀ (F := F)) 𝒱 (c : Thread nD τ) bd) E
      (Scf.Loop.for k0_t1_loop k0_t1_ok 0#32 (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6))
      (fun _ => iprop(Held c r19 h19 r20 h20 r21 h21 X16 X17 X19 X20 X21 (accs T i X16 X17 X19 X20 X21 f 4) ∗ Tab c T)) := by
  have P := fun g f => group_later (𝒱 := 𝒱) c (bd := bd) i arg2 harg2 arg3 harg3 arg4 harg4 arg5 harg5 arg6 harg6 arg7 harg7 arg8 harg8 arg9 harg9 arg13 harg13 arg14 harg14 arg15 harg15 g (starts T i g.val) T r19 h19 r20 h20 r21 h21 (hc g) X16 X17 X19 X20 X21 E f h4 (hchk g)
  generalize k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 = B at P ⊢
  have key := Scf.wp_for (Fr := frame) (wpE := wpE (defs₀ (F := F)) 𝒱 (c : Thread nD τ) bd) (Es := E) k0_t1_loop.lb k0_t1_loop.ub k0_t1_loop.st k0_t1_ok (0#32 : BitVec 32) B
    (fun n r => iprop(⌜r = starts T i n⌝ ∗ Held c r19 h19 r20 h20 r21 h21 X16 X17 X19 X20 X21 (accs T i X16 X17 X19 X20 X21 f n) ∗ Tab c T))
    (fun g r => by
      iintro ⟨%hr, H, HT⟩
      subst hr
      rw [starts_succ, accs_succ]
      iapply (P g _)
      isplitl [H]
      · iexact H
      · iexact HT)
    (Q := fun _ => iprop(Held c r19 h19 r20 h20 r21 h21 X16 X17 X19 X20 X21 (accs T i X16 X17 X19 X20 X21 f 4) ∗ Tab c T))
  refine BIBase.Entails.trans ?_ key
  iintro ⟨H, HT⟩
  isplitl [H HT]
  · isplitr
    · ipureintro; rfl
    isplitl [H]
    · iexact H
    · iexact HT
  · iintro %acc ⟨%hr, H, HT⟩
    isplitl [H]
    · iexact H
    · iexact HT

/-- Group `g` with `n` groups done. -/
def slotAt (c : Dev nD) (V1 : W1 F) (V3 : W3 F) (V2 : W2 F) (n : ℕ) (g : Fin k0_t1_loop.trips) : sProp 𝕄 :=
  if g.val < n then Landed c g V1 V3 V2 else InFlight c g V1 V3 V2

theorem slots_take (c : Dev nD) (V1 : W1 F) (V3 : W3 F) (V2 : W2 F) (g : Fin k0_t1_loop.trips) :
    bigSep Finset.univ (slotAt c V1 V3 V2 g.val) = iprop(InFlight c g V1 V3 V2 ∗ bigSep (Finset.univ.erase g) (slotAt c V1 V3 V2 g.val)) := by
  rw [bigSep_erase (Finset.mem_univ g), show slotAt c V1 V3 V2 g.val g = InFlight c g V1 V3 V2 from if_neg (lt_irrefl _)]; rfl

theorem slots_put (c : Dev nD) (V1 : W1 F) (V3 : W3 F) (V2 : W2 F) (g : Fin k0_t1_loop.trips) :
    iprop(Landed c g V1 V3 V2 ∗ bigSep (Finset.univ.erase g) (slotAt c V1 V3 V2 g.val)) = bigSep Finset.univ (slotAt c V1 V3 V2 (g.val + 1)) := by
  rw [bigSep_erase (Finset.mem_univ g), show slotAt c V1 V3 V2 (g.val + 1) g = Landed c g V1 V3 V2 from if_pos (Nat.lt_succ_self _)]
  congr 1
  refine bigSep_congr fun j hj => ?_
  unfold slotAt
  have : j.val ≠ g.val := fun e => Finset.ne_of_mem_erase hj (Fin.ext e)
  by_cases h : j.val < g.val
  · rw [if_pos h, if_pos (by omega)]
  · rw [if_neg h, if_neg (by omega)]

/-- The first step's loop: each group's copies awaited as it is reached. -/
theorem outer_first {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (T : CT F) (V1 : W1 F) (V3 : W3 F) (V2 : W2 F) (X16 : C16 F) (X17 : C17 F) (f : C18 F)
    (h4 : k0_cond4 i = 1#1) (hchk : ∀ g, k0_chk1 (starts T i g.val) (word T i g)) (W : Finset (SemLoc sig × Unit)) :
    iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} f) ∗ bigSep Finset.univ (slotAt (F := F) c V1 V3 V2 0) ∗ Tab c T ∗ owes (c : Thread nD τ) 0 W) ⊢ wp frame (wpE (defs₀ (F := F)) 𝒱 (c : Thread nD τ) bd) Set.univ
      (Scf.Loop.for k0_t1_loop k0_t1_ok 0#32 (k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6))
      (fun _ => iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (accs T i X16 X17 V1 V3 V2 f 4)) ∗ bigSep Finset.univ (slotAt c V1 V3 V2 4) ∗ Tab c T ∗ (∃ W', owes (c : Thread nD τ) 0 W'))) := by
  have P := fun g f W => group_first (𝒱 := 𝒱) c (bd := bd) i arg2 harg2 arg3 harg3 arg4 harg4 arg5 harg5 arg6 harg6 arg7 harg7 arg8 harg8 arg9 harg9 arg13 harg13 arg14 harg14 arg15 harg15 g (starts T i g.val) T V1 V3 V2 X16 X17 f h4 (hchk g) W
  generalize k0_t1_body (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 = B at P ⊢
  have key := Scf.wp_for (Fr := frame) (wpE := wpE (defs₀ (F := F)) 𝒱 (c : Thread nD τ) bd) (Es := Set.univ) k0_t1_loop.lb k0_t1_loop.ub k0_t1_loop.st k0_t1_ok (0#32 : BitVec 32) B
    (fun n r => iprop(⌜r = starts T i n⌝ ∗ (((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (accs T i X16 X17 V1 V3 V2 f n)) ∗ bigSep Finset.univ (slotAt c V1 V3 V2 n) ∗ Tab c T ∗ (∃ W', owes (c : Thread nD τ) 0 W')))
    (fun g r => by
      iintro ⟨%hr, H0, H1, H2, HS, HT, %W, HW⟩
      subst hr
      icases (Entails.of_eq (slots_take c V1 V3 V2 g)) $$ HS with ⟨HG, HS⟩
      iapply (wp_wand_r frame (wpE (defs₀ (F := F)) 𝒱 (c : Thread nD τ) bd) Set.univ)
      isplitl [H0 H1 H2 HG HT HW]
      · iapply (P g _ W)
        sl_close
      · iintro %r ⟨%hr, H0, H1, H2, HG, HT, HW⟩
        rw [starts_succ, accs_succ]
        isplitr
        · ipureintro; exact hr
        ihave HS := (Entails.of_eq (slots_put c V1 V3 V2 g)) $$ [HG HS]
        · sl_close
        icases HW with ⟨%W', HW⟩
        iframe H0 H1 H2 HS HT
        iexists W'
        iexact HW)
    (Q := fun _ => iprop((((Memref.whole cc0_scratch0).view.loc (c : Thread nD τ)) ↦[(Memref.whole cc0_scratch0).view.set]{fullShare} X16) ∗ (((Memref.whole cc0_scratch1).view.loc (c : Thread nD τ)) ↦[(Memref.whole cc0_scratch1).view.set]{fullShare} X17) ∗ (((Memref.whole cc0_scratch2).view.loc (c : Thread nD τ)) ↦[(Memref.whole cc0_scratch2).view.set]{fullShare} (accs T i X16 X17 V1 V3 V2 f 4)) ∗ bigSep Finset.univ (slotAt c V1 V3 V2 4) ∗ Tab c T ∗ (∃ W', owes (c : Thread nD τ) 0 W')))
  refine BIBase.Entails.trans ?_ key
  iintro ⟨H0, H1, H2, HS, HT, HW⟩
  isplitl [H0 H1 H2 HS HT HW]
  · isplitr
    · ipureintro; rfl
    iframe H0 H1 H2 HS HT
    iexists W
    iexact HW
  · iintro %acc ⟨%hr, H0, H1, H2, HS, HT, HW⟩
    iframe H0 H1 H2 HS HT
    iexact HW

end Cert.KernelIdeal.Moe
-- ==== Proof.Step.lean ====
/-
  A step of the grid after the first: the tile is prepared, the groups run, the result is written.
-/
module

public import proofs.«01_k».proof.Proof.Outer
public import Idealize.ShloMosaic.Lib.Exec
public import Idealize.ShloMosaic.Lib.Tactic
public import Idealize.ShloMosaic.Lib.LoopRemainder

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- A tile's rows in expert order, its weights in that order and the cleared accumulator, as the kernel prepares them. -/
def sortedP (v15 : Vec F S8x64x128 .f32) (v29 : Vec F S8x64x1024 .bf16) : C16 F :=
  (Memref.whole cc0_scratch0).view.writes (Elt F) (Memref.whole cc0_scratch0).view.junk [⟨Rect.unit (s := S512x1024) ![0, 0] S512x1024.size inb_S512x1024_S512x1024_0_0, k0_pay22 v15 v29⟩]
def combP (v15 : Vec F S8x64x128 .f32) : C17 F :=
  (Memref.whole cc0_scratch1).view.writes (Elt F) (Memref.whole cc0_scratch1).view.junk [⟨Rect.unit (s := S512x128) ![0, 0] S512x128.size inb_S512x128_S512x128_0_0, k0_pay1 (k0_pay23 v15)⟩]
def zeroP : C18 F :=
  (Memref.whole cc0_scratch2).view.writes (Elt F) (Memref.whole cc0_scratch2).view.junk [⟨Rect.unit (s := S512x1024) ![0, 0] S512x1024.size inb_S512x1024_S512x1024_0_0, k0_pay2⟩]
/-- The same of the last tile. -/
def sortedS (v15 : Vec F S512x128 .f32) (v28 : Vec F S512x1024 .bf16) : C16 F :=
  (Memref.whole cc0_scratch0).view.writes (Elt F) (Memref.whole cc0_scratch0).view.junk [⟨Rect.unit (s := S512x1024) ![0, 0] S512x1024.size inb_S512x1024_S512x1024_0_0, k0_pay26 v15 v28⟩]
def combS (v15 : Vec F S512x128 .f32) : C17 F :=
  (Memref.whole cc0_scratch1).view.writes (Elt F) (Memref.whole cc0_scratch1).view.junk [⟨Rect.unit (s := S512x128) ![0, 0] S512x128.size inb_S512x128_S512x128_0_0, k0_pay3 (k0_pay27 v15)⟩]
def zeroS : C18 F :=
  (Memref.whole cc0_scratch2).view.writes (Elt F) (Memref.whole cc0_scratch2).view.junk [⟨Rect.unit (s := S512x1024) ![0, 0] S512x1024.size inb_S512x1024_S512x1024_0_0, k0_pay4⟩]

/-- The accumulator read back. -/
def readAcc (f : C18 F) : Vec F S512x1024 .f32 :=
  (Memref.whole cc0_scratch2).view.readAt (Elt F) (Rect.unit (s := S512x1024) ![0, 0] S512x1024.size inb_S512x1024_S512x1024_0_0).toLoadRect f

/-- WHAT A PROMPT TILE WRITES: of the tile's operands as the kernel loads them. -/
def outP (T : CT F) (i : grid0.Coords) (V1 : W1 F) (V3 : W3 F) (V2 : W2 F) (v2 : Vec F S8x64x1024 .f32) (v3 : Vec F S8x64x1024 .bf16) (v4 : Vec F S8x64x128 .f32) (v5 : Vec F S8x1024 .f32) (v13 : Vec F S1x1024 .f32) : Vec F S8x64x1024 .f32 :=
  k0_pay19 (k0_pay140 v4 (readAcc (accs T i (sortedP v4 v3) (combP v4) V1 V3 V2 zeroP 4)) v2 v5) (k0_pay141 v13)

/-- WHAT THE SAMPLE TILE WRITES. -/
def outS (T : CT F) (i : grid0.Coords) (V1 : W1 F) (V3 : W3 F) (V2 : W2 F) (v6 : Vec F S512x1024 .f32) (v7 : Vec F S512x1024 .bf16) (v8 : Vec F S512x128 .f32) (v9 : Vec F S128x1024 .f32) (v13 : Vec F S1x1024 .f32) : Vec F S512x1024 .f32 :=
  k0_pay142 v8 (readAcc (accs T i (sortedS v8 v7) (combS v8) V1 V3 V2 zeroS 4)) v6 v9 v13

/-- A prompt tile after the first. -/
theorem mid {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (T : CT F) (V1 : W1 F) (V3 : W3 F) (V2 : W2 F) (Y2 : BufTy.Contents (Elt F) arg2.view.ty) (Y3 : BufTy.Contents (Elt F) arg3.view.ty) (Y4 : BufTy.Contents (Elt F) arg4.view.ty) (Y5 : BufTy.Contents (Elt F) arg5.view.ty) (Y6 : BufTy.Contents (Elt F) arg6.view.ty) (Y7 : BufTy.Contents (Elt F) arg7.view.ty) (Y8 : BufTy.Contents (Elt F) arg8.view.ty) (Y9 : BufTy.Contents (Elt F) arg9.view.ty) (Y13 : BufTy.Contents (Elt F) arg13.view.ty) (Y14 : BufTy.Contents (Elt F) arg14.view.ty)
    (f16 : C16 F) (f17 : C17 F) (f18 : C18 F) (E : Set ℕ)
    (h1 : ¬ Scalar.cmpi .ne (Scalar.extui (Scalar.cmpi .eq (BitVec.ofNat 32 (i 0).val) 0#32)) 0#32 = 1#1) (h2 : Scalar.cmpi .ne (Scalar.extui (Scalar.xori (Scalar.cmpi .eq (BitVec.ofNat 32 (i 0).val) 32#32) 1#1)) 0#32 = 1#1) (h3 : ¬ Scalar.cmpi .ne (Scalar.extui (Scalar.cmpi .eq (BitVec.ofNat 32 (i 0).val) 32#32)) 0#32 = 1#1) (h4 : ¬ k0_cond4 i = 1#1) (h11 : k0_cond11 i = 1#1) (h12 : ¬ k0_cond12 i = 1#1)
    (hchk : ∀ g, k0_chk1 (starts T i g.val) (word T i g)) :
    iprop((arg2.view.loc (c : Thread nD τ) ↦[arg2.view.set]{fullShare} Y2) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg13.view.loc (c : Thread nD τ) ↦[arg13.view.set]{fullShare} Y13) ∗ (arg14.view.loc (c : Thread nD τ) ↦[arg14.view.set]{fullShare} Y14) ∗ (((Memref.whole cc0_scratch0).view.loc (c : Thread nD τ)) ↦[(Memref.whole cc0_scratch0).view.set]{fullShare} f16) ∗ (((Memref.whole cc0_scratch1).view.loc (c : Thread nD τ)) ↦[(Memref.whole cc0_scratch1).view.set]{fullShare} f17) ∗ (((Memref.whole cc0_scratch2).view.loc (c : Thread nD τ)) ↦[(Memref.whole cc0_scratch2).view.set]{fullShare} f18) ∗ (((Memref.whole cc0_scratch3).slice (Rect.whole S16x1024x256) (fun _ => rfl)).view.loc (c : Thread nD τ) ↦[((Memref.whole cc0_scratch3).slice (Rect.whole S16x1024x256) (fun _ => rfl)).view.set]{fullShare} V1) ∗ (((Memref.whole cc0_scratch4).slice (Rect.whole S16x1024x256) (fun _ => rfl)).view.loc (c : Thread nD τ) ↦[((Memref.whole cc0_scratch4).slice (Rect.whole S16x1024x256) (fun _ => rfl)).view.set]{fullShare} V3) ∗ (((Memref.whole cc0_scratch5).slice (Rect.whole S4x1024x1024) (fun _ => rfl)).view.loc (c : Thread nD τ) ↦[((Memref.whole cc0_scratch5).slice (Rect.whole S4x1024x1024) (fun _ => rfl)).view.set]{fullShare} V2) ∗ Tab c T) ⊢ wp frame (wpE (defs₀ (F := F)) 𝒱 (c : Thread nD τ) bd) E
      (cc0_moe_skel (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) (fun _ => iprop((arg2.view.loc (c : Thread nD τ) ↦[arg2.view.set]{fullShare} Y2) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg13.view.loc (c : Thread nD τ) ↦[arg13.view.set]{fullShare} Y13) ∗ (((Memref.whole cc0_scratch3).slice (Rect.whole S16x1024x256) (fun _ => rfl)).view.loc (c : Thread nD τ) ↦[((Memref.whole cc0_scratch3).slice (Rect.whole S16x1024x256) (fun _ => rfl)).view.set]{fullShare} V1) ∗ (((Memref.whole cc0_scratch4).slice (Rect.whole S16x1024x256) (fun _ => rfl)).view.loc (c : Thread nD τ) ↦[((Memref.whole cc0_scratch4).slice (Rect.whole S16x1024x256) (fun _ => rfl)).view.set]{fullShare} V3) ∗ (((Memref.whole cc0_scratch5).slice (Rect.whole S4x1024x1024) (fun _ => rfl)).view.loc (c : Thread nD τ) ↦[((Memref.whole cc0_scratch5).slice (Rect.whole S4x1024x1024) (fun _ => rfl)).view.set]{fullShare} V2) ∗ Tab c T ∗ (arg14.view.loc (c : Thread nD τ) ↦[arg14.view.set]{fullShare} (arg14.view.writes (Elt F) Y14 [⟨Rect.unit (s := S8x64x1024) ![0, 0, 0] S8x64x1024.size inb_S8x64x1024_S8x64x1024_0_0_0, outP T i V1 V3 V2 (arg2.view.readAt (Elt F) (Rect.unit (s := S8x64x1024) ![0, 0, 0] S8x64x1024.size inb_S8x64x1024_S8x64x1024_0_0_0).toLoadRect Y2) (arg3.view.readAt (Elt F) (Rect.unit (s := S8x64x1024) ![0, 0, 0] S8x64x1024.size inb_S8x64x1024_S8x64x1024_0_0_0).toLoadRect Y3) (arg4.view.readAt (Elt F) (Rect.unit (s := S8x64x128) ![0, 0, 0] S8x64x128.size inb_S8x64x128_S8x64x128_0_0_0).toLoadRect Y4) (arg5.view.readAt (Elt F) (Rect.unit (s := S8x1024) ![0, 0] S8x1024.size inb_S8x1024_S8x1024_0_0).toLoadRect Y5) (arg13.view.readAt (Elt F) (Rect.unit (s := S1x1024) ![0, 0] S1x1024.size inb_S1x1024_S1x1024_0_0).toLoadRect Y13)⟩])) ∗ (∃ f : C16 F, (((Memref.whole cc0_scratch0).view.loc (c : Thread nD τ)) ↦[(Memref.whole cc0_scratch0).view.set]{fullShare} f)) ∗ (∃ f : C17 F, (((Memref.whole cc0_scratch1).view.loc (c : Thread nD τ)) ↦[(Memref.whole cc0_scratch1).view.set]{fullShare} f)) ∗ (∃ f : C18 F, (((Memref.whole cc0_scratch2).view.loc (c : Thread nD τ)) ↦[(Memref.whole cc0_scratch2).view.set]{fullShare} f)))) := by
  have L := fun X16 X17 f => outer_later (𝒱 := 𝒱) c (bd := bd) i arg2 harg2 arg3 harg3 arg4 harg4 arg5 harg5 arg6 harg6 arg7 harg7 arg8 harg8 arg9 harg9 arg13 harg13 arg14 harg14 arg15 harg15 T (Rect.whole S16x1024x256) (fun _ => rfl) (Rect.whole S16x1024x256) (fun _ => rfl) (Rect.whole S4x1024x1024) (fun _ => rfl) (fun g => covers_whole g _ _ _) X16 X17 V1 V3 V2 E f h4 hchk
  unfold cc0_moe_skel
  iintro ⟨H2, H3, H4, H5, H6, H7, H8, H9, H13, H14, HS0, HS1, HS2, HS3, HS4, HS5, HT⟩
  sl_exec
  iapply (through (L _ _ _)) $$ [HS0 HS1 HS2 HS3 HS4 HS5 HT]
  · sl_close
  iintro %_ ⟨⟨HS0, HS1, HS3, HS4, HS5, HS2⟩, HT⟩
  sl_exec
  sl_step
  iframe H2 H3 H4 H5 H6 H7 H8 H9 H13 HS3 HS4 HS5 HT
  isplitl [H14]
  · iexact H14
  isplitl [HS0]
  · iexists _; iexact HS0
  isplitl [HS1]
  · iexists _; iexact HS1
  iexists _; iexact HS2

/-- The sample tile. -/
theorem last {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (T : CT F) (V1 : W1 F) (V3 : W3 F) (V2 : W2 F) (Y2 : BufTy.Contents (Elt F) arg2.view.ty) (Y3 : BufTy.Contents (Elt F) arg3.view.ty) (Y4 : BufTy.Contents (Elt F) arg4.view.ty) (Y5 : BufTy.Contents (Elt F) arg5.view.ty) (Y6 : BufTy.Contents (Elt F) arg6.view.ty) (Y7 : BufTy.Contents (Elt F) arg7.view.ty) (Y8 : BufTy.Contents (Elt F) arg8.view.ty) (Y9 : BufTy.Contents (Elt F) arg9.view.ty) (Y13 : BufTy.Contents (Elt F) arg13.view.ty) (Y15 : BufTy.Contents (Elt F) arg15.view.ty)
    (f16 : C16 F) (f17 : C17 F) (f18 : C18 F) (E : Set ℕ)
    (h1 : ¬ Scalar.cmpi .ne (Scalar.extui (Scalar.cmpi .eq (BitVec.ofNat 32 (i 0).val) 0#32)) 0#32 = 1#1) (h2 : ¬ Scalar.cmpi .ne (Scalar.extui (Scalar.xori (Scalar.cmpi .eq (BitVec.ofNat 32 (i 0).val) 32#32) 1#1)) 0#32 = 1#1) (h3 : Scalar.cmpi .ne (Scalar.extui (Scalar.cmpi .eq (BitVec.ofNat 32 (i 0).val) 32#32)) 0#32 = 1#1) (h4 : ¬ k0_cond4 i = 1#1) (h11 : ¬ k0_cond11 i = 1#1) (h12 : k0_cond12 i = 1#1)
    (hchk : ∀ g, k0_chk1 (starts T i g.val) (word T i g)) :
    iprop((arg2.view.loc (c : Thread nD τ) ↦[arg2.view.set]{fullShare} Y2) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg13.view.loc (c : Thread nD τ) ↦[arg13.view.set]{fullShare} Y13) ∗ (arg15.view.loc (c : Thread nD τ) ↦[arg15.view.set]{fullShare} Y15) ∗ (((Memref.whole cc0_scratch0).view.loc (c : Thread nD τ)) ↦[(Memref.whole cc0_scratch0).view.set]{fullShare} f16) ∗ (((Memref.whole cc0_scratch1).view.loc (c : Thread nD τ)) ↦[(Memref.whole cc0_scratch1).view.set]{fullShare} f17) ∗ (((Memref.whole cc0_scratch2).view.loc (c : Thread nD τ)) ↦[(Memref.whole cc0_scratch2).view.set]{fullShare} f18) ∗ (((Memref.whole cc0_scratch3).slice (Rect.whole S16x1024x256) (fun _ => rfl)).view.loc (c : Thread nD τ) ↦[((Memref.whole cc0_scratch3).slice (Rect.whole S16x1024x256) (fun _ => rfl)).view.set]{fullShare} V1) ∗ (((Memref.whole cc0_scratch4).slice (Rect.whole S16x1024x256) (fun _ => rfl)).view.loc (c : Thread nD τ) ↦[((Memref.whole cc0_scratch4).slice (Rect.whole S16x1024x256) (fun _ => rfl)).view.set]{fullShare} V3) ∗ (((Memref.whole cc0_scratch5).slice (Rect.whole S4x1024x1024) (fun _ => rfl)).view.loc (c : Thread nD τ) ↦[((Memref.whole cc0_scratch5).slice (Rect.whole S4x1024x1024) (fun _ => rfl)).view.set]{fullShare} V2) ∗ Tab c T) ⊢ wp frame (wpE (defs₀ (F := F)) 𝒱 (c : Thread nD τ) bd) E
      (cc0_moe_skel (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) (fun _ => iprop((arg2.view.loc (c : Thread nD τ) ↦[arg2.view.set]{fullShare} Y2) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg13.view.loc (c : Thread nD τ) ↦[arg13.view.set]{fullShare} Y13) ∗ (((Memref.whole cc0_scratch3).slice (Rect.whole S16x1024x256) (fun _ => rfl)).view.loc (c : Thread nD τ) ↦[((Memref.whole cc0_scratch3).slice (Rect.whole S16x1024x256) (fun _ => rfl)).view.set]{fullShare} V1) ∗ (((Memref.whole cc0_scratch4).slice (Rect.whole S16x1024x256) (fun _ => rfl)).view.loc (c : Thread nD τ) ↦[((Memref.whole cc0_scratch4).slice (Rect.whole S16x1024x256) (fun _ => rfl)).view.set]{fullShare} V3) ∗ (((Memref.whole cc0_scratch5).slice (Rect.whole S4x1024x1024) (fun _ => rfl)).view.loc (c : Thread nD τ) ↦[((Memref.whole cc0_scratch5).slice (Rect.whole S4x1024x1024) (fun _ => rfl)).view.set]{fullShare} V2) ∗ Tab c T ∗ (arg15.view.loc (c : Thread nD τ) ↦[arg15.view.set]{fullShare} (arg15.view.writes (Elt F) Y15 [⟨Rect.unit (s := S512x1024) ![0, 0] S512x1024.size inb_S512x1024_S512x1024_0_0, outS T i V1 V3 V2 (arg6.view.readAt (Elt F) (Rect.unit (s := S512x1024) ![0, 0] S512x1024.size inb_S512x1024_S512x1024_0_0).toLoadRect Y6) (arg7.view.readAt (Elt F) (Rect.unit (s := S512x1024) ![0, 0] S512x1024.size inb_S512x1024_S512x1024_0_0).toLoadRect Y7) (arg8.view.readAt (Elt F) (Rect.unit (s := S512x128) ![0, 0] S512x128.size inb_S512x128_S512x128_0_0).toLoadRect Y8) (arg9.view.readAt (Elt F) (Rect.unit (s := S128x1024) ![0, 0] S128x1024.size inb_S128x1024_S128x1024_0_0).toLoadRect Y9) (arg13.view.readAt (Elt F) (Rect.unit (s := S1x1024) ![0, 0] S1x1024.size inb_S1x1024_S1x1024_0_0).toLoadRect Y13)⟩])) ∗ (∃ f : C16 F, (((Memref.whole cc0_scratch0).view.loc (c : Thread nD τ)) ↦[(Memref.whole cc0_scratch0).view.set]{fullShare} f)) ∗ (∃ f : C17 F, (((Memref.whole cc0_scratch1).view.loc (c : Thread nD τ)) ↦[(Memref.whole cc0_scratch1).view.set]{fullShare} f)) ∗ (∃ f : C18 F, (((Memref.whole cc0_scratch2).view.loc (c : Thread nD τ)) ↦[(Memref.whole cc0_scratch2).view.set]{fullShare} f)))) := by
  have L := fun X16 X17 f => outer_later (𝒱 := 𝒱) c (bd := bd) i arg2 harg2 arg3 harg3 arg4 harg4 arg5 harg5 arg6 harg6 arg7 harg7 arg8 harg8 arg9 harg9 arg13 harg13 arg14 harg14 arg15 harg15 T (Rect.whole S16x1024x256) (fun _ => rfl) (Rect.whole S16x1024x256) (fun _ => rfl) (Rect.whole S4x1024x1024) (fun _ => rfl) (fun g => covers_whole g _ _ _) X16 X17 V1 V3 V2 E f h4 hchk
  unfold cc0_moe_skel
  iintro ⟨H2, H3, H4, H5, H6, H7, H8, H9, H13, H15, HS0, HS1, HS2, HS3, HS4, HS5, HT⟩
  sl_exec
  iapply (through (L _ _ _)) $$ [HS0 HS1 HS2 HS3 HS4 HS5 HT]
  · sl_close
  iintro %_ ⟨⟨HS0, HS1, HS3, HS4, HS5, HS2⟩, HT⟩
  sl_exec
  sl_step
  iframe H2 H3 H4 H5 H6 H7 H8 H9 H13 HS3 HS4 HS5 HT
  isplitl [H15]
  · iexact H15
  isplitl [HS0]
  · iexists _; iexact HS0
  isplitl [HS1]
  · iexists _; iexact HS1
  iexists _; iexact HS2

end Cert.KernelIdeal.Moe
-- ==== Proof.Blocks.lean ====
/-
  The weight arrays block by block: whole, they are the four groups' blocks; a copy landed leaves its block at the source's contents.
-/
module

public import proofs.«01_k».proof.Proof.Slots
public import Idealize.ShloMosaic.Lib.Ring
public import Idealize.ShloMosaic.Lib.Exec
public import Idealize.ShloMosaic.Lib.Tactic
public import Idealize.ShloMosaic.Lib.LoopRemainder

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

/-- GROUP `g` BEFORE ITS COPIES START, its blocks in the kernel's buffers at `X`, at their sources at `V`. -/
def Ready (c : Dev nD) (g : Fin k0_t1_loop.trips) (X1 : C19 F) (X3 : C20 F) (X2 : C21 F) (V1 : W1 F) (V3 : W3 F) (V2 : W2 F) : sProp 𝕄 :=
  iprop((D1 c g X1 ∗ Src1 c g V1 ∗ semVal ((c : Thread nD τ), sem1 g) 0)
    ∗ (D3 c g X3 ∗ Src3 c g V3 ∗ semVal ((c : Thread nD τ), sem3 g) 0)
    ∗ (D2 c g X2 ∗ Src2 c g V2 ∗ semVal ((c : Thread nD τ), sem2 g) 0))

theorem off2_eq : ∀ g : Fin k0_t1_loop.trips, k0_off2 g 0 = 4 * g.val ∧ k0_off2 g 1 = 0 ∧ k0_off2 g 2 = 0 := by decide +kernel
theorem off5_eq : ∀ g : Fin k0_t1_loop.trips, k0_off5 g 0 = g.val ∧ k0_off5 g 1 = 0 ∧ k0_off5 g 2 = 0 := by decide +kernel
theorem trips_eq : k0_t1_loop.trips = 4 := by decide +kernel

theorem mem_box (g : Fin k0_t1_loop.trips) (i : S16x1024x256.Idx) : i ∈ (box g).set ↔ (i 0).val / 4 = g.val := by
  rw [Rect.mem_set_unit]
  obtain ⟨h0, h1, h2⟩ := off2_eq g
  have b1 : (i 1).val < 1024 := (i 1).isLt
  have b2 : (i 2).val < 256 := (i 2).isLt
  constructor
  · intro h; have := h 0; rw [h0] at this; have s : S4x1024x256.size 0 = 4 := rfl; omega
  · intro h a
    have s0 : S4x1024x256.size 0 = 4 := rfl
    have s1 : S4x1024x256.size 1 = 1024 := rfl
    have s2 : S4x1024x256.size 2 = 256 := rfl
    match a with
    | ⟨0, _⟩ => change k0_off2 g 0 ≤ (i 0).val ∧ (i 0).val < k0_off2 g 0 + S4x1024x256.size 0; rw [h0, s0]; omega
    | ⟨1, _⟩ => change k0_off2 g 1 ≤ (i 1).val ∧ (i 1).val < k0_off2 g 1 + S4x1024x256.size 1; rw [h1, s1]; omega
    | ⟨2, _⟩ => change k0_off2 g 2 ≤ (i 2).val ∧ (i 2).val < k0_off2 g 2 + S4x1024x256.size 2; rw [h2, s2]; omega

theorem mem_box2 (g : Fin k0_t1_loop.trips) (i : S4x1024x1024.Idx) : i ∈ (box2 g).set ↔ (i 0).val = g.val := by
  rw [Rect.mem_set_unit]
  obtain ⟨h0, h1, h2⟩ := off5_eq g
  have b1 : (i 1).val < 1024 := (i 1).isLt
  have b2 : (i 2).val < 1024 := (i 2).isLt
  constructor
  · intro h; have := h 0; rw [h0] at this; have s : S1x1024x1024.size 0 = 1 := rfl; omega
  · intro h a
    have s0 : S1x1024x1024.size 0 = 1 := rfl
    have s1 : S1x1024x1024.size 1 = 1024 := rfl
    have s2 : S1x1024x1024.size 2 = 1024 := rfl
    match a with
    | ⟨0, _⟩ => change k0_off5 g 0 ≤ (i 0).val ∧ (i 0).val < k0_off5 g 0 + S1x1024x1024.size 0; rw [h0, s0]; omega
    | ⟨1, _⟩ => change k0_off5 g 1 ≤ (i 1).val ∧ (i 1).val < k0_off5 g 1 + S1x1024x1024.size 1; rw [h1, s1]; omega
    | ⟨2, _⟩ => change k0_off5 g 2 ≤ (i 2).val ∧ (i 2).val < k0_off5 g 2 + S1x1024x1024.size 2; rw [h2, s2]; omega

theorem box_disjoint (g g' : Fin k0_t1_loop.trips) (h : g ≠ g') : Disjoint (box g).set (box g').set :=
  Finset.disjoint_left.mpr fun i hi hi' => h (Fin.ext (((mem_box g i).mp hi).symm.trans ((mem_box g' i).mp hi')))
theorem box2_disjoint (g g' : Fin k0_t1_loop.trips) (h : g ≠ g') : Disjoint (box2 g).set (box2 g').set :=
  Finset.disjoint_left.mpr fun i hi hi' => h (Fin.ext (((mem_box2 g i).mp hi).symm.trans ((mem_box2 g' i).mp hi')))
theorem box_cover : Finset.univ.biUnion (fun g => (box g).set) = (Finset.univ : Finset S16x1024x256.Idx) :=
  Finset.eq_univ_of_forall fun i => Finset.mem_biUnion.mpr ⟨⟨(i 0).val / 4, by rw [trips_eq]; have : (i 0).val < 16 := (i 0).isLt; omega⟩, Finset.mem_univ _, (mem_box _ i).mpr rfl⟩
theorem box2_cover : Finset.univ.biUnion (fun g => (box2 g).set) = (Finset.univ : Finset S4x1024x1024.Idx) :=
  Finset.eq_univ_of_forall fun i => Finset.mem_biUnion.mpr ⟨⟨(i 0).val, by rw [trips_eq]; exact (i 0).isLt⟩, Finset.mem_univ _, (mem_box2 _ i).mpr rfl⟩

/-- The six arrays whole, and the twelve semaphores at zero. -/
abbrev Whole (c : Dev nD) (X1 : C19 F) (X3 : C20 F) (X2 : C21 F) (V1 : W1 F) (V3 : W3 F) (V2 : W2 F) : sProp 𝕄 :=
  iprop((((Memref.whole cc0_scratch3).view.loc (c : Thread nD τ) ↦{fullShare} X1)
      ∗ ((Memref.whole main_arg12).view.loc (c : Thread nD τ) ↦{fullShare} V1) ∗ bigSep Finset.univ (fun g => semVal ((c : Thread nD τ), sem1 g) 0))
    ∗ (((Memref.whole cc0_scratch4).view.loc (c : Thread nD τ) ↦{fullShare} X3)
      ∗ ((Memref.whole main_arg13).view.loc (c : Thread nD τ) ↦{fullShare} V3) ∗ bigSep Finset.univ (fun g => semVal ((c : Thread nD τ), sem3 g) 0))
    ∗ (((Memref.whole cc0_scratch5).view.loc (c : Thread nD τ) ↦{fullShare} X2)
      ∗ ((Memref.whole main_v58).view.loc (c : Thread nD τ) ↦{fullShare} V2) ∗ bigSep Finset.univ (fun g => semVal ((c : Thread nD τ), sem2 g) 0)))

/-- A buffer whole is its blocks. -/
theorem blocks_of (c : Dev nD) (b : Ref sig .tc) {n : ℕ} (r : Fin n → Rect b.ty.shape) (hs : ∀ g a, (r g).stride a = 1)
    (hd : ∀ g g', g ≠ g' → Disjoint (r g).set (r g').set) (hc : Finset.univ.biUnion (fun g => (r g).set) = (Finset.univ : Finset b.ty.shape.Idx))
    (X : BufTy.Contents (Elt F) (Memref.whole b).view.ty) :
    ((Memref.whole b).view.loc (c : Thread nD τ) ↦{fullShare} X : sProp 𝕄)
      = bigSep Finset.univ fun g => ((Memref.whole b).slice (r g) (hs g)).view.loc (c : Thread nD τ) ↦[((Memref.whole b).slice (r g) (hs g)).view.set]{fullShare} X :=
  (Ring.pointsTo_blocks (ℓ := (Memref.whole b).view.loc (c : Thread nD τ)) (fun g => (r g).set) hd hc X).trans
    (bigSep_congr fun g _ => by rw [show ((Memref.whole b).slice (r g) (hs g)).view.set = (r g).set from View.set_slice_whole _ _])

theorem whole_ready (c : Dev nD) (X1 : C19 F) (X3 : C20 F) (X2 : C21 F) (V1 : W1 F) (V3 : W3 F) (V2 : W2 F) :
    bigSep Finset.univ (fun g => Ready c g X1 X3 X2 V1 V3 V2) = (Whole c X1 X3 X2 V1 V3 V2 : sProp 𝕄) := by
  unfold Ready
  have e1 : (((Memref.whole cc0_scratch3).view.loc (c : Thread nD τ) ↦{fullShare} X1 : sProp 𝕄)) = (bigSep Finset.univ fun g => D1 c g X1 : sProp 𝕄) :=
    blocks_of c cc0_scratch3 box (fun _ _ => rfl) box_disjoint box_cover X1
  have e2 : (((Memref.whole main_arg12).view.loc (c : Thread nD τ) ↦{fullShare} V1 : sProp 𝕄)) = (bigSep Finset.univ fun g => Src1 c g V1 : sProp 𝕄) :=
    blocks_of c main_arg12 box (fun _ _ => rfl) box_disjoint box_cover V1
  have e3 : (((Memref.whole cc0_scratch4).view.loc (c : Thread nD τ) ↦{fullShare} X3 : sProp 𝕄)) = (bigSep Finset.univ fun g => D3 c g X3 : sProp 𝕄) :=
    blocks_of c cc0_scratch4 box (fun _ _ => rfl) box_disjoint box_cover X3
  have e4 : (((Memref.whole main_arg13).view.loc (c : Thread nD τ) ↦{fullShare} V3 : sProp 𝕄)) = (bigSep Finset.univ fun g => Src3 c g V3 : sProp 𝕄) :=
    blocks_of c main_arg13 box (fun _ _ => rfl) box_disjoint box_cover V3
  have e5 : (((Memref.whole cc0_scratch5).view.loc (c : Thread nD τ) ↦{fullShare} X2 : sProp 𝕄)) = (bigSep Finset.univ fun g => D2 c g X2 : sProp 𝕄) :=
    blocks_of c cc0_scratch5 box2 (fun _ _ => rfl) box2_disjoint box2_cover X2
  have e6 : (((Memref.whole main_v58).view.loc (c : Thread nD τ) ↦{fullShare} V2 : sProp 𝕄)) = (bigSep Finset.univ fun g => Src2 c g V2 : sProp 𝕄) :=
    blocks_of c main_v58 box2 (fun _ _ => rfl) box2_disjoint box2_cover V2
  unfold Whole
  rw [e1, e2, e3, e4, e5, e6]
  refine (bigSep_sep _ _ _).trans (congrArg₂ _ ((bigSep_sep _ _ _).trans (congrArg₂ _ rfl (bigSep_sep _ _ _)))
    ((bigSep_sep _ _ _).trans (congrArg₂ _ ((bigSep_sep _ _ _).trans (congrArg₂ _ rfl (bigSep_sep _ _ _))) ((bigSep_sep _ _ _).trans (congrArg₂ _ rfl (bigSep_sep _ _ _))))))

/-- A whole write through a view of what another view reads leaves the view's elements so. -/
theorem landed {sp : Space} {s : Shape} {e : EltTy} (c : Dev nD) (M : Memref sig .tc sp s e) (D X : BufTy.Contents (Elt F) M.view.ty) (pay : s.Idx → Elt F e)
    (hp : ∀ x, pay x = M.view.read (Elt F) X x) :
    (M.view.loc (c : Thread nD τ) ↦[M.view.set]{fullShare} M.view.writes (Elt F) D [⟨Rect.whole s, pay⟩] : sProp 𝕄) = (M.view.loc (c : Thread nD τ) ↦[M.view.set]{fullShare} X) :=
  pointsTo_congr fun i hi => by
    obtain ⟨x, -, rfl⟩ := Finset.mem_map.mp hi
    rw [View.writes_singleton, show M.view.emb x = (M.view.slice (Rect.whole s)).emb x by simp, View.write_emb_of_mem _ _ (Finset.mem_univ _)]
    rw [hp]; simp [View.read_apply]

/-- The same under a squeeze of the view. -/
theorem landedSq {sp : Space} {s s' : Shape} {e : EltTy} (c : Dev nD) (M : Memref sig .tc sp s e) (h : s.Squeezes s') (D X : BufTy.Contents (Elt F) M.view.ty) (pay : s'.Idx → Elt F e)
    (hp : ∀ x, pay x = (M.squeeze s' h).view.read (Elt F) X x) :
    ((M.squeeze s' h).view.loc (c : Thread nD τ) ↦[(M.squeeze s' h).view.set]{fullShare} (M.squeeze s' h).view.writes (Elt F) D [⟨Rect.whole s', pay⟩] : sProp 𝕄) = (M.view.loc (c : Thread nD τ) ↦[M.view.set]{fullShare} X) := by
  rw [landed c (M.squeeze s' h) D X pay hp]
  congr 1
  exact View.set_reshape _ _

theorem squeezed {sp : Space} {s s' : Shape} {e : EltTy} (c : Dev nD) (M : Memref sig .tc sp s e) (h : s.Squeezes s') (X : BufTy.Contents (Elt F) M.view.ty) :
    ((M.squeeze s' h).view.loc (c : Thread nD τ) ↦[(M.squeeze s' h).view.set]{fullShare} X : sProp 𝕄) = (M.view.loc (c : Thread nD τ) ↦[M.view.set]{fullShare} X) := by
  congr 1
  exact View.set_reshape _ _

end Cert.KernelIdeal.Moe
-- ==== Proof.Start.lean ====
/-
  The copies as they start, each named by its group.
-/
module

public import proofs.«01_k».proof.Proof.Blocks
public import Idealize.ShloMosaic.Lib.Exec
public import Idealize.ShloMosaic.Lib.Tactic
public import Idealize.ShloMosaic.Lib.LoopRemainder

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

theorem fly1 (c : Dev nD) (g : Fin k0_t1_loop.trips) (o2 : Fin 3 → ℕ) (b2 : ∀ a, o2 a + S4x1024x256.size a ≤ S16x1024x256.size a) (e2 : k0_off2 g = o2) (sm : SemLoc sig) (hsm : sem1 g = sm) (D : C19 F) (V : W1 F) (pay : ((Rect.unit (s := S16x1024x256) o2 S4x1024x256.size b2).shape).Idx → Elt F .bf16) (hp : ∀ x, pay x = ReadAs.same.apply (View.read (Elt F) ((Memref.whole main_arg12).slice (Rect.unit (s := S16x1024x256) o2 S4x1024x256.size b2) (fun _ => rfl)).view V) x) :
    (Transfers.Flight countersEmb (c : Thread nD τ) sm default 65536
      iprop((((Memref.whole cc0_scratch3).slice (Rect.unit (s := S16x1024x256) o2 S4x1024x256.size b2) (fun _ => rfl)).view.loc (c : Thread nD τ) ↦[((Memref.whole cc0_scratch3).slice (Rect.unit (s := S16x1024x256) o2 S4x1024x256.size b2) (fun _ => rfl)).view.set]{fullShare} ((Memref.whole cc0_scratch3).slice (Rect.unit (s := S16x1024x256) o2 S4x1024x256.size b2) (fun _ => rfl)).view.writes (Elt F) D [⟨Rect.whole (Rect.unit (s := S16x1024x256) o2 S4x1024x256.size b2).shape, pay⟩])
        ∗ (((Memref.whole main_arg12).slice (Rect.unit (s := S16x1024x256) o2 S4x1024x256.size b2) (fun _ => rfl)).view.loc (c : Thread nD τ) ↦[((Memref.whole main_arg12).slice (Rect.unit (s := S16x1024x256) o2 S4x1024x256.size b2) (fun _ => rfl)).view.set]{fullShare} V)) : sProp 𝕄) ⊢ Transfers.Flight countersEmb (c : Thread nD τ) (sem1 g) default 65536 iprop(D1 c g V ∗ Src1 c g V) := by
  subst hsm; subst e2
  have h1 := landed c ((Memref.whole cc0_scratch3).slice (Rect.unit (s := S16x1024x256) (k0_off2 g) S4x1024x256.size b2) (fun _ => rfl)) D V pay hp
  have h2 : ((((Memref.whole main_arg12).slice (Rect.unit (s := S16x1024x256) (k0_off2 g) S4x1024x256.size b2) (fun _ => rfl)).view.loc (c : Thread nD τ) ↦[((Memref.whole main_arg12).slice (Rect.unit (s := S16x1024x256) (k0_off2 g) S4x1024x256.size b2) (fun _ => rfl)).view.set]{fullShare} V) : sProp 𝕄) = Src1 c g V := rfl
  exact Transfers.Flight_mono _ _ (BI.sep_mono (Entails.of_eq h1) (Entails.of_eq h2))

theorem fly3 (c : Dev nD) (g : Fin k0_t1_loop.trips) (o2 : Fin 3 → ℕ) (b2 : ∀ a, o2 a + S4x1024x256.size a ≤ S16x1024x256.size a) (e2 : k0_off2 g = o2) (sm : SemLoc sig) (hsm : sem3 g = sm) (D : C20 F) (V : W3 F) (pay : ((Rect.unit (s := S16x1024x256) o2 S4x1024x256.size b2).shape).Idx → Elt F .bf16) (hp : ∀ x, pay x = ReadAs.same.apply (View.read (Elt F) ((Memref.whole main_arg13).slice (Rect.unit (s := S16x1024x256) o2 S4x1024x256.size b2) (fun _ => rfl)).view V) x) :
    (Transfers.Flight countersEmb (c : Thread nD τ) sm default 65536
      iprop((((Memref.whole cc0_scratch4).slice (Rect.unit (s := S16x1024x256) o2 S4x1024x256.size b2) (fun _ => rfl)).view.loc (c : Thread nD τ) ↦[((Memref.whole cc0_scratch4).slice (Rect.unit (s := S16x1024x256) o2 S4x1024x256.size b2) (fun _ => rfl)).view.set]{fullShare} ((Memref.whole cc0_scratch4).slice (Rect.unit (s := S16x1024x256) o2 S4x1024x256.size b2) (fun _ => rfl)).view.writes (Elt F) D [⟨Rect.whole (Rect.unit (s := S16x1024x256) o2 S4x1024x256.size b2).shape, pay⟩])
        ∗ (((Memref.whole main_arg13).slice (Rect.unit (s := S16x1024x256) o2 S4x1024x256.size b2) (fun _ => rfl)).view.loc (c : Thread nD τ) ↦[((Memref.whole main_arg13).slice (Rect.unit (s := S16x1024x256) o2 S4x1024x256.size b2) (fun _ => rfl)).view.set]{fullShare} V)) : sProp 𝕄) ⊢ Transfers.Flight countersEmb (c : Thread nD τ) (sem3 g) default 65536 iprop(D3 c g V ∗ Src3 c g V) := by
  subst hsm; subst e2
  have h1 := landed c ((Memref.whole cc0_scratch4).slice (Rect.unit (s := S16x1024x256) (k0_off2 g) S4x1024x256.size b2) (fun _ => rfl)) D V pay hp
  have h2 : ((((Memref.whole main_arg13).slice (Rect.unit (s := S16x1024x256) (k0_off2 g) S4x1024x256.size b2) (fun _ => rfl)).view.loc (c : Thread nD τ) ↦[((Memref.whole main_arg13).slice (Rect.unit (s := S16x1024x256) (k0_off2 g) S4x1024x256.size b2) (fun _ => rfl)).view.set]{fullShare} V) : sProp 𝕄) = Src3 c g V := rfl
  exact Transfers.Flight_mono _ _ (BI.sep_mono (Entails.of_eq h1) (Entails.of_eq h2))

theorem fly2 (c : Dev nD) (g : Fin k0_t1_loop.trips) (o5 : Fin 3 → ℕ) (b5 : ∀ a, o5 a + S1x1024x1024.size a ≤ S4x1024x1024.size a) (e5 : k0_off5 g = o5) (sm : SemLoc sig) (hsm : sem2 g = sm) (D : C21 F) (V : W2 F) (pay : (S1024x1024).Idx → Elt F .bf16) (hp : ∀ x, pay x = ReadAs.same.apply (View.read (Elt F) (((Memref.whole main_v58).slice (Rect.unit (s := S4x1024x1024) o5 S1x1024x1024.size b5) (fun _ => rfl)).squeeze S1024x1024 squeezes_S1x1024x1024_S1024x1024).view V) x) :
    (Transfers.Flight countersEmb (c : Thread nD τ) sm default 65536
      iprop(((((Memref.whole cc0_scratch5).slice (Rect.unit (s := S4x1024x1024) o5 S1x1024x1024.size b5) (fun _ => rfl)).squeeze S1024x1024 squeezes_S1x1024x1024_S1024x1024).view.loc (c : Thread nD τ) ↦[(((Memref.whole cc0_scratch5).slice (Rect.unit (s := S4x1024x1024) o5 S1x1024x1024.size b5) (fun _ => rfl)).squeeze S1024x1024 squeezes_S1x1024x1024_S1024x1024).view.set]{fullShare} (((Memref.whole cc0_scratch5).slice (Rect.unit (s := S4x1024x1024) o5 S1x1024x1024.size b5) (fun _ => rfl)).squeeze S1024x1024 squeezes_S1x1024x1024_S1024x1024).view.writes (Elt F) D [⟨Rect.whole S1024x1024, pay⟩])
        ∗ ((((Memref.whole main_v58).slice (Rect.unit (s := S4x1024x1024) o5 S1x1024x1024.size b5) (fun _ => rfl)).squeeze S1024x1024 squeezes_S1x1024x1024_S1024x1024).view.loc (c : Thread nD τ) ↦[(((Memref.whole main_v58).slice (Rect.unit (s := S4x1024x1024) o5 S1x1024x1024.size b5) (fun _ => rfl)).squeeze S1024x1024 squeezes_S1x1024x1024_S1024x1024).view.set]{fullShare} V)) : sProp 𝕄) ⊢ Transfers.Flight countersEmb (c : Thread nD τ) (sem2 g) default 65536 iprop(D2 c g V ∗ Src2 c g V) := by
  subst hsm; subst e5
  have h1 := landedSq c ((Memref.whole cc0_scratch5).slice (Rect.unit (s := S4x1024x1024) (k0_off5 g) S1x1024x1024.size b5) (fun _ => rfl)) squeezes_S1x1024x1024_S1024x1024 D V pay hp
  have h2 := squeezed c ((Memref.whole main_v58).slice (Rect.unit (s := S4x1024x1024) (k0_off5 g) S1x1024x1024.size b5) (fun _ => rfl)) squeezes_S1x1024x1024_S1024x1024 V
  exact Transfers.Flight_mono _ _ (BI.sep_mono (Entails.of_eq h1) (Entails.of_eq h2))

/-- A group's blocks at the offsets the copies name. -/
theorem ready_lit (c : Dev nD) (g : Fin k0_t1_loop.trips) (o2 : Fin 3 → ℕ) (b2 : ∀ a, o2 a + S4x1024x256.size a ≤ S16x1024x256.size a) (e2 : k0_off2 g = o2) (o5 : Fin 3 → ℕ) (b5 : ∀ a, o5 a + S1x1024x1024.size a ≤ S4x1024x1024.size a) (e5 : k0_off5 g = o5) (q0 : Fin 2 → ℕ) (p0 : ∀ a, q0 a + S1x1.size a ≤ S3x4.size a) (t0 : k0_off1 g = q0) (q1 : Fin 2 → ℕ) (p1 : ∀ a, q1 a + S1x1.size a ≤ S3x4.size a) (t1 : k0_off3 g = q1) (q2 : Fin 2 → ℕ) (p2 : ∀ a, q2 a + S1x1.size a ≤ S3x4.size a) (t2 : k0_off4 g = q2) (X1 : C19 F) (X3 : C20 F) (X2 : C21 F) (V1 : W1 F) (V3 : W3 F) (V2 : W2 F) :
    (Ready c g X1 X3 X2 V1 V3 V2 : sProp 𝕄) ⊢ iprop((((Memref.whole cc0_scratch3).slice (Rect.unit (s := S16x1024x256) o2 S4x1024x256.size b2) (fun _ => rfl)).view.loc (c : Thread nD τ) ↦[((Memref.whole cc0_scratch3).slice (Rect.unit (s := S16x1024x256) o2 S4x1024x256.size b2) (fun _ => rfl)).view.set]{fullShare} X1) ∗ (((Memref.whole main_arg12).slice (Rect.unit (s := S16x1024x256) o2 S4x1024x256.size b2) (fun _ => rfl)).view.loc (c : Thread nD τ) ↦[((Memref.whole main_arg12).slice (Rect.unit (s := S16x1024x256) o2 S4x1024x256.size b2) (fun _ => rfl)).view.set]{fullShare} V1) ∗ (((Memref.whole cc0_scratch4).slice (Rect.unit (s := S16x1024x256) o2 S4x1024x256.size b2) (fun _ => rfl)).view.loc (c : Thread nD τ) ↦[((Memref.whole cc0_scratch4).slice (Rect.unit (s := S16x1024x256) o2 S4x1024x256.size b2) (fun _ => rfl)).view.set]{fullShare} X3) ∗ (((Memref.whole main_arg13).slice (Rect.unit (s := S16x1024x256) o2 S4x1024x256.size b2) (fun _ => rfl)).view.loc (c : Thread nD τ) ↦[((Memref.whole main_arg13).slice (Rect.unit (s := S16x1024x256) o2 S4x1024x256.size b2) (fun _ => rfl)).view.set]{fullShare} V3) ∗ ((((Memref.whole cc0_scratch5).slice (Rect.unit (s := S4x1024x1024) o5 S1x1024x1024.size b5) (fun _ => rfl)).squeeze S1024x1024 squeezes_S1x1024x1024_S1024x1024).view.loc (c : Thread nD τ) ↦[(((Memref.whole cc0_scratch5).slice (Rect.unit (s := S4x1024x1024) o5 S1x1024x1024.size b5) (fun _ => rfl)).squeeze S1024x1024 squeezes_S1x1024x1024_S1024x1024).view.set]{fullShare} X2) ∗ ((((Memref.whole main_v58).slice (Rect.unit (s := S4x1024x1024) o5 S1x1024x1024.size b5) (fun _ => rfl)).squeeze S1024x1024 squeezes_S1x1024x1024_S1024x1024).view.loc (c : Thread nD τ) ↦[(((Memref.whole main_v58).slice (Rect.unit (s := S4x1024x1024) o5 S1x1024x1024.size b5) (fun _ => rfl)).squeeze S1024x1024 squeezes_S1x1024x1024_S1024x1024).view.set]{fullShare} V2) ∗ semVal ((c : Thread nD τ), SemLoc.dma ((cc0_scratch6.slice (Rect.unit (s := S3x4) q0 S1x1.size p0)).squeeze S_ squeezes_S1x1_S_).sem) 0 ∗ semVal ((c : Thread nD τ), SemLoc.dma ((cc0_scratch6.slice (Rect.unit (s := S3x4) q1 S1x1.size p1)).squeeze S_ squeezes_S1x1_S_).sem) 0 ∗ semVal ((c : Thread nD τ), SemLoc.dma ((cc0_scratch6.slice (Rect.unit (s := S3x4) q2 S1x1.size p2)).squeeze S_ squeezes_S1x1_S_).sem) 0) := by
  subst e2; subst e5; subst t0; subst t1; subst t2
  rw [squeezed c ((Memref.whole cc0_scratch5).slice (Rect.unit (s := S4x1024x1024) (k0_off5 g) S1x1024x1024.size b5) (fun _ => rfl)), squeezed c ((Memref.whole main_v58).slice (Rect.unit (s := S4x1024x1024) (k0_off5 g) S1x1024x1024.size b5) (fun _ => rfl))]
  unfold Ready
  iintro ⟨⟨a1, a2, a3⟩, ⟨b1, b2, b3⟩, ⟨c1, c2, c3⟩⟩
  sl_close

/-- The four groups. -/
abbrev g0 : Fin k0_t1_loop.trips := ⟨0, by decide +kernel⟩
abbrev g1 : Fin k0_t1_loop.trips := ⟨1, by decide +kernel⟩
abbrev g2 : Fin k0_t1_loop.trips := ⟨2, by decide +kernel⟩
abbrev g3 : Fin k0_t1_loop.trips := ⟨3, by decide +kernel⟩

theorem univ_four : (Finset.univ : Finset (Fin k0_t1_loop.trips)) = [g0, g1, g2, g3].toFinset := by decide +kernel

theorem four (Φ : Fin k0_t1_loop.trips → sProp 𝕄) : bigSep Finset.univ Φ = iprop(Φ g0 ∗ Φ g1 ∗ Φ g2 ∗ Φ g3) := by
  rw [BI.bigSep_eq_bigSepL_of_eq [g0, g1, g2, g3] univ_four (by decide +kernel)]; rfl

end Cert.KernelIdeal.Moe
-- ==== Proof.First.lean ====
/-
  The first step of the grid: the weights' copies start and are awaited, and the first tile is computed.
-/
module

public import proofs.«01_k».proof.Proof.Step
public import proofs.«01_k».proof.Proof.Start
public import proofs.«01_k».proof.Proof.Outer
public import Idealize.ShloMosaic.Lib.Exec
public import Idealize.ShloMosaic.Lib.Tactic
public import Idealize.ShloMosaic.Lib.LoopRemainder

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

set_option maxHeartbeats 4000000

/-- The first tile: the twelve copies start, each group's are awaited as it is reached, and at the end the weights stand
    whole in the kernel's buffers. -/
theorem first {𝒱 : Variants} (c : Dev nD) {bd : Option 𝒱.V} (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (T : CT F) (V1 : W1 F) (V3 : W3 F) (V2 : W2 F) (Y2 : BufTy.Contents (Elt F) arg2.view.ty) (Y3 : BufTy.Contents (Elt F) arg3.view.ty) (Y4 : BufTy.Contents (Elt F) arg4.view.ty) (Y5 : BufTy.Contents (Elt F) arg5.view.ty) (Y6 : BufTy.Contents (Elt F) arg6.view.ty) (Y7 : BufTy.Contents (Elt F) arg7.view.ty) (Y8 : BufTy.Contents (Elt F) arg8.view.ty) (Y9 : BufTy.Contents (Elt F) arg9.view.ty) (Y13 : BufTy.Contents (Elt F) arg13.view.ty) (Y14 : BufTy.Contents (Elt F) arg14.view.ty)
    (f16 : C16 F) (f17 : C17 F) (f18 : C18 F) (X1 : C19 F) (X3 : C20 F) (X2 : C21 F) (W : Finset (SemLoc sig × Unit))
    (h1 : Scalar.cmpi .ne (Scalar.extui (Scalar.cmpi .eq (BitVec.ofNat 32 (i 0).val) 0#32)) 0#32 = 1#1) (h2 : Scalar.cmpi .ne (Scalar.extui (Scalar.xori (Scalar.cmpi .eq (BitVec.ofNat 32 (i 0).val) 32#32) 1#1)) 0#32 = 1#1) (h3 : ¬ Scalar.cmpi .ne (Scalar.extui (Scalar.cmpi .eq (BitVec.ofNat 32 (i 0).val) 32#32)) 0#32 = 1#1) (h4 : k0_cond4 i = 1#1) (h11 : k0_cond11 i = 1#1) (h12 : ¬ k0_cond12 i = 1#1)
    (hchk : ∀ g, k0_chk1 (starts T i g.val) (word T i g)) :
    iprop((arg2.view.loc (c : Thread nD τ) ↦[arg2.view.set]{fullShare} Y2) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg13.view.loc (c : Thread nD τ) ↦[arg13.view.set]{fullShare} Y13) ∗ (arg14.view.loc (c : Thread nD τ) ↦[arg14.view.set]{fullShare} Y14) ∗ (((Memref.whole cc0_scratch0).view.loc (c : Thread nD τ)) ↦[(Memref.whole cc0_scratch0).view.set]{fullShare} f16) ∗ (((Memref.whole cc0_scratch1).view.loc (c : Thread nD τ)) ↦[(Memref.whole cc0_scratch1).view.set]{fullShare} f17) ∗ (((Memref.whole cc0_scratch2).view.loc (c : Thread nD τ)) ↦[(Memref.whole cc0_scratch2).view.set]{fullShare} f18) ∗ Tab c T ∗ owes (c : Thread nD τ) 0 W ∗ Whole c X1 X3 X2 V1 V3 V2) ⊢ wp frame (wpE (defs₀ (F := F)) 𝒱 (c : Thread nD τ) bd) Set.univ
      (cc0_moe_skel (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) (fun _ => iprop((arg2.view.loc (c : Thread nD τ) ↦[arg2.view.set]{fullShare} Y2) ∗ (arg3.view.loc (c : Thread nD τ) ↦[arg3.view.set]{fullShare} Y3) ∗ (arg4.view.loc (c : Thread nD τ) ↦[arg4.view.set]{fullShare} Y4) ∗ (arg5.view.loc (c : Thread nD τ) ↦[arg5.view.set]{fullShare} Y5) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg13.view.loc (c : Thread nD τ) ↦[arg13.view.set]{fullShare} Y13) ∗ Whole c V1 V3 V2 V1 V3 V2 ∗ Tab c T ∗ (arg14.view.loc (c : Thread nD τ) ↦[arg14.view.set]{fullShare} (arg14.view.writes (Elt F) Y14 [⟨Rect.unit (s := S8x64x1024) ![0, 0, 0] S8x64x1024.size inb_S8x64x1024_S8x64x1024_0_0_0, outP T i V1 V3 V2 (arg2.view.readAt (Elt F) (Rect.unit (s := S8x64x1024) ![0, 0, 0] S8x64x1024.size inb_S8x64x1024_S8x64x1024_0_0_0).toLoadRect Y2) (arg3.view.readAt (Elt F) (Rect.unit (s := S8x64x1024) ![0, 0, 0] S8x64x1024.size inb_S8x64x1024_S8x64x1024_0_0_0).toLoadRect Y3) (arg4.view.readAt (Elt F) (Rect.unit (s := S8x64x128) ![0, 0, 0] S8x64x128.size inb_S8x64x128_S8x64x128_0_0_0).toLoadRect Y4) (arg5.view.readAt (Elt F) (Rect.unit (s := S8x1024) ![0, 0] S8x1024.size inb_S8x1024_S8x1024_0_0).toLoadRect Y5) (arg13.view.readAt (Elt F) (Rect.unit (s := S1x1024) ![0, 0] S1x1024.size inb_S1x1024_S1x1024_0_0).toLoadRect Y13)⟩])) ∗ (∃ f : C16 F, (((Memref.whole cc0_scratch0).view.loc (c : Thread nD τ)) ↦[(Memref.whole cc0_scratch0).view.set]{fullShare} f)) ∗ (∃ f : C17 F, (((Memref.whole cc0_scratch1).view.loc (c : Thread nD τ)) ↦[(Memref.whole cc0_scratch1).view.set]{fullShare} f)) ∗ (∃ f : C18 F, (((Memref.whole cc0_scratch2).view.loc (c : Thread nD τ)) ↦[(Memref.whole cc0_scratch2).view.set]{fullShare} f)) ∗ (∃ W', owes (c : Thread nD τ) 0 W'))) := by
  have L := fun X16 X17 f W => outer_first (𝒱 := 𝒱) c (bd := bd) i arg2 harg2 arg3 harg3 arg4 harg4 arg5 harg5 arg6 harg6 arg7 harg7 arg8 harg8 arg9 harg9 arg13 harg13 arg14 harg14 arg15 harg15 T V1 V3 V2 X16 X17 f h4 hchk W
  unfold cc0_moe_skel
  iintro ⟨H2, H3, H4, H5, H6, H7, H8, H9, H13, H14, HS0, HS1, HS2, HT, HW, HB⟩
  icases (Entails.of_eq ((whole_ready c X1 X3 X2 V1 V3 V2).symm.trans (four _))) $$ HB with ⟨HB0, HB1, HB2, HB3⟩
  icases (ready_lit c g0 ![0, 0, 0] inb_S16x1024x256_S4x1024x256_0_0_0 (by decide +kernel) ![0, 0, 0] inb_S4x1024x1024_S1x1024x1024_0_0_0 (by decide +kernel)
      ![0, 0] inb_S3x4_S1x1_0_0 (by decide +kernel) ![1, 0] inb_S3x4_S1x1_1_0 (by decide +kernel) ![2, 0] inb_S3x4_S1x1_2_0 (by decide +kernel) X1 X3 X2 V1 V3 V2) $$ HB0 with ⟨HD00, HS00, HD10, HS10, HD20, HS20, Hq00, Hq10, Hq20⟩
  icases (ready_lit c g1 ![4, 0, 0] inb_S16x1024x256_S4x1024x256_4_0_0 (by decide +kernel) ![1, 0, 0] inb_S4x1024x1024_S1x1024x1024_1_0_0 (by decide +kernel)
      ![0, 1] inb_S3x4_S1x1_0_1 (by decide +kernel) ![1, 1] inb_S3x4_S1x1_1_1 (by decide +kernel) ![2, 1] inb_S3x4_S1x1_2_1 (by decide +kernel) X1 X3 X2 V1 V3 V2) $$ HB1 with ⟨HD01, HS01, HD11, HS11, HD21, HS21, Hq01, Hq11, Hq21⟩
  icases (ready_lit c g2 ![8, 0, 0] inb_S16x1024x256_S4x1024x256_8_0_0 (by decide +kernel) ![2, 0, 0] inb_S4x1024x1024_S1x1024x1024_2_0_0 (by decide +kernel)
      ![0, 2] inb_S3x4_S1x1_0_2 (by decide +kernel) ![1, 2] inb_S3x4_S1x1_1_2 (by decide +kernel) ![2, 2] inb_S3x4_S1x1_2_2 (by decide +kernel) X1 X3 X2 V1 V3 V2) $$ HB2 with ⟨HD02, HS02, HD12, HS12, HD22, HS22, Hq02, Hq12, Hq22⟩
  icases (ready_lit c g3 ![12, 0, 0] inb_S16x1024x256_S4x1024x256_12_0_0 (by decide +kernel) ![3, 0, 0] inb_S4x1024x1024_S1x1024x1024_3_0_0 (by decide +kernel)
      ![0, 3] inb_S3x4_S1x1_0_3 (by decide +kernel) ![1, 3] inb_S3x4_S1x1_1_3 (by decide +kernel) ![2, 3] inb_S3x4_S1x1_2_3 (by decide +kernel) X1 X3 X2 V1 V3 V2) $$ HB3 with ⟨HD03, HS03, HD13, HS13, HD23, HS23, Hq03, Hq13, Hq23⟩
  sl_exec
  have k00 := fly1 c g0 ![0, 0, 0] inb_S16x1024x256_S4x1024x256_0_0_0 (by decide +kernel) (SemLoc.dma ⟨15, by decide⟩) (by decide +kernel) X1 V1 (first.sl.dma0 V1) (fun _ => rfl)
  ihave Hq00 := k00 $$ Hq00
  have k10 := fly3 c g0 ![0, 0, 0] inb_S16x1024x256_S4x1024x256_0_0_0 (by decide +kernel) (SemLoc.dma ⟨19, by decide⟩) (by decide +kernel) X3 V3 (first.sl.dma0_1 V3) (fun _ => rfl)
  ihave Hq10 := k10 $$ Hq10
  have k20 := fly2 c g0 ![0, 0, 0] inb_S4x1024x1024_S1x1024x1024_0_0_0 (by decide +kernel) (SemLoc.dma ⟨23, by decide⟩) (by decide +kernel) X2 V2 (first.sl.dma0_2 V2) (fun _ => rfl)
  ihave Hq20 := k20 $$ Hq20
  have k01 := fly1 c g1 ![4, 0, 0] inb_S16x1024x256_S4x1024x256_4_0_0 (by decide +kernel) (SemLoc.dma ⟨16, by decide⟩) (by decide +kernel) X1 V1 (first.sl.dma0_3 V1) (fun _ => rfl)
  ihave Hq01 := k01 $$ Hq01
  have k11 := fly3 c g1 ![4, 0, 0] inb_S16x1024x256_S4x1024x256_4_0_0 (by decide +kernel) (SemLoc.dma ⟨20, by decide⟩) (by decide +kernel) X3 V3 (first.sl.dma0_4 V3) (fun _ => rfl)
  ihave Hq11 := k11 $$ Hq11
  have k21 := fly2 c g1 ![1, 0, 0] inb_S4x1024x1024_S1x1024x1024_1_0_0 (by decide +kernel) (SemLoc.dma ⟨24, by decide⟩) (by decide +kernel) X2 V2 (first.sl.dma0_5 V2) (fun _ => rfl)
  ihave Hq21 := k21 $$ Hq21
  have k02 := fly1 c g2 ![8, 0, 0] inb_S16x1024x256_S4x1024x256_8_0_0 (by decide +kernel) (SemLoc.dma ⟨17, by decide⟩) (by decide +kernel) X1 V1 (first.sl.dma0_6 V1) (fun _ => rfl)
  ihave Hq02 := k02 $$ Hq02
  have k12 := fly3 c g2 ![8, 0, 0] inb_S16x1024x256_S4x1024x256_8_0_0 (by decide +kernel) (SemLoc.dma ⟨21, by decide⟩) (by decide +kernel) X3 V3 (first.sl.dma0_7 V3) (fun _ => rfl)
  ihave Hq12 := k12 $$ Hq12
  have k22 := fly2 c g2 ![2, 0, 0] inb_S4x1024x1024_S1x1024x1024_2_0_0 (by decide +kernel) (SemLoc.dma ⟨25, by decide⟩) (by decide +kernel) X2 V2 (first.sl.dma0_8 V2) (fun _ => rfl)
  ihave Hq22 := k22 $$ Hq22
  have k03 := fly1 c g3 ![12, 0, 0] inb_S16x1024x256_S4x1024x256_12_0_0 (by decide +kernel) (SemLoc.dma ⟨18, by decide⟩) (by decide +kernel) X1 V1 (first.sl.dma0_9 V1) (fun _ => rfl)
  ihave Hq03 := k03 $$ Hq03
  have k13 := fly3 c g3 ![12, 0, 0] inb_S16x1024x256_S4x1024x256_12_0_0 (by decide +kernel) (SemLoc.dma ⟨22, by decide⟩) (by decide +kernel) X3 V3 (first.sl.dma0_10 V3) (fun _ => rfl)
  ihave Hq13 := k13 $$ Hq13
  have k23 := fly2 c g3 ![3, 0, 0] inb_S4x1024x1024_S1x1024x1024_3_0_0 (by decide +kernel) (SemLoc.dma ⟨26, by decide⟩) (by decide +kernel) X2 V2 (first.sl.dma0_11 V2) (fun _ => rfl)
  ihave Hq23 := k23 $$ Hq23
  iapply (through (L _ _ _ _)) $$ [HS0 HS1 HS2 HT HW Hq00 Hq10 Hq20 Hq01 Hq11 Hq21 Hq02 Hq12 Hq22 Hq03 Hq13 Hq23]
  · ihave HB := (Entails.of_eq (show iprop(InFlight c g0 V1 V3 V2 ∗ InFlight c g1 V1 V3 V2 ∗ InFlight c g2 V1 V3 V2 ∗ InFlight c g3 V1 V3 V2) = bigSep Finset.univ (slotAt c V1 V3 V2 0) from (four (slotAt c V1 V3 V2 0)).symm)) $$ [Hq00 Hq10 Hq20 Hq01 Hq11 Hq21 Hq02 Hq12 Hq22 Hq03 Hq13 Hq23]
    · unfold InFlight
      iframe Hq00 Hq10 Hq20 Hq01 Hq11 Hq21 Hq02 Hq12 Hq22 Hq03 Hq13 Hq23
    iframe HS0 HS1 HS2 HB HT HW
  iintro %_ ⟨HS0, HS1, HS2, HB, HT, HW⟩
  ihave HB := (Entails.of_eq (show bigSep Finset.univ (slotAt c V1 V3 V2 4) = Whole c V1 V3 V2 V1 V3 V2 from
    (bigSep_congr fun g _ => (if_pos (trips_eq ▸ g.isLt) : slotAt c V1 V3 V2 4 g = Landed c g V1 V3 V2)).trans (whole_ready c V1 V3 V2 V1 V3 V2))) $$ HB
  sl_exec
  sl_step
  iframe H2 H3 H4 H5 H6 H7 H8 H9 H13 HT HB
  isplitl [H14]
  · iexact H14
  isplitl [HS0]
  · iexists _; iexact HS0
  isplitl [HS1]
  · iexists _; iexact HS1
  isplitl [HS2]
  · iexists _; iexact HS2
  iexact HW

end Cert.KernelIdeal.Moe
-- ==== Proof.Counts.lean ====
/-
  The words a group's passes are made of, as natural numbers.

  Let a group's rows be `a, …, a + b - 1` with `a + b ≤ 512`. The passes begin at `a` rounded down to a multiple of
  eight, there are enough of them to reach the end, and a window that would run over the end of the 512 rows is moved
  up. So a window's first row is a multiple of eight and its last row is below 512: that is what the kernel's dynamic
  slices need, and `chk` says it for all fourteen loops.
-/
module

public import proofs.«01_k».proof.Proof.Outer
public import Idealize.ShloMosaic.Lib.Routing.BitFacts
public import Idealize.ShloMosaic.Lib.ClampedCount
public import Idealize.ShloMosaic.Lib.WordArith

@[expose] public section

namespace Cert.KernelIdeal.Moe

open Cert.KernelIdeal Cert.KernelIdeal.Gen
open Idealize.ShloMosaic

/-- The first pass's first row, as the kernel computes it. -/
def baseW (s : BitVec 32) : BitVec 32 := Scalar.muli (Scalar.shrui s 3#32) 8#32

/-- The number of passes, as the kernel computes it. -/
def topW (R : ℕ) (s c : BitVec 32) : BitVec 32 :=
  Scalar.select (Scalar.cmpi .sgt (Scalar.addi s c) s)
    (Scalar.divsi (Scalar.addi (Scalar.subi (Scalar.addi s c) (baseW s)) (BitVec.ofNat 32 (R - 1))) (BitVec.ofNat 32 R)) 0#32

/-- Where pass `k` starts, before the window is moved up. -/
def winW (R : ℕ) (s lb : BitVec 32) (k : ℕ) : BitVec 32 :=
  Scalar.addi (baseW s) (Scalar.muli (Scf.iv lb 1#32 k) (BitVec.ofNat 32 R))

/-- A pass's first row. -/
def rowW (R : ℕ) (s lb : BitVec 32) (k : ℕ) : BitVec 32 := Scalar.minsi (winW R s lb k) (BitVec.ofNat 32 (512 - R))

/-- The number of passes. -/
def topN (R a b : ℕ) : ℕ := if 0 < b then (a + b - a / 8 * 8 + (R - 1)) / R else 0

theorem baseW_nat {a : ℕ} (ha : a ≤ 512) : baseW (BitVec.ofNat 32 a) = BitVec.ofNat 32 (a / 8 * 8) := by
  apply BitVec.eq_of_toNat_eq
  have h1 : (BitVec.ofNat 32 a).toNat = a := by rw [BitVec.toNat_ofNat]; omega
  have h2 : ((BitVec.ofNat 32 a) >>> (3#32)).toNat = a / 8 := by
    rw [BitVec.ushiftRight_eq', BitVec.toNat_ushiftRight, h1]
    show a >>> 3 = a / 8
    rw [Nat.shiftRight_eq_div_pow]
  unfold baseW Scalar.muli Scalar.shrui IntOp.muli IntOp.shrui
  rw [if_pos (by decide), BitVec.toNat_mul, h2, BitVec.toNat_ofNat]
  rfl

theorem topW_nat {R a b : ℕ} (h : a + b ≤ 512) (hR : 0 < R) (hR' : R ≤ 512) :
    topW R (BitVec.ofNat 32 a) (BitVec.ofNat 32 b) = BitVec.ofNat 32 (topN R a b) := by
  have e : Scalar.addi (BitVec.ofNat 32 a) (BitVec.ofNat 32 b) = BitVec.ofNat 32 (a + b) := (BitVec.ofNat_add ..).symm
  have e2 : Scalar.subi (BitVec.ofNat 32 (a + b)) (BitVec.ofNat 32 (a / 8 * 8)) = BitVec.ofNat 32 (a + b - a / 8 * 8) := Routing.ofNat32_sub (by omega)
  have e3 : Scalar.addi (BitVec.ofNat 32 (a + b - a / 8 * 8)) (BitVec.ofNat 32 (R - 1)) = BitVec.ofNat 32 (a + b - a / 8 * 8 + (R - 1)) := (BitVec.ofNat_add ..).symm
  have e4 : Scalar.cmpi .sgt (BitVec.ofNat 32 (a + b)) (BitVec.ofNat 32 a) = BitVec.ofBool (decide (a < a + b)) := by
    show BitVec.ofBool ((BitVec.ofNat 32 a).slt (BitVec.ofNat 32 (a + b))) = _
    rw [Routing.slt_ofNat32 (by omega) (by omega)]
  have e5 : Scalar.divsi (BitVec.ofNat 32 (a + b - a / 8 * 8 + (R - 1))) (BitVec.ofNat 32 R) = BitVec.ofNat 32 ((a + b - a / 8 * 8 + (R - 1)) / R) := by
    unfold Scalar.divsi IntOp.divsi
    rw [if_neg, Routing.sdiv_ofNat32 (by omega) (by omega)]
    have hR0 : BitVec.ofNat 32 R ≠ 0 := fun hz => by
      have := congrArg BitVec.toNat hz
      rw [BitVec.toNat_ofNat] at this
      simp at this
      omega
    have hRm : BitVec.ofNat 32 R ≠ -1 := fun hz => by
      have := congrArg BitVec.toNat hz
      rw [BitVec.toNat_ofNat] at this
      have h2 : (-1 : BitVec 32).toNat = 4294967295 := by decide
      rw [h2] at this
      omega
    simp only [IntOp.SDivCorner]
    rintro (hz | ⟨-, hz⟩)
    · exact hR0 hz
    · exact hRm hz
  unfold topW
  rw [baseW_nat (by omega), e, e2, e3, e4, e5]
  unfold Scalar.select topN
  by_cases hb : 0 < b
  · rw [if_pos hb, if_pos]; rw [decide_eq_true (by omega)]; rfl
  · rw [if_neg hb, if_neg]; rw [decide_eq_false (by omega)]; decide

theorem topN_le {R a b : ℕ} (h : a + b ≤ 512) (hR : 0 < R) (hR' : R ≤ 512) : topN R a b ≤ 1100 := by
  unfold topN
  split
  · exact (Nat.div_le_self _ _).trans (by omega)
  · omega

theorem iv_nat (k : ℕ) : Scf.iv 0#32 1#32 k = BitVec.ofNat 32 k := by
  unfold Scf.iv; rw [BitVec.mul_one, BitVec.zero_add]

theorem winW_nat {R a k : ℕ} (ha : a ≤ 512) :
    winW R (BitVec.ofNat 32 a) 0#32 k = BitVec.ofNat 32 (a / 8 * 8 + k * R) := by
  unfold winW Scalar.addi Scalar.muli IntOp.addi IntOp.muli
  rw [baseW_nat ha, iv_nat, BitVec.ofNat_add _ (k * R), BitVec.ofNat_mul k R]

theorem rowW_nat {R a k : ℕ} (ha : a ≤ 512) (hR' : R ≤ 512) (hk : k ≤ 1100) :
    rowW R (BitVec.ofNat 32 a) 0#32 k = BitVec.ofNat 32 (min (a / 8 * 8 + k * R) (512 - R)) := by
  have hm : k * R ≤ 1100 * 512 := Nat.mul_le_mul hk hR'
  unfold rowW Scalar.minsi IntOp.minsi
  rw [winW_nat ha, Routing.slt_ofNat32 (by omega) (by omega)]
  by_cases hlt : a / 8 * 8 + k * R < 512 - R
  · rw [if_pos (decide_eq_true hlt), min_eq_left hlt.le]
  · rw [if_neg (by simpa using hlt), min_eq_right (by omega)]

/-- The whole passes: from zero up to the number of passes. -/
theorem loopA {R a b : ℕ} (h : a + b ≤ 512) (hR : 0 < R) (hR' : R ≤ 512) (l : Scf.Loop 32)
    (hl : l = ⟨0#32, topW R (BitVec.ofNat 32 a) (BitVec.ofNat 32 b), 1#32⟩) : l.OK ∧ l.trips = topN R a b := by
  subst hl
  have hn := topN_le h hR hR'
  have h1 : (BitVec.ofNat 32 (topN R a b)).toInt = topN R a b := WordArith.toInt_ofNat_small _ (by omega)
  have ht : Scf.trips 0#32 (topW R (BitVec.ofNat 32 a) (BitVec.ofNat 32 b)) 1#32 = topN R a b := by
    unfold Scf.trips
    rw [topW_nat h hR hR', h1]
    have h0 : (0#32).toInt = 0 := by decide
    have h2 : (1#32).toInt = 1 := by decide
    rw [h0, h2]
    omega
  refine ⟨?_, ht⟩
  show Scf.OK _ _ _
  unfold Scf.OK
  rw [ht]
  have h0 : (0#32).toInt = 0 := by decide
  have h2 : (1#32).toInt = 1 := by decide
  rw [h0, h2]
  omega

/-- The passes left over when the step is one: none. -/
theorem loopB {R a b : ℕ} (h : a + b ≤ 512) (hR : 0 < R) (hR' : R ≤ 512) (l : Scf.Loop 32)
    (hl : l = ⟨topW R (BitVec.ofNat 32 a) (BitVec.ofNat 32 b), topW R (BitVec.ofNat 32 a) (BitVec.ofNat 32 b), 1#32⟩) : l.OK ∧ l.trips = 0 := by
  subst hl
  have hn := topN_le h hR hR'
  have h1 : (BitVec.ofNat 32 (topN R a b)).toInt = topN R a b := WordArith.toInt_ofNat_small _ (by omega)
  have h2 : (1#32).toInt = 1 := by decide
  have ht : Scf.trips (topW R (BitVec.ofNat 32 a) (BitVec.ofNat 32 b)) (topW R (BitVec.ofNat 32 a) (BitVec.ofNat 32 b)) 1#32 = 0 := by
    unfold Scf.trips
    rw [h2]
    omega
  refine ⟨?_, ht⟩
  show Scf.OK _ _ _
  unfold Scf.OK
  rw [ht, topW_nat h hR hR', h1, h2]
  omega

theorem subi_zero (x : BitVec 32) : Scalar.subi x 0#32 = x := by show x - 0#32 = x; rw [BitVec.sub_zero]
theorem zero_addi (x : BitVec 32) : Scalar.addi 0#32 x = x := by show 0#32 + x = x; rw [BitVec.zero_add]

/-- The upper bound of the whole passes, as the kernel normalises it. -/
theorem ub_whole (x : BitVec 32) :
    Scalar.addi 0#32 (Scalar.muli (Scalar.divsi (Scalar.subi x 0#32) 1#32) 1#32) = x :=
  ClampedCount.ub_norm_step_one 0#32 x

/-- A pass's rows lie among the 512, and its first is a multiple of eight. -/
theorem rows_in {R a b k : ℕ} (h : a + b ≤ 512) (hR : 0 < R) (hR' : R ≤ 512) (h8 : 8 ∣ 512 - R) (hk : k < topN R a b) :
    8 ∣ (rowW R (BitVec.ofNat 32 a) 0#32 k).toNat ∧ (rowW R (BitVec.ofNat 32 a) 0#32 k).toNat + R ≤ 512 := by
  have hn := topN_le h hR hR'
  have hmin : min (a / 8 * 8 + k * R) (512 - R) ≤ 512 - R := min_le_right _ _
  rw [rowW_nat (by omega) hR' (by omega), BitVec.toNat_ofNat, Nat.mod_eq_of_lt (by omega)]
  refine ⟨?_, by omega⟩
  rcases le_total (a / 8 * 8 + k * R) (512 - R) with hle | hle
  · rw [min_eq_left hle]
    have h8R : 8 ∣ R := by omega
    exact Dvd.dvd.add ⟨a / 8, by omega⟩ (h8R.mul_left k)
  · rw [min_eq_right hle]; exact h8

/-- The four facts of one loop of whole passes. -/
theorem factsA {R a b : ℕ} (h : a + b ≤ 512) (hR : 0 < R) (hR' : R ≤ 512) (h8 : 8 ∣ 512 - R) (l : Scf.Loop 32)
    (hl : l = ⟨0#32, topW R (BitVec.ofNat 32 a) (BitVec.ofNat 32 b), 1#32⟩) (k : Fin l.trips) :
    8 ∣ (rowW R (BitVec.ofNat 32 a) 0#32 k).toNat ∧ ∀ (n : ℕ) (x : Fin 2), (![(rowW R (BitVec.ofNat 32 a) 0#32 k).toNat, 0] : Fin 2 → ℕ) x + (![R, n] : Fin 2 → ℕ) x ≤ (![512, n] : Fin 2 → ℕ) x := by
  have hk : k.val < topN R a b := by rw [← (loopA h hR hR' l hl).2]; exact k.isLt
  obtain ⟨h1, h2⟩ := rows_in h hR hR' h8 hk
  refine ⟨h1, fun n x => ?_⟩
  match x with
  | 0 => exact h2
  | 1 => show 0 + n ≤ n; omega

end Cert.KernelIdeal.Moe
-- ==== Proof.Checks.lean ====
/-
  Every dynamic slice and every loop of a group is in order, whatever the group's rows among the 512.
-/
module

public import proofs.«01_k».proof.Proof.Counts

@[expose] public section

namespace Cert.KernelIdeal.Moe

open Cert.KernelIdeal Cert.KernelIdeal.Gen
open Idealize.ShloMosaic

/-- A loop of no passes has no pass. -/
theorem noPass {n : ℕ} (h : n = 0) (k : Fin n) : False := by subst h; exact k.elim0

/-- The loop of whole passes at height 256. -/
theorem whole256 (s c : BitVec 32) : k0_t2_loop s c = ⟨0#32, topW 256 s c, 1#32⟩ := by
  show (⟨0#32, Scalar.addi 0#32 (Scalar.muli (Scalar.divsi (Scalar.subi (topW 256 s c) 0#32) 1#32) 1#32), 1#32⟩ : Scf.Loop 32) = _
  rw [ub_whole]

/-- The loop of passes left over at height 256. -/
theorem left256 (s c : BitVec 32) : k0_t3_loop s c = ⟨topW 256 s c, topW 256 s c, 1#32⟩ := by
  show (⟨Scalar.addi 0#32 (Scalar.muli (Scalar.divsi (Scalar.subi (topW 256 s c) 0#32) 1#32) 1#32), Scalar.addi 0#32 (Scalar.subi (topW 256 s c) 0#32), 1#32⟩ : Scf.Loop 32) = _
  rw [ub_whole, subi_zero, zero_addi]

/-- The loop of whole passes at height 224. -/
theorem whole224 (s c : BitVec 32) : k0_t4_loop s c = ⟨0#32, topW 224 s c, 1#32⟩ := by
  show (⟨0#32, Scalar.addi 0#32 (Scalar.muli (Scalar.divsi (Scalar.subi (topW 224 s c) 0#32) 1#32) 1#32), 1#32⟩ : Scf.Loop 32) = _
  rw [ub_whole]

/-- The loop of passes left over at height 224. -/
theorem left224 (s c : BitVec 32) : k0_t5_loop s c = ⟨topW 224 s c, topW 224 s c, 1#32⟩ := by
  show (⟨Scalar.addi 0#32 (Scalar.muli (Scalar.divsi (Scalar.subi (topW 224 s c) 0#32) 1#32) 1#32), Scalar.addi 0#32 (Scalar.subi (topW 224 s c) 0#32), 1#32⟩ : Scf.Loop 32) = _
  rw [ub_whole, subi_zero, zero_addi]

/-- The loop of whole passes at height 192. -/
theorem whole192 (s c : BitVec 32) : k0_t6_loop s c = ⟨0#32, topW 192 s c, 1#32⟩ := by
  show (⟨0#32, Scalar.addi 0#32 (Scalar.muli (Scalar.divsi (Scalar.subi (topW 192 s c) 0#32) 1#32) 1#32), 1#32⟩ : Scf.Loop 32) = _
  rw [ub_whole]

/-- The loop of passes left over at height 192. -/
theorem left192 (s c : BitVec 32) : k0_t7_loop s c = ⟨topW 192 s c, topW 192 s c, 1#32⟩ := by
  show (⟨Scalar.addi 0#32 (Scalar.muli (Scalar.divsi (Scalar.subi (topW 192 s c) 0#32) 1#32) 1#32), Scalar.addi 0#32 (Scalar.subi (topW 192 s c) 0#32), 1#32⟩ : Scf.Loop 32) = _
  rw [ub_whole, subi_zero, zero_addi]

/-- The loop of whole passes at height 176. -/
theorem whole176 (s c : BitVec 32) : k0_t8_loop s c = ⟨0#32, topW 176 s c, 1#32⟩ := by
  show (⟨0#32, Scalar.addi 0#32 (Scalar.muli (Scalar.divsi (Scalar.subi (topW 176 s c) 0#32) 1#32) 1#32), 1#32⟩ : Scf.Loop 32) = _
  rw [ub_whole]

/-- The loop of passes left over at height 176. -/
theorem left176 (s c : BitVec 32) : k0_t9_loop s c = ⟨topW 176 s c, topW 176 s c, 1#32⟩ := by
  show (⟨Scalar.addi 0#32 (Scalar.muli (Scalar.divsi (Scalar.subi (topW 176 s c) 0#32) 1#32) 1#32), Scalar.addi 0#32 (Scalar.subi (topW 176 s c) 0#32), 1#32⟩ : Scf.Loop 32) = _
  rw [ub_whole, subi_zero, zero_addi]

/-- The loop of whole passes at height 160. -/
theorem whole160 (s c : BitVec 32) : k0_t10_loop s c = ⟨0#32, topW 160 s c, 1#32⟩ := by
  show (⟨0#32, Scalar.addi 0#32 (Scalar.muli (Scalar.divsi (Scalar.subi (topW 160 s c) 0#32) 1#32) 1#32), 1#32⟩ : Scf.Loop 32) = _
  rw [ub_whole]

/-- The loop of passes left over at height 160. -/
theorem left160 (s c : BitVec 32) : k0_t11_loop s c = ⟨topW 160 s c, topW 160 s c, 1#32⟩ := by
  show (⟨Scalar.addi 0#32 (Scalar.muli (Scalar.divsi (Scalar.subi (topW 160 s c) 0#32) 1#32) 1#32), Scalar.addi 0#32 (Scalar.subi (topW 160 s c) 0#32), 1#32⟩ : Scf.Loop 32) = _
  rw [ub_whole, subi_zero, zero_addi]

/-- The loop of whole passes at height 144. -/
theorem whole144 (s c : BitVec 32) : k0_t12_loop s c = ⟨0#32, topW 144 s c, 1#32⟩ := by
  show (⟨0#32, Scalar.addi 0#32 (Scalar.muli (Scalar.divsi (Scalar.subi (topW 144 s c) 0#32) 1#32) 1#32), 1#32⟩ : Scf.Loop 32) = _
  rw [ub_whole]

/-- The loop of passes left over at height 144. -/
theorem left144 (s c : BitVec 32) : k0_t13_loop s c = ⟨topW 144 s c, topW 144 s c, 1#32⟩ := by
  show (⟨Scalar.addi 0#32 (Scalar.muli (Scalar.divsi (Scalar.subi (topW 144 s c) 0#32) 1#32) 1#32), Scalar.addi 0#32 (Scalar.subi (topW 144 s c) 0#32), 1#32⟩ : Scf.Loop 32) = _
  rw [ub_whole, subi_zero, zero_addi]

/-- The loop of whole passes at height 128. -/
theorem whole128 (s c : BitVec 32) : k0_t14_loop s c = ⟨0#32, topW 128 s c, 1#32⟩ := by
  show (⟨0#32, Scalar.addi 0#32 (Scalar.muli (Scalar.divsi (Scalar.subi (topW 128 s c) 0#32) 1#32) 1#32), 1#32⟩ : Scf.Loop 32) = _
  rw [ub_whole]

/-- The loop of passes left over at height 128. -/
theorem left128 (s c : BitVec 32) : k0_t15_loop s c = ⟨topW 128 s c, topW 128 s c, 1#32⟩ := by
  show (⟨Scalar.addi 0#32 (Scalar.muli (Scalar.divsi (Scalar.subi (topW 128 s c) 0#32) 1#32) 1#32), Scalar.addi 0#32 (Scalar.subi (topW 128 s c) 0#32), 1#32⟩ : Scf.Loop 32) = _
  rw [ub_whole, subi_zero, zero_addi]

/-- Heights 256 to 176. -/
theorem chk_0 {a b : ℕ} (h : a + b ≤ 512) : k0_chk1_0 (BitVec.ofNat 32 a) (BitVec.ofNat 32 b) :=
  ⟨fun _ _ _ _ _ _ => (loopA h (by decide) (by decide) _ (whole256 _ _)).1,
   fun k _ _ _ _ _ _ => (factsA h (by decide) (by decide) (by decide) _ (whole256 _ _) k).1,
   fun k _ _ _ _ _ _ => (factsA h (by decide) (by decide) (by decide) _ (whole256 _ _) k).2 1024,
   fun k _ _ _ _ _ _ => (factsA h (by decide) (by decide) (by decide) _ (whole256 _ _) k).2 128,
   fun _ _ _ _ _ _ => (loopB h (by decide) (by decide) _ (left256 _ _)).1,
   fun k => (noPass (loopB h (by decide) (by decide) _ (left256 _ _)).2 k).elim,
   fun k => (noPass (loopB h (by decide) (by decide) _ (left256 _ _)).2 k).elim,
   fun k => (noPass (loopB h (by decide) (by decide) _ (left256 _ _)).2 k).elim,
   fun _ _ _ _ _ _ => (loopA h (by decide) (by decide) _ (whole224 _ _)).1,
   fun k _ _ _ _ _ _ => (factsA h (by decide) (by decide) (by decide) _ (whole224 _ _) k).1,
   fun k _ _ _ _ _ _ => (factsA h (by decide) (by decide) (by decide) _ (whole224 _ _) k).2 1024,
   fun k _ _ _ _ _ _ => (factsA h (by decide) (by decide) (by decide) _ (whole224 _ _) k).2 128,
   fun _ _ _ _ _ _ => (loopB h (by decide) (by decide) _ (left224 _ _)).1,
   fun k => (noPass (loopB h (by decide) (by decide) _ (left224 _ _)).2 k).elim,
   fun k => (noPass (loopB h (by decide) (by decide) _ (left224 _ _)).2 k).elim,
   fun k => (noPass (loopB h (by decide) (by decide) _ (left224 _ _)).2 k).elim,
   fun _ _ _ _ _ => (loopA h (by decide) (by decide) _ (whole192 _ _)).1,
   fun k _ _ _ _ _ => (factsA h (by decide) (by decide) (by decide) _ (whole192 _ _) k).1,
   fun k _ _ _ _ _ => (factsA h (by decide) (by decide) (by decide) _ (whole192 _ _) k).2 1024,
   fun k _ _ _ _ _ => (factsA h (by decide) (by decide) (by decide) _ (whole192 _ _) k).2 128,
   fun _ _ _ _ _ => (loopB h (by decide) (by decide) _ (left192 _ _)).1,
   fun k => (noPass (loopB h (by decide) (by decide) _ (left192 _ _)).2 k).elim,
   fun k => (noPass (loopB h (by decide) (by decide) _ (left192 _ _)).2 k).elim,
   fun k => (noPass (loopB h (by decide) (by decide) _ (left192 _ _)).2 k).elim,
   fun _ _ _ _ => (loopA h (by decide) (by decide) _ (whole176 _ _)).1,
   fun k _ _ _ _ => (factsA h (by decide) (by decide) (by decide) _ (whole176 _ _) k).1,
   fun k _ _ _ _ => (factsA h (by decide) (by decide) (by decide) _ (whole176 _ _) k).2 1024,
   fun k _ _ _ _ => (factsA h (by decide) (by decide) (by decide) _ (whole176 _ _) k).2 128,
   fun _ _ _ _ => (loopB h (by decide) (by decide) _ (left176 _ _)).1,
   fun k => (noPass (loopB h (by decide) (by decide) _ (left176 _ _)).2 k).elim,
   fun k => (noPass (loopB h (by decide) (by decide) _ (left176 _ _)).2 k).elim,
   fun k => (noPass (loopB h (by decide) (by decide) _ (left176 _ _)).2 k).elim⟩

/-- Heights 160 to 128. -/
theorem chk_1 {a b : ℕ} (h : a + b ≤ 512) : k0_chk1_1 (BitVec.ofNat 32 a) (BitVec.ofNat 32 b) :=
  ⟨fun _ _ _ => (loopA h (by decide) (by decide) _ (whole160 _ _)).1,
   fun k _ _ _ => (factsA h (by decide) (by decide) (by decide) _ (whole160 _ _) k).1,
   fun k _ _ _ => (factsA h (by decide) (by decide) (by decide) _ (whole160 _ _) k).2 1024,
   fun k _ _ _ => (factsA h (by decide) (by decide) (by decide) _ (whole160 _ _) k).2 128,
   fun _ _ _ => (loopB h (by decide) (by decide) _ (left160 _ _)).1,
   fun k => (noPass (loopB h (by decide) (by decide) _ (left160 _ _)).2 k).elim,
   fun k => (noPass (loopB h (by decide) (by decide) _ (left160 _ _)).2 k).elim,
   fun k => (noPass (loopB h (by decide) (by decide) _ (left160 _ _)).2 k).elim,
   fun _ _ => (loopA h (by decide) (by decide) _ (whole144 _ _)).1,
   fun k _ _ => (factsA h (by decide) (by decide) (by decide) _ (whole144 _ _) k).1,
   fun k _ _ => (factsA h (by decide) (by decide) (by decide) _ (whole144 _ _) k).2 1024,
   fun k _ _ => (factsA h (by decide) (by decide) (by decide) _ (whole144 _ _) k).2 128,
   fun _ _ => (loopB h (by decide) (by decide) _ (left144 _ _)).1,
   fun k => (noPass (loopB h (by decide) (by decide) _ (left144 _ _)).2 k).elim,
   fun k => (noPass (loopB h (by decide) (by decide) _ (left144 _ _)).2 k).elim,
   fun k => (noPass (loopB h (by decide) (by decide) _ (left144 _ _)).2 k).elim,
   fun _ => (loopA h (by decide) (by decide) _ (whole128 _ _)).1,
   fun k _ => (factsA h (by decide) (by decide) (by decide) _ (whole128 _ _) k).1,
   fun k _ => (factsA h (by decide) (by decide) (by decide) _ (whole128 _ _) k).2 1024,
   fun k _ => (factsA h (by decide) (by decide) (by decide) _ (whole128 _ _) k).2 128,
   fun _ => (loopB h (by decide) (by decide) _ (left128 _ _)).1,
   fun k => (noPass (loopB h (by decide) (by decide) _ (left128 _ _)).2 k).elim,
   fun k => (noPass (loopB h (by decide) (by decide) _ (left128 _ _)).2 k).elim,
   fun k => (noPass (loopB h (by decide) (by decide) _ (left128 _ _)).2 k).elim⟩

/-- Every loop and slice of a group whose rows are among the 512. -/
theorem chk {a b : ℕ} (h : a + b ≤ 512) : k0_chk1 (BitVec.ofNat 32 a) (BitVec.ofNat 32 b) := ⟨chk_0 h, chk_1 h⟩

end Cert.KernelIdeal.Moe
-- ==== Proof.Table.lean ====
/-
  The table of counts the steps read: entry `4 i + g` is how many of tile `i`'s tokens are of group `g`.
-/
module

public import proofs.«01_k».proof.Proof.Checks
public import proofs.«01_k».proof.Proof.Blocks
public import Idealize.ShloMosaic.Lib.IndicatorCount
public import Idealize.ShloMosaic.Lib.ValueIdxCore
public import Idealize.ShloMosaic.Lib.ValueLayout
public import Idealize.ShloMosaic.Lib.Claim
public import Idealize.ShloMosaic.Lib.StableHlo.RunRead

@[expose] public section

noncomputable section

namespace Cert.KernelIdeal.Moe

open Cert.KernelIdeal Cert.KernelIdeal.Gen
open Idealize.ShloMosaic Idealize.ShloMosaic.TcCoe Idealize.ShloMosaic.StableHlo Idealize.ShloMosaic.Tactic

variable {F : FTy → Type} [FloatOps F]

/-- The groups of the tokens of the call's 33 tiles, from the prompt's and the sample's. -/
def groupsOf (gp : IVec S8x2048 32) (gs : IVec S128x4 32) : IVec S33x512 32 :=
  concatenate S33x512 0 [⟨S32x512, shapeCast S32x512 (transpose S32x8x64 [1, 0, 2] (shapeCast S8x32x64 gp shapeCasts_S8x2048_S8x32x64) transposes_S8x32x64_S32x8x64_1_0_2) shapeCasts_S32x8x64_S32x512⟩,
    ⟨S1x512, shapeCast S1x512 (transpose S4x128 [1, 0] gs transposes_S128x4_S4x128_1_0) shapeCasts_S4x128_S1x512⟩] concatenates_S32x512_S1x512_S33x512_d0

/-- How many tokens of each tile are of each group, as the host counts them. -/
def countsOf (G : IVec S33x512 32) : IVec S33x4 32 :=
  Host.reduce IntOp.addi (extui 32 (cmpi .eq (broadcastInDim S33x512x4 ![0, 1] bcast_S33x512_S33x512x4_0_1 G) (iotaInDim S33x512x4 32 2)) natLt_1_32)
    (constantI S_ 32 0#32) reducesTo_S33x512x4_S33x4_d1 h_S_

/-- The host lines leave the groups' table at `main_v5`. -/
theorem v5_eq (X : ∀ b : DevRef τ sig, b.ty.Contents (Elt F)) :
    StableHlo.after (hostOps0 (F := F)) X (Proc.devRef .tc main_v5) = groupsOf (X (Proc.devRef .tc main_arg2)) (X (Proc.devRef .tc main_arg8)) := by
  unfold_abbrev_sides
  after_reads_simp
  rfl

/-- The host lines leave the counts at `main_v60`. -/
theorem v60_eq (X : ∀ b : DevRef τ sig, b.ty.Contents (Elt F)) :
    StableHlo.after (hostOps0 (F := F)) X (Proc.devRef .tc main_v60) = shapeCast S132 (countsOf (groupsOf (X (Proc.devRef .tc main_arg2)) (X (Proc.devRef .tc main_arg8)))) shapeCasts_S33x4_S132 := by
  unfold_abbrev_sides
  after_reads_simp
  rfl

/-- How many of tile `i`'s tokens are of group `g`. -/
def cnt (G : IVec S33x512 32) (i : Fin 33) (g : ℕ) : ℕ := (Finset.univ.filter fun r : Fin 512 => G (ValueIdx.ix2 i r) = BitVec.ofNat 32 g).card

theorem red4 : S33x512x4.Reduces [1] S33x4 := by decide

theorem lift4 (i : Fin 33) (g : Fin 4) (k : Fin 512) : red4.lift (ValueIdx.ix2 i g) k = ValueIdx.ix3 i k g := by
  funext c
  match c with
  | 0 => rfl
  | 1 => rfl
  | 2 => rfl

theorem countsOf_at (G : IVec S33x512 32) (i : Fin 33) (g : Fin 4) : countsOf G (ValueIdx.ix2 i g) = BitVec.ofNat 32 (cnt G i g.val) := by
  have e : ∀ r : Fin 512, (G (ValueIdx.ix2 i r) = BitVec.ofNat 32 g.val) ↔ IntOp.cmpi .eq (G (ValueIdx.ix2 i r)) (BitVec.ofNat 32 g.val) = 1#1 := fun r => by
    show _ ↔ BitVec.ofBool (_ == _) = 1#1
    rw [WordArith.ofBool_eq_one_iff, beq_iff_eq]
  unfold cnt
  simp only [e]
  rw [← IndicatorCount.fold_addi_setWidth_eq_card (fun r : Fin 512 => IntOp.cmpi .eq (G (ValueIdx.ix2 i r)) (BitVec.ofNat 32 g.val)),
    countsOf, Host.reduce_eq_fold_single IntOp.addi _ _ reducesTo_S33x512x4_S33x4_d1 red4 h_S_]
  refine Finset.fold_congr fun k _ => ?_
  refine (congrArg (extui 32 (cmpi .eq (broadcastInDim S33x512x4 ![0, 1] bcast_S33x512_S33x512x4_0_1 G) (iotaInDim S33x512x4 32 2)) natLt_1_32) (lift4 i g k)).trans ?_
  show BitVec.setWidth 32 (IntOp.cmpi .eq (broadcastInDim S33x512x4 ![0, 1] bcast_S33x512_S33x512x4_0_1 G (ValueIdx.ix3 i k g)) (BitVec.ofNat 32 g.val)) = _
  have hb : broadcastInDim S33x512x4 ![0, 1] bcast_S33x512_S33x512x4_0_1 G (ValueIdx.ix3 i k g) = G (ValueIdx.ix2 i k) := by
    show G _ = _
    congr 1
    funext c
    match c with
    | 0 => rfl
    | 1 => rfl
  rw [hb]

/-- The four groups' tokens are among the tile's 512. -/
theorem cnt_sum_le (G : IVec S33x512 32) (i : Fin 33) : cnt G i 0 + cnt G i 1 + cnt G i 2 + cnt G i 3 ≤ 512 := by
  have hd : ∀ a b : ℕ, a < 4 → b < 4 → a ≠ b → Disjoint (Finset.univ.filter fun r : Fin 512 => G (ValueIdx.ix2 i r) = BitVec.ofNat 32 a) (Finset.univ.filter fun r : Fin 512 => G (ValueIdx.ix2 i r) = BitVec.ofNat 32 b) := by
    intro a b ha hb hab
    refine Finset.disjoint_filter.2 fun r _ h1 h2 => hab ?_
    have := congrArg BitVec.toNat (h1.symm.trans h2)
    rw [BitVec.toNat_ofNat, BitVec.toNat_ofNat] at this
    omega
  unfold cnt
  rw [← Finset.card_union_of_disjoint (hd 0 1 (by omega) (by omega) (by omega)), ← Finset.card_union_of_disjoint, ← Finset.card_union_of_disjoint]
  · exact (Finset.card_le_univ _).trans (by simp)
  · exact Finset.disjoint_union_left.2 ⟨Finset.disjoint_union_left.2 ⟨hd 0 3 (by omega) (by omega) (by omega), hd 1 3 (by omega) (by omega) (by omega)⟩, hd 2 3 (by omega) (by omega) (by omega)⟩
  · exact Finset.disjoint_union_left.2 ⟨hd 0 2 (by omega) (by omega) (by omega), hd 1 2 (by omega) (by omega) (by omega)⟩

/-- How many of tile `i`'s tokens are of a group before `g`. -/
def pre (G : IVec S33x512 32) (i : Fin 33) : ℕ → ℕ
  | 0 => 0
  | n + 1 => pre G i n + cnt G i n

theorem pre_le (G : IVec S33x512 32) (i : Fin 33) (g : ℕ) (hg : g < 4) : pre G i g + cnt G i g ≤ 512 := by
  have h := cnt_sum_le G i
  match g, hg with
  | 0, _ => simp only [pre]; omega
  | 1, _ => simp only [pre]; omega
  | 2, _ => simp only [pre]; omega
  | 3, _ => simp only [pre]; omega

/-- The table the steps read, from the groups. -/
def tab (G : IVec S33x512 32) : CT F := (shapeCast S132 (countsOf G) shapeCasts_S33x4_S132 : IVec S132 32)

theorem tab_at (G : IVec S33x512 32) (i : Fin 33) (g : Fin 4) (j : S132.Idx) (hj : (j 0).val = i.val * 4 + g.val) :
    (shapeCast S132 (countsOf G) shapeCasts_S33x4_S132) j = BitVec.ofNat 32 (cnt G i g.val) := by
  rw [← countsOf_at]
  refine shapeCast_apply _ _ j (ValueIdx.ix2 i g) ?_
  rw [Shape.rowMajor_val_two, Shape.rowMajor_val_one, hj]
  rfl

theorem off6 (i : grid0.Coords) (g : Fin k0_t1_loop.trips) : (k0_off6 i g) 0 = (i 0).val * 4 + g.val := by
  have hg : g.val < 4 := trips_eq ▸ g.isLt
  have hi : (i 0).val < 33 := (i 0).isLt
  show (Scalar.addi (Scalar.muli (BitVec.ofNat 32 (i 0).val) 4#32) (Scf.iv 0#32 1#32 g.val)).toNat = _
  rw [iv_nat]
  show (BitVec.ofNat 32 (i 0).val * 4#32 + BitVec.ofNat 32 g.val).toNat = _
  rw [BitVec.toNat_add, BitVec.toNat_mul, BitVec.toNat_ofNat, BitVec.toNat_ofNat, BitVec.toNat_ofNat]
  omega

/-- Where the kernel reads group `g`'s count of step `i`. -/
def at6 (i : grid0.Coords) (g : Fin k0_t1_loop.trips) : S132.Idx :=
  (Rect.unit (s := S132) (k0_off6 i g) S1.size (k0_off6_inb i g)).toLoadRect.idx (Shape.Idx.first (numel1_S1.symm ▸ Nat.one_pos))

theorem at6_val (i : grid0.Coords) (g : Fin k0_t1_loop.trips) : (at6 i g 0).val = (i 0).val * 4 + g.val := by
  refine Eq.trans ?_ (off6 i g)
  show (k0_off6 i g) 0 + 1 * (Shape.Idx.first (s := S1) (numel1_S1.symm ▸ Nat.one_pos) 0).val = _
  have := (Shape.Idx.first (s := S1) (numel1_S1.symm ▸ Nat.one_pos) 0).isLt
  have h1 : S1.size 0 = 1 := rfl
  omega

theorem word_at (T : CT F) (i : grid0.Coords) (g : Fin k0_t1_loop.trips) : word T i g = (T : IVec S132 32) (at6 i g) := rfl

theorem word_tab (G : IVec S33x512 32) (i : grid0.Coords) (g : Fin k0_t1_loop.trips) : word (F := F) (tab G) i g = BitVec.ofNat 32 (cnt G (i 0) g.val) := by
  have hg : g.val < 4 := trips_eq ▸ g.isLt
  rw [word_at]
  exact tab_at G (i 0) ⟨g.val, hg⟩ (at6 i g) (at6_val i g)

theorem starts_tab (G : IVec S33x512 32) (i : grid0.Coords) : ∀ n, n ≤ 4 → starts (F := F) (tab G) i n = BitVec.ofNat 32 (pre G (i 0) n)
  | 0, _ => rfl
  | n + 1, h => by
    rw [starts, dif_pos (show n < k0_t1_loop.trips by rw [trips_eq]; omega), starts_tab G i n (by omega), word_tab]
    exact (BitVec.ofNat_add ..).symm

/-- Every group of every step is in order. -/
theorem chk_tab (G : IVec S33x512 32) (i : grid0.Coords) (g : Fin k0_t1_loop.trips) : k0_chk1 (starts (F := F) (tab G) i g.val) (word (F := F) (tab G) i g) := by
  have hg : g.val < 4 := trips_eq ▸ g.isLt
  rw [starts_tab G i g.val hg.le, word_tab]
  exact chk (pre_le G (i 0) g.val hg)

end Cert.KernelIdeal.Moe
-- ==== Proof.Data.lean ====
/-
  What the run holds: the buffers when the call is reached, what each window holds at each step, and what passes from step to step.
-/
module

public import proofs.«01_k».proof.Proof.First
public import proofs.«01_k».proof.Proof.Table
public import proofs.«01_k».proof.Proof.Gen.KernelIdeal.Launch
public import proofs.«01_k».proof.Proof.Gen.KernelIdeal.Skeleton
public import Idealize.ShloMosaic.Lib.Pipeline.FrameBody
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

variable (m : (ℓ : Loc nD τ sig) → Buf (Elt F) ℓ) (ρ : Dev nD → PrngReg)

/-- The buffers when the call is reached: the host lines have run. -/
abbrev V (c : Dev nD) (b : Ref sig .tc) : Buf (Elt F) ((c : Thread nD τ).loc b) := StableHlo.after (hostOps0 (F := F)) (fun b => m (c, b)) b

/-- The groups of the tokens. -/
def Gr (c : Dev nD) : IVec S33x512 32 := groupsOf (m (c, Proc.devRef .tc main_arg2)) (m (c, Proc.devRef .tc main_arg8))

/-- The table of counts the call is run at. -/
def adm (_ : Fin 1) : (pcfg0 (F := F)).Adm := ⟨fun | 0 => tab (F := F) (Gr m 0) | ⟨_ + 1, h⟩ => absurd h (Nat.not_lt.2 (Nat.le_add_left _ _)), trivial⟩

/-- The call as a pipeline. -/
abbrev cfgA : Pipeline.Cfg sig Λ₀ := cfg0 (adm m 0)

/-- What an operand's window holds at step `t`. -/
abbrev inAt (c : Dev nD) (w : Fin 11) (t : Fin (cfgA m).N) : ((cfgA m).win w).block.Idx → Elt F ((cfgA m).win w).elt :=
  Pipeline.heldIn (τ := τ) (c := c) (cfgA m) (fun w => V m c (Pipeline.arrRef spec0 w)) w t.val t.isLt

/-- The last prompt tile up to step `t`. -/
def upTo (t : Fin (cfgA m).N) : Fin (cfgA m).N := ⟨min t.val 31, Nat.lt_of_le_of_lt (Nat.min_le_left _ _) t.isLt⟩

/-- What a prompt step writes, -/
def promptAt (c : Dev nD) (t : Fin (cfgA m).N) : Vec F S8x64x1024 .f32 :=
  outP (tab (Gr m 0)) (grid0.coords t) (V m c main_arg12) (V m c main_arg13) (V m c main_v58) (inAt m c 0 t) (inAt m c 1 t) (inAt m c 2 t) (inAt m c 3 t) (inAt m c 8 t)
/-- and the sample step. -/
def sampleAt (c : Dev nD) (t : Fin (cfgA m).N) : Vec F S512x1024 .f32 :=
  outS (tab (Gr m 0)) (grid0.coords t) (V m c main_arg12) (V m c main_arg13) (V m c main_v58) (inAt m c 4 t) (inAt m c 5 t) (inAt m c 6 t) (inAt m c 7 t) (inAt m c 8 t)

/-- What passes from step to step: the scratch buffers, the weights and their copies' semaphores, the table; after the first step
    the weights' scratch buffers hold the weights. -/
def carry (c : Dev nD) (n : ℕ) : sProp 𝕄 :=
  iprop(∃ (f16 : C16 F) (f17 : C17 F) (f18 : C18 F) (X1 : C19 F) (X3 : C20 F) (X2 : C21 F),
    ⌜n ≠ 0 → X1 = V m c main_arg12 ∧ X3 = V m c main_arg13 ∧ X2 = V m c main_v58⌝
    ∗ ((Memref.whole cc0_scratch0).view.loc (c : Thread nD τ) ↦[(Memref.whole cc0_scratch0).view.set]{fullShare} f16)
    ∗ ((Memref.whole cc0_scratch1).view.loc (c : Thread nD τ) ↦[(Memref.whole cc0_scratch1).view.set]{fullShare} f17)
    ∗ ((Memref.whole cc0_scratch2).view.loc (c : Thread nD τ) ↦[(Memref.whole cc0_scratch2).view.set]{fullShare} f18)
    ∗ Whole c X1 X3 X2 (V m c main_arg12) (V m c main_arg13) (V m c main_v58)
    ∗ (∃ r, prngReg (c : Dev nD) r) ∗ Tab c (tab (Gr m 0)))

/-- The call's proof data on core `c`. -/
def dats (_ : Fin 1) (c : Dev nD) : Dat τ (Elt F) Unit ℕ (Pipeline.UD sig nD τ) ℕ (cfgA m) c where
  A w := V m c (Pipeline.arrRef spec0 w)
  after w t := match w with
    | ⟨0, _⟩ => inAt m c 0 t
    | ⟨1, _⟩ => inAt m c 1 t
    | ⟨2, _⟩ => inAt m c 2 t
    | ⟨3, _⟩ => inAt m c 3 t
    | ⟨4, _⟩ => inAt m c 4 t
    | ⟨5, _⟩ => inAt m c 5 t
    | ⟨6, _⟩ => inAt m c 6 t
    | ⟨7, _⟩ => inAt m c 7 t
    | ⟨8, _⟩ => inAt m c 8 t
    | ⟨9, _⟩ => promptAt m c (upTo m t)
    | ⟨10, _⟩ => sampleAt m c t
    | ⟨_ + 11, h⟩ => absurd h (Nat.not_lt.2 (Nat.le_add_left _ _))
  Φ t := carry m c t.val
  q _ := fullShare
  owed _ := 0

theorem A_eq (c : Dev nD) (w : Fin 11) : (dats m 0 c).A w = V m c (Pipeline.arrRef spec0 w) := by dsimp only [dats]
theorem after_0 (c : Dev nD) (t : Fin (cfgA m).N) : (dats m 0 c).after 0 t = inAt m c 0 t := by dsimp only [dats]; rfl
theorem before_0 (c : Dev nD) (t : Fin (cfgA m).N) (d) : (dats m 0 c).before 0 t d = inAt m c 0 t :=
  (dats m 0 c).before_eq_heldIn 0 rfl (fun _ => rfl) (fun _ _ => rfl) (after_0 m c) t d
theorem after_1 (c : Dev nD) (t : Fin (cfgA m).N) : (dats m 0 c).after 1 t = inAt m c 1 t := by dsimp only [dats]; rfl
theorem before_1 (c : Dev nD) (t : Fin (cfgA m).N) (d) : (dats m 0 c).before 1 t d = inAt m c 1 t :=
  (dats m 0 c).before_eq_heldIn 1 rfl (fun _ => rfl) (fun _ _ => rfl) (after_1 m c) t d
theorem after_2 (c : Dev nD) (t : Fin (cfgA m).N) : (dats m 0 c).after 2 t = inAt m c 2 t := by dsimp only [dats]; rfl
theorem before_2 (c : Dev nD) (t : Fin (cfgA m).N) (d) : (dats m 0 c).before 2 t d = inAt m c 2 t :=
  (dats m 0 c).before_eq_heldIn 2 rfl (fun _ => rfl) (fun _ _ => rfl) (after_2 m c) t d
theorem after_3 (c : Dev nD) (t : Fin (cfgA m).N) : (dats m 0 c).after 3 t = inAt m c 3 t := by dsimp only [dats]; rfl
theorem before_3 (c : Dev nD) (t : Fin (cfgA m).N) (d) : (dats m 0 c).before 3 t d = inAt m c 3 t :=
  (dats m 0 c).before_eq_heldIn 3 rfl (fun _ => rfl) (fun _ _ => rfl) (after_3 m c) t d
theorem after_4 (c : Dev nD) (t : Fin (cfgA m).N) : (dats m 0 c).after 4 t = inAt m c 4 t := by dsimp only [dats]; rfl
theorem before_4 (c : Dev nD) (t : Fin (cfgA m).N) (d) : (dats m 0 c).before 4 t d = inAt m c 4 t :=
  (dats m 0 c).before_eq_heldIn 4 rfl (fun _ => rfl) (fun _ _ => rfl) (after_4 m c) t d
theorem after_5 (c : Dev nD) (t : Fin (cfgA m).N) : (dats m 0 c).after 5 t = inAt m c 5 t := by dsimp only [dats]; rfl
theorem before_5 (c : Dev nD) (t : Fin (cfgA m).N) (d) : (dats m 0 c).before 5 t d = inAt m c 5 t :=
  (dats m 0 c).before_eq_heldIn 5 rfl (fun _ => rfl) (fun _ _ => rfl) (after_5 m c) t d
theorem after_6 (c : Dev nD) (t : Fin (cfgA m).N) : (dats m 0 c).after 6 t = inAt m c 6 t := by dsimp only [dats]; rfl
theorem before_6 (c : Dev nD) (t : Fin (cfgA m).N) (d) : (dats m 0 c).before 6 t d = inAt m c 6 t :=
  (dats m 0 c).before_eq_heldIn 6 rfl (fun _ => rfl) (fun _ _ => rfl) (after_6 m c) t d
theorem after_7 (c : Dev nD) (t : Fin (cfgA m).N) : (dats m 0 c).after 7 t = inAt m c 7 t := by dsimp only [dats]; rfl
theorem before_7 (c : Dev nD) (t : Fin (cfgA m).N) (d) : (dats m 0 c).before 7 t d = inAt m c 7 t :=
  (dats m 0 c).before_eq_heldIn 7 rfl (fun _ => rfl) (fun _ _ => rfl) (after_7 m c) t d
theorem after_8 (c : Dev nD) (t : Fin (cfgA m).N) : (dats m 0 c).after 8 t = inAt m c 8 t := by dsimp only [dats]; rfl
theorem before_8 (c : Dev nD) (t : Fin (cfgA m).N) (d) : (dats m 0 c).before 8 t d = inAt m c 8 t :=
  (dats m 0 c).before_eq_heldIn 8 rfl (fun _ => rfl) (fun _ _ => rfl) (after_8 m c) t d
theorem after_9 (c : Dev nD) (t : Fin (cfgA m).N) : (dats m 0 c).after 9 t = promptAt m c (upTo m t) := by dsimp only [dats]; rfl
theorem after_10 (c : Dev nD) (t : Fin (cfgA m).N) : (dats m 0 c).after 10 t = sampleAt m c t := by dsimp only [dats]; rfl

/-! ## Which steps do what -/

theorem coords_val : ∀ t : Fin grid0.N, ((grid0.coords t) 0).val = t.val := by decide +kernel

/-- The prompt window is not written at the last step only; -/
theorem idle9 : ∀ t : Fin grid0.N, idle0 9 (grid0.coords t) = decide (t.val = 32) := by decide +kernel
/-- the sample's is written there only. -/
theorem idle10 : ∀ t : Fin grid0.N, idle0 10 (grid0.coords t) = decide (t.val ≠ 32) := by decide +kernel

/-- The prompt window is written back at the steps before the last but one, and at the last. -/
theorem flush9 : ∀ t : Fin (cfgA m).N, ((cfgA m).win 9).flush t = decide (t.val ≠ 31) := by
  have h : ∀ t : Fin grid0.N, spec0_9.flushAt cc0_transform_12 t = decide (t.val ≠ 31) := by decide +kernel
  exact h
/-- The sample window is written back at the last. -/
theorem flush10 : ∀ t : Fin (cfgA m).N, ((cfgA m).win 10).flush t = decide (t.val = 32) := by
  have h : ∀ t : Fin grid0.N, spec0_10.flushAt cc0_transform_13 t = decide (t.val = 32) := by decide +kernel
  exact h

end Cert.KernelIdeal.Moe
-- ==== Proof.Steps.lean ====
/-
  The three kinds of step over the values their windows hold.
-/
module

public import proofs.«01_k».proof.Proof.Data
public import Idealize.ShloMosaic.Lib.VecWindow

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

variable (m : (ℓ : Loc nD τ sig) → Buf (Elt F) ℓ) (ρ : Dev nD → PrngReg)

theorem slice3 (c : Dev nD) (X : C19 F) : (((Memref.whole cc0_scratch3).slice (Rect.whole S16x1024x256) (fun _ => rfl)).view.loc (c : Thread nD τ) ↦[((Memref.whole cc0_scratch3).slice (Rect.whole S16x1024x256) (fun _ => rfl)).view.set]{fullShare} X : sProp 𝕄) = ((Memref.whole cc0_scratch3).view.loc (c : Thread nD τ) ↦{fullShare} X) := by
  have h : ((Memref.whole cc0_scratch3).slice (Rect.whole S16x1024x256) (fun _ => rfl)).view.set = Finset.univ := (View.set_slice_whole _ _).trans (Rect.set_whole _)
  rw [h]

theorem slice4 (c : Dev nD) (X : C20 F) : (((Memref.whole cc0_scratch4).slice (Rect.whole S16x1024x256) (fun _ => rfl)).view.loc (c : Thread nD τ) ↦[((Memref.whole cc0_scratch4).slice (Rect.whole S16x1024x256) (fun _ => rfl)).view.set]{fullShare} X : sProp 𝕄) = ((Memref.whole cc0_scratch4).view.loc (c : Thread nD τ) ↦{fullShare} X) := by
  have h : ((Memref.whole cc0_scratch4).slice (Rect.whole S16x1024x256) (fun _ => rfl)).view.set = Finset.univ := (View.set_slice_whole _ _).trans (Rect.set_whole _)
  rw [h]

theorem slice5 (c : Dev nD) (X : C21 F) : (((Memref.whole cc0_scratch5).slice (Rect.whole S4x1024x1024) (fun _ => rfl)).view.loc (c : Thread nD τ) ↦[((Memref.whole cc0_scratch5).slice (Rect.whole S4x1024x1024) (fun _ => rfl)).view.set]{fullShare} X : sProp 𝕄) = ((Memref.whole cc0_scratch5).view.loc (c : Thread nD τ) ↦{fullShare} X) := by
  have h : ((Memref.whole cc0_scratch5).slice (Rect.whole S4x1024x1024) (fun _ => rfl)).view.set = Finset.univ := (View.set_slice_whole _ _).trans (Rect.set_whole _)
  rw [h]

theorem outP_congr (T) (i) (V1) (V3) (V2) {a2 b2 : Vec F S8x64x1024 .f32} (h2 : a2 = b2) {a3 b3 : Vec F S8x64x1024 .bf16} (h3 : a3 = b3) {a4 b4 : Vec F S8x64x128 .f32} (h4 : a4 = b4) {a5 b5 : Vec F S8x1024 .f32} (h5 : a5 = b5) {a13 b13 : Vec F S1x1024 .f32} (h13 : a13 = b13) : outP (F := F) T i V1 V3 V2 a2 a3 a4 a5 a13 = outP T i V1 V3 V2 b2 b3 b4 b5 b13 := by
  rw [h2, h3, h4, h5, h13]

theorem outS_congr (T) (i) (V1) (V3) (V2) {a6 b6 : Vec F S512x1024 .f32} (h6 : a6 = b6) {a7 b7 : Vec F S512x1024 .bf16} (h7 : a7 = b7) {a8 b8 : Vec F S512x128 .f32} (h8 : a8 = b8) {a9 b9 : Vec F S128x1024 .f32} (h9 : a9 = b9) {a13 b13 : Vec F S1x1024 .f32} (h13 : a13 = b13) : outS (F := F) T i V1 V3 V2 a6 a7 a8 a9 a13 = outS T i V1 V3 V2 b6 b7 b8 b9 b13 := by
  rw [h6, h7, h8, h9, h13]

set_option maxHeartbeats 2000000 in
/-- The first step. -/
theorem step_first (c : Dev nD) (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (n : ℕ)
    (D2 : Vec F S8x64x1024 .f32) (D3 : Vec F S8x64x1024 .bf16) (D4 : Vec F S8x64x128 .f32) (D5 : Vec F S8x1024 .f32) (D6 : Vec F S512x1024 .f32) (D7 : Vec F S512x1024 .bf16) (D8 : Vec F S512x128 .f32) (D9 : Vec F S128x1024 .f32) (D13 : Vec F S1x1024 .f32) (D14 : Vec F S8x64x1024 .f32) (h1 : Scalar.cmpi .ne (Scalar.extui (Scalar.cmpi .eq (BitVec.ofNat 32 (i 0).val) 0#32)) 0#32 = 1#1) (h2 : Scalar.cmpi .ne (Scalar.extui (Scalar.xori (Scalar.cmpi .eq (BitVec.ofNat 32 (i 0).val) 32#32) 1#1)) 0#32 = 1#1) (h3 : ¬ Scalar.cmpi .ne (Scalar.extui (Scalar.cmpi .eq (BitVec.ofNat 32 (i 0).val) 32#32)) 0#32 = 1#1) (h4 : k0_cond4 i = 1#1) (h11 : k0_cond11 i = 1#1) (h12 : ¬ k0_cond12 i = 1#1) :
    iprop(carry m c n ∗ (∃ W, owes (c : Thread nD τ) 0 W) ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg13 fullShare D13 ∗ owns (c : Thread nD τ) arg14 fullShare D14) ⊢ wp frame (wpE (defs₀ (F := F)) Variants.none (c : Thread nD τ) none) Set.univ
      (cc0_moe_skel (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) (fun _ => iprop(carry m c (n + 1) ∗ (∃ W, owes (c : Thread nD τ) 0 W) ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg13 fullShare D13 ∗ owns (c : Thread nD τ) arg14 fullShare (outP (tab (Gr m 0)) i (V m c main_arg12) (V m c main_arg13) (V m c main_v58) D2 D3 D4 D5 D13))) := by
  unfold carry owns
  iintro ⟨⟨%f16, %f17, %f18, %X1, %X3, %X2, %hX, HS0, HS1, HS2, ⟨⟨HX1, HV1, HM1⟩, ⟨HX3, HV3, HM3⟩, ⟨HX2, HV2, HM2⟩⟩, Hg, HT⟩, ⟨%W, HW⟩, ⟨%Y2, %e2, H2⟩, ⟨%Y3, %e3, H3⟩, ⟨%Y4, %e4, H4⟩, ⟨%Y5, %e5, H5⟩, ⟨%Y6, %e6, H6⟩, ⟨%Y7, %e7, H7⟩, ⟨%Y8, %e8, H8⟩, ⟨%Y9, %e9, H9⟩, ⟨%Y13, %e13, H13⟩, ⟨%Y14, %e14, H14⟩⟩
  have L := first (𝒱 := Variants.none) c (bd := none) i arg2 harg2 arg3 harg3 arg4 harg4 arg5 harg5 arg6 harg6 arg7 harg7 arg8 harg8 arg9 harg9 arg13 harg13 arg14 harg14 arg15 harg15 (tab (Gr m 0)) (V m c main_arg12) (V m c main_arg13) (V m c main_v58) Y2 Y3 Y4 Y5 Y6 Y7 Y8 Y9 Y13 Y14 f16 f17 f18 X1 X3 X2 W h1 h2 h3 h4 h11 h12 (chk_tab (F := F) _ _)
  iapply (wp_wand_r frame (wpE (defs₀ (F := F)) Variants.none (c : Thread nD τ) none) Set.univ)
  isplitl [H2 H3 H4 H5 H6 H7 H8 H9 H13 H14 HS0 HS1 HS2 HT HW HX1 HV1 HM1 HX3 HV3 HM3 HX2 HV2 HM2]
  · iapply L
    sl_close
  iintro %_ ⟨H2, H3, H4, H5, H6, H7, H8, H9, H13, ⟨⟨HX1, HV1, HM1⟩, ⟨HX3, HV3, HM3⟩, ⟨HX2, HV2, HM2⟩⟩, HT, H14, ⟨%f0, HS0⟩, ⟨%f1, HS1⟩, ⟨%f2, HS2⟩, ⟨%W1, HW⟩⟩
  isplitl [HS0 HS1 HS2 HX1 HV1 HM1 HX3 HV3 HM3 HX2 HV2 HM2 Hg HT]
  · iexists f0, f1, f2, (V m c main_arg12), (V m c main_arg13), (V m c main_v58)
    isplitr
    · ipureintro; exact fun _ => ⟨rfl, rfl, rfl⟩
    iframe HS0 HS1 HS2 HX1 HV1 HM1 HX3 HV3 HM3 HX2 HV2 HM2 HT
    iexact Hg
  isplitl [HW]
  · iexists W1; iexact HW
  isplitl [H2]
  · iexists Y2
    isplitr
    · ipureintro; exact e2
    iexact H2
  isplitl [H3]
  · iexists Y3
    isplitr
    · ipureintro; exact e3
    iexact H3
  isplitl [H4]
  · iexists Y4
    isplitr
    · ipureintro; exact e4
    iexact H4
  isplitl [H5]
  · iexists Y5
    isplitr
    · ipureintro; exact e5
    iexact H5
  isplitl [H6]
  · iexists Y6
    isplitr
    · ipureintro; exact e6
    iexact H6
  isplitl [H7]
  · iexists Y7
    isplitr
    · ipureintro; exact e7
    iexact H7
  isplitl [H8]
  · iexists Y8
    isplitr
    · ipureintro; exact e8
    iexact H8
  isplitl [H9]
  · iexists Y9
    isplitr
    · ipureintro; exact e9
    iexact H9
  isplitl [H13]
  · iexists Y13
    isplitr
    · ipureintro; exact e13
    iexact H13
  iexists _
  isplitr; swap
  · iexact H14
  ipureintro
  refine (View.read_writes_full _ _ _ _ _).trans ?_
  exact outP_congr _ _ _ _ _ ((View.readAt_full _ _ _).trans e2) ((View.readAt_full _ _ _).trans e3) ((View.readAt_full _ _ _).trans e4) ((View.readAt_full _ _ _).trans e5) ((View.readAt_full _ _ _).trans e13)

set_option maxHeartbeats 2000000 in
/-- A prompt step after it. -/
theorem step_mid (c : Dev nD) (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (n : ℕ) (h0 : n ≠ 0)
    (D2 : Vec F S8x64x1024 .f32) (D3 : Vec F S8x64x1024 .bf16) (D4 : Vec F S8x64x128 .f32) (D5 : Vec F S8x1024 .f32) (D6 : Vec F S512x1024 .f32) (D7 : Vec F S512x1024 .bf16) (D8 : Vec F S512x128 .f32) (D9 : Vec F S128x1024 .f32) (D13 : Vec F S1x1024 .f32) (D14 : Vec F S8x64x1024 .f32) (h1 : ¬ Scalar.cmpi .ne (Scalar.extui (Scalar.cmpi .eq (BitVec.ofNat 32 (i 0).val) 0#32)) 0#32 = 1#1) (h2 : Scalar.cmpi .ne (Scalar.extui (Scalar.xori (Scalar.cmpi .eq (BitVec.ofNat 32 (i 0).val) 32#32) 1#1)) 0#32 = 1#1) (h3 : ¬ Scalar.cmpi .ne (Scalar.extui (Scalar.cmpi .eq (BitVec.ofNat 32 (i 0).val) 32#32)) 0#32 = 1#1) (h4 : ¬ k0_cond4 i = 1#1) (h11 : k0_cond11 i = 1#1) (h12 : ¬ k0_cond12 i = 1#1) :
    iprop(carry m c n ∗ (∃ W, owes (c : Thread nD τ) 0 W) ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg13 fullShare D13 ∗ owns (c : Thread nD τ) arg14 fullShare D14) ⊢ wp frame (wpE (defs₀ (F := F)) Variants.none (c : Thread nD τ) none) Set.univ
      (cc0_moe_skel (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) (fun _ => iprop(carry m c (n + 1) ∗ (∃ W, owes (c : Thread nD τ) 0 W) ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg13 fullShare D13 ∗ owns (c : Thread nD τ) arg14 fullShare (outP (tab (Gr m 0)) i (V m c main_arg12) (V m c main_arg13) (V m c main_v58) D2 D3 D4 D5 D13))) := by
  unfold carry owns
  iintro ⟨⟨%f16, %f17, %f18, %X1, %X3, %X2, %hX, HS0, HS1, HS2, ⟨⟨HX1, HV1, HM1⟩, ⟨HX3, HV3, HM3⟩, ⟨HX2, HV2, HM2⟩⟩, Hg, HT⟩, ⟨%W, HW⟩, ⟨%Y2, %e2, H2⟩, ⟨%Y3, %e3, H3⟩, ⟨%Y4, %e4, H4⟩, ⟨%Y5, %e5, H5⟩, ⟨%Y6, %e6, H6⟩, ⟨%Y7, %e7, H7⟩, ⟨%Y8, %e8, H8⟩, ⟨%Y9, %e9, H9⟩, ⟨%Y13, %e13, H13⟩, ⟨%Y14, %e14, H14⟩⟩
  have hX1 := (hX h0).1
  have hX3 := (hX h0).2.1
  have hX2 := (hX h0).2.2
  subst hX1 hX3 hX2
  have L := mid (𝒱 := Variants.none) c (bd := none) i arg2 harg2 arg3 harg3 arg4 harg4 arg5 harg5 arg6 harg6 arg7 harg7 arg8 harg8 arg9 harg9 arg13 harg13 arg14 harg14 arg15 harg15 (tab (Gr m 0)) (V m c main_arg12) (V m c main_arg13) (V m c main_v58) Y2 Y3 Y4 Y5 Y6 Y7 Y8 Y9 Y13 Y14 f16 f17 f18 Set.univ h1 h2 h3 h4 h11 h12 (chk_tab (F := F) _ _)
  rw [slice3 c, slice4 c, slice5 c] at L
  iapply (wp_wand_r frame (wpE (defs₀ (F := F)) Variants.none (c : Thread nD τ) none) Set.univ)
  isplitl [H2 H3 H4 H5 H6 H7 H8 H9 H13 H14 HS0 HS1 HS2 HX1 HX3 HX2 HT]
  · iapply L
    sl_close
  iintro %_ ⟨H2, H3, H4, H5, H6, H7, H8, H9, H13, HX1, HX3, HX2, HT, H14, ⟨%f0, HS0⟩, ⟨%f1, HS1⟩, ⟨%f2, HS2⟩⟩
  isplitl [HS0 HS1 HS2 HX1 HV1 HM1 HX3 HV3 HM3 HX2 HV2 HM2 Hg HT]
  · iexists f0, f1, f2, (V m c main_arg12), (V m c main_arg13), (V m c main_v58)
    isplitr
    · ipureintro; exact fun _ => ⟨rfl, rfl, rfl⟩
    iframe HS0 HS1 HS2 HX1 HV1 HM1 HX3 HV3 HM3 HX2 HV2 HM2 HT
    iexact Hg
  isplitl [HW]
  · iexists W; iexact HW
  isplitl [H2]
  · iexists Y2
    isplitr
    · ipureintro; exact e2
    iexact H2
  isplitl [H3]
  · iexists Y3
    isplitr
    · ipureintro; exact e3
    iexact H3
  isplitl [H4]
  · iexists Y4
    isplitr
    · ipureintro; exact e4
    iexact H4
  isplitl [H5]
  · iexists Y5
    isplitr
    · ipureintro; exact e5
    iexact H5
  isplitl [H6]
  · iexists Y6
    isplitr
    · ipureintro; exact e6
    iexact H6
  isplitl [H7]
  · iexists Y7
    isplitr
    · ipureintro; exact e7
    iexact H7
  isplitl [H8]
  · iexists Y8
    isplitr
    · ipureintro; exact e8
    iexact H8
  isplitl [H9]
  · iexists Y9
    isplitr
    · ipureintro; exact e9
    iexact H9
  isplitl [H13]
  · iexists Y13
    isplitr
    · ipureintro; exact e13
    iexact H13
  iexists _
  isplitr; swap
  · iexact H14
  ipureintro
  refine (View.read_writes_full _ _ _ _ _).trans ?_
  exact outP_congr _ _ _ _ _ ((View.readAt_full _ _ _).trans e2) ((View.readAt_full _ _ _).trans e3) ((View.readAt_full _ _ _).trans e4) ((View.readAt_full _ _ _).trans e5) ((View.readAt_full _ _ _).trans e13)

set_option maxHeartbeats 2000000 in
/-- The sample step. -/
theorem step_last (c : Dev nD) (i : grid0.Coords) (arg2 : Memref sig .tc .vmem S8x64x1024 .f32) (harg2 : arg2.IsWhole) (arg3 : Memref sig .tc .vmem S8x64x1024 .bf16) (harg3 : arg3.IsWhole) (arg4 : Memref sig .tc .vmem S8x64x128 .f32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x128 .f32) (harg8 : arg8.IsWhole) (arg9 : Memref sig .tc .vmem S128x1024 .f32) (harg9 : arg9.IsWhole) (arg13 : Memref sig .tc .vmem S1x1024 .f32) (harg13 : arg13.IsWhole) (arg14 : Memref sig .tc .vmem S8x64x1024 .f32) (harg14 : arg14.IsWhole) (arg15 : Memref sig .tc .vmem S512x1024 .f32) (harg15 : arg15.IsWhole) (n : ℕ) (h0 : n ≠ 0)
    (D2 : Vec F S8x64x1024 .f32) (D3 : Vec F S8x64x1024 .bf16) (D4 : Vec F S8x64x128 .f32) (D5 : Vec F S8x1024 .f32) (D6 : Vec F S512x1024 .f32) (D7 : Vec F S512x1024 .bf16) (D8 : Vec F S512x128 .f32) (D9 : Vec F S128x1024 .f32) (D13 : Vec F S1x1024 .f32) (D15 : Vec F S512x1024 .f32) (h1 : ¬ Scalar.cmpi .ne (Scalar.extui (Scalar.cmpi .eq (BitVec.ofNat 32 (i 0).val) 0#32)) 0#32 = 1#1) (h2 : ¬ Scalar.cmpi .ne (Scalar.extui (Scalar.xori (Scalar.cmpi .eq (BitVec.ofNat 32 (i 0).val) 32#32) 1#1)) 0#32 = 1#1) (h3 : Scalar.cmpi .ne (Scalar.extui (Scalar.cmpi .eq (BitVec.ofNat 32 (i 0).val) 32#32)) 0#32 = 1#1) (h4 : ¬ k0_cond4 i = 1#1) (h11 : ¬ k0_cond11 i = 1#1) (h12 : k0_cond12 i = 1#1) :
    iprop(carry m c n ∗ (∃ W, owes (c : Thread nD τ) 0 W) ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg13 fullShare D13 ∗ owns (c : Thread nD τ) arg15 fullShare D15) ⊢ wp frame (wpE (defs₀ (F := F)) Variants.none (c : Thread nD τ) none) Set.univ
      (cc0_moe_skel (F := F) i (Memref.whole main_v60) (Memref.isWhole_whole _) arg2 harg2 arg3 harg3 arg4 harg4 arg5 harg5 arg6 harg6 arg7 harg7 arg8 harg8 arg9 harg9 (Memref.whole main_arg12) (Memref.isWhole_whole _) (Memref.whole main_arg13) (Memref.isWhole_whole _) (Memref.whole main_v58) (Memref.isWhole_whole _) arg13 harg13 arg14 harg14 arg15 harg15 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) (fun _ => iprop(carry m c (n + 1) ∗ (∃ W, owes (c : Thread nD τ) 0 W) ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg13 fullShare D13 ∗ owns (c : Thread nD τ) arg15 fullShare (outS (tab (Gr m 0)) i (V m c main_arg12) (V m c main_arg13) (V m c main_v58) D6 D7 D8 D9 D13))) := by
  unfold carry owns
  iintro ⟨⟨%f16, %f17, %f18, %X1, %X3, %X2, %hX, HS0, HS1, HS2, ⟨⟨HX1, HV1, HM1⟩, ⟨HX3, HV3, HM3⟩, ⟨HX2, HV2, HM2⟩⟩, Hg, HT⟩, ⟨%W, HW⟩, ⟨%Y2, %e2, H2⟩, ⟨%Y3, %e3, H3⟩, ⟨%Y4, %e4, H4⟩, ⟨%Y5, %e5, H5⟩, ⟨%Y6, %e6, H6⟩, ⟨%Y7, %e7, H7⟩, ⟨%Y8, %e8, H8⟩, ⟨%Y9, %e9, H9⟩, ⟨%Y13, %e13, H13⟩, ⟨%Y15, %e15, H15⟩⟩
  have hX1 := (hX h0).1
  have hX3 := (hX h0).2.1
  have hX2 := (hX h0).2.2
  subst hX1 hX3 hX2
  have L := last (𝒱 := Variants.none) c (bd := none) i arg2 harg2 arg3 harg3 arg4 harg4 arg5 harg5 arg6 harg6 arg7 harg7 arg8 harg8 arg9 harg9 arg13 harg13 arg14 harg14 arg15 harg15 (tab (Gr m 0)) (V m c main_arg12) (V m c main_arg13) (V m c main_v58) Y2 Y3 Y4 Y5 Y6 Y7 Y8 Y9 Y13 Y15 f16 f17 f18 Set.univ h1 h2 h3 h4 h11 h12 (chk_tab (F := F) _ _)
  rw [slice3 c, slice4 c, slice5 c] at L
  iapply (wp_wand_r frame (wpE (defs₀ (F := F)) Variants.none (c : Thread nD τ) none) Set.univ)
  isplitl [H2 H3 H4 H5 H6 H7 H8 H9 H13 H15 HS0 HS1 HS2 HX1 HX3 HX2 HT]
  · iapply L
    sl_close
  iintro %_ ⟨H2, H3, H4, H5, H6, H7, H8, H9, H13, HX1, HX3, HX2, HT, H15, ⟨%f0, HS0⟩, ⟨%f1, HS1⟩, ⟨%f2, HS2⟩⟩
  isplitl [HS0 HS1 HS2 HX1 HV1 HM1 HX3 HV3 HM3 HX2 HV2 HM2 Hg HT]
  · iexists f0, f1, f2, (V m c main_arg12), (V m c main_arg13), (V m c main_v58)
    isplitr
    · ipureintro; exact fun _ => ⟨rfl, rfl, rfl⟩
    iframe HS0 HS1 HS2 HX1 HV1 HM1 HX3 HV3 HM3 HX2 HV2 HM2 HT
    iexact Hg
  isplitl [HW]
  · iexists W; iexact HW
  isplitl [H2]
  · iexists Y2
    isplitr
    · ipureintro; exact e2
    iexact H2
  isplitl [H3]
  · iexists Y3
    isplitr
    · ipureintro; exact e3
    iexact H3
  isplitl [H4]
  · iexists Y4
    isplitr
    · ipureintro; exact e4
    iexact H4
  isplitl [H5]
  · iexists Y5
    isplitr
    · ipureintro; exact e5
    iexact H5
  isplitl [H6]
  · iexists Y6
    isplitr
    · ipureintro; exact e6
    iexact H6
  isplitl [H7]
  · iexists Y7
    isplitr
    · ipureintro; exact e7
    iexact H7
  isplitl [H8]
  · iexists Y8
    isplitr
    · ipureintro; exact e8
    iexact H8
  isplitl [H9]
  · iexists Y9
    isplitr
    · ipureintro; exact e9
    iexact H9
  isplitl [H13]
  · iexists Y13
    isplitr
    · ipureintro; exact e13
    iexact H13
  iexists _
  isplitr; swap
  · iexact H15
  ipureintro
  refine (View.read_writes_full _ _ _ _ _).trans ?_
  exact outS_congr _ _ _ _ _ ((View.readAt_full _ _ _).trans e6) ((View.readAt_full _ _ _).trans e7) ((View.readAt_full _ _ _).trans e8) ((View.readAt_full _ _ _).trans e9) ((View.readAt_full _ _ _).trans e13)

end Cert.KernelIdeal.Moe
-- ==== Proof.Body.lean ====
/-
  One step of the call's grid, from what it finds to what it leaves.
-/
module

public import proofs.«01_k».proof.Proof.Steps

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

variable (m : (ℓ : Loc nD τ sig) → Buf (Elt F) ℓ) (ρ : Dev nD → PrngReg)

abbrev ms0 (t : Fin (cfgA m).N) := spec0_0.stage ((cfgA m).slots t 0)
abbrev ms1 (t : Fin (cfgA m).N) := spec0_1.stage ((cfgA m).slots t 1)
abbrev ms2 (t : Fin (cfgA m).N) := spec0_2.stage ((cfgA m).slots t 2)
abbrev ms3 (t : Fin (cfgA m).N) := spec0_3.stage ((cfgA m).slots t 3)
abbrev ms4 (t : Fin (cfgA m).N) := spec0_4.stage ((cfgA m).slots t 4)
abbrev ms5 (t : Fin (cfgA m).N) := spec0_5.stage ((cfgA m).slots t 5)
abbrev ms6 (t : Fin (cfgA m).N) := spec0_6.stage ((cfgA m).slots t 6)
abbrev ms7 (t : Fin (cfgA m).N) := spec0_7.stage ((cfgA m).slots t 7)
abbrev ms8 (t : Fin (cfgA m).N) := spec0_8.stage ((cfgA m).slots t 8)
abbrev ms9 (t : Fin (cfgA m).N) := spec0_9.stage ((cfgA m).slots t 9)
abbrev ms10 (t : Fin (cfgA m).N) := spec0_10.stage ((cfgA m).slots t 10)

/-- The kernel at step `t`. -/
abbrev bodyAt (t : Fin (cfgA m).N) : Prog (TpuEff nD τ sig (Elt F) Λ₀ .tc) PUnit :=
  cc0_moe_skel (F := F) (grid0.coords t) (Memref.whole main_v60) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (Memref.whole main_arg12) (Memref.isWhole_whole _) (Memref.whole main_arg13) (Memref.isWhole_whole _) (Memref.whole main_v58) (Memref.isWhole_whole _) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6

theorem defs₀_row (t : Fin (cfgA m).N) : defs₀ (F := F) .tc (cfgA m).body ((cfgA m).bodyArgs t ((cfgA m).slots t)) = bodyAt m t := by
  unfold defs₀; rw [Defs.onTc_tc]; rfl

/-- A step finds, -/
def bodyPre (c : Dev nD) (t : Fin (cfgA m).N) : sProp 𝕄 :=
  iprop((dats m 0 c).Φ t.castSucc ∗ (dats m 0 c).owesAt () t.castSucc ∗ (∃ d, owns (c : Thread nD τ) (ms0 m t) fullShare ((dats m 0 c).before 0 t d)) ∗ (∃ d, owns (c : Thread nD τ) (ms1 m t) fullShare ((dats m 0 c).before 1 t d)) ∗ (∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d)) ∗ (∃ d, owns (c : Thread nD τ) (ms6 m t) fullShare ((dats m 0 c).before 6 t d)) ∗ (∃ d, owns (c : Thread nD τ) (ms7 m t) fullShare ((dats m 0 c).before 7 t d)) ∗ (∃ d, owns (c : Thread nD τ) (ms8 m t) fullShare ((dats m 0 c).before 8 t d)) ∗ (∃ d, owns (c : Thread nD τ) (ms9 m t) fullShare ((dats m 0 c).before 9 t d)) ∗ (∃ d, owns (c : Thread nD τ) (ms10 m t) fullShare ((dats m 0 c).before 10 t d)))
/-- and leaves, with `P9` and `P10` of the two results' windows. -/
def bodyPost (c : Dev nD) (t : Fin (cfgA m).N) (P9 P10 : sProp 𝕄) : sProp 𝕄 :=
  iprop((dats m 0 c).Φ t.succ ∗ (dats m 0 c).owesAt () t.succ ∗ owns (c : Thread nD τ) (ms0 m t) fullShare ((dats m 0 c).after 0 t) ∗ owns (c : Thread nD τ) (ms1 m t) fullShare ((dats m 0 c).after 1 t) ∗ owns (c : Thread nD τ) (ms2 m t) fullShare ((dats m 0 c).after 2 t) ∗ owns (c : Thread nD τ) (ms3 m t) fullShare ((dats m 0 c).after 3 t) ∗ owns (c : Thread nD τ) (ms4 m t) fullShare ((dats m 0 c).after 4 t) ∗ owns (c : Thread nD τ) (ms5 m t) fullShare ((dats m 0 c).after 5 t) ∗ owns (c : Thread nD τ) (ms6 m t) fullShare ((dats m 0 c).after 6 t) ∗ owns (c : Thread nD τ) (ms7 m t) fullShare ((dats m 0 c).after 7 t) ∗ owns (c : Thread nD τ) (ms8 m t) fullShare ((dats m 0 c).after 8 t) ∗ P9 ∗ P10)

/-! ## The steps' control words -/

theorem conds_first : ∀ t : Fin grid0.N, t.val = 0 → Scalar.cmpi .ne (Scalar.extui (Scalar.cmpi .eq (BitVec.ofNat 32 ((grid0.coords t) 0).val) 0#32)) 0#32 = 1#1 ∧ Scalar.cmpi .ne (Scalar.extui (Scalar.xori (Scalar.cmpi .eq (BitVec.ofNat 32 ((grid0.coords t) 0).val) 32#32) 1#1)) 0#32 = 1#1 ∧ ¬ Scalar.cmpi .ne (Scalar.extui (Scalar.cmpi .eq (BitVec.ofNat 32 ((grid0.coords t) 0).val) 32#32)) 0#32 = 1#1 ∧ k0_cond4 (grid0.coords t) = 1#1 ∧ k0_cond11 (grid0.coords t) = 1#1 ∧ ¬ k0_cond12 (grid0.coords t) = 1#1 := by decide +kernel
theorem conds_mid : ∀ t : Fin grid0.N, t.val ≠ 0 → t.val ≠ 32 → ¬ Scalar.cmpi .ne (Scalar.extui (Scalar.cmpi .eq (BitVec.ofNat 32 ((grid0.coords t) 0).val) 0#32)) 0#32 = 1#1 ∧ Scalar.cmpi .ne (Scalar.extui (Scalar.xori (Scalar.cmpi .eq (BitVec.ofNat 32 ((grid0.coords t) 0).val) 32#32) 1#1)) 0#32 = 1#1 ∧ ¬ Scalar.cmpi .ne (Scalar.extui (Scalar.cmpi .eq (BitVec.ofNat 32 ((grid0.coords t) 0).val) 32#32)) 0#32 = 1#1 ∧ ¬ k0_cond4 (grid0.coords t) = 1#1 ∧ k0_cond11 (grid0.coords t) = 1#1 ∧ ¬ k0_cond12 (grid0.coords t) = 1#1 := by decide +kernel
theorem conds_last : ∀ t : Fin grid0.N, t.val = 32 → ¬ Scalar.cmpi .ne (Scalar.extui (Scalar.cmpi .eq (BitVec.ofNat 32 ((grid0.coords t) 0).val) 0#32)) 0#32 = 1#1 ∧ ¬ Scalar.cmpi .ne (Scalar.extui (Scalar.xori (Scalar.cmpi .eq (BitVec.ofNat 32 ((grid0.coords t) 0).val) 32#32) 1#1)) 0#32 = 1#1 ∧ Scalar.cmpi .ne (Scalar.extui (Scalar.cmpi .eq (BitVec.ofNat 32 ((grid0.coords t) 0).val) 32#32)) 0#32 = 1#1 ∧ ¬ k0_cond4 (grid0.coords t) = 1#1 ∧ ¬ k0_cond11 (grid0.coords t) = 1#1 ∧ k0_cond12 (grid0.coords t) = 1#1 := by decide +kernel

theorem lt33 (t : Fin (cfgA m).N) : t.val < 33 := lt_of_lt_of_eq t.isLt N_0

theorem upTo_of (t : Fin (cfgA m).N) (h : t.val ≠ 32) : upTo m t = t := by
  have := lt33 m t
  exact Fin.ext (by show min t.val 31 = t.val; omega)

/-- At the last step the prompt's window holds what the step before wrote. -/
theorem before_9_last (c : Dev nD) (t : Fin (cfgA m).N) (h : t.val = 32) (d) : (dats m 0 c).before 9 t d = (dats m 0 c).after 9 t := by
  have hf : ((cfgA m).win 9).flush ⟨t.val - 1, Nat.lt_of_le_of_lt (Nat.sub_le _ _) t.isLt⟩ = false := by
    rw [flush9]; show decide (t.val - 1 ≠ 31) = false; rw [h]; decide
  have hi : (cfgA m).idle 9 ((cfgA m).grid.coords ⟨t.val - 1, Nat.lt_of_le_of_lt (Nat.sub_le _ _) t.isLt⟩) = false := by
    refine (idle9 ⟨t.val - 1, Nat.lt_of_le_of_lt (Nat.sub_le _ _) t.isLt⟩).trans ?_
    show decide (t.val - 1 = 32) = false; rw [h]; decide
  rw [(dats m 0 c).before_of_pos 9 t (by omega) (((cfgA m).win 9).fetch_out rfl t), hf, if_neg Bool.false_ne_true]
  unfold Dat.left
  rw [hi]
  unfold Dat.kept
  rw [Pipeline.fill_of_clip_none 9 _ (fun _ => rfl) d ((dats m 0 c).after 9 _), Pipeline.Window.fill_cut, after_9, after_9]
  exact congrArg (promptAt m c) (Fin.ext (by show min (t.val - 1) 31 = min t.val 31; omega))

theorem Phi_castSucc (c : Dev nD) (t : Fin (cfgA m).N) : (dats m 0 c).Φ t.castSucc = carry m c t.val := by dsimp only [dats]; rfl
theorem Phi_succ (c : Dev nD) (t : Fin (cfgA m).N) : (dats m 0 c).Φ t.succ = carry m c (t.val + 1) := by dsimp only [dats]; rfl
theorem owed_eq (c : Dev nD) (t) : (dats m 0 c).owed t = 0 := rfl

set_option maxHeartbeats 2000000 in
/-- The first step, -/
theorem first_sound (c : Dev nD) (t : Fin (cfgA m).N) (h : t.val = 0) : bodyPre m c t ⊢ wp frame (wpE (defs₀ (F := F)) Variants.none (c : Thread nD τ) none) Set.univ
    (bodyAt m t) (fun _ => bodyPost m c t (owns (c : Thread nD τ) (ms9 m t) fullShare ((dats m 0 c).after 9 t)) iprop(∃ d, owns (c : Thread nD τ) (ms10 m t) fullShare ((dats m 0 c).before 10 t d))) := by
  obtain ⟨h1, h2, h3, h4, h11, h12⟩ := conds_first t h
  unfold bodyPre bodyPost
  unfold Dat.owesAt Pipeline.owesWithin
  rw [Phi_castSucc, Phi_succ, owed_eq, owed_eq, after_0, after_1, after_2, after_3, after_4, after_5, after_6, after_7, after_8]
  iintro ⟨HC, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before_2 m c t d2, before_3 m c t d3, before_4 m c t d4, before_5 m c t d5, before_6 m c t d6, before_7 m c t d7, before_8 m c t d8]
  have L := step_first m c (grid0.coords t) (ms0 m t) (hstage0_0 _) (ms1 m t) (hstage0_1 _) (ms2 m t) (hstage0_2 _) (ms3 m t) (hstage0_3 _) (ms4 m t) (hstage0_4 _) (ms5 m t) (hstage0_5 _) (ms6 m t) (hstage0_6 _) (ms7 m t) (hstage0_7 _) (ms8 m t) (hstage0_8 _) (ms9 m t) (hstage0_9 _) (ms10 m t) (hstage0_10 _) t.val  (inAt m c 0 t) (inAt m c 1 t) (inAt m c 2 t) (inAt m c 3 t) (inAt m c 4 t) (inAt m c 5 t) (inAt m c 6 t) (inAt m c 7 t) (inAt m c 8 t) ((dats m 0 c).before 9 t d9) h1 h2 h3 h4 h11 h12
  iapply (wp_wand_r frame (wpE (defs₀ (F := F)) Variants.none (c : Thread nD τ) none) Set.univ)
  isplitl [HC HW H0 H1 H2 H3 H4 H5 H6 H7 H8 H9]
  · iapply L
    isplitl [HC]; · iexact HC
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨HC, ⟨%W1, HW⟩, H0, H1, H2, H3, H4, H5, H6, H7, H8, H9⟩
  isplitl [HC]; · iexact HC
  isplitl [HW]
  · iexists W1
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [after_9, upTo_of m t (by omega)]; iexact H9
  iexists d10; iexact H10

set_option maxHeartbeats 2000000 in
/-- a prompt step after it, -/
theorem mid_sound (c : Dev nD) (t : Fin (cfgA m).N) (h0 : t.val ≠ 0) (h : t.val ≠ 32) : bodyPre m c t ⊢ wp frame (wpE (defs₀ (F := F)) Variants.none (c : Thread nD τ) none) Set.univ
    (bodyAt m t) (fun _ => bodyPost m c t (owns (c : Thread nD τ) (ms9 m t) fullShare ((dats m 0 c).after 9 t)) iprop(∃ d, owns (c : Thread nD τ) (ms10 m t) fullShare ((dats m 0 c).before 10 t d))) := by
  obtain ⟨h1, h2, h3, h4, h11, h12⟩ := conds_mid t h0 h
  unfold bodyPre bodyPost
  unfold Dat.owesAt Pipeline.owesWithin
  rw [Phi_castSucc, Phi_succ, owed_eq, owed_eq, after_0, after_1, after_2, after_3, after_4, after_5, after_6, after_7, after_8]
  iintro ⟨HC, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before_2 m c t d2, before_3 m c t d3, before_4 m c t d4, before_5 m c t d5, before_6 m c t d6, before_7 m c t d7, before_8 m c t d8]
  have L := step_mid m c (grid0.coords t) (ms0 m t) (hstage0_0 _) (ms1 m t) (hstage0_1 _) (ms2 m t) (hstage0_2 _) (ms3 m t) (hstage0_3 _) (ms4 m t) (hstage0_4 _) (ms5 m t) (hstage0_5 _) (ms6 m t) (hstage0_6 _) (ms7 m t) (hstage0_7 _) (ms8 m t) (hstage0_8 _) (ms9 m t) (hstage0_9 _) (ms10 m t) (hstage0_10 _) t.val (by omega) (inAt m c 0 t) (inAt m c 1 t) (inAt m c 2 t) (inAt m c 3 t) (inAt m c 4 t) (inAt m c 5 t) (inAt m c 6 t) (inAt m c 7 t) (inAt m c 8 t) ((dats m 0 c).before 9 t d9) h1 h2 h3 h4 h11 h12
  iapply (wp_wand_r frame (wpE (defs₀ (F := F)) Variants.none (c : Thread nD τ) none) Set.univ)
  isplitl [HC HW H0 H1 H2 H3 H4 H5 H6 H7 H8 H9]
  · iapply L
    isplitl [HC]; · iexact HC
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨HC, ⟨%W1, HW⟩, H0, H1, H2, H3, H4, H5, H6, H7, H8, H9⟩
  isplitl [HC]; · iexact HC
  isplitl [HW]
  · iexists W1
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [after_9, upTo_of m t (by omega)]; iexact H9
  iexists d10; iexact H10

set_option maxHeartbeats 2000000 in
/-- and the sample step. -/
theorem last_sound (c : Dev nD) (t : Fin (cfgA m).N) (h : t.val = 32) : bodyPre m c t ⊢ wp frame (wpE (defs₀ (F := F)) Variants.none (c : Thread nD τ) none) Set.univ
    (bodyAt m t) (fun _ => bodyPost m c t (owns (c : Thread nD τ) (ms9 m t) fullShare ((dats m 0 c).after 9 t)) (owns (c : Thread nD τ) (ms10 m t) fullShare ((dats m 0 c).after 10 t))) := by
  obtain ⟨h1, h2, h3, h4, h11, h12⟩ := conds_last t h
  unfold bodyPre bodyPost
  unfold Dat.owesAt Pipeline.owesWithin
  rw [Phi_castSucc, Phi_succ, owed_eq, owed_eq, after_0, after_1, after_2, after_3, after_4, after_5, after_6, after_7, after_8]
  iintro ⟨HC, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before_2 m c t d2, before_3 m c t d3, before_4 m c t d4, before_5 m c t d5, before_6 m c t d6, before_7 m c t d7, before_8 m c t d8]
  have L := step_last m c (grid0.coords t) (ms0 m t) (hstage0_0 _) (ms1 m t) (hstage0_1 _) (ms2 m t) (hstage0_2 _) (ms3 m t) (hstage0_3 _) (ms4 m t) (hstage0_4 _) (ms5 m t) (hstage0_5 _) (ms6 m t) (hstage0_6 _) (ms7 m t) (hstage0_7 _) (ms8 m t) (hstage0_8 _) (ms9 m t) (hstage0_9 _) (ms10 m t) (hstage0_10 _) t.val (by omega) (inAt m c 0 t) (inAt m c 1 t) (inAt m c 2 t) (inAt m c 3 t) (inAt m c 4 t) (inAt m c 5 t) (inAt m c 6 t) (inAt m c 7 t) (inAt m c 8 t) ((dats m 0 c).before 10 t d10) h1 h2 h3 h4 h11 h12
  iapply (wp_wand_r frame (wpE (defs₀ (F := F)) Variants.none (c : Thread nD τ) none) Set.univ)
  isplitl [HC HW H0 H1 H2 H3 H4 H5 H6 H7 H8 H10]
  · iapply L
    isplitl [HC]; · iexact HC
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  iintro %_ ⟨HC, ⟨%W1, HW⟩, H0, H1, H2, H3, H4, H5, H6, H7, H8, H10⟩
  isplitl [HC]; · iexact HC
  isplitl [HW]
  · iexists W1
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [before_9_last m c t h]; iexact H9
  rw [after_10]; iexact H10

end Cert.KernelIdeal.Moe
-- ==== Proof.Obliged.lean ====
/-
  The call's obligation of its kernel, at every step.
-/
module

public import proofs.«01_k».proof.Proof.Body

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

variable (m : (ℓ : Loc nD τ sig) → Buf (Elt F) ℓ) (ρ : Dev nD → PrngReg)

/-- A window a step writes is left at what the step writes; -/
theorem live {b f : Bool} {X A : sProp 𝕄} : b = false → (A ⊢ (match b with | true => (match f with | false => X | true => A) | false => A)) := by
  intro hb; subst hb; exact Entails.of_eq rfl
/-- one it doesn't write and that isn't written back is handed on; -/
theorem still {b f : Bool} {X A : sProp 𝕄} : b = true → f = false → (X ⊢ (match b with | true => (match f with | false => X | true => A) | false => A)) := by
  intro hb hf; subst hb; subst hf; exact Entails.of_eq rfl
/-- one it doesn't write and that is written back must be at what it is to hold. -/
theorem kept {b f : Bool} {X A : sProp 𝕄} : b = true → f = true → (A ⊢ (match b with | true => (match f with | false => X | true => A) | false => A)) := by
  intro hb hf; subst hb; subst hf; exact Entails.of_eq rfl

set_option maxHeartbeats 2000000 in
set_option backward.isDefEq.respectTransparency.types false in
theorem at_first (c : Dev nD) (t : Fin (cfgA m).N) (h : t.val = 0) :
    iprop((dats m 0 c).Φ t.castSucc ∗ (dats m 0 c).owesAt () t.castSucc ∗ bigSep Finset.univ fun w : Fin (cfgA m).W => iprop(∃ d, owns (c : Thread nD τ) (((cfgA m).win w).stage ((cfgA m).slots t w)) fullShare ((dats m 0 c).before w t d)))
      ⊢ wp frame (wpE (defs₀ (F := F)) Variants.none (c : Thread nD τ) none) Set.univ (defs₀ (F := F) .tc (cfgA m).body ((cfgA m).bodyArgs t ((cfgA m).slots t))) fun _ =>
          iprop((dats m 0 c).Φ t.succ ∗ (dats m 0 c).owesAt () t.succ ∗ bigSep Finset.univ fun w : Fin (cfgA m).W =>
            match (cfgA m).idle w ((cfgA m).grid.coords t) with
            | true =>
              match ((cfgA m).win w).flush t with
              | false => iprop(∃ d, owns (c : Thread nD τ) (((cfgA m).win w).stage ((cfgA m).slots t w)) fullShare ((dats m 0 c).before w t d))
              | true => owns (c : Thread nD τ) (((cfgA m).win w).stage ((cfgA m).slots t w)) fullShare ((dats m 0 c).after w t)
            | false => owns (c : Thread nD τ) (((cfgA m).win w).stage ((cfgA m).slots t w)) fullShare ((dats m 0 c).after w t)) := by
  have e9 : (cfgA m).idle 9 ((cfgA m).grid.coords t) = false := (idle9 t).trans (by simp only [h]; try decide)
  have e10 : (cfgA m).idle 10 ((cfgA m).grid.coords t) = true := (idle10 t).trans (by simp only [h]; try decide)
  have f : ((cfgA m).win 10).flush t = false := (flush10 m t).trans (by simp only [h]; try decide)
  rw [bigSep_W0, bigSep_W0, defs₀_row]
  exact triple_restated (first_sound m c t h) rfl .rfl fun _ => (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (live e9) (still e10 f)))))))))))))

set_option maxHeartbeats 2000000 in
set_option backward.isDefEq.respectTransparency.types false in
theorem at_mid (c : Dev nD) (t : Fin (cfgA m).N) (h0 : t.val ≠ 0) (h : t.val ≠ 32) :
    iprop((dats m 0 c).Φ t.castSucc ∗ (dats m 0 c).owesAt () t.castSucc ∗ bigSep Finset.univ fun w : Fin (cfgA m).W => iprop(∃ d, owns (c : Thread nD τ) (((cfgA m).win w).stage ((cfgA m).slots t w)) fullShare ((dats m 0 c).before w t d)))
      ⊢ wp frame (wpE (defs₀ (F := F)) Variants.none (c : Thread nD τ) none) Set.univ (defs₀ (F := F) .tc (cfgA m).body ((cfgA m).bodyArgs t ((cfgA m).slots t))) fun _ =>
          iprop((dats m 0 c).Φ t.succ ∗ (dats m 0 c).owesAt () t.succ ∗ bigSep Finset.univ fun w : Fin (cfgA m).W =>
            match (cfgA m).idle w ((cfgA m).grid.coords t) with
            | true =>
              match ((cfgA m).win w).flush t with
              | false => iprop(∃ d, owns (c : Thread nD τ) (((cfgA m).win w).stage ((cfgA m).slots t w)) fullShare ((dats m 0 c).before w t d))
              | true => owns (c : Thread nD τ) (((cfgA m).win w).stage ((cfgA m).slots t w)) fullShare ((dats m 0 c).after w t)
            | false => owns (c : Thread nD τ) (((cfgA m).win w).stage ((cfgA m).slots t w)) fullShare ((dats m 0 c).after w t)) := by
  have e9 : (cfgA m).idle 9 ((cfgA m).grid.coords t) = false := (idle9 t).trans (by simp only [h, not_false_eq_true, ne_eq]; try decide)
  have e10 : (cfgA m).idle 10 ((cfgA m).grid.coords t) = true := (idle10 t).trans (by simp only [h, not_false_eq_true, ne_eq]; try decide)
  have f : ((cfgA m).win 10).flush t = false := (flush10 m t).trans (by simp only [h, not_false_eq_true, ne_eq]; try decide)
  rw [bigSep_W0, bigSep_W0, defs₀_row]
  exact triple_restated (mid_sound m c t h0 h) rfl .rfl fun _ => (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (live e9) (still e10 f)))))))))))))

set_option maxHeartbeats 2000000 in
set_option backward.isDefEq.respectTransparency.types false in
theorem at_last (c : Dev nD) (t : Fin (cfgA m).N) (h : t.val = 32) :
    iprop((dats m 0 c).Φ t.castSucc ∗ (dats m 0 c).owesAt () t.castSucc ∗ bigSep Finset.univ fun w : Fin (cfgA m).W => iprop(∃ d, owns (c : Thread nD τ) (((cfgA m).win w).stage ((cfgA m).slots t w)) fullShare ((dats m 0 c).before w t d)))
      ⊢ wp frame (wpE (defs₀ (F := F)) Variants.none (c : Thread nD τ) none) Set.univ (defs₀ (F := F) .tc (cfgA m).body ((cfgA m).bodyArgs t ((cfgA m).slots t))) fun _ =>
          iprop((dats m 0 c).Φ t.succ ∗ (dats m 0 c).owesAt () t.succ ∗ bigSep Finset.univ fun w : Fin (cfgA m).W =>
            match (cfgA m).idle w ((cfgA m).grid.coords t) with
            | true =>
              match ((cfgA m).win w).flush t with
              | false => iprop(∃ d, owns (c : Thread nD τ) (((cfgA m).win w).stage ((cfgA m).slots t w)) fullShare ((dats m 0 c).before w t d))
              | true => owns (c : Thread nD τ) (((cfgA m).win w).stage ((cfgA m).slots t w)) fullShare ((dats m 0 c).after w t)
            | false => owns (c : Thread nD τ) (((cfgA m).win w).stage ((cfgA m).slots t w)) fullShare ((dats m 0 c).after w t)) := by
  have e9 : (cfgA m).idle 9 ((cfgA m).grid.coords t) = true := (idle9 t).trans (by simp only [h]; try decide)
  have e10 : (cfgA m).idle 10 ((cfgA m).grid.coords t) = false := (idle10 t).trans (by simp only [h]; try decide)
  have f : ((cfgA m).win 9).flush t = true := (flush9 m t).trans (by simp only [h]; try decide)
  rw [bigSep_W0, bigSep_W0, defs₀_row]
  exact triple_restated (last_sound m c t h) rfl .rfl fun _ => (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (BI.Entails.refl _) (BI.sep_mono (kept e9 f) (live e10)))))))))))))

/-- The obligation of every step. -/
theorem body_obligation (c : Dev nD) : BodyObligation (dats (F := F) m 0 c) (defs₀ (F := F)) Variants.none () Set.univ := fun t => by
  by_cases h0 : t.val = 0
  · exact at_first m c t h0
  by_cases h : t.val = 32
  · exact at_last m c t h
  exact at_mid m c t h0 h

end Cert.KernelIdeal.Moe
-- ==== Proof.Run.lean ====
/-
  The launch and the run of the whole program, over any element values.
-/
module

public import proofs.«01_k».proof.Proof.Obliged
public import Idealize.ShloMosaic.Lib.Pipeline.Frame

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

variable (m : (ℓ : Loc nD τ sig) → Buf (Elt F) ℓ) (ρ : Dev nD → PrngReg)

/-! ## The launch -/

/-- The copies' semaphores. -/
abbrev osem0 : Fin 12 → SemLoc sig := fun j => (![SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 12 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7, 8, 9, 10, 11] (by decide) (by decide)]; rfl

theorem sem1_eq : sem1 g0 = SemLoc.dma 15 ∧ sem1 g1 = SemLoc.dma 16 ∧ sem1 g2 = SemLoc.dma 17 ∧ sem1 g3 = SemLoc.dma 18 := by decide +kernel
theorem sem3_eq : sem3 g0 = SemLoc.dma 19 ∧ sem3 g1 = SemLoc.dma 20 ∧ sem3 g2 = SemLoc.dma 21 ∧ sem3 g3 = SemLoc.dma 22 := by decide +kernel
theorem sem2_eq : sem2 g0 = SemLoc.dma 23 ∧ sem2 g1 = SemLoc.dma 24 ∧ sem2 g2 = SemLoc.dma 25 ∧ sem2 g3 = SemLoc.dma 26 := by decide +kernel

/-- The weights in HBM. -/
abbrev weights : Finset (Ref sig .tc) := {main_arg12, main_arg13, main_v58}
theorem weights_sub : weights ⊆ Pipeline.restRefsP sig pre0 spec0 := by decide
theorem weights_eq (c : Dev nD) :
    (bigSep weights fun b => ((c : Thread nD τ).loc b ↦{fullShare} V m c b : sProp 𝕄))
      = iprop(((c : Thread nD τ).loc main_arg12 ↦{fullShare} V m c main_arg12) ∗ ((c : Thread nD τ).loc main_arg13 ↦{fullShare} V m c main_arg13) ∗ ((c : Thread nD τ).loc main_v58 ↦{fullShare} V m c main_v58)) := by
  rw [BI.bigSep_eq_bigSepL_of_eq [main_arg12, main_arg13, main_v58] (by decide) (by decide)]; rfl

set_option maxRecDepth 100000 in
set_option maxHeartbeats 4000000 in
/-- The table held. -/
theorem table_of (c : Dev nD) (v : pre0.Contents (Elt F)) : (Pipeline.ΦT pre0 v c : sProp 𝕄) = ((c : Thread nD τ).loc main_v60 ↦{fullShare.right} v ⟨0, Nat.one_pos⟩) := by
  unfold Pipeline.ΦT Pipeline.prefHeld
  rw [BI.bigSep_eq_bigSepL_of_eq [(0 : Fin pre0.K)] (by decide) (by decide)]; rfl
theorem table_at (h : 0 < pre0.K) : (adm m 0).1 ⟨0, h⟩ = tab (F := F) (Gr m 0) := by dsimp only [adm]
theorem table_eq (c : Dev nD) : (Pipeline.ΦT pre0 (adm m 0).1 c : sProp 𝕄) = ((c : Thread nD τ).loc main_v60 ↦{fullShare.right} tab (F := F) (Gr m 0)) := by
  rw [table_of, table_at]

/-- An array whole, as its memref's box. -/
theorem whole_box {sp} {e} {s} (r : Memref sig .tc sp s e) (h : r.view.set = Finset.univ) (c : Dev nD) (q) (f) : ((r.view.loc (c : Thread nD τ) ↦{q} f) : sProp 𝕄) = (r.view.loc (c : Thread nD τ) ↦[r.view.set]{q} f) := by
  rw [h]

theorem fst_zero (c : Dev nD) : (dats m 0 c).Φ 0 = carry m c 0 := by dsimp only [dats]; rfl
theorem fst_last (c : Dev nD) : (dats m 0 c).Φ (Fin.last (cfgA m).N) = carry m c (cfgA m).N := by dsimp only [dats]; rfl

set_option maxHeartbeats 4000000 in
theorem enter (c : Dev nD) : iprop(Pipeline.ΦD osem0 spec0 weights (V m) c ∗ Pipeline.ΦT pre0 (adm m 0).1 c) ⊢ (dats m 0 c).Φ 0 := by
  rw [Pipeline.ΦD_eq, scopedRest0_eq, ownSems0_list, weights_eq, table_eq, fst_zero]
  unfold carry Whole
  rw [four, four, four, sem1_eq.1, sem1_eq.2.1, sem1_eq.2.2.1, sem1_eq.2.2.2, sem3_eq.1, sem3_eq.2.1, sem3_eq.2.2.1, sem3_eq.2.2.2, sem2_eq.1, sem2_eq.2.1, sem2_eq.2.2.1, sem2_eq.2.2.2]
  generalize V m c main_arg12 = V1
  generalize V m c main_arg13 = V3
  generalize V m c main_v58 = V2
  generalize tab (F := F) (Gr m 0) = T
  iintro ⟨⟨⟨⟨%f16, A0⟩, ⟨%f17, A1⟩, ⟨%f18, A2⟩, ⟨%X1, A3⟩, ⟨%X3, A4⟩, ⟨%X2, A5⟩⟩, Hg, ⟨S15, S16, S17, S18, S19, S20, S21, S22, S23, S24, S25, S26⟩, ⟨M1, M3, M2⟩⟩, HT⟩
  iexists f16, f17, f18, X1, X3, X2
  isplitr
  · ipureintro; exact fun h => absurd rfl h
  isplitl [A0]; · iapply (Entails.of_eq (whole_box (Memref.whole cc0_scratch0) (View.set_whole _) c fullShare f16)); iexact A0
  isplitl [A1]; · iapply (Entails.of_eq (whole_box (Memref.whole cc0_scratch1) (View.set_whole _) c fullShare f17)); iexact A1
  isplitl [A2]; · iapply (Entails.of_eq (whole_box (Memref.whole cc0_scratch2) (View.set_whole _) c fullShare f18)); iexact A2
  isplitl [A3 A4 A5 M1 M3 M2 S15 S16 S17 S18 S19 S20 S21 S22 S23 S24 S25 S26]
  · isplitl [A3 M1 S15 S16 S17 S18]
    · isplitl [A3]; · iexact A3
      isplitl [M1]; · iexact M1
      isplitl [S15]; · iexact S15
      isplitl [S16]; · iexact S16
      isplitl [S17]; · iexact S17
      iexact S18
    isplitl [A4 M3 S19 S20 S21 S22]
    · isplitl [A4]; · iexact A4
      isplitl [M3]; · iexact M3
      isplitl [S19]; · iexact S19
      isplitl [S20]; · iexact S20
      isplitl [S21]; · iexact S21
      iexact S22
    isplitl [A5]; · iexact A5
    isplitl [M2]; · iexact M2
    isplitl [S23]; · iexact S23
    isplitl [S24]; · iexact S24
    isplitl [S25]; · iexact S25
    iexact S26
  isplitl [Hg]; · iexact Hg
  iapply (Entails.of_eq (whole_box (Memref.whole main_v60) (View.set_whole _) c fullShare.right T)); iexact HT

set_option maxHeartbeats 4000000 in
theorem leave (c : Dev nD) : (dats m 0 c).Φ (Fin.last (cfgA m).N) ⊢ Pipeline.ΦD osem0 spec0 weights (V m) c := by
  rw [Pipeline.ΦD_eq, scopedRest0_eq, ownSems0_list, weights_eq, fst_last]
  unfold carry Whole
  rw [four, four, four, sem1_eq.1, sem1_eq.2.1, sem1_eq.2.2.1, sem1_eq.2.2.2, sem3_eq.1, sem3_eq.2.1, sem3_eq.2.2.1, sem3_eq.2.2.2, sem2_eq.1, sem2_eq.2.1, sem2_eq.2.2.1, sem2_eq.2.2.2]
  generalize V m c main_arg12 = V1
  generalize V m c main_arg13 = V3
  generalize V m c main_v58 = V2
  generalize tab (F := F) (Gr m 0) = T
  iintro ⟨%f16, %f17, %f18, %X1, %X3, %X2, -, A0, A1, A2, ⟨⟨A3, M1, S15, S16, S17, S18⟩, ⟨A4, M3, S19, S20, S21, S22⟩, ⟨A5, M2, S23, S24, S25, S26⟩⟩, Hg, HT⟩
  iclear HT
  isplitl [A0 A1 A2 A3 A4 A5]
  · isplitl [A0]; · iexists f16; iapply (Entails.of_eq (whole_box (Memref.whole cc0_scratch0) (View.set_whole _) c fullShare f16).symm); iexact A0
    isplitl [A1]; · iexists f17; iapply (Entails.of_eq (whole_box (Memref.whole cc0_scratch1) (View.set_whole _) c fullShare f17).symm); iexact A1
    isplitl [A2]; · iexists f18; iapply (Entails.of_eq (whole_box (Memref.whole cc0_scratch2) (View.set_whole _) c fullShare f18).symm); iexact A2
    isplitl [A3]; · iexists X1; iexact A3
    isplitl [A4]; · iexists X3; iexact A4
    iexists X2; iexact A5
  isplitl [Hg]; · iexact Hg
  isplitl [S15 S16 S17 S18 S19 S20 S21 S22 S23 S24 S25 S26]
  · isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    iexact S26
  isplitl [M1]; · iexact M1
  isplitl [M3]; · iexact M3
  iexact M2

set_option maxRecDepth 100000 in
set_option maxHeartbeats 4000000 in
theorem hostOps0_fresh : (hostOps0 : List (HloOp τ sig (Elt F))).Forall fun op => op.fresh = ∅ := by
  simp only [List.Forall]
  repeat' constructor

/-- The table the call is run at is the one the host lines leave. -/
theorem table_is (c : Dev nD) (k : Fin pre0.K) : V m c (pre0.ref k) = (adm m 0).1 k := by
  obtain rfl : c = 0 := Subsingleton.elim _ _
  match k with
  | ⟨0, _⟩ =>
    rw [table_at]
    unfold tab Gr
    exact v60_eq (F := F) (fun b => m (0, b))
  | ⟨_ + 1, h⟩ => exact absurd h (Nat.not_lt.2 (Nat.le_add_left _ _))

set_option backward.isDefEq.respectTransparency.types false in
/-- The run: the windows' arrays as described, every other buffer as the host lines left it, every counter at zero. -/
theorem run_main : θ_run defs (onTc (τ := τ) (main (F := F))) (s₀ m ρ)
    (fun r => Pipeline.FramePost (Pipeline.pin pcfgs (adm m)) (dats m) 0 (V m) r ∧ r.2.sem = fun _ => 0) :=
  Pipeline.θ_run_frameP_dma (Q' := _) pcfgs (adm m) (dats m) (0 : Fin 1) launch0 osem0 defs₀ Variants.none ownSemFacts0 weights weights_sub m ρ main
    (hbody := fun c => (body_obligation m c).loose) (hshare := fun c => (dats m 0 c).share_full fun _ => rfl)
    (howed := fun _ _ => rfl) (V := V m) (hmain := Pipeline.hmainP_prefix pcfgs 0 defs₀ Variants.none m main hostOps0 hostOps0_sub hostOps0_fresh main_chain) (hA := A_eq m)
    (hpf := table_is m) (hin := enter m) (hout := leave m)

end Cert.KernelIdeal.Moe
-- ==== Proof.Frame.lean ====
/-
  Every argument of the program ends unchanged.
-/
module

public import proofs.«01_k».proof.Proof.Run

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run: the launch's own beside the copies' counters. -/
local notation "𝕄" => MT nD τ sig Unit (Elt F) ℕ (Pipeline.UD sig nD τ) ℕ

variable (m : (ℓ : Loc nD τ sig) → Buf (Elt F) ℓ) (ρ : Dev nD → PrngReg)

/-- What the host lines write, in order. -/
abbrev written : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_c, main_v22, main_v23, main_v24, main_v25, main_v26, main_v27, main_v28, main_v29, main_v30, main_v31, main_v32, main_c_0, main_v33, main_v34, main_v35, main_v36, main_v37, main_v38, main_cst, main_v39, main_v40, main_v41, main_v42, main_v43, main_v44, main_v45, main_v46, main_v47, main_v48, main_v49, main_v50, main_v51, main_v52, main_v53, main_v54, main_v55, main_v56, main_v57, main_v58, main_v59, main_v60, main_v61, main_v62]
set_option maxHeartbeats 4000000 in
set_option maxRecDepth 100000 in
theorem hostOps0_writes : (hostOps0 : List (HloOp τ sig (Elt F))).Forall fun op => op.writes ⊆ (written.map (Proc.devRef (τ := τ) .tc)).toFinset :=
  StableHlo.forall_writes_sub_of_map rfl

/-- A buffer they don't write is as it was. -/
theorem V_of (c : Dev nD) (r : Ref sig .tc) (h : r ∉ written) : V m c r = m ((c : Thread nD τ).loc r) :=
  StableHlo.after_of_writes_sub hostOps0 _ hostOps0_writes h

variable (r : PUnit × MemSt nD τ sig (Elt F))

/-- A buffer that is no window's array and that the host lines don't write ends as it was. -/
theorem kept_rest (h : Pipeline.FramePost (Pipeline.pin pcfgs (adm m)) (dats m) 0 (V m) r) (c : Dev nD) (b : Ref sig .tc) (hb : b ∈ Pipeline.restRefs sig spec0) (hw : b ∉ written) :
    r.2.mem ((c : Thread nD τ).loc b) = m ((c : Thread nD τ).loc b) :=
  ((h c).2 b hb).trans (V_of m c b hw)

/-- So does an operand's array. -/
theorem kept_in (h : Pipeline.FramePost (Pipeline.pin pcfgs (adm m)) (dats m) 0 (V m) r) (c : Dev nD) (w : Fin 11) (hin : ((cfgA m).win w).isOut = false) :
    r.2.mem ((spec0 w).arr.view.loc (c : Thread nD τ)) = V m c (Pipeline.arrRef spec0 w) :=
  ((h c).1 w).trans (((dats m 0 c).arrAt_in w hin _).trans (A_eq m c w))

/-- The program runs, its arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨
    (kept_in m r h.1 c 0 rfl).trans (V_of m c main_arg0 (by decide)),
    (kept_in m r h.1 c 1 rfl).trans (V_of m c main_arg1 (by decide)),
    kept_rest m r h.1 c main_arg2 (Pipeline.mem_restRefs_of main_arg2 (by decide) (by decide)) (by decide),
    kept_rest m r h.1 c main_arg3 (Pipeline.mem_restRefs_of main_arg3 (by decide) (by decide)) (by decide),
    kept_rest m r h.1 c main_arg4 (Pipeline.mem_restRefs_of main_arg4 (by decide) (by decide)) (by decide),
    (kept_in m r h.1 c 3 rfl).trans (V_of m c main_arg5 (by decide)),
    kept_rest m r h.1 c main_arg6 (Pipeline.mem_restRefs_of main_arg6 (by decide) (by decide)) (by decide),
    kept_rest m r h.1 c main_arg7 (Pipeline.mem_restRefs_of main_arg7 (by decide) (by decide)) (by decide),
    kept_rest m r h.1 c main_arg8 (Pipeline.mem_restRefs_of main_arg8 (by decide) (by decide)) (by decide),
    kept_rest m r h.1 c main_arg9 (Pipeline.mem_restRefs_of main_arg9 (by decide) (by decide)) (by decide),
    kept_rest m r h.1 c main_arg10 (Pipeline.mem_restRefs_of main_arg10 (by decide) (by decide)) (by decide),
    (kept_in m r h.1 c 7 rfl).trans (V_of m c main_arg11 (by decide)),
    kept_rest m r h.1 c main_arg12 (Pipeline.mem_restRefs_of main_arg12 (by decide) (by decide)) (by decide),
    kept_rest m r h.1 c main_arg13 (Pipeline.mem_restRefs_of main_arg13 (by decide) (by decide)) (by decide),
    kept_rest m r h.1 c main_arg14 (Pipeline.mem_restRefs_of main_arg14 (by decide) (by decide)) (by decide),
    kept_rest m r h.1 c main_arg15 (Pipeline.mem_restRefs_of main_arg15 (by decide) (by decide)) (by decide)⟩, h.2⟩) (run_main m ρ)

end Cert.KernelIdeal.Moe
-- ==== Proof.Same.lean ====
/-
  The printed program and the one read over the extended reals have one text: their main functions and their tables of
  bodies are equal. The first sixty statements are compared one at a time.
-/
module

public import proofs.«01_k».proof.Defs
public import proofs.«01_k».proof.Proof.Gen.Kernel
public import proofs.«01_k».proof.Proof.Gen.KernelIdeal

@[expose] public section

namespace Cert.Proof

open Idealize.ShloMosaic Idealize.ShloMosaic.TcCoe Idealize.SL.Sem

/-- Two programs that begin alike and go on alike are equal. -/
theorem next.{u, v} {m : Type u → Type v} {_i : Monad m} {α β : Type u} {a a' : m α} {k k' : α → m β} (h : a = a') (hk : ∀ x, k x = k' x) :
    (a >>= k) = (a' >>= k') := by
  rw [h, funext hk]

set_option maxHeartbeats 8000000 in
theorem part0_eq (d : Dev Cert.Kernel.nD) : Cert.Kernel.main_part0 (F := Bits) d = Cert.KernelIdeal.main_part0 (F := Bits) d := by
  delta Cert.Kernel.main_part0 Cert.KernelIdeal.main_part0
  beta_reduce
  iterate 59 (refine @next _ _ _ _ _ _ _ _ ?_ fun _ => ?_; · exact rfl)
  exact rfl

set_option maxHeartbeats 4000000 in
theorem part1_eq (d : Dev Cert.Kernel.nD) : Cert.Kernel.main_part1 (F := Bits) d = Cert.KernelIdeal.main_part1 (F := Bits) d :=
  (fun h => h) rfl

set_option maxHeartbeats 4000000 in
theorem main_same (d : Dev Cert.Kernel.nD) : Cert.Kernel.main (F := Bits) d = Cert.KernelIdeal.main (F := Bits) d := by
  delta Cert.Kernel.main Cert.KernelIdeal.main
  beta_reduce
  exact @next _ _ _ _ _ _ _ _ (part0_eq d) fun _ => part1_eq d

set_option maxHeartbeats 4000000 in
theorem body_same : @Cert.Kernel.cc0_moe Bits _ _ = @Cert.KernelIdeal.cc0_moe Bits _ _ := (fun h => h) rfl

set_option maxHeartbeats 4000000 in
theorem defs₀_same : Cert.Kernel.defs₀ (F := Bits) = Cert.KernelIdeal.defs₀ (F := Bits) := by
  delta Cert.Kernel.defs₀ Cert.KernelIdeal.defs₀
  rw [body_same]
  refine congrArg Defs.onTc ?_
  funext l a
  rcases l with ⟨_ | l, h⟩
  · rcases a with ⟨t, s⟩
    dsimp only
    rfl
  · exact absurd h (Nat.not_lt.2 (Nat.le_add_left _ _))
set_option maxHeartbeats 4000000 in
theorem defs_same : Cert.Kernel.defs (F := Bits) = Cert.KernelIdeal.defs (F := Bits) := by
  delta Cert.Kernel.defs Cert.KernelIdeal.defs
  rw [defs₀_same]
  exact rfl
end Cert.Proof
-- ==== Proof.RefP.lean ====
/-
  The reference's prompt result in stages, and each stage element by element.
-/
module

public import proofs.«01_k».proof.Proof.Gen.ReferenceIdeal.Run
public import Idealize.ShloMosaic.Lib.Pointwise

@[expose] public section

noncomputable section

namespace Cert.ReferenceIdeal.MoeP

open Cert.ReferenceIdeal Cert.ReferenceIdeal.Gen
open Idealize.ShloMosaic Idealize.ShloMosaic.TcCoe Idealize.ShloMosaic.Tactic

variable {F : FTy → Type} [FloatOps F]

/-- Every token's weight of every expert. -/
def comb (g : IVec S8x2048 32) (i : IVec S8x2048x2 32) (w : FVec F S8x2048x2 .f32) : FVec F S16384x16 .f32 :=
  Host.reduceAdd (mulf (uitofp .f32 (cmpi .eq (broadcastInDim S16384x2x16 ![0, 1, 2] bcast_S16384x2x1_S16384x2x16_0_1_2 (broadcastInDim S16384x2x1 ![0, 1] bcast_S16384x2_S16384x2x1_0_1 (addi (broadcastInDim S16384x2 ![0, 1] bcast_S16384x1_S16384x2_0_1 (muli (shapeCast _ g shapeCasts_S8x2048_S16384x1) (broadcastInDim S16384x1 ![] bcast_S_S16384x1 (constantI S_ 32 4#32)))) (shapeCast _ i shapeCasts_S8x2048x2_S16384x2)))) (broadcastInDim S16384x2x16 ![0, 1, 2] bcast_S1x1x16_S16384x2x16_0_1_2 (iotaInDim S1x1x16 32 2)))) (broadcastInDim S16384x2x16 ![0, 1, 2] bcast_S16384x2x1_S16384x2x16_0_1_2 (broadcastInDim S16384x2x1 ![0, 1] bcast_S16384x2_S16384x2x1_0_1 (shapeCast _ w shapeCasts_S8x2048x2_S16384x2)))) (constant S_ .f32 0x00000000#32) reducesTo_S16384x2x16_S16384x16_d1 h_S_

/-- The tokens against every expert's matrix. -/
def up (h : FVec F S8x2048x1024 .bf16) (w : FVec F S16x1024x256 .bf16) : FVec F S16384x16x256 .f32 :=
  Host.dotGeneral dot_S16384x1024_S16x1024x256_S16384x16x256_1_1_0_02_n_n none (shapeCast _ (extf .f32 h bitsLt_bf16_f32) shapeCasts_S8x2048x1024_S16384x1024) (extf .f32 w bitsLt_bf16_f32)

/-- The gated products, each times its expert's weight. -/
def act (a b : FVec F S16384x16x256 .f32) (c : FVec F S16384x16 .f32) : FVec F S16384x16x256 .f32 :=
  mulf (mulf (mulf a (Host.divf (broadcastInDim S16384x16x256 ![] bcast_S_S16384x16x256 (constant S_ .f32 0x3F800000#32)) (addf (broadcastInDim S16384x16x256 ![] bcast_S_S16384x16x256 (constant S_ .f32 0x3F800000#32)) (Host.exp (Host.negf a))))) b) (broadcastInDim S16384x16x256 ![0, 1, 2] bcast_S16384x16x1_S16384x16x256_0_1_2 (broadcastInDim S16384x16x1 ![0, 1] bcast_S16384x16_S16384x16x1_0_1 c))

/-- Their sum over the experts and their widths. -/
def down (a : FVec F S16384x16x256 .f32) (w : FVec F S16x256x1024 .bf16) : FVec F S16384x1024 .f32 :=
  Host.dotGeneral dot_S16384x16x256_S16x256x1024_S16384x1024_12_01_0_2_n_n none a (extf .f32 w bitsLt_bf16_f32)

/-- The tokens with their gated results added, -/
def added (x : FVec F S8x2048x1024 .f32) (md : FVec F S8x6144 .f32) (y : FVec F S16384x1024 .f32) : FVec F S8x2048x1024 .f32 :=
  addf x (mulf (broadcastInDim S8x2048x1024 ![0, 1, 2] bcast_S8x1x1024_S8x2048x1024_0_1_2 (broadcastInDim S8x1x1024 ![0, 2] bcast_S8x1024_S8x1x1024_0_2 (extractStridedSlice S8x1024 ![0, 5120] md slices_S8x6144_S8x1024_0_5120))) (shapeCast _ y shapeCasts_S16384x1024_S8x2048x1024))

/-- normalised. -/
def norm (x : FVec F S8x2048x1024 .f32) (g : FVec F S1024 .f32) : FVec F S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

set_option maxRecDepth 8192 in
theorem res_eq (m : (ℓ : Loc nD τ sig) → Buf (Elt F) ℓ) (c : Dev nD) : Value.res_main_v43 m c =
    norm (added (m ((c.tc : Thread nD τ).loc main_arg0)) (m ((c.tc : Thread nD τ).loc main_arg5))
      (down (act (up (m ((c.tc : Thread nD τ).loc main_arg1)) (m ((c.tc : Thread nD τ).loc main_arg12))) (up (m ((c.tc : Thread nD τ).loc main_arg1)) (m ((c.tc : Thread nD τ).loc main_arg13)))
        (comb (m ((c.tc : Thread nD τ).loc main_arg2)) (m ((c.tc : Thread nD τ).loc main_arg3)) (m ((c.tc : Thread nD τ).loc main_arg4)))) (m ((c.tc : Thread nD τ).loc main_arg14))))
      (m ((c.tc : Thread nD τ).loc main_arg15)) := by
  unfold Value.res_main_v43
  rfl

theorem comb_at (g : IVec S8x2048 32) (i : IVec S8x2048x2 32) (w : FVec Ideal S8x2048x2 .f32) (n : Fin 16384) (e : Fin 16) : comb g i w (ix2 n e)
    = ∑ x : Fin 2, FloatOps.uitofp (F := Ideal) .f32 (IntOp.cmpi .eq (IntOp.addi (IntOp.muli (g (ix2 ⟨n.val / 2048, by omega⟩ ⟨n.val % 2048, Nat.mod_lt _ (by omega)⟩)) 4#32) (i (ix3 ⟨n.val / 2048, by omega⟩ ⟨n.val % 2048, Nat.mod_lt _ (by omega)⟩ x))) (BitVec.ofNat 32 e.val)) * w (ix3 ⟨n.val / 2048, by omega⟩ ⟨n.val % 2048, Nat.mod_lt _ (by omega)⟩ x) := by
  pointwise [comb]
theorem up_at (h : FVec Ideal S8x2048x1024 .bf16) (w : FVec Ideal S16x1024x256 .bf16) (n : Fin 16384) (e : Fin 16) (f : Fin 256) : up h w (ix3 n e f) = ∑ x : Fin 1024, h (ix3 ⟨n.val / 2048, by omega⟩ ⟨n.val % 2048, Nat.mod_lt _ (by omega)⟩ x) * w (ix3 e x f) := by
  pointwise [up]
theorem act_at (a b : FVec Ideal S16384x16x256 .f32) (c : FVec Ideal S16384x16 .f32) (n : Fin 16384) (e : Fin 16) (f : Fin 256) : act a b c (ix3 n e f)
    = a (ix3 n e f) * Ideal.div 1 (1 + Ideal.exp (-a (ix3 n e f))) * b (ix3 n e f) * c (ix2 n e) := by
  pointwise [act]
theorem down_at (a : FVec Ideal S16384x16x256 .f32) (w : FVec Ideal S16x256x1024 .bf16) (n : Fin 16384) (l : Fin 1024) : down a w (ix2 n l) = ∑ x : Fin 16, ∑ y : Fin 256, a (ix3 n x y) * w (ix3 x y l) := by
  pointwise [down]
theorem added_at (x : FVec Ideal S8x2048x1024 .f32) (md : FVec Ideal S8x6144 .f32) (y : FVec Ideal S16384x1024 .f32) (q : Fin 8) (s : Fin 2048) (l : Fin 1024) : added x md y (ix3 q s l)
    = x (ix3 q s l) + md (ix2 q ⟨5120 + l.val, by omega⟩) * y (ix2 ⟨q.val * 2048 + s.val, by omega⟩ l) := by
  pointwise [added]
theorem norm_at (x : FVec Ideal S8x2048x1024 .f32) (g : FVec Ideal S1024 .f32) (q : Fin 8) (s : Fin 2048) (l : Fin 1024) : norm x g (ix3 q s l)
    = x (ix3 q s l) * Ideal.rsqrt (Ideal.div (∑ k : Fin 1024, x (ix3 q s k) * x (ix3 q s k)) (Ideal.ofBits .f32 1149239296#32) + Ideal.ofBits .f32 897988541#32) * g (ix1 l) := by
  pointwise [norm]

end Cert.ReferenceIdeal.MoeP
-- ==== Proof.RefAt.lean ====
/-
  The reference's sample result in stages, and each stage element by element.
-/
module

public import proofs.«01_k».proof.Proof.Gen.ReferenceIdeal.Run
public import Idealize.ShloMosaic.Lib.Pointwise

@[expose] public section

noncomputable section

namespace Cert.ReferenceIdeal.Moe

open Cert.ReferenceIdeal Cert.ReferenceIdeal.Gen
open Idealize.ShloMosaic Idealize.ShloMosaic.TcCoe Idealize.ShloMosaic.Tactic

variable {F : FTy → Type} [FloatOps F]

/-- Every token's weight of every expert. -/
def comb (g : IVec S128x4 32) (i : IVec S128x4x2 32) (w : FVec F S128x4x2 .f32) : FVec F S512x16 .f32 :=
  Host.reduceAdd (mulf (uitofp .f32 (cmpi .eq (broadcastInDim S512x2x16 ![0, 1, 2] bcast_S512x2x1_S512x2x16_0_1_2 (broadcastInDim S512x2x1 ![0, 1] bcast_S512x2_S512x2x1_0_1 (addi (broadcastInDim S512x2 ![0, 1] bcast_S512x1_S512x2_0_1 (muli (shapeCast _ g shapeCasts_S128x4_S512x1) (broadcastInDim S512x1 ![] bcast_S_S512x1 (constantI S_ 32 4#32)))) (shapeCast _ i shapeCasts_S128x4x2_S512x2)))) (broadcastInDim S512x2x16 ![0, 1, 2] bcast_S1x1x16_S512x2x16_0_1_2 (iotaInDim S1x1x16 32 2)))) (broadcastInDim S512x2x16 ![0, 1, 2] bcast_S512x2x1_S512x2x16_0_1_2 (broadcastInDim S512x2x1 ![0, 1] bcast_S512x2_S512x2x1_0_1 (shapeCast _ w shapeCasts_S128x4x2_S512x2)))) (constant S_ .f32 0x00000000#32) reducesTo_S512x2x16_S512x16_d1 h_S_

/-- The tokens against every expert's matrix. -/
def up (h : FVec F S128x4x1024 .bf16) (w : FVec F S16x1024x256 .bf16) : FVec F S512x16x256 .f32 :=
  Host.dotGeneral dot_S512x1024_S16x1024x256_S512x16x256_1_1_0_02_n_n none (shapeCast _ (extf .f32 h bitsLt_bf16_f32) shapeCasts_S128x4x1024_S512x1024) (extf .f32 w bitsLt_bf16_f32)

/-- The gated products, each times its expert's weight. -/
def act (a b : FVec F S512x16x256 .f32) (c : FVec F S512x16 .f32) : FVec F S512x16x256 .f32 :=
  mulf (mulf (mulf a (Host.divf (broadcastInDim S512x16x256 ![] bcast_S_S512x16x256 (constant S_ .f32 0x3F800000#32)) (addf (broadcastInDim S512x16x256 ![] bcast_S_S512x16x256 (constant S_ .f32 0x3F800000#32)) (Host.exp (Host.negf a))))) b) (broadcastInDim S512x16x256 ![0, 1, 2] bcast_S512x16x1_S512x16x256_0_1_2 (broadcastInDim S512x16x1 ![0, 1] bcast_S512x16_S512x16x1_0_1 c))

/-- Their sum over the experts and their widths. -/
def down (a : FVec F S512x16x256 .f32) (w : FVec F S16x256x1024 .bf16) : FVec F S512x1024 .f32 :=
  Host.dotGeneral dot_S512x16x256_S16x256x1024_S512x1024_12_01_0_2_n_n none a (extf .f32 w bitsLt_bf16_f32)

/-- The tokens with their gated results added, -/
def added (x : FVec F S128x4x1024 .f32) (md : FVec F S128x6144 .f32) (y : FVec F S512x1024 .f32) : FVec F S128x4x1024 .f32 :=
  addf x (mulf (broadcastInDim S128x4x1024 ![0, 1, 2] bcast_S128x1x1024_S128x4x1024_0_1_2 (broadcastInDim S128x1x1024 ![0, 2] bcast_S128x1024_S128x1x1024_0_2 (extractStridedSlice S128x1024 ![0, 5120] md slices_S128x6144_S128x1024_0_5120))) (shapeCast _ y shapeCasts_S512x1024_S128x4x1024))

/-- normalised, and laid out by time. -/
def norm (x : FVec F S128x4x1024 .f32) (g : FVec F S1024 .f32) : FVec F S512x1024 .f32 :=
  shapeCast _ (transpose S4x128x1024 [1, 0, 2] (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))) transposes_S128x4x1024_S4x128x1024_1_0_2) shapeCasts_S4x128x1024_S512x1024

set_option maxRecDepth 8192 in
theorem res_eq (m : (ℓ : Loc nD τ sig) → Buf (Elt F) ℓ) (c : Dev nD) : Value.res_main_v86 m c =
    norm (added (m ((c.tc : Thread nD τ).loc main_arg6)) (m ((c.tc : Thread nD τ).loc main_arg11))
      (down (act (up (m ((c.tc : Thread nD τ).loc main_arg7)) (m ((c.tc : Thread nD τ).loc main_arg12))) (up (m ((c.tc : Thread nD τ).loc main_arg7)) (m ((c.tc : Thread nD τ).loc main_arg13)))
        (comb (m ((c.tc : Thread nD τ).loc main_arg8)) (m ((c.tc : Thread nD τ).loc main_arg9)) (m ((c.tc : Thread nD τ).loc main_arg10)))) (m ((c.tc : Thread nD τ).loc main_arg14))))
      (m ((c.tc : Thread nD τ).loc main_arg15)) := by
  unfold Value.res_main_v86
  rfl

theorem comb_at (g : IVec S128x4 32) (i : IVec S128x4x2 32) (w : FVec Ideal S128x4x2 .f32) (n : Fin 512) (e : Fin 16) : comb g i w (ix2 n e)
    = ∑ x : Fin 2, FloatOps.uitofp (F := Ideal) .f32 (IntOp.cmpi .eq (IntOp.addi (IntOp.muli (g (ix2 ⟨n.val / 4, by omega⟩ ⟨n.val % 4, Nat.mod_lt _ (by omega)⟩)) 4#32) (i (ix3 ⟨n.val / 4, by omega⟩ ⟨n.val % 4, Nat.mod_lt _ (by omega)⟩ x))) (BitVec.ofNat 32 e.val)) * w (ix3 ⟨n.val / 4, by omega⟩ ⟨n.val % 4, Nat.mod_lt _ (by omega)⟩ x) := by
  pointwise [comb]
theorem up_at (h : FVec Ideal S128x4x1024 .bf16) (w : FVec Ideal S16x1024x256 .bf16) (n : Fin 512) (e : Fin 16) (f : Fin 256) : up h w (ix3 n e f) = ∑ x : Fin 1024, h (ix3 ⟨n.val / 4, by omega⟩ ⟨n.val % 4, Nat.mod_lt _ (by omega)⟩ x) * w (ix3 e x f) := by
  pointwise [up]
theorem act_at (a b : FVec Ideal S512x16x256 .f32) (c : FVec Ideal S512x16 .f32) (n : Fin 512) (e : Fin 16) (f : Fin 256) : act a b c (ix3 n e f)
    = a (ix3 n e f) * Ideal.div 1 (1 + Ideal.exp (-a (ix3 n e f))) * b (ix3 n e f) * c (ix2 n e) := by
  pointwise [act]
theorem down_at (a : FVec Ideal S512x16x256 .f32) (w : FVec Ideal S16x256x1024 .bf16) (n : Fin 512) (l : Fin 1024) : down a w (ix2 n l) = ∑ x : Fin 16, ∑ y : Fin 256, a (ix3 n x y) * w (ix3 x y l) := by
  pointwise [down]
theorem added_at (x : FVec Ideal S128x4x1024 .f32) (md : FVec Ideal S128x6144 .f32) (y : FVec Ideal S512x1024 .f32) (q : Fin 128) (s : Fin 4) (l : Fin 1024) : added x md y (ix3 q s l)
    = x (ix3 q s l) + md (ix2 q ⟨5120 + l.val, by omega⟩) * y (ix2 ⟨q.val * 4 + s.val, by omega⟩ l) := by
  pointwise [added]
theorem norm_at (x : FVec Ideal S128x4x1024 .f32) (g : FVec Ideal S1024 .f32) (t : Fin 512) (l : Fin 1024) : norm x g (ix2 t l)
    = x (ix3 ⟨t.val % 128, Nat.mod_lt _ (by omega)⟩ ⟨t.val / 128, by omega⟩ l) * Ideal.rsqrt (Ideal.div (∑ k : Fin 1024, x (ix3 ⟨t.val % 128, Nat.mod_lt _ (by omega)⟩ ⟨t.val / 128, by omega⟩ k) * x (ix3 ⟨t.val % 128, Nat.mod_lt _ (by omega)⟩ ⟨t.val / 128, by omega⟩ k)) (Ideal.ofBits .f32 1149239296#32) + Ideal.ofBits .f32 897988541#32) * g (ix1 l) := by
  pointwise [norm]

end Cert.ReferenceIdeal.Moe
-- ==== Proof.PassAt.lean ====
/-
  A pass's value, element by element, on the extended reals.

  The hidden lane `256 e + f` is expert `e`'s unit `f`. So the product with the group's second matrix is a sum over the
  four experts and their 256 units, and a row whose number is out of the group's range adds zero.
-/
module

public import proofs.«01_k».proof.Proof.Pass
public import proofs.«01_k».proof.Proof.Counts
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.Tactic

/-- The kernel's sigmoid: half the hyperbolic tangent of half the value, plus a half. -/
def sgate (u : EReal) : EReal :=
  Ideal.ofBits .f32 1056964608#32 * Ideal.tanh (Ideal.ofBits .f32 1056964608#32 * u) + Ideal.ofBits .f32 1056964608#32

/-- Lane `256 e + f`. -/
def lane (e : Fin 4) (f : Fin 256) : Fin 1024 := ⟨256 * e.val + f.val, by have := e.isLt; have := f.isLt; omega⟩

/-- A sum over the lanes is a sum over the experts and their units. -/
theorem sum_lane (q : Fin 1024 → EReal) : ∑ k, q k = ∑ e, ∑ f, q (lane e f) := by
  rw [← Fintype.sum_prod_type' (f := fun e f => q (lane e f))]
  refine (Fintype.sum_equiv (finProdFinEquiv (m := 4) (n := 256)) _ _ fun x => ?_).symm
  refine congrArg q (Fin.ext ?_)
  show 256 * x.1.val + x.2.val = x.2.val + 256 * x.1.val
  omega

section

variable {R : ℕ} (h : Sized R)

theorem dot1_at (rows : FVec Ideal (sR R 1024) .bf16) (w : FVec Ideal S1024x256 .bf16) (r : Fin R) (f : Fin 256) :
    matmul (dot1 h) none rows w (constant (sR R 256) .f32 0x00000000#32) (ix2 r f) = ∑ k : Fin 1024, rows (ix2 r k) * w (ix2 k f) := by
  pointwise
  refine Finset.sum_congr rfl fun k _ => ?_
  congr 2
  funext b
  match b with
  | 0 => rfl
  | 1 => rfl

theorem dot2_at (rows : FVec Ideal (sR R 1024) .bf16) (w : FVec Ideal S1024x1024 .bf16) (r : Fin R) (f : Fin 1024) :
    matmul (dot2 h) none rows w (constant (sR R 1024) .f32 0x00000000#32) (ix2 r f) = ∑ k : Fin 1024, rows (ix2 r k) * w (ix2 k f) := by
  pointwise
  refine Finset.sum_congr rfl fun k _ => ?_
  congr 2
  funext b
  match b with
  | 0 => rfl
  | 1 => rfl

theorem cat4_at (p : Fin 4 → FVec Ideal (sR R 256) .f32) (r : Fin R) (e : Fin 4) (f : Fin 256) :
    concatenate (sR R 1024) 1 [⟨sR R 256, p 0⟩, ⟨sR R 256, p 1⟩, ⟨sR R 256, p 2⟩, ⟨sR R 256, p 3⟩] h.cat (ix2 r (lane e f)) = p e (ix2 r f) := by
  have hf := f.isLt
  pointwise
  match e with
  | 0 =>
    refine (dif_pos (show 256 * 0 + f.val < 256 by omega)).trans ?_
    refine congrArg (p 0) ?_
    funext b
    match b with
    | 0 => rfl
    | 1 => exact Fin.ext (show 256 * 0 + f.val = f.val by omega)
  | 1 =>
    refine (dif_neg (show ¬ 256 * 1 + f.val < 256 by omega)).trans ?_
    refine (dif_pos (show 256 * 1 + f.val - 256 < 256 by omega)).trans ?_
    refine congrArg (p 1) ?_
    funext b
    match b with
    | 0 => rfl
    | 1 => exact Fin.ext (show 256 * 1 + f.val - 256 = f.val by omega)
  | 2 =>
    refine (dif_neg (show ¬ 256 * 2 + f.val < 256 by omega)).trans ?_
    refine (dif_neg (show ¬ 256 * 2 + f.val - 256 < 256 by omega)).trans ?_
    refine (dif_pos (show 256 * 2 + f.val - 256 - 256 < 256 by omega)).trans ?_
    refine congrArg (p 2) ?_
    funext b
    match b with
    | 0 => rfl
    | 1 => exact Fin.ext (show 256 * 2 + f.val - 256 - 256 = f.val by omega)
  | 3 =>
    refine (dif_neg (show ¬ 256 * 3 + f.val < 256 by omega)).trans ?_
    refine (dif_neg (show ¬ 256 * 3 + f.val - 256 < 256 by omega)).trans ?_
    refine (dif_neg (show ¬ 256 * 3 + f.val - 256 - 256 < 256 by omega)).trans ?_
    refine congrArg (p 3) ?_
    funext b
    match b with
    | 0 => rfl
    | 1 => exact Fin.ext (show 256 * 3 + f.val - 256 - 256 - 256 = f.val by omega)

theorem col_at (x : FVec Ideal (sR R 1) .f32) (r : Fin R) (f : Fin 256) :
    broadcastTo (sR R 256) (shapeCast (sR R 1) x h.cast1) h.bc256 (ix2 r f) = x (ix2 r 0) := by
  pointwise
  refine congrArg x ?_
  funext b
  match b with
  | 0 =>
    refine Fin.ext ?_
    have hr := r.isLt
    by_cases h1 : R = 1
    · subst h1
      show _ = r.val
      simp [Shape.Idx.norm]; try omega
    · simp [Shape.Idx.norm, h1]
  | 1 => exact Subsingleton.elim (α := Fin 1) _ _

theorem hidden_at (rows : FVec Ideal (sR R 1024) .bf16) (a : Fin 4 → Vec Ideal S1x1024x256 .bf16) (r : Fin R) (e : Fin 4) (f : Fin 256) :
    hidden h rows (a 0) (a 1) (a 2) (a 3) (ix2 r (lane e f)) = ∑ k : Fin 1024, rows (ix2 r k) * a e (ix3 0 k f) := by
  refine (cat4_at h (fun e => matmul (dot1 h) none rows (shapeCast S1024x256 (a e) shapeCasts_S1x1024x256_S1024x256) (constant (sR R 256) .f32 0x00000000#32)) r e f).trans ?_
  refine (dot1_at h rows _ r f).trans (Finset.sum_congr rfl fun k _ => congrArg _ ?_)
  pointwise

theorem spread_at (m : Vec Ideal (sR R 128) .f32) (r : Fin R) (e : Fin 4) (f : Fin 256) :
    spread h m (ix2 r (lane e f)) = m (ix2 r ⟨e.val, by have := e.isLt; omega⟩) := by
  refine (cat4_at h ![_, _, _, _] r e f).trans ?_
  fin_cases e
  · refine (col_at h (extractStridedSlice (sR R 1) ![0, 0] m h.sl0) r f).trans (congrArg m ?_)
    funext b
    match b with
    | 0 => exact Fin.ext (Nat.zero_add _)
    | 1 => rfl
  · refine (col_at h (extractStridedSlice (sR R 1) ![0, 1] m h.sl1) r f).trans (congrArg m ?_)
    funext b
    match b with
    | 0 => exact Fin.ext (Nat.zero_add _)
    | 1 => rfl
  · refine (col_at h (extractStridedSlice (sR R 1) ![0, 2] m h.sl2) r f).trans (congrArg m ?_)
    funext b
    match b with
    | 0 => exact Fin.ext (Nat.zero_add _)
    | 1 => rfl
  · refine (col_at h (extractStridedSlice (sR R 1) ![0, 3] m h.sl3) r f).trans (congrArg m ?_)
    funext b
    match b with
    | 0 => exact Fin.ext (Nat.zero_add _)
    | 1 => rfl

theorem mask_at (x : IVec (sR R 1) 1) (r : Fin R) (k : Fin 128) :
    broadcastTo (sR R 128) (shapeCast (sR R 1) x h.cast1) h.bc128 (ix2 r k) = x (ix2 r 0) := by
  pointwise
  refine congrArg x ?_
  funext b
  match b with
  | 0 =>
    refine Fin.ext ?_
    have hr := r.isLt
    by_cases h1 : R = 1
    · subst h1
      show _ = r.val
      simp [Shape.Idx.norm]; try omega
    · simp [Shape.Idx.norm, h1]
  | 1 => exact Subsingleton.elim (α := Fin 1) _ _

theorem masked_at (w lo hi : BitVec 32) (m : Vec Ideal (sR R 128) .f32) (r : Fin R) (k : Fin 128) :
    masked h w lo hi m (ix2 r k)
      = Scalar.select (IntOp.andi (IntOp.cmpi .sge (IntOp.addi w (BitVec.ofNat 32 r.val)) lo) (IntOp.cmpi .slt (IntOp.addi w (BitVec.ofNat 32 r.val)) hi)) (m (ix2 r k)) 0 := by
  refine Eq.trans (b := Scalar.select (broadcastTo (sR R 128) (shapeCast (sR R 1) _ h.cast1) h.bc128 (ix2 r k)) (m (ix2 r k)) (Ideal.ofBits .f32 0x00000000#32)) rfl ?_
  rw [mask_at h]
  refine congrArg₂ (fun b z => Scalar.select b (m (ix2 r k)) z) ?_ ?_
  · pointwise
  · pointwise

/-- The accumulator plus a product. -/
theorem added_at (acc act : FVec Ideal (sR R 1024) .f32) (w2 : Vec Ideal S1x1024x1024 .bf16) (r : Fin R) (l : Fin 1024) :
    shapeCast (sR R 1024) (addf acc (matmul (dot2 h) none (truncf .bf16 act bitsLt_bf16_f32) (shapeCast S1024x1024 w2 shapeCasts_S1x1024x1024_S1024x1024 : FVec Ideal S1024x1024 .bf16) (constant (sR R 1024) .f32 0x00000000#32))) h.cast (ix2 r l)
      = acc (ix2 r l) + ∑ e : Fin 4, ∑ f : Fin 256, act (ix2 r (lane e f)) * w2 (ix3 0 (lane e f) l) := by
  rw [shapeCast_self, ← sum_lane fun k => act (ix2 r k) * w2 (ix3 0 k l)]
  refine congrArg (acc (ix2 r l) + ·) ((dot2_at h _ _ r l).trans (Finset.sum_congr rfl fun k _ => ?_))
  refine congrArg₂ (· * ·) rfl ?_
  pointwise

theorem gated_at (u g s : FVec Ideal (sR R 1024) .f32) (r : Fin R) (k : Fin 1024) :
    gated u g s (ix2 r k) = u (ix2 r k) * sgate (u (ix2 r k)) * g (ix2 r k) * s (ix2 r k) := by
  pointwise [gated]
  rfl

/-- WHAT A PASS LEAVES, at a row and a lane. -/
theorem passVal_at (w lo hi : BitVec 32) (rows : Vec Ideal (sR R 1024) .f32) (cs : Vec Ideal (sR R 128) .f32) (a b : Fin 4 → Vec Ideal S1x1024x256 .bf16)
    (w2 : Vec Ideal S1x1024x1024 .bf16) (acc : Vec Ideal (sR R 1024) .f32) (r : Fin R) (l : Fin 1024) :
    passVal h w lo hi rows cs (a 0) (a 1) (a 2) (a 3) (b 0) (b 1) (b 2) (b 3) w2 acc (ix2 r l)
      = acc (ix2 r l) + ∑ e : Fin 4, ∑ f : Fin 256,
          ((∑ k : Fin 1024, rows (ix2 r k) * a e (ix3 0 k f)) * sgate (∑ k : Fin 1024, rows (ix2 r k) * a e (ix3 0 k f))
            * (∑ k : Fin 1024, rows (ix2 r k) * b e (ix3 0 k f)) * masked h w lo hi cs (ix2 r ⟨e.val, by have := e.isLt; omega⟩)) * w2 (ix3 0 (lane e f) l) := by
  refine (added_at h acc (gated (hidden h (truncf .bf16 rows bitsLt_bf16_f32) (a 0) (a 1) (a 2) (a 3)) (hidden h (truncf .bf16 rows bitsLt_bf16_f32) (b 0) (b 1) (b 2) (b 3)) (spread h (masked h w lo hi cs))) w2 r l).trans ?_
  refine congrArg (acc (ix2 r l) + ·) (Finset.sum_congr rfl fun e _ => Finset.sum_congr rfl fun f _ => ?_)
  rw [gated_at, hidden_at, hidden_at, spread_at]
  rfl

end

end Cert.KernelIdeal.Moe
-- ==== Proof.GroupAt.lean ====
/-
  A group's passes, element by element.

  Pass `n` of a group with rows `a, …, a + b - 1` adds the experts' sum to the rows of the group in
  `a / 8 * 8 + n R, …, a / 8 * 8 + (n + 1) R - 1`, and leaves the others. So the passes together add it to each row of
  the group once, whatever the height.
-/
module

public import proofs.«01_k».proof.Proof.PassAt
public import proofs.«01_k».proof.Proof.Table
public import proofs.«01_k».proof.Proof.Checks
public import Idealize.ShloMosaic.Lib.VecWindow
public import Idealize.ShloMosaic.Lib.WritesUnit

@[expose] public section

noncomputable section

namespace Cert.KernelIdeal.Moe

open Cert.KernelIdeal Cert.KernelIdeal.Gen
open Idealize.ShloMosaic Idealize.ShloMosaic.TcCoe Idealize.ShloMosaic.Tactic

/-- The contents of the buffers as the views read them. -/
abbrev rd16 (f : C16 Ideal) : Vec Ideal S512x1024 .f32 := (Memref.whole cc0_scratch0).view.read (Elt Ideal) f
abbrev rd17 (f : C17 Ideal) : Vec Ideal S512x128 .f32 := (Memref.whole cc0_scratch1).view.read (Elt Ideal) f
abbrev rd18 (f : C18 Ideal) : Vec Ideal S512x1024 .f32 := (Memref.whole cc0_scratch2).view.read (Elt Ideal) f
abbrev rd19 (f : C19 Ideal) : Vec Ideal S16x1024x256 .bf16 := (Memref.whole cc0_scratch3).view.read (Elt Ideal) f
abbrev rd20 (f : C20 Ideal) : Vec Ideal S16x1024x256 .bf16 := (Memref.whole cc0_scratch4).view.read (Elt Ideal) f
abbrev rd21 (f : C21 Ideal) : Vec Ideal S4x1024x1024 .bf16 := (Memref.whole cc0_scratch5).view.read (Elt Ideal) f

/-- Expert `e` of group `g`. -/
def ex (g e : Fin 4) : Fin 16 := ⟨4 * g.val + e.val, by have := g.isLt; have := e.isLt; omega⟩

/-- The experts' sum of group `g` for a row with activations `x` and weights `cw`, at lane `l`. -/
def Yv (g : Fin 4) (A B : Vec Ideal S16x1024x256 .bf16) (D : Vec Ideal S4x1024x1024 .bf16) (x : Fin 1024 → EReal) (cw : Fin 4 → EReal) (l : Fin 1024) : EReal :=
  ∑ e : Fin 4, ∑ f : Fin 256,
    ((∑ k : Fin 1024, x k * A (ix3 (ex g e) k f)) * sgate (∑ k : Fin 1024, x k * A (ix3 (ex g e) k f))
      * (∑ k : Fin 1024, x k * B (ix3 (ex g e) k f)) * cw e) * D (ix3 g (lane e f) l)

/-- A row whose weights are zero has sum zero. -/
theorem Yv_zero (g : Fin 4) (A B : Vec Ideal S16x1024x256 .bf16) (D : Vec Ideal S4x1024x1024 .bf16) (x : Fin 1024 → EReal) (l : Fin 1024) :
    Yv g A B D x (fun _ => 0) l = 0 := by
  unfold Yv
  simp only [mul_zero, zero_mul, Finset.sum_const_zero]

/-- A group's number in the loop. -/
def gt (g : Fin 4) : Fin k0_t1_loop.trips := ⟨g.val, by rw [trips_eq]; exact g.isLt⟩

theorem off9_val (g e : Fin 4) : k0_off9 (gt g) (BitVec.ofNat 32 e.val) = ![(ex g e).val, 0, 0] := by
  revert g e; decide +kernel

theorem off10_val (g : Fin 4) : k0_off10 (gt g) = ![g.val, 0, 0] := by
  revert g; decide +kernel

theorem slab19 (g e : Fin 4) (X : C19 Ideal) (k : Fin 1024) (f : Fin 256) :
    (Memref.whole cc0_scratch3).view.readAt (Elt Ideal) (slab (gt g) e).toLoadRect X (ix3 0 k f) = rd19 X (ix3 (ex g e) k f) := by
  refine congrArg (rd19 X) ?_
  have ho := off9_val g e
  funext a
  match a with
  | 0 => exact Fin.ext (show k0_off9 (gt g) (BitVec.ofNat 32 e.val) 0 + 1 * 0 = _ by rw [ho]; rfl)
  | 1 => exact Fin.ext (show k0_off9 (gt g) (BitVec.ofNat 32 e.val) 1 + 1 * k.val = k.val by rw [ho]; show 0 + 1 * k.val = _; omega)
  | 2 => exact Fin.ext (show k0_off9 (gt g) (BitVec.ofNat 32 e.val) 2 + 1 * f.val = f.val by rw [ho]; show 0 + 1 * f.val = _; omega)

theorem slab20 (g e : Fin 4) (X : C20 Ideal) (k : Fin 1024) (f : Fin 256) :
    (Memref.whole cc0_scratch4).view.readAt (Elt Ideal) (slab (gt g) e).toLoadRect X (ix3 0 k f) = rd20 X (ix3 (ex g e) k f) := by
  refine congrArg (rd20 X) ?_
  have ho := off9_val g e
  funext a
  match a with
  | 0 => exact Fin.ext (show k0_off9 (gt g) (BitVec.ofNat 32 e.val) 0 + 1 * 0 = _ by rw [ho]; rfl)
  | 1 => exact Fin.ext (show k0_off9 (gt g) (BitVec.ofNat 32 e.val) 1 + 1 * k.val = k.val by rw [ho]; show 0 + 1 * k.val = _; omega)
  | 2 => exact Fin.ext (show k0_off9 (gt g) (BitVec.ofNat 32 e.val) 2 + 1 * f.val = f.val by rw [ho]; show 0 + 1 * f.val = _; omega)

theorem slab21 (g : Fin 4) (X : C21 Ideal) (k : Fin 1024) (f : Fin 1024) :
    (Memref.whole cc0_scratch5).view.readAt (Elt Ideal) (slab2 (gt g)).toLoadRect X (ix3 0 k f) = rd21 X (ix3 g k f) := by
  refine congrArg (rd21 X) ?_
  have ho := off10_val g
  funext a
  match a with
  | 0 => exact Fin.ext (show k0_off10 (gt g) 0 + 1 * 0 = _ by rw [ho]; rfl)
  | 1 => exact Fin.ext (show k0_off10 (gt g) 1 + 1 * k.val = k.val by rw [ho]; show 0 + 1 * k.val = _; omega)
  | 2 => exact Fin.ext (show k0_off10 (gt g) 2 + 1 * f.val = f.val by rw [ho]; show 0 + 1 * f.val = _; omega)

/-- The words of a pass, as natural numbers. -/
theorem place_nat {R a n : ℕ} (ha : a ≤ 512) : place R (BitVec.ofNat 32 a) n = BitVec.ofNat 32 (a / 8 * 8 + n * R) := winW_nat ha

theorem clamp_nat {R a n : ℕ} (ha : a ≤ 512) (hR : R ≤ 512) (hn : n ≤ 1100) :
    clamp R (BitVec.ofNat 32 a) n = BitVec.ofNat 32 (min (a / 8 * 8 + n * R) (512 - R)) := rowW_nat ha hR hn

theorem lo_nat {R a n : ℕ} (ha : a ≤ 512) (hR : R ≤ 512) (hn : n ≤ 1100) :
    Scalar.maxsi (BitVec.ofNat 32 a) (place R (BitVec.ofNat 32 a) n) = BitVec.ofNat 32 (max a (a / 8 * 8 + n * R)) := by
  have hm : n * R ≤ 1100 * 512 := Nat.mul_le_mul hn hR
  rw [place_nat ha]
  unfold Scalar.maxsi IntOp.maxsi
  rw [Routing.slt_ofNat32 (by omega) (by omega)]
  by_cases hlt : a / 8 * 8 + n * R < a
  · first
    | rw [if_pos (decide_eq_true hlt), max_eq_left hlt.le]
  · first
    | rw [if_neg (by simpa using hlt), max_eq_right (by omega)]

/-- The mask of a row. -/
theorem mask_nat {p lo hi w r : ℕ} (hp : p = w + r) (h1 : p < 512) (h2 : lo < 1000000) (h3 : hi ≤ 512) :
    IntOp.andi (IntOp.cmpi .sge (IntOp.addi (BitVec.ofNat 32 w) (BitVec.ofNat 32 r)) (BitVec.ofNat 32 lo)) (IntOp.cmpi .slt (IntOp.addi (BitVec.ofNat 32 w) (BitVec.ofNat 32 r)) (BitVec.ofNat 32 hi))
      = BitVec.ofBool (decide (lo ≤ p ∧ p < hi)) := by
  have e : IntOp.addi (BitVec.ofNat 32 w) (BitVec.ofNat 32 r) = BitVec.ofNat 32 p := by rw [hp]; exact (BitVec.ofNat_add ..).symm
  rw [e]
  show BitVec.ofBool ((BitVec.ofNat 32 lo).sle (BitVec.ofNat 32 p)) &&& BitVec.ofBool ((BitVec.ofNat 32 p).slt (BitVec.ofNat 32 hi)) = _
  have e1 : (BitVec.ofNat 32 lo).sle (BitVec.ofNat 32 p) = decide (lo ≤ p) := by
    rw [BitVec.sle_eq_not_slt, Routing.slt_ofNat32 (by omega) (by omega)]
    by_cases hh : p < lo
    · rw [decide_eq_true hh, decide_eq_false (by omega)]; rfl
    · rw [decide_eq_false hh, decide_eq_true (by omega)]; rfl
  rw [e1, Routing.slt_ofNat32 (by omega) (by omega)]
  by_cases ha : lo ≤ p <;> by_cases hb : p < hi <;> simp [ha, hb]

section

variable {R : ℕ} (h : Sized R) (g : Fin 4) (X16 : C16 Ideal) (X17 : C17 Ideal) (X19 : C19 Ideal) (X20 : C20 Ideal) (X21 : C21 Ideal)

/-- What a group adds to row `p` at lane `l`. -/
def Yrow (p : Fin 512) (l : Fin 1024) : EReal :=
  Yv g (rd19 X19) (rd20 X20) (rd21 X21) (fun k => rd16 X16 (ix2 p k)) (fun e => rd17 X17 (ix2 p ⟨e.val, by have := e.isLt; omega⟩)) l

theorem select_if (c : Prop) [Decidable c] (z : EReal) : Scalar.select (BitVec.ofBool (decide c)) z 0 = if c then z else 0 := by
  by_cases hc : c
  · rw [decide_eq_true hc, if_pos hc]; rfl
  · rw [decide_eq_false hc, if_neg hc]; rfl

theorem row_idx {w n : ℕ} (hin : w + R ≤ 512) {p : Fin 512} {r : Fin R} (hp : p.val = w + r.val) (k : Fin n) :
    (Rect.unit (s := sR 512 n) ![w, 0] (sR R n).size (fun a => by fin_cases a; exacts [hin, (Nat.zero_add n).le])).toLoadRect.idx (ix2 r k) = ix2 p k := by
  funext a
  match a with
  | 0 => exact Fin.ext (show w + 1 * r.val = p.val by omega)
  | 1 => exact Fin.ext (show 0 + 1 * k.val = k.val by omega)

/-- A PASS, at a row and a lane. -/
theorem pass_at {a b n : ℕ} (hab : a + b ≤ 512) (hR : R ≤ 512) (hn : n ≤ 1100) (f : C18 Ideal) (p : Fin 512) (l : Fin 1024) :
    rd18 (pass h (gt g) (BitVec.ofNat 32 a) (BitVec.ofNat 32 b) X16 X17 X19 X20 X21 n f) (ix2 p l)
      = rd18 f (ix2 p l) + if a ≤ p.val ∧ p.val < a + b ∧ a / 8 * 8 + n * R ≤ p.val ∧ p.val < a / 8 * 8 + (n + 1) * R then Yrow g X16 X17 X19 X20 X21 p l else 0 := by
  have hm : n * R ≤ 1100 * 512 := Nat.mul_le_mul hn hR
  have hp := p.isLt
  have hmul : (n + 1) * R = n * R + R := by ring
  have hw : (clamp R (BitVec.ofNat 32 a) n).toNat = min (a / 8 * 8 + n * R) (512 - R) := by
    rw [clamp_nat (by omega) hR hn, BitVec.toNat_ofNat, Nat.mod_eq_of_lt]; omega
  have hin : (clamp R (BitVec.ofNat 32 a) n).toNat + R ≤ 512 := by rw [hw]; omega
  rw [pass, dif_pos hin]
  by_cases hmem : min (a / 8 * 8 + n * R) (512 - R) ≤ p.val ∧ p.val < min (a / 8 * 8 + n * R) (512 - R) + R
  · have hrlt : p.val - min (a / 8 * 8 + n * R) (512 - R) < R := by omega
    have hpr : p.val = (clamp R (BitVec.ofNat 32 a) n).toNat + (⟨p.val - min (a / 8 * 8 + n * R) (512 - R), hrlt⟩ : Fin R).val := by rw [hw]; show p.val = _ + (p.val - _); omega
    refine (View.read_writes_cons_rows_of_mem (o := (clamp R (BitVec.ofNat 32 a) n).toNat) (d := ![512, 1024]) _ _ _ _ _ (ix2 p l)
      (ix2 (⟨p.val - min (a / 8 * 8 + n * R) (512 - R), hrlt⟩ : Fin R) l) rfl hpr rfl).trans ?_
    refine (passVal_at h _ _ _ _ _ (fun e => (Memref.whole cc0_scratch3).view.readAt (Elt Ideal) (slab (gt g) e).toLoadRect X19)
      (fun e => (Memref.whole cc0_scratch4).view.readAt (Elt Ideal) (slab (gt g) e).toLoadRect X20) _ _ _ l).trans ?_
    refine congrArg₂ (· + ·) (congrArg (rd18 f) (row_idx hin hpr l)) ?_
    have e16 : ∀ k, (Memref.whole cc0_scratch0).view.readAt (Elt Ideal) (Rect.unit (s := S512x1024) ![(clamp R (BitVec.ofNat 32 a) n).toNat, 0] (sR R 1024).size (rows_inb hin)).toLoadRect X16
        (ix2 (⟨p.val - min (a / 8 * 8 + n * R) (512 - R), hrlt⟩ : Fin R) k) = rd16 X16 (ix2 p k) := fun k => congrArg (rd16 X16) (row_idx hin hpr k)
    have e17 : ∀ k, (Memref.whole cc0_scratch1).view.readAt (Elt Ideal) (Rect.unit (s := S512x128) ![(clamp R (BitVec.ofNat 32 a) n).toNat, 0] (sR R 128).size (rows_inb hin)).toLoadRect X17
        (ix2 (⟨p.val - min (a / 8 * 8 + n * R) (512 - R), hrlt⟩ : Fin R) k) = rd17 X17 (ix2 p k) := fun k => congrArg (rd17 X17) (row_idx hin hpr k)
    have hlo : max a (a / 8 * 8 + n * R) < 1000000 := by omega
    have hM : IntOp.andi (IntOp.cmpi .sge (IntOp.addi (clamp R (BitVec.ofNat 32 a) n) (BitVec.ofNat 32 (p.val - min (a / 8 * 8 + n * R) (512 - R)))) (Scalar.maxsi (BitVec.ofNat 32 a) (place R (BitVec.ofNat 32 a) n)))
        (IntOp.cmpi .slt (IntOp.addi (clamp R (BitVec.ofNat 32 a) n) (BitVec.ofNat 32 (p.val - min (a / 8 * 8 + n * R) (512 - R)))) (Scalar.addi (BitVec.ofNat 32 a) (BitVec.ofNat 32 b)))
        = BitVec.ofBool (decide (max a (a / 8 * 8 + n * R) ≤ p.val ∧ p.val < a + b)) := by
      rw [lo_nat (by omega) hR hn, clamp_nat (by omega) hR hn, show Scalar.addi (BitVec.ofNat 32 a) (BitVec.ofNat 32 b) = BitVec.ofNat 32 (a + b) from (BitVec.ofNat_add ..).symm]
      exact mask_nat (by omega) hp hlo hab
    have hm : ∀ e : Fin 4, masked h (clamp R (BitVec.ofNat 32 a) n) (Scalar.maxsi (BitVec.ofNat 32 a) (place R (BitVec.ofNat 32 a) n)) (Scalar.addi (BitVec.ofNat 32 a) (BitVec.ofNat 32 b))
        ((Memref.whole cc0_scratch1).view.readAt (Elt Ideal) (Rect.unit (s := S512x128) ![(clamp R (BitVec.ofNat 32 a) n).toNat, 0] (sR R 128).size (rows_inb hin)).toLoadRect X17)
        (ix2 (⟨p.val - min (a / 8 * 8 + n * R) (512 - R), hrlt⟩ : Fin R) ⟨e.val, by have := e.isLt; omega⟩)
        = if max a (a / 8 * 8 + n * R) ≤ p.val ∧ p.val < a + b then rd17 X17 (ix2 p ⟨e.val, by have := e.isLt; omega⟩) else 0 := by
      intro e
      refine (masked_at h _ _ _ _ _ _).trans ?_
      refine (congrArg₂ (fun z y => Scalar.select z y (0 : EReal)) hM (e17 _)).trans ?_
      exact select_if _ _
    refine (Finset.sum_congr rfl fun e _ => Finset.sum_congr rfl fun f' _ => congrArg₂ (fun x y : EReal => x * y) (congrArg₂ (fun x y : EReal => x * y) (congrArg₂ (fun x y : EReal => x * y) (congrArg₂ (fun x y : EReal => x * y)
        (Finset.sum_congr rfl fun k _ => congrArg₂ (fun x y : EReal => x * y) (e16 k) (slab19 g e X19 k f'))
        (congrArg sgate (Finset.sum_congr rfl fun k _ => congrArg₂ (fun x y : EReal => x * y) (e16 k) (slab19 g e X19 k f'))))
        (Finset.sum_congr rfl fun k _ => congrArg₂ (fun x y : EReal => x * y) (e16 k) (slab20 g e X20 k f'))) (hm e)) (slab21 g X21 (lane e f') l)).trans ?_
    refine Eq.trans (b := Yv g (rd19 X19) (rd20 X20) (rd21 X21) (fun k => rd16 X16 (ix2 p k)) (fun e => if max a (a / 8 * 8 + n * R) ≤ p.val ∧ p.val < a + b then rd17 X17 (ix2 p ⟨e.val, by have := e.isLt; omega⟩) else 0) l) rfl ?_
    by_cases hc : max a (a / 8 * 8 + n * R) ≤ p.val ∧ p.val < a + b
    · rw [if_pos (show _ by omega)]
      exact congrArg (fun z => Yv g (rd19 X19) (rd20 X20) (rd21 X21) (fun k => rd16 X16 (ix2 p k)) z l) (funext fun e => if_pos hc)
    · rw [if_neg (show ¬ _ by omega)]
      exact (congrArg (fun z => Yv g (rd19 X19) (rd20 X20) (rd21 X21) (fun k => rd16 X16 (ix2 p k)) z l) (funext fun e => if_neg hc)).trans (Yv_zero ..)
  · refine (View.read_writes_cons_rows_of_not_mem (o := (clamp R (BitVec.ofNat 32 a) n).toNat) (W := R) (d := ![512, 1024]) _ _ _ _ _ (ix2 p l) rfl rfl (by rw [hw]; show p.val < _ ∨ _ ≤ p.val; omega)).trans ?_
    rw [if_neg (by omega), add_zero]
    rfl

/-- THE FIRST `n` PASSES. -/
theorem passes_at {a b : ℕ} (hab : a + b ≤ 512) (hR : R ≤ 512) (f : C18 Ideal) (p : Fin 512) (l : Fin 1024) : ∀ n, n ≤ 1100 →
    rd18 (passes h (gt g) (BitVec.ofNat 32 a) (BitVec.ofNat 32 b) X16 X17 X19 X20 X21 f n) (ix2 p l)
      = rd18 f (ix2 p l) + if a ≤ p.val ∧ p.val < a + b ∧ p.val < a / 8 * 8 + n * R then Yrow g X16 X17 X19 X20 X21 p l else 0
  | 0, _ => by
    rw [if_neg (by omega), add_zero]; rfl
  | n + 1, hn => by
    have hmul : (n + 1) * R = n * R + R := by ring
    rw [passes, pass_at h g X16 X17 X19 X20 X21 hab hR (by omega), passes_at hab hR f p l n (by omega), add_assoc]
    congr 1
    by_cases h1 : a ≤ p.val ∧ p.val < a + b ∧ p.val < a / 8 * 8 + n * R
    · rw [if_pos h1, if_neg (by omega), if_pos (by omega), add_zero]
    · rw [if_neg h1, zero_add]
      by_cases h2 : a ≤ p.val ∧ p.val < a + b ∧ p.val < a / 8 * 8 + (n + 1) * R
      · rw [if_pos h2, if_pos (by omega)]
      · rw [if_neg h2, if_neg (by omega)]

/-- ALL PASSES of a group at a height. -/
theorem passes_all {a b : ℕ} (hab : a + b ≤ 512) (hR0 : 0 < R) (hR : R ≤ 512) (f : C18 Ideal) (p : Fin 512) (l : Fin 1024) :
    rd18 (passes h (gt g) (BitVec.ofNat 32 a) (BitVec.ofNat 32 b) X16 X17 X19 X20 X21 f (topN R a b)) (ix2 p l)
      = rd18 f (ix2 p l) + if a ≤ p.val ∧ p.val < a + b then Yrow g X16 X17 X19 X20 X21 p l else 0 := by
  rw [passes_at h g X16 X17 X19 X20 X21 hab hR f p l _ (topN_le hab hR0 hR)]
  have hc : a ≤ p.val ∧ p.val < a + b → p.val < a / 8 * 8 + topN R a b * R := by
    intro hh
    unfold topN
    rw [if_pos (by omega)]
    have := Nat.lt_div_mul_add (a := a + b - a / 8 * 8 + (R - 1)) hR0
    omega
  congr 1
  exact if_congr ⟨fun hh => ⟨hh.1, hh.2.1⟩, fun hh => ⟨hh.1, hh.2, hc hh⟩⟩ rfl rfl

end

section

variable (g : Fin 4) (X16 : C16 Ideal) (X17 : C17 Ideal) (X19 : C19 Ideal) (X20 : C20 Ideal) (X21 : C21 Ideal)

/-- A GROUP, at a row and a lane: the height the switch takes makes no difference. -/
theorem group_at {a b : ℕ} (hab : a + b ≤ 512) (f : C18 Ideal) (p : Fin 512) (l : Fin 1024) :
    rd18 (group (gt g) (BitVec.ofNat 32 a) (BitVec.ofNat 32 b) X16 X17 X19 X20 X21 f) (ix2 p l)
      = rd18 f (ix2 p l) + if a ≤ p.val ∧ p.val < a + b then Yrow g X16 X17 X19 X20 X21 p l else 0 := by
  have T := fun (R : ℕ) (hR : 0 < R) (hR' : R ≤ 512) (l : Scf.Loop 32) hl => (loopA (R := R) hab hR hR' l hl).2
  generalize hV : (rd18 f (ix2 p l) + if a ≤ p.val ∧ p.val < a + b then Yrow g X16 X17 X19 X20 X21 p l else 0) = V
  unfold group
  split_ifs
  · rw [T 256 (by omega) (by omega) _ (whole256 _ _)]; exact (passes_all sized256 g X16 X17 X19 X20 X21 hab (by omega) (by omega) f p l).trans hV
  · rw [T 224 (by omega) (by omega) _ (whole224 _ _)]; exact (passes_all sized224 g X16 X17 X19 X20 X21 hab (by omega) (by omega) f p l).trans hV
  · rw [T 192 (by omega) (by omega) _ (whole192 _ _)]; exact (passes_all sized192 g X16 X17 X19 X20 X21 hab (by omega) (by omega) f p l).trans hV
  · rw [T 176 (by omega) (by omega) _ (whole176 _ _)]; exact (passes_all sized176 g X16 X17 X19 X20 X21 hab (by omega) (by omega) f p l).trans hV
  · rw [T 160 (by omega) (by omega) _ (whole160 _ _)]; exact (passes_all sized160 g X16 X17 X19 X20 X21 hab (by omega) (by omega) f p l).trans hV
  · rw [T 144 (by omega) (by omega) _ (whole144 _ _)]; exact (passes_all sized144 g X16 X17 X19 X20 X21 hab (by omega) (by omega) f p l).trans hV
  · rw [T 128 (by omega) (by omega) _ (whole128 _ _)]; exact (passes_all sized128 g X16 X17 X19 X20 X21 hab (by omega) (by omega) f p l).trans hV

/-- THE FOUR GROUPS, from a cleared accumulator: a row of group `g` holds the group's sum. -/
theorem accs_at (G : IVec S33x512 32) (i : grid0.Coords) (f : C18 Ideal) (hf : ∀ p l, rd18 f (ix2 p l) = 0) (p : Fin 512) (l : Fin 1024)
    (hp : pre G (i 0) g.val ≤ p.val ∧ p.val < pre G (i 0) g.val + cnt G (i 0) g.val) :
    rd18 (accs (tab G) i X16 X17 X19 X20 X21 f 4) (ix2 p l) = Yrow g X16 X17 X19 X20 X21 p l := by
  have step : ∀ (n : ℕ) (hn : n < 4), rd18 (accs (tab G) i X16 X17 X19 X20 X21 f (n + 1)) (ix2 p l)
      = rd18 (accs (tab G) i X16 X17 X19 X20 X21 f n) (ix2 p l) + if pre G (i 0) n ≤ p.val ∧ p.val < pre G (i 0) n + cnt G (i 0) n then Yrow ⟨n, hn⟩ X16 X17 X19 X20 X21 p l else 0 := by
    intro n hn
    refine (congrArg (fun z => rd18 z (ix2 p l)) (accs_succ (tab G) i X16 X17 X19 X20 X21 f (gt ⟨n, hn⟩))).trans ?_
    rw [starts_tab G i _ (show (gt ⟨n, hn⟩).val ≤ 4 from hn.le), word_tab]
    exact group_at ⟨n, hn⟩ X16 X17 X19 X20 X21 (pre_le G (i 0) n hn) _ p l
  have e0 : rd18 (accs (tab G) i X16 X17 X19 X20 X21 f 0) (ix2 p l) = 0 := hf p l
  have s0 := step 0 (by omega)
  have s1 := step 1 (by omega)
  have s2 := step 2 (by omega)
  have s3 := step 3 (by omega)
  have p1 : pre G (i 0) 1 = pre G (i 0) 0 + cnt G (i 0) 0 := rfl
  have p2 : pre G (i 0) 2 = pre G (i 0) 1 + cnt G (i 0) 1 := rfl
  have p3 : pre G (i 0) 3 = pre G (i 0) 2 + cnt G (i 0) 2 := rfl
  clear step
  refine s3.trans ?_
  clear s3
  generalize rd18 (accs (tab G) i X16 X17 X19 X20 X21 f 3) (ix2 p l) = v3 at s2 ⊢
  generalize rd18 (accs (tab G) i X16 X17 X19 X20 X21 f 2) (ix2 p l) = v2 at s1 s2
  generalize rd18 (accs (tab G) i X16 X17 X19 X20 X21 f 1) (ix2 p l) = v1 at s0 s1
  generalize rd18 (accs (tab G) i X16 X17 X19 X20 X21 f 0) (ix2 p l) = v0 at e0 s0
  subst s2 s1 s0 e0
  match g, hp with
  | 0, hp =>
    have hp' : pre G (i 0) 0 ≤ p.val ∧ p.val < pre G (i 0) 0 + cnt G (i 0) 0 := hp
    rw [if_pos hp', if_neg (by omega), if_neg (by omega), if_neg (by omega), zero_add, add_zero, add_zero, add_zero]
    rfl
  | 1, hp =>
    have hp' : pre G (i 0) 1 ≤ p.val ∧ p.val < pre G (i 0) 1 + cnt G (i 0) 1 := hp
    rw [if_pos hp', if_neg (by omega), if_neg (by omega), if_neg (by omega), zero_add, zero_add, add_zero, add_zero]
    rfl
  | 2, hp =>
    have hp' : pre G (i 0) 2 ≤ p.val ∧ p.val < pre G (i 0) 2 + cnt G (i 0) 2 := hp
    rw [if_pos hp', if_neg (by omega), if_neg (by omega), if_neg (by omega), zero_add, zero_add, zero_add, add_zero]
    rfl
  | 3, hp =>
    have hp' : pre G (i 0) 3 ≤ p.val ∧ p.val < pre G (i 0) 3 + cnt G (i 0) 3 := hp
    rw [if_pos hp', if_neg (by omega), if_neg (by omega), if_neg (by omega), zero_add, zero_add, zero_add, zero_add]
    rfl

end

end Cert.KernelIdeal.Moe
-- ==== Proof.Core.lean ====
/-
  The two forms of the gate are one function, the numbers stay numbers, and the sum over all sixteen experts is the sum
  over the token's group's four.
-/
module

public import proofs.«01_k».proof.Proof.GroupAt
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.Tactic

/-- An extended real that is a number. -/
def IsR (x : EReal) : Prop := ∃ r : ℝ, x = (r : EReal)

theorem isR_of_sub {x : EReal} (h : x - x = 0) : IsR x := by
  induction x with
  | bot => exact absurd h (by rw [EReal.bot_sub]; exact EReal.bot_ne_zero)
  | top => exact absurd h (by simp)
  | coe r => exact ⟨r, rfl⟩
theorem IsR.sub_self {x : EReal} (h : IsR x) : x - x = 0 := by
  obtain ⟨r, rfl⟩ := h
  rw [← EReal.coe_sub, _root_.sub_self]; rfl
theorem isR_zero : IsR 0 := ⟨0, rfl⟩
theorem IsR.mul {x y : EReal} (hx : IsR x) (hy : IsR y) : IsR (x * y) := by
  obtain ⟨r, rfl⟩ := hx
  obtain ⟨s, rfl⟩ := hy
  exact ⟨r * s, (EReal.coe_mul r s).symm⟩
theorem IsR.add {x y : EReal} (hx : IsR x) (hy : IsR y) : IsR (x + y) := by
  obtain ⟨r, rfl⟩ := hx
  obtain ⟨s, rfl⟩ := hy
  exact ⟨r + s, (EReal.coe_add r s).symm⟩
theorem isR_sum {ι : Type} (s : Finset ι) (f : ι → EReal) (h : ∀ i, IsR (f i)) : IsR (∑ i ∈ s, f i) := by
  classical
  induction s using Finset.induction_on with
  | empty => exact isR_zero
  | insert a s ha ih => rw [Finset.sum_insert ha]; exact (h a).add ih

theorem half_eq : Ideal.ofBits .f32 1056964608#32 = ((1 / 2 : ℝ) : EReal) := by
  simp [Ideal.ofBits, Ideal.ieee, -EReal.coe_mul]; norm_num

theorem tanh_half (r : ℝ) : 1 / 2 * Real.tanh (1 / 2 * r) + 1 / 2 = (1 + Real.exp (-r))⁻¹ := by
  have ha : Real.exp (1 / 2 * r) ≠ 0 := (Real.exp_pos _).ne'
  have h1 : Real.exp (-r) = (Real.exp (1 / 2 * r))⁻¹ * (Real.exp (1 / 2 * r))⁻¹ := by
    rw [← Real.exp_neg, ← Real.exp_add]; congr 1; ring
  have hp := Real.exp_pos (1 / 2 * r)
  rw [Real.tanh_eq_sinh_div_cosh, Real.sinh_eq, Real.cosh_eq, h1, Real.exp_neg]
  generalize Real.exp (1 / 2 * r) = a at *
  have : a * a + 1 ≠ 0 := by positivity
  field_simp
  ring

/-- Half a hyperbolic tangent of half, and half, is the logistic function. -/
theorem sgate_eq (u : EReal) : sgate u = Ideal.div 1 (1 + Ideal.exp (-u)) := by
  change _ = Ideal.logistic u
  unfold sgate
  rw [half_eq]
  induction u with
  | bot =>
    rw [EReal.coe_mul_bot_of_pos (by norm_num), Ideal.tanh_bot]
    show ((1 / 2 : ℝ) : EReal) * ((-1 : ℝ) : EReal) + ((1 / 2 : ℝ) : EReal) = _
    rw [← EReal.coe_mul, ← EReal.coe_add]
    exact (by norm_num : (((1 / 2 : ℝ) * (-1) + 1 / 2 : ℝ) : EReal) = 0).trans Ideal.logistic_bot.symm
  | top =>
    rw [EReal.coe_mul_top_of_pos (by norm_num), Ideal.tanh_top, mul_one, ← EReal.coe_add]
    exact (by norm_num : (((1 / 2 : ℝ) + 1 / 2 : ℝ) : EReal) = 1).trans Ideal.logistic_top.symm
  | coe r => rw [Ideal.logistic_coe, ← EReal.coe_mul, Ideal.tanh_coe, ← EReal.coe_mul, ← EReal.coe_add, tanh_half]

theorem isR_sgate {u : EReal} (h : IsR u) : IsR (sgate u) := by
  obtain ⟨r, rfl⟩ := h
  rw [sgate_eq]
  exact ⟨_, Ideal.logistic_coe r⟩

/-- The experts' sum of numbers is a number. -/
theorem isR_Yv (g : Fin 4) (A B : Vec Ideal S16x1024x256 .bf16) (D : Vec Ideal S4x1024x1024 .bf16) (x : Fin 1024 → EReal) (cw : Fin 4 → EReal) (l : Fin 1024)
    (hA : ∀ j, IsR (A j)) (hB : ∀ j, IsR (B j)) (hD : ∀ j, IsR (D j)) (hx : ∀ k, IsR (x k)) (hc : ∀ e, IsR (cw e)) : IsR (Yv g A B D x cw l) := by
  refine isR_sum _ _ fun e => isR_sum _ _ fun f => ?_
  have hu : IsR (∑ k : Fin 1024, x k * A (ix3 (ex g e) k f)) := isR_sum _ _ fun k => (hx k).mul (hA _)
  exact (((hu.mul (isR_sgate hu)).mul (isR_sum _ _ fun k => (hx k).mul (hB _))).mul (hc e)).mul (hD _)

/-- The sum over the sixteen experts is the sum over the group's four, the others' weights being zero. -/
theorem sum_experts (g : Fin 4) (A B : Vec Ideal S16x1024x256 .bf16) (D : Vec Ideal S4x1024x1024 .bf16) (W : Vec Ideal S16x256x1024 .bf16) (x : Fin 1024 → EReal) (cw : Fin 4 → EReal) (cb : Fin 16 → EReal) (l : Fin 1024)
    (hD : ∀ (e : Fin 4) (f : Fin 256), D (ix3 g (lane e f) l) = W (ix3 (ex g e) f l)) (hc : ∀ e, cb (ex g e) = cw e) (hz : ∀ n : Fin 16, n.val / 4 ≠ g.val → cb n = 0) :
    ∑ n : Fin 16, ∑ f : Fin 256, ((∑ k : Fin 1024, x k * A (ix3 n k f)) * Ideal.div 1 (1 + Ideal.exp (-∑ k : Fin 1024, x k * A (ix3 n k f))) * (∑ k : Fin 1024, x k * B (ix3 n k f)) * cb n) * W (ix3 n f l)
      = Yv g A B D x cw l := by
  have hs : ∀ q : Fin 16 → EReal, (∀ n : Fin 16, n.val / 4 ≠ g.val → q n = 0) → ∑ n, q n = ∑ e : Fin 4, q (ex g e) := by
    intro q hq
    rw [← Fintype.sum_equiv (finProdFinEquiv (m := 4) (n := 4)) (fun x => q (finProdFinEquiv x)) q (fun _ => rfl), Fintype.sum_prod_type]
    rw [Finset.sum_eq_single g]
    · refine Finset.sum_congr rfl fun e _ => congrArg q (Fin.ext ?_)
      show e.val + 4 * g.val = 4 * g.val + e.val
      omega
    · intro b _ hb
      refine Finset.sum_eq_zero fun e _ => hq _ ?_
      show (e.val + 4 * b.val) / 4 ≠ g.val
      have := e.isLt
      intro h
      exact hb (Fin.ext (by omega))
    · intro h; exact absurd (Finset.mem_univ _) h
  rw [hs]
  · refine Finset.sum_congr rfl fun e _ => Finset.sum_congr rfl fun f _ => ?_
    rw [hc e, hD e f, sgate_eq]
  · intro n hn
    refine Finset.sum_eq_zero fun f _ => ?_
    rw [hz n hn, mul_zero, zero_mul]

end Cert.KernelIdeal.Moe
-- ==== Proof.Routed.lean ====
/-
  What the precondition says of the arguments: the tokens' groups and experts are words below four, a token's two experts
  differ, and the activations and the weights are numbers.
-/
module

public import proofs.«01_k».proof.Pre_routed
public import proofs.«01_k».proof.Proof.Core
public import Idealize.ShloMosaic.Lib.ReduceAll
public import Idealize.ShloMosaic.Lib.Pointwise

@[expose] public section

noncomputable section

namespace Cert.Pre_routed.Moe

open Cert.Pre_routed
open Idealize.ShloMosaic Idealize.ShloMosaic.Tactic
open Cert.KernelIdeal.Moe (IsR isR_of_sub)

/-- The side conditions of the precondition's operations. -/
instance facts : Facts where
  bcast_S_S16x1024x256 := by decide
  reducesTo_S16x1024x256_S_d0_1_2 := by decide
  h_S_ := by decide
  bcast_S_S16x256x1024 := by decide
  reducesTo_S16x256x1024_S_d0_1_2 := by decide
  bcast_S_S8x2048 := by decide
  reducesTo_S8x2048_S_d0_1 := by decide
  bcast_S_S8x2048x2 := by decide
  reducesTo_S8x2048x2_S_d0_1_2 := by decide
  slices_S8x2048x2_S8x2048x1_0_0_0 := by decide
  shapeCasts_S8x2048x1_S8x2048 := by decide
  slices_S8x2048x2_S8x2048x1_0_0_1 := by decide
  bcast_S_S8x2048x1024 := by decide
  reducesTo_S8x2048x1024_S_d0_1_2 := by decide
  bcast_S_S128x4 := by decide
  reducesTo_S128x4_S_d0_1 := by decide
  bcast_S_S128x4x2 := by decide
  reducesTo_S128x4x2_S_d0_1_2 := by decide
  slices_S128x4x2_S128x4x1_0_0_0 := by decide
  shapeCasts_S128x4x1_S128x4 := by decide
  slices_S128x4x2_S128x4x1_0_0_1 := by decide
  bcast_S_S128x4x1024 := by decide
  reducesTo_S128x4x1024_S_d0_1_2 := by decide

open Facts

instance one_idx : Subsingleton S_.Idx := ⟨fun _ _ => funext fun c => nomatch c⟩

theorem and_split {a b : BitVec 1} (h : IntOp.andi a b = 1#1) : a = 1#1 ∧ b = 1#1 := by
  revert a b; decide

/-- A difference of a number with itself that compares equal to zero. -/
theorem isR_of_cmp {φ : FTy} (x : Ideal φ) (z : Ideal φ) (hz : z = (0 : EReal)) (h : FloatOps.cmpf (F := Ideal) .oeq (FloatOps.subf x x) z = 1#1) : IsR x := by
  refine isR_of_sub ?_
  subst hz
  change BitVec.ofBool (decide (x - x = 0)) = 1#1 at h
  rw [WordArith.ofBool_eq_one_iff, decide_eq_true_eq] at h
  exact h

theorem lt4 (a : BitVec 32) (h : IntOp.andi (IntOp.cmpi .sge a 0#32) (IntOp.cmpi .slt a 4#32) = 1#1) : a.toNat < 4 := by
  obtain ⟨h1, h2⟩ := and_split h
  change BitVec.ofBool _ = 1#1 at h1
  change BitVec.ofBool _ = 1#1 at h2
  rw [WordArith.ofBool_eq_one_iff] at h1 h2
  change BitVec.sle _ _ = true at h1
  rw [BitVec.sle_iff_toInt_le] at h1
  rw [BitVec.slt_iff_toInt_lt] at h2
  have e0 : (0#32).toInt = 0 := by decide
  have e4 : (4#32).toInt = 4 := by decide
  rw [e0] at h1
  rw [e4] at h2
  rw [BitVec.toInt_eq_toNat_cond] at h1 h2
  split_ifs at h1 h2 <;> omega

theorem zero_bf16 : Ideal.ofBits .bf16 0x0000#16 = 0 := by simp [Ideal.ofBits, Ideal.ieee]
theorem zero_f32 : Ideal.ofBits .f32 0x00000000#32 = 0 := by simp [Ideal.ofBits, Ideal.ieee]

/-- What the precondition says. -/
structure Says (a7 : FVec Ideal S128x4x1024 .bf16) (a8 : IVec S128x4 32) (a9 : IVec S128x4x2 32) (a10 : FVec Ideal S128x4x2 .f32) (a12 a13 : FVec Ideal S16x1024x256 .bf16) (a14 : FVec Ideal S16x256x1024 .bf16) : Prop where
  group : ∀ j, (a8 j).toNat < 4
  expert : ∀ j, (a9 j).toNat < 4
  differ : ∀ (q : Fin 128) (s : Fin 4), a9 (ix3 q s 0) ≠ a9 (ix3 q s 1)
  h : ∀ j, IsR (a7 j)
  w : ∀ j, IsR (a10 j)
  w1 : ∀ j, IsR (a12 j)
  w3 : ∀ j, IsR (a13 j)
  w2 : ∀ j, IsR (a14 j)

/-- What it says of the prompt. -/
structure SaysP (a1 : FVec Ideal S8x2048x1024 .bf16) (a2 : IVec S8x2048 32) (a3 : IVec S8x2048x2 32) (a4 : FVec Ideal S8x2048x2 .f32) (a12 a13 : FVec Ideal S16x1024x256 .bf16) (a14 : FVec Ideal S16x256x1024 .bf16) : Prop where
  group : ∀ j, (a2 j).toNat < 4
  expert : ∀ j, (a3 j).toNat < 4
  differ : ∀ (q : Fin 8) (s : Fin 2048), a3 (ix3 q s 0) ≠ a3 (ix3 q s 1)
  h : ∀ j, IsR (a1 j)
  w : ∀ j, IsR (a4 j)
  w1 : ∀ j, IsR (a12 j)
  w3 : ∀ j, IsR (a13 j)
  w2 : ∀ j, IsR (a14 j)

theorem ne_of_cmp {a b : BitVec 32} (h : IntOp.cmpi .ne a b = 1#1) : a ≠ b := by
  rintro rfl
  change BitVec.ofBool (_ != _) = 1#1 at h
  simp at h

theorem differ_sample (a9 : IVec S128x4x2 32) (q : Fin 128) (s : Fin 4)
    (h : cmpi .ne (shapeCast S128x4 (extractStridedSlice S128x4x1 ![0, 0, 0] a9 slices_S128x4x2_S128x4x1_0_0_0) shapeCasts_S128x4x1_S128x4)
      (shapeCast S128x4 (extractStridedSlice S128x4x1 ![0, 0, 1] a9 slices_S128x4x2_S128x4x1_0_0_1) shapeCasts_S128x4x1_S128x4) (ix2 q s) = 1#1) : a9 (ix3 q s 0) ≠ a9 (ix3 q s 1) := by
  have e0 : shapeCast S128x4 (extractStridedSlice S128x4x1 ![0, 0, 0] a9 slices_S128x4x2_S128x4x1_0_0_0) shapeCasts_S128x4x1_S128x4 (ix2 q s) = a9 (ix3 q s 0) := by pointwise []
  have e1 : shapeCast S128x4 (extractStridedSlice S128x4x1 ![0, 0, 1] a9 slices_S128x4x2_S128x4x1_0_0_1) shapeCasts_S128x4x1_S128x4 (ix2 q s) = a9 (ix3 q s 1) := by pointwise []
  change IntOp.cmpi .ne (shapeCast S128x4 (extractStridedSlice S128x4x1 ![0, 0, 0] a9 slices_S128x4x2_S128x4x1_0_0_0) shapeCasts_S128x4x1_S128x4 (ix2 q s))
    (shapeCast S128x4 (extractStridedSlice S128x4x1 ![0, 0, 1] a9 slices_S128x4x2_S128x4x1_0_0_1) shapeCasts_S128x4x1_S128x4 (ix2 q s)) = 1#1 at h
  rw [e0, e1] at h
  exact ne_of_cmp h

theorem differ_prompt (a3 : IVec S8x2048x2 32) (q : Fin 8) (s : Fin 2048)
    (h : cmpi .ne (shapeCast S8x2048 (extractStridedSlice S8x2048x1 ![0, 0, 0] a3 slices_S8x2048x2_S8x2048x1_0_0_0) shapeCasts_S8x2048x1_S8x2048)
      (shapeCast S8x2048 (extractStridedSlice S8x2048x1 ![0, 0, 1] a3 slices_S8x2048x2_S8x2048x1_0_0_1) shapeCasts_S8x2048x1_S8x2048) (ix2 q s) = 1#1) : a3 (ix3 q s 0) ≠ a3 (ix3 q s 1) := by
  have e0 : shapeCast S8x2048 (extractStridedSlice S8x2048x1 ![0, 0, 0] a3 slices_S8x2048x2_S8x2048x1_0_0_0) shapeCasts_S8x2048x1_S8x2048 (ix2 q s) = a3 (ix3 q s 0) := by pointwise []
  have e1 : shapeCast S8x2048 (extractStridedSlice S8x2048x1 ![0, 0, 1] a3 slices_S8x2048x2_S8x2048x1_0_0_1) shapeCasts_S8x2048x1_S8x2048 (ix2 q s) = a3 (ix3 q s 1) := by pointwise []
  change IntOp.cmpi .ne (shapeCast S8x2048 (extractStridedSlice S8x2048x1 ![0, 0, 0] a3 slices_S8x2048x2_S8x2048x1_0_0_0) shapeCasts_S8x2048x1_S8x2048 (ix2 q s))
    (shapeCast S8x2048 (extractStridedSlice S8x2048x1 ![0, 0, 1] a3 slices_S8x2048x2_S8x2048x1_0_0_1) shapeCasts_S8x2048x1_S8x2048 (ix2 q s)) = 1#1 at h
  rw [e0, e1] at h
  exact ne_of_cmp h

theorem unpack (a0 : FVec Ideal S8x2048x1024 .f32) (a1 : FVec Ideal S8x2048x1024 .bf16) (a2 : IVec S8x2048 32) (a3 : IVec S8x2048x2 32) (a4 : FVec Ideal S8x2048x2 .f32) (a5 : FVec Ideal S8x6144 .f32)
    (a6 : FVec Ideal S128x4x1024 .f32) (a7 : FVec Ideal S128x4x1024 .bf16) (a8 : IVec S128x4 32) (a9 : IVec S128x4x2 32) (a10 : FVec Ideal S128x4x2 .f32) (a11 : FVec Ideal S128x6144 .f32)
    (a12 a13 : FVec Ideal S16x1024x256 .bf16) (a14 : FVec Ideal S16x256x1024 .bf16) (a15 : FVec Ideal S1024 .f32)
    (j : S_.Idx) (h : fn (F := Ideal) a0 a1 a2 a3 a4 a5 a6 a7 a8 a9 a10 a11 a12 a13 a14 a15 j = 1#1) : SaysP a1 a2 a3 a4 a12 a13 a14 ∧ Says a7 a8 a9 a10 a12 a13 a14 := by
  obtain ⟨h, hw⟩ := and_split (a := _) (b := _) h
  obtain ⟨hp, hs⟩ := and_split (a := _) (b := _) h
  obtain ⟨hw, h14⟩ := and_split (a := _) (b := _) hw
  obtain ⟨h12, h13⟩ := and_split (a := _) (b := _) hw
  obtain ⟨hs, h10⟩ := and_split (a := _) (b := _) hs
  obtain ⟨hs, h7⟩ := and_split (a := _) (b := _) hs
  obtain ⟨hs, hd⟩ := and_split (a := _) (b := _) hs
  obtain ⟨h8, h9⟩ := and_split (a := _) (b := _) hs
  obtain ⟨hp, h4⟩ := and_split (a := _) (b := _) hp
  obtain ⟨hp, h1⟩ := and_split (a := _) (b := _) hp
  obtain ⟨hp, hdp⟩ := and_split (a := _) (b := _) hp
  obtain ⟨h2, h3⟩ := and_split (a := _) (b := _) hp
  have r14 := Host.reduce_andi_all _ _ _ _ _ h14
  have r13 := Host.reduce_andi_all _ _ _ _ _ h13
  have r12 := Host.reduce_andi_all _ _ _ _ _ h12
  have r10 := Host.reduce_andi_all _ _ _ _ _ h10
  have r7 := Host.reduce_andi_all _ _ _ _ _ h7
  have rd := Host.reduce_andi_all _ _ _ _ _ hd
  have r9 := Host.reduce_andi_all _ _ _ _ _ h9
  have r8 := Host.reduce_andi_all _ _ _ _ _ h8
  have r4 := Host.reduce_andi_all _ _ _ _ _ h4
  have r1 := Host.reduce_andi_all _ _ _ _ _ h1
  have rdp := Host.reduce_andi_all _ _ _ _ _ hdp
  have r3 := Host.reduce_andi_all _ _ _ _ _ h3
  have r2 := Host.reduce_andi_all _ _ _ _ _ h2
  have w1 : ∀ j, IsR (a12 j) := fun j => isR_of_cmp _ _ zero_bf16 (r12 j)
  have w3 : ∀ j, IsR (a13 j) := fun j => isR_of_cmp _ _ zero_bf16 (r13 j)
  have w2 : ∀ j, IsR (a14 j) := fun j => isR_of_cmp _ _ zero_bf16 (r14 j)
  exact ⟨⟨fun j => lt4 _ (r2 j), fun j => lt4 _ (r3 j), fun q s => differ_prompt a3 q s (rdp (ix2 q s)), fun j => isR_of_cmp _ _ zero_bf16 (r1 j), fun j => isR_of_cmp _ _ zero_f32 (r4 j), w1, w3, w2⟩,
    ⟨fun j => lt4 _ (r8 j), fun j => lt4 _ (r9 j), fun q s => differ_sample a9 q s (rd (ix2 q s)), fun j => isR_of_cmp _ _ zero_bf16 (r7 j), fun j => isR_of_cmp _ _ zero_f32 (r10 j), w1, w3, w2⟩⟩

end Cert.Pre_routed.Moe
-- ==== Proof.SortAt.lean ====
/-
  The sample tile's sort and its finish, element by element.

  The sort multiplies by a matrix with a one where the row is a token's place. With the places of the tokens distinct,
  row `pos t` of the product is token `t`'s row. The weights are moved in three parts; on the extended reals the second
  and the third are zero where the weights are numbers.
-/
module

public import proofs.«01_k».proof.Proof.Step
public import proofs.«01_k».proof.Proof.GroupAt
public import Idealize.ShloMosaic.Lib.Pointwise
public import Idealize.ShloMosaic.Lib.VecWindow

@[expose] public section

noncomputable section

namespace Cert.KernelIdeal.Moe

open Cert.KernelIdeal Cert.KernelIdeal.Gen
open Idealize.ShloMosaic Idealize.ShloMosaic.TcCoe Idealize.ShloMosaic.Tactic

/-- A number of a row as an extended real. -/
theorem row_real (p : ℕ) (hp : p < 512) : (FloatOps.sitofp (F := Ideal) .f32 (BitVec.ofNat 32 p) : EReal) = ((p : ℝ) : EReal) := by
  show (((BitVec.ofNat 32 p).toInt : ℝ) : EReal) = _
  rw [WordArith.toInt_ofNat_small _ (by omega)]
  rfl

/-- A sum against a row of the matrix with a one at each token's place. -/
theorem onehot_sum (pos : Fin 512 → Fin 512) (hinj : Function.Injective pos) (t : Fin 512) (y : Fin 512 → EReal) (v : Fin 512 → EReal)
    (hv : ∀ x, v x = (((pos x).val : ℝ) : EReal)) :
    ∑ x : Fin 512, (if (FloatOps.sitofp (F := Ideal) .f32 (BitVec.ofNat 32 (pos t).val) : EReal) = v x then (1 : EReal) else 0) * y x = y t := by
  rw [Finset.sum_eq_single t]
  · rw [row_real _ (pos t).isLt, hv, if_pos rfl, one_mul]
  · intro x _ hx
    rw [row_real _ (pos t).isLt, hv, if_neg, zero_mul]
    intro he
    have h1 : ((pos t).val : ℝ) = ((pos x).val : ℝ) := EReal.coe_eq_coe_iff.1 he
    exact hx (hinj (Fin.ext (Nat.cast_injective h1))).symm
  · intro h; exact absurd (Finset.mem_univ _) h

theorem onehot_row (q : Fin 512) (y : Fin 512 → EReal) (v : EReal) (hv : v = ((q.val : ℝ) : EReal)) :
    ∑ x : Fin 512, (if (FloatOps.sitofp (F := Ideal) .f32 (BitVec.ofNat 32 x.val) : EReal) = v then (1 : EReal) else 0) * y x = y q := by
  rw [Finset.sum_eq_single q]
  · rw [row_real _ q.isLt, hv, if_pos rfl, one_mul]
  · intro x _ hx
    rw [row_real _ x.isLt, hv, if_neg, zero_mul]
    intro he
    have h1 : (x.val : ℝ) = (q.val : ℝ) := EReal.coe_eq_coe_iff.1 he
    exact hx (Fin.ext (Nat.cast_injective h1))
  · intro h; exact absurd (Finset.mem_univ _) h

section

variable (v8 : Vec Ideal S512x128 .f32) (pos : Fin 512 → Fin 512) (hinj : Function.Injective pos) (hpos : ∀ t, v8 (ix2 t 4) = (((pos t).val : ℝ) : EReal))

include hinj hpos in
theorem sortedS_at (v7 : Vec Ideal S512x1024 .bf16) (t : Fin 512) (k : Fin 1024) : rd16 (sortedS v8 v7) (ix2 (pos t) k) = v7 (ix2 t k) := by
  refine (congrFun (View.read_writes_full (Memref.whole cc0_scratch0).view _ _ _ _) (ix2 (pos t) k)).trans ?_
  refine Eq.trans (b := ∑ x : Fin 512, (if (FloatOps.sitofp (F := Ideal) .f32 (BitVec.ofNat 32 (pos t).val) : EReal) = v8 (ix2 x 4) then (1 : EReal) else 0) * v7 (ix2 x k)) ?_ ?_
  · pointwise [k0_pay26, k0_pay25, k0_pay24]
  · exact onehot_sum pos hinj t (fun x => v7 (ix2 x k)) (fun x => v8 (ix2 x 4)) hpos

theorem zeroS_at (p : Fin 512) (l : Fin 1024) : rd18 (zeroS (F := Ideal)) (ix2 p l) = 0 := by
  refine (congrFun (View.read_writes_full (Memref.whole cc0_scratch2).view _ _ _ _) (ix2 p l)).trans ?_
  pointwise [k0_pay4]

set_option maxHeartbeats 1000000 in
include hinj hpos in
theorem combS_at (hfin : ∀ t (e : Fin 4), v8 (ix2 t ⟨e.val, by have := e.isLt; omega⟩) - v8 (ix2 t ⟨e.val, by have := e.isLt; omega⟩) = 0) (t : Fin 512) (e : Fin 4) :
    rd17 (combS v8) (ix2 (pos t) ⟨e.val, by have := e.isLt; omega⟩) = v8 (ix2 t ⟨e.val, by have := e.isLt; omega⟩) := by
  refine (congrFun (View.read_writes_full (Memref.whole cc0_scratch1).view _ _ _ _) (ix2 (pos t) ⟨e.val, by have := e.isLt; omega⟩)).trans ?_
  pointwise [k0_pay3, k0_pay27, k0_pay25, k0_pay24]
  refine (congrArg₂ (· + ·) (congrArg₂ (· + ·) (onehot_sum pos hinj t _ (fun x => v8 (ix2 x 4)) hpos) (onehot_sum pos hinj t _ (fun x => v8 (ix2 x 4)) hpos)) (onehot_sum pos hinj t _ (fun x => v8 (ix2 x 4)) hpos)).trans ?_
  have hlt : ∀ n : ℕ, n < 128 → IntOp.cmpi CmpIPredicate.slt (BitVec.ofNat 32 n) 4#32 = BitVec.ofBool (decide (n < 4)) := fun n hn =>
    congrArg BitVec.ofBool (Routing.slt_ofNat32 (a := n) (b := 4) (by omega) (by omega))
  have hS : ∀ (n : ℕ) (hn : n < 128), Scalar.select (IntOp.cmpi CmpIPredicate.slt (BitVec.ofNat 32 n) 4#32) (v8 (ix2 t ⟨n, hn⟩)) (0 : EReal)
      = if n < 4 then v8 (ix2 t ⟨n, hn⟩) else 0 := by
    intro n hn
    rw [hlt n hn]
    exact select_if (n < 4) (v8 (ix2 t ⟨n, hn⟩))
  have hD : ∀ (n : ℕ) (hn : n < 128), ((if n < 4 then v8 (ix2 t ⟨n, hn⟩) else 0 : EReal) - (if n < 4 then v8 (ix2 t ⟨n, hn⟩) else 0)) = 0 := by
    intro n hn
    by_cases h4 : n < 4
    · rw [if_pos h4]; exact hfin t ⟨n, h4⟩
    · rw [if_neg h4, sub_zero]
  have he := e.isLt
  simp only [hS, hD, sub_zero, add_zero]
  rw [if_pos he, if_neg (by omega), if_neg (by omega), add_zero, add_zero]

end

end Cert.KernelIdeal.Moe
-- ==== Proof.Finish.lean ====
/-
  What a sample tile's step writes, element by element.
-/
module

public import proofs.«01_k».proof.Proof.SortAt
public import proofs.«01_k».proof.Proof.Core

@[expose] public section

noncomputable section

namespace Cert.KernelIdeal.Moe

open Cert.KernelIdeal Cert.KernelIdeal.Gen
open Idealize.ShloMosaic Idealize.ShloMosaic.TcCoe Idealize.ShloMosaic.Tactic

/-- The finish's load of the accumulator is the accumulator. -/
theorem readAcc_at (f : C18 Ideal) (p : Fin 512) (l : Fin 1024) : readAcc f (ix2 p l) = rd18 f (ix2 p l) := by
  show rd18 f ((Rect.unit (s := S512x1024) ![0, 0] S512x1024.size inb_S512x1024_S512x1024_0_0).toLoadRect.idx (ix2 p l)) = _
  refine congrArg (rd18 f) (funext fun c => ?_)
  match c with
  | 0 => exact Fin.ext (by show 0 + 1 * p.val = p.val; omega)
  | 1 => exact Fin.ext (by show 0 + 1 * l.val = l.val; omega)

/-- The norm of a row: over the root of the mean of the squares and a small number, by the gain. -/
def normed (Z : Fin 1024 → EReal) (w : EReal) (k : Fin 1024) : EReal :=
  Z k * Ideal.rsqrt (Ideal.div (∑ x : Fin 1024, Z x * Z x) (Ideal.ofBits .f32 1149239296#32) + Ideal.ofBits .f32 897988541#32) * w

set_option maxHeartbeats 1000000 in
theorem pay142_at (v8 : Vec Ideal S512x128 .f32) (acc v6 : Vec Ideal S512x1024 .f32) (v9 : Vec Ideal S128x1024 .f32) (v13 : Vec Ideal S1x1024 .f32) (t q : Fin 512) (k : Fin 1024)
    (hv : v8 (ix2 t 4) = ((q.val : ℝ) : EReal)) (hfin : ∀ x, IsR (acc (ix2 q x))) :
    k0_pay142 v8 acc v6 v9 v13 (ix2 t k)
      = normed (fun x => v6 (ix2 t x) + acc (ix2 q x) * v9 (ix2 ⟨t.val % 128, Nat.mod_lt _ (by omega)⟩ x)) (v13 (ix2 0 k)) k := by
  have hs : ∀ x : Fin 1024, (∑ y : Fin 512, (if (FloatOps.sitofp (F := Ideal) .f32 (BitVec.ofNat 32 y.val) : EReal) = v8 (ix2 t 4) then (1 : EReal) else 0) * acc (ix2 y x)
      + ∑ y : Fin 512, (if (FloatOps.sitofp (F := Ideal) .f32 (BitVec.ofNat 32 y.val) : EReal) = v8 (ix2 t 4) then (1 : EReal) else 0) * (acc (ix2 y x) - acc (ix2 y x)))
      = acc (ix2 q x) := fun x => by
    rw [onehot_row q (fun y => acc (ix2 y x)) _ hv, onehot_row q (fun y => acc (ix2 y x) - acc (ix2 y x)) _ hv, (hfin x).sub_self]
    exact add_zero _
  unfold normed
  simp only [← hs]
  clear hs
  pointwise [k0_pay142]

set_option maxHeartbeats 1000000 in
/-- THE SAMPLE TILE'S STEP at token `t`, in group `g`, with the tile's places distinct and its numbers numbers. -/
theorem outS_at (G : IVec S33x512 32) (i : grid0.Coords) (V1 : W1 Ideal) (V3 : W3 Ideal) (V2 : W2 Ideal) (v6 : Vec Ideal S512x1024 .f32) (v7 : Vec Ideal S512x1024 .bf16) (v8 : Vec Ideal S512x128 .f32)
    (v9 : Vec Ideal S128x1024 .f32) (v13 : Vec Ideal S1x1024 .f32) (pos : Fin 512 → Fin 512) (hinj : Function.Injective pos) (hpos : ∀ t, v8 (ix2 t 4) = (((pos t).val : ℝ) : EReal))
    (hA : ∀ j, IsR (V1 j)) (hB : ∀ j, IsR (V3 j)) (hD : ∀ j, IsR (V2 j)) (hx : ∀ t k, IsR (v7 (ix2 t k)))
    (hc : ∀ t (e : Fin 4), IsR (v8 (ix2 t ⟨e.val, by have := e.isLt; omega⟩))) (t : Fin 512) (g : Fin 4)
    (hp : pre G (i 0) g.val ≤ (pos t).val ∧ (pos t).val < pre G (i 0) g.val + cnt G (i 0) g.val) (k : Fin 1024) :
    outS (tab G) i V1 V3 V2 v6 v7 v8 v9 v13 (ix2 t k)
      = normed (fun x => v6 (ix2 t x) + Yv g V1 V3 V2 (fun k => v7 (ix2 t k)) (fun e => v8 (ix2 t ⟨e.val, by have := e.isLt; omega⟩)) x * v9 (ix2 ⟨t.val % 128, Nat.mod_lt _ (by omega)⟩ x)) (v13 (ix2 0 k)) k := by
  have ha : ∀ l, readAcc (accs (tab G) i (sortedS v8 v7) (combS v8) V1 V3 V2 zeroS 4) (ix2 (pos t) l)
      = Yv g V1 V3 V2 (fun k => v7 (ix2 t k)) (fun e => v8 (ix2 t ⟨e.val, by have := e.isLt; omega⟩)) l := fun l => by
    refine (readAcc_at _ _ _).trans ((accs_at g _ _ _ _ _ G i zeroS zeroS_at (pos t) l hp).trans ?_)
    unfold Yrow
    have h1 : (fun k => rd16 (sortedS v8 v7) (ix2 (pos t) k)) = fun k => v7 (ix2 t k) := funext fun k => sortedS_at v8 pos hinj hpos v7 t k
    have h2 : (fun e : Fin 4 => rd17 (combS v8) (ix2 (pos t) ⟨e.val, by have := e.isLt; omega⟩)) = fun e : Fin 4 => v8 (ix2 t ⟨e.val, by have := e.isLt; omega⟩) :=
      funext fun e => combS_at v8 pos hinj hpos (fun t e => (hc t e).sub_self) t e
    rw [h1, h2]
    rfl
  refine (pay142_at v8 _ v6 v9 v13 t (pos t) k (hpos t) fun x => ?_).trans ?_
  · rw [ha]; exact isR_Yv g _ _ _ _ _ x hA hB hD (hx t) (hc t)
  · simp only [ha]

end Cert.KernelIdeal.Moe
-- ==== Proof.Pos.lean ====
/-
  Where a token goes when its tile is sorted by group: past the tokens of earlier groups and the earlier tokens of its own.
-/
module

public import proofs.«01_k».proof.Proof.Table

@[expose] public section

noncomputable section

namespace Cert.KernelIdeal.Moe

variable (grp : Fin 512 → ℕ)

/-- The tokens that go before `r`. -/
def before (r : Fin 512) : Finset (Fin 512) := Finset.univ.filter fun x => grp x < grp r ∨ (grp x = grp r ∧ x < r)

/-- A token's place. -/
def rank (r : Fin 512) : ℕ := (before grp r).card

theorem rank_lt_of {r s : Fin 512} (h : grp r < grp s ∨ (grp r = grp s ∧ r < s)) : rank grp r < rank grp s := by
  refine Finset.card_lt_card ⟨fun x hx => ?_, fun hs => ?_⟩
  · simp only [before, Finset.mem_filter, Finset.mem_univ, true_and] at hx ⊢
    omega
  · have : r ∈ before grp r := hs (by simpa only [before, Finset.mem_filter, Finset.mem_univ, true_and] using h)
    simp only [before, Finset.mem_filter, Finset.mem_univ, true_and] at this
    omega

theorem rank_inj : Function.Injective (rank grp) := by
  intro r s h
  by_contra hne
  have : grp r < grp s ∨ (grp r = grp s ∧ r < s) ∨ grp s < grp r ∨ (grp s = grp r ∧ s < r) := by omega
  rcases this with h1 | h1 | h1 | h1
  · exact absurd h (rank_lt_of grp (Or.inl h1)).ne
  · exact absurd h (rank_lt_of grp (Or.inr h1)).ne
  · exact absurd h (rank_lt_of grp (Or.inl h1)).ne'
  · exact absurd h (rank_lt_of grp (Or.inr h1)).ne'

theorem rank_lt (r : Fin 512) : rank grp r < 512 := by
  have h : rank grp r < (Finset.univ : Finset (Fin 512)).card := by
    refine Finset.card_lt_card ⟨Finset.subset_univ _, fun hs => ?_⟩
    have := hs (Finset.mem_univ r)
    simp only [before, Finset.mem_filter, Finset.mem_univ, true_and] at this
    omega
  simpa using h

/-- The place as a row. -/
def spot (r : Fin 512) : Fin 512 := ⟨rank grp r, rank_lt grp r⟩

theorem spot_inj : Function.Injective (spot grp) := fun _ _ h => rank_inj grp (Fin.mk.inj_iff.1 h)

theorem rank_range (r : Fin 512) :
    (Finset.univ.filter fun x => grp x < grp r).card ≤ rank grp r ∧
      rank grp r < (Finset.univ.filter fun x => grp x < grp r).card + (Finset.univ.filter fun x => grp x = grp r).card := by
  have hs : before grp r = (Finset.univ.filter fun x => grp x < grp r) ∪ (Finset.univ.filter fun x => grp x = grp r ∧ x < r) := by
    ext x
    simp only [before, Finset.mem_union, Finset.mem_filter, Finset.mem_univ, true_and]
  have hd : Disjoint (Finset.univ.filter fun x => grp x < grp r) (Finset.univ.filter fun x => grp x = grp r ∧ x < r) :=
    Finset.disjoint_filter.2 fun x _ h1 h2 => by omega
  have hc : rank grp r = (Finset.univ.filter fun x => grp x < grp r).card + (Finset.univ.filter fun x => grp x = grp r ∧ x < r).card := by
    rw [rank, hs, Finset.card_union_of_disjoint hd]
  have hl : (Finset.univ.filter fun x => grp x = grp r ∧ x < r).card < (Finset.univ.filter fun x => grp x = grp r).card := by
    refine Finset.card_lt_card ⟨fun x hx => ?_, fun hs => ?_⟩
    · simp only [Finset.mem_filter, Finset.mem_univ, true_and] at hx ⊢
      exact hx.1
    · have h : r ∈ Finset.univ.filter fun x => grp x = grp r ∧ x < r := hs (by simp)
      simp at h
  omega

end Cert.KernelIdeal.Moe
-- ==== Proof.HostAt.lean ====
/-
  What the host hands the sample step, element by element.
-/
module

public import proofs.«01_k».proof.Proof.Table
public import proofs.«01_k».proof.Proof.Pos
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.StableHlo Idealize.ShloMosaic.Tactic

variable {F : FTy → Type} [FloatOps F]

/-- A pair of numbers for every token of the call's 33 tiles. -/
def pairsOf {e : EltTy} (p : S8x2048x2.Idx → Elt F e) (s : S128x4x2.Idx → Elt F e) : S33x512x2.Idx → Elt F e :=
  concatenate S33x512x2 0 [⟨S32x512x2, shapeCast S32x512x2 (transpose S32x8x64x2 [1, 0, 2, 3] (shapeCast S8x32x64x2 p shapeCasts_S8x2048x2_S8x32x64x2) transposes_S8x32x64x2_S32x8x64x2_1_0_2_3) shapeCasts_S32x8x64x2_S32x512x2⟩,
    ⟨S1x512x2, shapeCast S1x512x2 (transpose S4x128x2 [1, 0, 2] s transposes_S128x4x2_S4x128x2_1_0_2) shapeCasts_S4x128x2_S1x512x2⟩] concatenates_S32x512x2_S1x512x2_S33x512x2_d0

/-- The places of the tokens, as the host counts them. -/
def placesOf (G : IVec S33x512 32) : IVec S33x512 32 :=
  Host.reduce IntOp.addi (extui 32 (ori (cmpi .slt (broadcastInDim S33x512x512 ![0, 2] bcast_S33x512_S33x512x512_0_2 G) (broadcastInDim S33x512x512 ![0, 1] bcast_S33x512_S33x512x512_0_1 G))
      (andi (cmpi .eq (broadcastInDim S33x512x512 ![0, 2] bcast_S33x512_S33x512x512_0_2 G) (broadcastInDim S33x512x512 ![0, 1] bcast_S33x512_S33x512x512_0_1 G)) (cmpi .slt (iotaInDim S33x512x512 32 2) (iotaInDim S33x512x512 32 1)))) natLt_1_32)
    (constantI S_ 32 0#32) reducesTo_S33x512x512_S33x512_d2 h_S_

/-- The weights of a token's group's experts. -/
def weightsOf (I : IVec S33x512x2 32) (W : FVec F S33x512x2 .f32) : FVec F S33x512x4 .f32 :=
  select (cmpi .eq (iotaInDim S33x512x4 32 2) (broadcastInDim S33x512x4 ![0, 1, 2] bcast_S33x512x1_S33x512x4_0_1_2 (extractStridedSlice S33x512x1 ![0, 0, 0] I slices_S33x512x2_S33x512x1_0_0_0)))
    (broadcastInDim S33x512x4 ![0, 1, 2] bcast_S33x512x1_S33x512x4_0_1_2 (extractStridedSlice S33x512x1 ![0, 0, 0] W slices_S33x512x2_S33x512x1_0_0_0))
    (select (cmpi .eq (iotaInDim S33x512x4 32 2) (broadcastInDim S33x512x4 ![0, 1, 2] bcast_S33x512x1_S33x512x4_0_1_2 (extractStridedSlice S33x512x1 ![0, 0, 1] I slices_S33x512x2_S33x512x1_0_0_1)))
      (broadcastInDim S33x512x4 ![0, 1, 2] bcast_S33x512x1_S33x512x4_0_1_2 (extractStridedSlice S33x512x1 ![0, 0, 1] W slices_S33x512x2_S33x512x1_0_0_1))
      (broadcastInDim S33x512x4 ![] bcast_S_S33x512x4 (constant S_ .f32 0x00000000#32)))

/-- The weights beside the places. -/
def routeOf (P : IVec S33x512 32) (C : FVec F S33x512x4 .f32) : FVec F S33x512x128 .f32 :=
  concatenate S33x512x128 2 [⟨S33x512x4, C⟩, ⟨S33x512x124, broadcastInDim S33x512x124 ![0, 1] bcast_S33x512_S33x512x124_0_1 (sitofp .f32 P)⟩] concatenates_S33x512x4_S33x512x124_S33x512x128_d2

/-- The sample tile's part of it. -/
def routeS (R : FVec F S33x512x128 .f32) : FVec F S512x128 .f32 :=
  shapeCast S512x128 (extractStridedSlice S1x512x128 ![32, 0, 0] R slices_S33x512x128_S1x512x128_32_0_0) shapeCasts_S1x512x128_S512x128

/-- A sample array by time. -/
def byTime {e : EltTy} (x : S128x4x1024.Idx → Elt F e) : S512x1024.Idx → Elt F e :=
  shapeCast S512x1024 (transpose S4x128x1024 [1, 0, 2] x transposes_S128x4x1024_S4x128x1024_1_0_2) shapeCasts_S4x128x1024_S512x1024

theorem v55_eq (X : ∀ b : DevRef τ sig, b.ty.Contents (Elt F)) : StableHlo.after (hostOps0 (F := F)) X (Proc.devRef .tc main_v55) = byTime (F := F) (e := .f32) (X (Proc.devRef .tc main_arg6)) := by
  unfold_abbrev_sides
  after_reads_simp
  rfl
theorem v57_eq (X : ∀ b : DevRef τ sig, b.ty.Contents (Elt F)) : StableHlo.after (hostOps0 (F := F)) X (Proc.devRef .tc main_v57) = byTime (F := F) (e := .bf16) (X (Proc.devRef .tc main_arg7)) := by
  unfold_abbrev_sides
  after_reads_simp
  rfl
theorem v58_eq (X : ∀ b : DevRef τ sig, b.ty.Contents (Elt F)) : StableHlo.after (hostOps0 (F := F)) X (Proc.devRef .tc main_v58) = (shapeCast S4x1024x1024 (X (Proc.devRef .tc main_arg14) : S16x256x1024.Idx → Elt F .bf16) shapeCasts_S16x256x1024_S4x1024x1024 : S4x1024x1024.Idx → Elt F .bf16) := by
  unfold_abbrev_sides
  after_reads_simp
  rfl
theorem v59_eq (X : ∀ b : DevRef τ sig, b.ty.Contents (Elt F)) : StableHlo.after (hostOps0 (F := F)) X (Proc.devRef .tc main_v59) = (shapeCast S1x1024 (X (Proc.devRef .tc main_arg15) : S1024.Idx → Elt F .f32) shapeCasts_S1024_S1x1024 : S1x1024.Idx → Elt F .f32) := by
  unfold_abbrev_sides
  after_reads_simp
  rfl

theorem byTime_at {e : EltTy} (x : S128x4x1024.Idx → Elt Ideal e) (t : Fin 512) (l : Fin 1024) :
    byTime (F := Ideal) x (ix2 t l) = x (ix3 ⟨t.val % 128, Nat.mod_lt _ (by omega)⟩ ⟨t.val / 128, by omega⟩ l) := by
  pointwise [byTime]
theorem groups_at (gp : IVec S8x2048 32) (gs : IVec S128x4 32) (t : Fin 512) : groupsOf gp gs (ix2 32 t) = gs (ix2 ⟨t.val % 128, Nat.mod_lt _ (by omega)⟩ ⟨t.val / 128, by omega⟩) := by
  pointwise [groupsOf]
theorem pairs_at {e : EltTy} (p : S8x2048x2.Idx → Elt Ideal e) (s : S128x4x2.Idx → Elt Ideal e) (t : Fin 512) (a : Fin 2) :
    pairsOf (F := Ideal) p s (ix3 32 t a) = s (ix3 ⟨t.val % 128, Nat.mod_lt _ (by omega)⟩ ⟨t.val / 128, by omega⟩ a) := by
  pointwise [pairsOf]
theorem weights_at (I : IVec S33x512x2 32) (W : FVec Ideal S33x512x2 .f32) (i : Fin 33) (t : Fin 512) (e : Fin 4) : weightsOf I W (ix3 i t e)
    = Scalar.select (IntOp.cmpi .eq (BitVec.ofNat 32 e.val) (I (ix3 i t 0))) (W (ix3 i t 0)) (Scalar.select (IntOp.cmpi .eq (BitVec.ofNat 32 e.val) (I (ix3 i t 1))) (W (ix3 i t 1)) 0) := by
  pointwise [weightsOf]
theorem route_lo (P : IVec S33x512 32) (C : FVec Ideal S33x512x4 .f32) (t : Fin 512) (e : Fin 4) :
    routeS (routeOf P C) (ix2 t ⟨e.val, by have := e.isLt; omega⟩) = C (ix3 32 t e) := by
  pointwise [routeS, routeOf]
theorem route_hi (P : IVec S33x512 32) (C : FVec Ideal S33x512x4 .f32) (t : Fin 512) :
    routeS (routeOf P C) (ix2 t 4) = FloatOps.sitofp .f32 (P (ix2 32 t)) := by
  pointwise [routeS, routeOf]
theorem down_rows (x : S16x256x1024.Idx → Elt Ideal .bf16) (g : Fin 4) (e : Fin 4) (f : Fin 256) (l : Fin 1024) :
    shapeCast S4x1024x1024 x shapeCasts_S16x256x1024_S4x1024x1024 (ix3 g ⟨256 * e.val + f.val, by omega⟩ l) = x (ix3 ⟨4 * g.val + e.val, by omega⟩ f l) := by
  pointwise []
  refine congrArg (fun z => x (ix3 z f l)) (Fin.ext ?_)
  show g.val * 4 + (256 * e.val + f.val) / 256 = 4 * g.val + e.val
  omega
theorem gain_at (x : S1024.Idx → Elt Ideal .f32) (l : Fin 1024) : shapeCast S1x1024 x shapeCasts_S1024_S1x1024 (ix2 0 l) = x (ix1 l) := by
  pointwise []

theorem red512 : S33x512x512.Reduces [2] S33x512 := by decide

theorem lift512 (i : Fin 33) (r : Fin 512) (k : Fin 512) : red512.lift (ix2 i r) k = ix3 i r k := by
  funext c
  match c with
  | 0 => rfl
  | 1 => rfl
  | 2 => rfl

end Cert.KernelIdeal.Moe
-- ==== Proof.Places.lean ====
/-
  The places the host counts are the places of the sort, and a token's place lies in its group's range.
-/
module

public import proofs.«01_k».proof.Proof.HostAt
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.Tactic

variable (G : IVec S33x512 32) (i : Fin 33)

/-- The tokens' groups as numbers. -/
def grpOf (r : Fin 512) : ℕ := (G (ix2 i r)).toNat

variable (hG : ∀ r, grpOf G i r < 4)

theorem slt_small {a b : BitVec 32} (ha : a.toNat < 1024) (hb : b.toNat < 1024) : IntOp.cmpi .slt a b = 1#1 ↔ a.toNat < b.toNat := by
  show BitVec.ofBool (a.slt b) = 1#1 ↔ _
  rw [WordArith.ofBool_eq_one_iff, BitVec.slt_iff_toInt_lt, BitVec.toInt_eq_toNat_of_lt (by omega), BitVec.toInt_eq_toNat_of_lt (by omega)]
  omega

theorem eq_word {a b : BitVec 32} : IntOp.cmpi .eq a b = 1#1 ↔ a.toNat = b.toNat := by
  show BitVec.ofBool (a == b) = 1#1 ↔ _
  rw [WordArith.ofBool_eq_one_iff, beq_iff_eq]
  exact ⟨fun h => h ▸ rfl, fun h => BitVec.eq_of_toNat_eq h⟩

theorem or_one {a b : BitVec 1} : IntOp.ori a b = 1#1 ↔ a = 1#1 ∨ b = 1#1 := by
  revert a b; decide

theorem and_one {a b : BitVec 1} : IntOp.andi a b = 1#1 ↔ a = 1#1 ∧ b = 1#1 := by
  revert a b; decide

/-- The word that says token `x` goes before token `r`. -/
def goes (r x : Fin 512) : BitVec 1 :=
  IntOp.ori (IntOp.cmpi .slt (G (ix2 i x)) (G (ix2 i r))) (IntOp.andi (IntOp.cmpi .eq (G (ix2 i x)) (G (ix2 i r))) (IntOp.cmpi .slt (BitVec.ofNat 32 x.val) (BitVec.ofNat 32 r.val)))

include hG in
theorem goes_iff (r x : Fin 512) : (grpOf G i x < grpOf G i r ∨ (grpOf G i x = grpOf G i r ∧ x < r)) ↔ goes G i r x = 1#1 := by
  have hx := x.isLt
  have hr := r.isLt
  have h1 : (BitVec.ofNat 32 x.val).toNat = x.val := by rw [BitVec.toNat_ofNat]; omega
  have h2 : (BitVec.ofNat 32 r.val).toNat = r.val := by rw [BitVec.toNat_ofNat]; omega
  have h3 : (G (ix2 i x)).toNat < 4 := hG x
  have h4 : (G (ix2 i r)).toNat < 4 := hG r
  unfold goes
  rw [or_one, and_one, slt_small (by omega) (by omega), eq_word, slt_small (by omega) (by omega), h1, h2]
  exact Iff.rfl

/-- The host's comparison of the tokens' groups and of their own order. -/
def ahead : IVec S33x512x512 1 :=
  ori (cmpi .slt (broadcastInDim S33x512x512 ![0, 2] bcast_S33x512_S33x512x512_0_2 G) (broadcastInDim S33x512x512 ![0, 1] bcast_S33x512_S33x512x512_0_1 G))
      (andi (cmpi .eq (broadcastInDim S33x512x512 ![0, 2] bcast_S33x512_S33x512x512_0_2 G) (broadcastInDim S33x512x512 ![0, 1] bcast_S33x512_S33x512x512_0_1 G)) (cmpi .slt (iotaInDim S33x512x512 32 2) (iotaInDim S33x512x512 32 1)))

theorem ahead_at (r k : Fin 512) : ahead G (ix3 i r k) = goes G i r k := by
  have hb : broadcastInDim S33x512x512 ![0, 2] bcast_S33x512_S33x512x512_0_2 G (ix3 i r k) = G (ix2 i k) := by
    show G _ = _
    congr 1
    funext c
    match c with
    | 0 => rfl
    | 1 => rfl
  have hb' : broadcastInDim S33x512x512 ![0, 1] bcast_S33x512_S33x512x512_0_1 G (ix3 i r k) = G (ix2 i r) := by
    show G _ = _
    congr 1
    funext c
    match c with
    | 0 => rfl
    | 1 => rfl
  unfold goes
  rw [← hb, ← hb']
  rfl

include hG in
theorem placesOf_at (r : Fin 512) : placesOf G (ix2 i r) = BitVec.ofNat 32 (spot (grpOf G i) r).val := by
  have hc : (spot (grpOf G i) r).val = (Finset.univ.filter fun x : Fin 512 => goes G i r x = 1#1).card := by
    show (before (grpOf G i) r).card = _
    unfold before
    simp only [goes_iff G i hG]
  rw [hc, ← IndicatorCount.fold_addi_setWidth_eq_card (fun x : Fin 512 => goes G i r x)]
  refine (Host.reduce_eq_fold_single IntOp.addi (extui 32 (ahead G) natLt_1_32) _ reducesTo_S33x512x512_S33x512_d2 red512 h_S_ (ix2 i r)).trans ?_
  refine Finset.fold_congr fun k _ => ?_
  refine (congrArg (extui 32 (ahead G) natLt_1_32) (lift512 i r k)).trans ?_
  exact congrArg (BitVec.setWidth 32) (ahead_at G i r k)

theorem cnt_eq (g : ℕ) (hg : g < 4) : cnt G i g = (Finset.univ.filter fun x => grpOf G i x = g).card := by
  unfold cnt
  congr 1
  ext x
  simp only [Finset.mem_filter, Finset.mem_univ, true_and]
  unfold grpOf
  constructor
  · intro h
    change G (ix2 i x) = _ at h
    rw [h, BitVec.toNat_ofNat]; omega
  · intro h
    change G (ix2 i x) = _
    apply BitVec.eq_of_toNat_eq; rw [BitVec.toNat_ofNat, h]; omega

theorem pre_eq : ∀ g : ℕ, g ≤ 4 → pre G i g = (Finset.univ.filter fun x => grpOf G i x < g).card
  | 0, _ => by simp [pre]
  | g + 1, hg => by
    have hs : (Finset.univ.filter fun x => grpOf G i x < g + 1) = (Finset.univ.filter fun x => grpOf G i x < g) ∪ (Finset.univ.filter fun x => grpOf G i x = g) := by
      ext x
      simp only [Finset.mem_union, Finset.mem_filter, Finset.mem_univ, true_and]
      omega
    rw [pre, pre_eq g (by omega), cnt_eq G i g (by omega), hs, Finset.card_union_of_disjoint]
    refine Finset.disjoint_filter.2 fun x _ h1 h2 => ?_
    omega

include hG in
/-- A token's place is in its group's range. -/
theorem spot_range (r : Fin 512) (g : ℕ) (hg : grpOf G i r = g) : pre G i g ≤ (spot (grpOf G i) r).val ∧ (spot (grpOf G i) r).val < pre G i g + cnt G i g := by
  subst hg
  rw [pre_eq G i _ (hG r).le, cnt_eq G i _ (hG r)]
  exact rank_range (grpOf G i) r

end Cert.KernelIdeal.Moe
-- ==== Proof.Combine.lean ====
/-
  The reference's sample result element by element: a token's row is the norm of the token plus its modulation times the
  four experts' sum of its group.
-/
module

public import proofs.«01_k».proof.Proof.RefAt
public import proofs.«01_k».proof.Proof.Routed
public import proofs.«01_k».proof.Proof.Finish
public import proofs.«01_k».proof.Proof.Places

@[expose] public section

noncomputable section

namespace Cert.ReferenceIdeal.Moe

open Cert.ReferenceIdeal Cert.ReferenceIdeal.Gen
open Idealize.ShloMosaic Idealize.ShloMosaic.TcCoe Idealize.ShloMosaic.Tactic
open Cert.KernelIdeal.Moe (ex lane Yv normed sum_experts eq_word)
open Cert.Pre_routed.Moe (Says)

/-- A one where expert `i` of group `g` is expert `n` of the sixteen. -/
theorem hit (g i : BitVec 32) (hg : g.toNat < 4) (hi : i.toNat < 4) (n : Fin 16) :
    FloatOps.uitofp (F := Ideal) .f32 (IntOp.cmpi .eq (IntOp.addi (IntOp.muli g 4#32) i) (BitVec.ofNat 32 n.val)) = if 4 * g.toNat + i.toNat = n.val then (1 : EReal) else 0 := by
  have hn := n.isLt
  have e1 : (IntOp.addi (IntOp.muli g 4#32) i).toNat = 4 * g.toNat + i.toNat := by
    show (g * 4#32 + i).toNat = _
    rw [BitVec.toNat_add, BitVec.toNat_mul]
    show (g.toNat * 4 % 2 ^ 32 + i.toNat) % 2 ^ 32 = _
    omega
  have e2 : (BitVec.ofNat 32 n.val).toNat = n.val := by rw [BitVec.toNat_ofNat]; omega
  have h := eq_word (a := IntOp.addi (IntOp.muli g 4#32) i) (b := BitVec.ofNat 32 n.val)
  rw [e1, e2] at h
  show (((IntOp.cmpi .eq (IntOp.addi (IntOp.muli g 4#32) i) (BitVec.ofNat 32 n.val)).toNat : ℝ) : EReal) = _
  by_cases hc : 4 * g.toNat + i.toNat = n.val
  · rw [if_pos hc, h.2 hc]; norm_num
  · rw [if_neg hc, (BitVec.eq_zero_or_eq_one _).resolve_right fun h' => hc (h.1 h')]; norm_num

theorem pick {α : Type} (i : BitVec 32) (e : Fin 4) (a b : α) : Scalar.select (IntOp.cmpi .eq (BitVec.ofNat 32 e.val) i) a b = if i.toNat = e.val then a else b := by
  have he := e.isLt
  have e2 : (BitVec.ofNat 32 e.val).toNat = e.val := by rw [BitVec.toNat_ofNat]; omega
  have h := eq_word (a := BitVec.ofNat 32 e.val) (b := i)
  rw [e2] at h
  by_cases hc : i.toNat = e.val
  · rw [if_pos hc, h.2 hc.symm]; rfl
  · rw [if_neg hc]; exact if_neg fun h' => hc (h.1 h').symm

/-- The weight of expert `e` of a token's group. -/
def cw (a9 : IVec S128x4x2 32) (a10 : FVec Ideal S128x4x2 .f32) (q : Fin 128) (s : Fin 4) (e : Fin 4) : EReal :=
  Scalar.select (IntOp.cmpi .eq (BitVec.ofNat 32 e.val) (a9 (ix3 q s 0))) (a10 (ix3 q s 0)) (Scalar.select (IntOp.cmpi .eq (BitVec.ofNat 32 e.val) (a9 (ix3 q s 1))) (a10 (ix3 q s 1)) 0)

section

variable (a6 : FVec Ideal S128x4x1024 .f32) (a7 : FVec Ideal S128x4x1024 .bf16) (a8 : IVec S128x4 32) (a9 : IVec S128x4x2 32) (a10 : FVec Ideal S128x4x2 .f32) (a11 : FVec Ideal S128x6144 .f32)
  (a12 a13 : FVec Ideal S16x1024x256 .bf16) (a14 : FVec Ideal S16x256x1024 .bf16) (a15 : FVec Ideal S1024 .f32) (S : Says a7 a8 a9 a10 a12 a13 a14)

/-- The row of a pair in the flattened order. -/
def row (q : Fin 128) (s : Fin 4) : Fin 512 := ⟨q.val * 4 + s.val, by omega⟩

theorem comb_row (q : Fin 128) (s : Fin 4) (n : Fin 16) : comb a8 a9 a10 (ix2 (row q s) n)
    = ∑ x : Fin 2, FloatOps.uitofp (F := Ideal) .f32 (IntOp.cmpi .eq (IntOp.addi (IntOp.muli (a8 (ix2 q s)) 4#32) (a9 (ix3 q s x))) (BitVec.ofNat 32 n.val)) * a10 (ix3 q s x) := by
  have hq : (⟨(row q s).val / 4, by omega⟩ : Fin 128) = q := Fin.ext (by show (q.val * 4 + s.val) / 4 = q.val; omega)
  have hs : (⟨(row q s).val % 4, Nat.mod_lt _ (by omega)⟩ : Fin 4) = s := Fin.ext (by show (q.val * 4 + s.val) % 4 = s.val; omega)
  refine (comb_at a8 a9 a10 (row q s) n).trans ?_
  rw [hq, hs]

theorem up_row (w : FVec Ideal S16x1024x256 .bf16) (q : Fin 128) (s : Fin 4) (n : Fin 16) (f : Fin 256) : up a7 w (ix3 (row q s) n f) = ∑ k : Fin 1024, a7 (ix3 q s k) * w (ix3 n k f) := by
  have hq : (⟨(row q s).val / 4, by omega⟩ : Fin 128) = q := Fin.ext (by show (q.val * 4 + s.val) / 4 = q.val; omega)
  have hs : (⟨(row q s).val % 4, Nat.mod_lt _ (by omega)⟩ : Fin 4) = s := Fin.ext (by show (q.val * 4 + s.val) % 4 = s.val; omega)
  refine (up_at a7 w (row q s) n f).trans ?_
  rw [hq, hs]

include S in
theorem comb_in (q : Fin 128) (s : Fin 4) (g : Fin 4) (hg : (a8 (ix2 q s)).toNat = g.val) (e : Fin 4) : comb a8 a9 a10 (ix2 (row q s) (ex g e)) = cw a9 a10 q s e := by
  rw [comb_row, Fin.sum_univ_two, hit _ _ (S.group _) (S.expert _), hit _ _ (S.group _) (S.expert _), hg]
  unfold cw
  rw [pick, pick]
  show (if 4 * g.val + _ = 4 * g.val + e.val then (1 : EReal) else 0) * _ + (if 4 * g.val + _ = 4 * g.val + e.val then (1 : EReal) else 0) * _ = _
  simp only [Nat.add_left_cancel_iff]
  by_cases h0 : (a9 (ix3 q s 0)).toNat = e.val
  · have h1 : ¬(a9 (ix3 q s 1)).toNat = e.val := fun h => S.differ q s (BitVec.eq_of_toNat_eq (h0.trans h.symm))
    rw [if_pos h0, if_neg h1, if_pos h0, one_mul, zero_mul, add_zero]
  · rw [if_neg h0, if_neg h0, zero_mul, zero_add]
    by_cases h1 : (a9 (ix3 q s 1)).toNat = e.val
    · rw [if_pos h1, if_pos h1, one_mul]
    · rw [if_neg h1, if_neg h1, zero_mul]

include S in
theorem comb_out (q : Fin 128) (s : Fin 4) (g : Fin 4) (hg : (a8 (ix2 q s)).toNat = g.val) (n : Fin 16) (hn : n.val / 4 ≠ g.val) : comb a8 a9 a10 (ix2 (row q s) n) = 0 := by
  have h0 := S.expert (ix3 q s 0)
  have h1 := S.expert (ix3 q s 1)
  rw [comb_row, Fin.sum_univ_two, hit _ _ (S.group _) (S.expert _), hit _ _ (S.group _) (S.expert _), hg, if_neg (by omega), if_neg (by omega), zero_mul, zero_mul, add_zero]

include S in
/-- A token's experts' sum, over its group's four experts. -/
theorem down_row (D : Vec Ideal Cert.KernelIdeal.S4x1024x1024 .bf16) (q : Fin 128) (s : Fin 4) (g : Fin 4) (hg : (a8 (ix2 q s)).toNat = g.val) (l : Fin 1024)
    (hD : ∀ (e : Fin 4) (f : Fin 256), D (ix3 g (lane e f) l) = a14 (ix3 (ex g e) f l)) :
    down (act (up a7 a12) (up a7 a13) (comb a8 a9 a10)) a14 (ix2 (row q s) l) = Yv g a12 a13 D (fun k => a7 (ix3 q s k)) (cw a9 a10 q s) l := by
  refine (down_at _ a14 (row q s) l).trans ?_
  rw [← sum_experts g a12 a13 D a14 (fun k => a7 (ix3 q s k)) (cw a9 a10 q s) (fun n => comb a8 a9 a10 (ix2 (row q s) n)) l hD (comb_in a7 a8 a9 a10 a12 a13 a14 S q s g hg) (comb_out a7 a8 a9 a10 a12 a13 a14 S q s g hg)]
  refine Finset.sum_congr rfl fun n _ => Finset.sum_congr rfl fun f _ => ?_
  rw [act_at, up_row, up_row]

include S in
/-- THE REFERENCE'S SAMPLE RESULT at token `t`. -/
theorem ref_at (D : Vec Ideal Cert.KernelIdeal.S4x1024x1024 .bf16) (t : Fin 512) (g : Fin 4)
    (hg : (a8 (ix2 ⟨t.val % 128, Nat.mod_lt _ (by omega)⟩ ⟨t.val / 128, by omega⟩)).toNat = g.val) (k : Fin 1024)
    (hD : ∀ (e : Fin 4) (f : Fin 256) (l : Fin 1024), D (ix3 g (lane e f) l) = a14 (ix3 (ex g e) f l)) :
    norm (added a6 a11 (down (act (up a7 a12) (up a7 a13) (comb a8 a9 a10)) a14)) a15 (ix2 t k)
      = normed (fun x => a6 (ix3 ⟨t.val % 128, Nat.mod_lt _ (by omega)⟩ ⟨t.val / 128, by omega⟩ x)
          + Yv g a12 a13 D (fun k => a7 (ix3 ⟨t.val % 128, Nat.mod_lt _ (by omega)⟩ ⟨t.val / 128, by omega⟩ k)) (cw a9 a10 ⟨t.val % 128, Nat.mod_lt _ (by omega)⟩ ⟨t.val / 128, by omega⟩) x
            * a11 (ix2 ⟨t.val % 128, Nat.mod_lt _ (by omega)⟩ ⟨5120 + x.val, by omega⟩)) (a15 (ix1 k)) k := by
  refine (norm_at _ a15 t k).trans ?_
  generalize (⟨t.val % 128, Nat.mod_lt _ (by omega)⟩ : Fin 128) = q at hg ⊢
  generalize (⟨t.val / 128, by omega⟩ : Fin 4) = s at hg ⊢
  have h : ∀ x : Fin 1024, added a6 a11 (down (act (up a7 a12) (up a7 a13) (comb a8 a9 a10)) a14) (ix3 q s x)
      = a6 (ix3 q s x) + Yv g a12 a13 D (fun k => a7 (ix3 q s k)) (cw a9 a10 q s) x * a11 (ix2 q ⟨5120 + x.val, by omega⟩) := fun x => by
    rw [added_at]
    refine congrArg (fun z : EReal => a6 (ix3 q s x) + z) ?_
    refine (mul_comm _ _).trans (congrArg (fun z : EReal => z * a11 (ix2 q ⟨5120 + x.val, by omega⟩)) ?_)
    exact down_row a7 a8 a9 a10 a12 a13 a14 S D q s g hg x fun e f => hD e f x
  unfold normed
  simp only [h]

end

end Cert.ReferenceIdeal.Moe
-- ==== Proof.FinishP.lean ====
/-
  What a prompt tile's step writes, element by element. Laid out row by row, its sort is the sample's.
-/
module

public import proofs.«01_k».proof.Proof.Finish

@[expose] public section

noncomputable section

namespace Cert.KernelIdeal.Moe

open Cert.KernelIdeal Cert.KernelIdeal.Gen
open Idealize.ShloMosaic Idealize.ShloMosaic.TcCoe Idealize.ShloMosaic.Tactic

/-- A tile's activations row by row. -/
def flat (v3 : Vec Ideal S8x64x1024 .bf16) : Vec Ideal S512x1024 .bf16 := shapeCast S512x1024 v3 shapeCasts_S8x64x1024_S512x1024

theorem flat_at (v3 : Vec Ideal S8x64x1024 .bf16) (t : Fin 512) (k : Fin 1024) : flat v3 (ix2 t k) = v3 (ix3 ⟨t.val / 64, by omega⟩ ⟨t.val % 64, Nat.mod_lt _ (by omega)⟩ k) := by
  pointwise [flat]
theorem flatR_at (v4 : Vec Ideal S8x64x128 .f32) (t : Fin 512) (k : Fin 128) : k0_pay20 v4 (ix2 t k) = v4 (ix3 ⟨t.val / 64, by omega⟩ ⟨t.val % 64, Nat.mod_lt _ (by omega)⟩ k) := by
  pointwise [k0_pay20]

theorem pay24_self (v : Vec Ideal S512x128 .f32) : k0_pay24 v = v := by
  funext j
  obtain ⟨t, k, rfl⟩ : ∃ (t : Fin 512) (k : Fin 128), j = ix2 t k := ⟨j 0, j 1, funext fun a => by match a with | 0 => rfl | 1 => rfl⟩
  pointwise [k0_pay24]

theorem pay25_flat (v4 : Vec Ideal S8x64x128 .f32) : k0_pay21 v4 = k0_pay25 (k0_pay20 v4) := by
  unfold k0_pay21 k0_pay25
  rw [pay24_self]
theorem pay26_flat (v4 : Vec Ideal S8x64x128 .f32) (v3 : Vec Ideal S8x64x1024 .bf16) : k0_pay22 v4 v3 = k0_pay26 (k0_pay20 v4) (flat v3) := by
  funext j
  obtain ⟨t, k, rfl⟩ : ∃ (t : Fin 512) (k : Fin 1024), j = ix2 t k := ⟨j 0, j 1, funext fun a => by match a with | 0 => rfl | 1 => rfl⟩
  unfold k0_pay22 k0_pay26
  rw [pay25_flat]
  generalize k0_pay25 (k0_pay20 v4) = M
  pointwise [flat]
theorem pay27_flat (v4 : Vec Ideal S8x64x128 .f32) : k0_pay1 (k0_pay23 v4) = k0_pay3 (k0_pay27 (k0_pay20 v4)) := by
  unfold k0_pay1 k0_pay3 k0_pay23 k0_pay27
  rw [pay25_flat, pay24_self]

theorem sortedP_eq (v4 : Vec Ideal S8x64x128 .f32) (v3 : Vec Ideal S8x64x1024 .bf16) : sortedP v4 v3 = sortedS (k0_pay20 v4) (flat v3) := by
  unfold sortedP sortedS
  rw [pay26_flat]
theorem combP_eq (v4 : Vec Ideal S8x64x128 .f32) : combP v4 = combS (k0_pay20 v4) := by
  unfold combP combS
  rw [pay27_flat]
theorem zeroP_eq : (zeroP : C18 Ideal) = zeroS := rfl

theorem pay19_at (v53 : Vec Ideal S512x1024 .f32) (v13 : Vec Ideal S1x1024 .f32) (b : Fin 8) (j : Fin 64) (k : Fin 1024) :
    k0_pay19 v53 (k0_pay141 v13) (ix3 b j k) = v53 (ix2 ⟨b.val * 64 + j.val, by omega⟩ k) * v13 (ix2 0 k) := by
  pointwise [k0_pay19, k0_pay141]

set_option maxHeartbeats 1000000 in
theorem pay140_at (v4 : Vec Ideal S8x64x128 .f32) (acc : Vec Ideal S512x1024 .f32) (v2 : Vec Ideal S8x64x1024 .f32) (v5 : Vec Ideal S8x1024 .f32) (w : EReal) (t q : Fin 512) (k : Fin 1024)
    (hv : k0_pay20 v4 (ix2 t 4) = ((q.val : ℝ) : EReal)) (hfin : ∀ x, IsR (acc (ix2 q x))) :
    k0_pay140 v4 acc v2 v5 (ix2 t k) * w
      = normed (fun x => v2 (ix3 ⟨t.val / 64, by omega⟩ ⟨t.val % 64, Nat.mod_lt _ (by omega)⟩ x) + acc (ix2 q x) * v5 (ix2 ⟨t.val / 64, by omega⟩ x)) w k := by
  rw [flatR_at] at hv
  have hs : ∀ x : Fin 1024, (∑ y : Fin 512, (if (FloatOps.sitofp (F := Ideal) .f32 (BitVec.ofNat 32 y.val) : EReal) = v4 (ix3 ⟨t.val / 64, by omega⟩ ⟨t.val % 64, Nat.mod_lt _ (by omega)⟩ 4) then (1 : EReal) else 0) * acc (ix2 y x)
      + ∑ y : Fin 512, (if (FloatOps.sitofp (F := Ideal) .f32 (BitVec.ofNat 32 y.val) : EReal) = v4 (ix3 ⟨t.val / 64, by omega⟩ ⟨t.val % 64, Nat.mod_lt _ (by omega)⟩ 4) then (1 : EReal) else 0) * (acc (ix2 y x) - acc (ix2 y x)))
      = acc (ix2 q x) := fun x => by
    rw [onehot_row q (fun y => acc (ix2 y x)) _ hv, onehot_row q (fun y => acc (ix2 y x) - acc (ix2 y x)) _ hv, (hfin x).sub_self]
    exact add_zero _
  unfold normed
  simp only [← hs]
  clear hs
  refine congrArg (fun z : EReal => z * w) ?_
  pointwise [k0_pay140]

set_option maxHeartbeats 1000000 in
/-- A PROMPT TILE'S STEP at token `t`, in group `g`, with the tile's places distinct and its numbers numbers. -/
theorem outP_at (G : IVec S33x512 32) (i : grid0.Coords) (V1 : W1 Ideal) (V3 : W3 Ideal) (V2 : W2 Ideal) (v2 : Vec Ideal S8x64x1024 .f32) (v3 : Vec Ideal S8x64x1024 .bf16) (v4 : Vec Ideal S8x64x128 .f32)
    (v5 : Vec Ideal S8x1024 .f32) (v13 : Vec Ideal S1x1024 .f32) (pos : Fin 512 → Fin 512) (hinj : Function.Injective pos) (hpos : ∀ t, k0_pay20 v4 (ix2 t 4) = (((pos t).val : ℝ) : EReal))
    (hA : ∀ j, IsR (V1 j)) (hB : ∀ j, IsR (V3 j)) (hD : ∀ j, IsR (V2 j)) (hx : ∀ t k, IsR (flat v3 (ix2 t k)))
    (hc : ∀ t (e : Fin 4), IsR (k0_pay20 v4 (ix2 t ⟨e.val, by have := e.isLt; omega⟩))) (b : Fin 8) (j : Fin 64) (t : Fin 512) (ht : t.val = b.val * 64 + j.val) (g : Fin 4)
    (hp : pre G (i 0) g.val ≤ (pos t).val ∧ (pos t).val < pre G (i 0) g.val + cnt G (i 0) g.val) (k : Fin 1024) :
    outP (tab G) i V1 V3 V2 v2 v3 v4 v5 v13 (ix3 b j k)
      = normed (fun x => v2 (ix3 b j x) + Yv g V1 V3 V2 (fun k => flat v3 (ix2 t k)) (fun e => k0_pay20 v4 (ix2 t ⟨e.val, by have := e.isLt; omega⟩)) x * v5 (ix2 b x)) (v13 (ix2 0 k)) k := by
  have ha : ∀ l, readAcc (accs (tab G) i (sortedP v4 v3) (combP v4) V1 V3 V2 zeroP 4) (ix2 (pos t) l)
      = Yv g V1 V3 V2 (fun k => flat v3 (ix2 t k)) (fun e => k0_pay20 v4 (ix2 t ⟨e.val, by have := e.isLt; omega⟩)) l := fun l => by
    rw [sortedP_eq, combP_eq, zeroP_eq]
    refine (readAcc_at _ _ _).trans ((accs_at g _ _ _ _ _ G i zeroS zeroS_at (pos t) l hp).trans ?_)
    unfold Yrow
    have h1 : (fun k => rd16 (sortedS (k0_pay20 v4) (flat v3)) (ix2 (pos t) k)) = fun k => flat v3 (ix2 t k) := funext fun k => sortedS_at (k0_pay20 v4) pos hinj hpos (flat v3) t k
    have h2 : (fun e : Fin 4 => rd17 (combS (k0_pay20 v4)) (ix2 (pos t) ⟨e.val, by have := e.isLt; omega⟩)) = fun e : Fin 4 => k0_pay20 v4 (ix2 t ⟨e.val, by have := e.isLt; omega⟩) :=
      funext fun e => combS_at (k0_pay20 v4) pos hinj hpos (fun t e => (hc t e).sub_self) t e
    rw [h1, h2]
    rfl
  have hb : (⟨t.val / 64, by omega⟩ : Fin 8) = b := Fin.ext (by show t.val / 64 = b.val; omega)
  have hj : (⟨t.val % 64, Nat.mod_lt _ (by omega)⟩ : Fin 64) = j := Fin.ext (by show t.val % 64 = j.val; omega)
  have ht' : (⟨b.val * 64 + j.val, by omega⟩ : Fin 512) = t := Fin.ext ht.symm
  unfold outP
  rw [pay19_at, ht']
  refine (pay140_at v4 _ v2 v5 (v13 (ix2 0 k)) t (pos t) k (hpos t) fun x => ?_).trans ?_
  · rw [ha]; exact isR_Yv g _ _ _ _ _ x hA hB hD (hx t) (hc t)
  · simp only [ha, hb, hj]

end Cert.KernelIdeal.Moe
-- ==== Proof.HostRoute.lean ====
/-
  The sample tile's routing array, as the host lines leave it.
-/
module

public import proofs.«01_k».proof.Proof.HostAt
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.StableHlo Idealize.ShloMosaic.Tactic

variable {F : FTy → Type} [FloatOps F]

set_option maxRecDepth 16384 in
/-- The first eighteen host lines lay out the groups and the experts' numbers and weights, -/
theorem head_v5 (X : ∀ b : DevRef τ sig, b.ty.Contents (Elt F)) :
    StableHlo.upto (hostOps0 (F := F)) X 18 (Proc.devRef .tc main_v5) = groupsOf (X (Proc.devRef .tc main_arg2)) (X (Proc.devRef .tc main_arg8)) := by
  after_reads_simp
  rfl
theorem head_v11 (X : ∀ b : DevRef τ sig, b.ty.Contents (Elt F)) :
    StableHlo.upto (hostOps0 (F := F)) X 18 (Proc.devRef .tc main_v11) = pairsOf (F := F) (e := .i32) (X (Proc.devRef .tc main_arg3)) (X (Proc.devRef .tc main_arg9)) := by
  after_reads_simp
  rfl
theorem head_v17 (X : ∀ b : DevRef τ sig, b.ty.Contents (Elt F)) :
    StableHlo.upto (hostOps0 (F := F)) X 18 (Proc.devRef .tc main_v17) = pairsOf (F := F) (e := .f32) (X (Proc.devRef .tc main_arg4)) (X (Proc.devRef .tc main_arg10)) := by
  after_reads_simp
  rfl
/-- and the others, from these, the sample's routing array. -/
theorem tail_v33 (Y : ∀ b : DevRef τ sig, b.ty.Contents (Elt F)) :
    StableHlo.upto ((hostOps0 (F := F)).drop 18) Y 32 (Proc.devRef .tc main_v33) = placesOf (Y (Proc.devRef .tc main_v5)) := by
  after_reads_simp
  rfl
theorem tail_v46 (Y : ∀ b : DevRef τ sig, b.ty.Contents (Elt F)) :
    StableHlo.upto ((hostOps0 (F := F)).drop 18) Y 32 (Proc.devRef .tc main_v46) = weightsOf (Y (Proc.devRef .tc main_v11)) (Y (Proc.devRef .tc main_v17)) := by
  after_reads_simp
  rfl
theorem last_v62 (Y : ∀ b : DevRef τ sig, b.ty.Contents (Elt F)) :
    StableHlo.after ((hostOps0 (F := F)).drop 50) Y (Proc.devRef .tc main_v62) = routeS (routeOf (Y (Proc.devRef .tc main_v33)) (Y (Proc.devRef .tc main_v46))) := by
  after_reads_simp
  rfl

theorem after_cut (ops : List (HloOp τ sig (Elt F))) (X : ∀ b : DevRef τ sig, b.ty.Contents (Elt F)) (n : ℕ) :
    StableHlo.after ops X = StableHlo.after (ops.drop n) (StableHlo.upto ops X n) := by
  induction ops generalizing X n with
  | nil => cases n <;> rfl
  | cons op l ih =>
    cases n with
    | zero => rfl
    | succ n => exact ih (op.result X) n

theorem upto_add (ops : List (HloOp τ sig (Elt F))) (X : ∀ b : DevRef τ sig, b.ty.Contents (Elt F)) (a b : ℕ) :
    StableHlo.upto ops X (a + b) = StableHlo.upto (ops.drop a) (StableHlo.upto ops X a) b := by
  show StableHlo.after (ops.take (a + b)) X = _
  rw [after_cut _ X a]
  show StableHlo.after ((ops.take (a + b)).drop a) (StableHlo.after ((ops.take (a + b)).take a) X) = StableHlo.after ((ops.drop a).take b) (StableHlo.after (ops.take a) X)
  rw [List.take_take, Nat.min_eq_left (Nat.le_add_right a b), List.drop_take, Nat.add_sub_cancel_left]

/-- The sample tile's routing array. -/
theorem v62_eq (X : ∀ b : DevRef τ sig, b.ty.Contents (Elt F)) : StableHlo.after (hostOps0 (F := F)) X (Proc.devRef .tc main_v62)
    = routeS (routeOf (placesOf (groupsOf (X (Proc.devRef .tc main_arg2)) (X (Proc.devRef .tc main_arg8))))
        (weightsOf (pairsOf (F := F) (e := .i32) (X (Proc.devRef .tc main_arg3)) (X (Proc.devRef .tc main_arg9))) (pairsOf (F := F) (e := .f32) (X (Proc.devRef .tc main_arg4)) (X (Proc.devRef .tc main_arg10))))) := by
  rw [after_cut _ X 50, last_v62, show (50 : ℕ) = 18 + 32 from rfl, upto_add, tail_v33, tail_v46, head_v5, head_v11, head_v17]

end Cert.KernelIdeal.Moe
-- ==== Proof.HostP.lean ====
/-
  What the host hands a prompt tile's step, element by element.
-/
module

public import proofs.«01_k».proof.Proof.HostRoute

@[expose] public section

noncomputable section

namespace Cert.KernelIdeal.Moe

open Cert.KernelIdeal Cert.KernelIdeal.Gen
open Idealize.ShloMosaic Idealize.ShloMosaic.TcCoe Idealize.ShloMosaic.StableHlo Idealize.ShloMosaic.Tactic

variable {F : FTy → Type} [FloatOps F]

/-- The prompt tiles' part of the routing array, laid out as the prompt. -/
def routeP (R : FVec F S33x512x128 .f32) : FVec F S8x2048x128 .f32 :=
  shapeCast S8x2048x128 (transpose S8x32x64x128 [1, 0, 2, 3] (shapeCast S32x8x64x128 (extractStridedSlice S32x512x128 ![0, 0, 0] R slices_S33x512x128_S32x512x128_0_0_0) shapeCasts_S32x512x128_S32x8x64x128)
    transposes_S32x8x64x128_S8x32x64x128_1_0_2_3) shapeCasts_S8x32x64x128_S8x2048x128

theorem last_v53 (Y : ∀ b : DevRef τ sig, b.ty.Contents (Elt F)) :
    StableHlo.after ((hostOps0 (F := F)).drop 50) Y (Proc.devRef .tc main_v53) = routeP (routeOf (Y (Proc.devRef .tc main_v33)) (Y (Proc.devRef .tc main_v46))) := by
  after_reads_simp
  rfl

/-- The prompt tiles' routing array. -/
theorem v53_eq (X : ∀ b : DevRef τ sig, b.ty.Contents (Elt F)) : StableHlo.after (hostOps0 (F := F)) X (Proc.devRef .tc main_v53)
    = routeP (routeOf (placesOf (groupsOf (X (Proc.devRef .tc main_arg2)) (X (Proc.devRef .tc main_arg8))))
        (weightsOf (pairsOf (F := F) (e := .i32) (X (Proc.devRef .tc main_arg3)) (X (Proc.devRef .tc main_arg9))) (pairsOf (F := F) (e := .f32) (X (Proc.devRef .tc main_arg4)) (X (Proc.devRef .tc main_arg10))))) := by
  rw [after_cut _ X 50, last_v53, show (50 : ℕ) = 18 + 32 from rfl, upto_add, tail_v33, tail_v46, head_v5, head_v11, head_v17]

/-- Token `j` of tile `i` in sequence `b` is row `b · 64 + j` of the tile. -/
theorem groups_atP (gp : IVec S8x2048 32) (gs : IVec S128x4 32) (i : Fin 32) (b : Fin 8) (j : Fin 64) :
    groupsOf gp gs (ix2 ⟨i.val, by omega⟩ ⟨b.val * 64 + j.val, by omega⟩) = gp (ix2 b ⟨i.val * 64 + j.val, by omega⟩) := by
  pointwise [groupsOf]
theorem pairs_atP {e : EltTy} (p : S8x2048x2.Idx → Elt Ideal e) (s : S128x4x2.Idx → Elt Ideal e) (i : Fin 32) (b : Fin 8) (j : Fin 64) (a : Fin 2) :
    pairsOf (F := Ideal) p s (ix3 ⟨i.val, by omega⟩ ⟨b.val * 64 + j.val, by omega⟩ a) = p (ix3 b ⟨i.val * 64 + j.val, by omega⟩ a) := by
  pointwise [pairsOf]
theorem routeP_lo (P : IVec S33x512 32) (C : FVec Ideal S33x512x4 .f32) (i : Fin 32) (b : Fin 8) (j : Fin 64) (e : Fin 4) :
    routeP (routeOf P C) (ix3 b ⟨i.val * 64 + j.val, by omega⟩ ⟨e.val, by have := e.isLt; omega⟩) = C (ix3 ⟨i.val, by omega⟩ ⟨b.val * 64 + j.val, by omega⟩ e) := by
  pointwise [routeP, routeOf]
theorem routeP_hi (P : IVec S33x512 32) (C : FVec Ideal S33x512x4 .f32) (i : Fin 32) (b : Fin 8) (j : Fin 64) :
    routeP (routeOf P C) (ix3 b ⟨i.val * 64 + j.val, by omega⟩ 4) = FloatOps.sitofp .f32 (P (ix2 ⟨i.val, by omega⟩ ⟨b.val * 64 + j.val, by omega⟩)) := by
  pointwise [routeP, routeOf]

end Cert.KernelIdeal.Moe
-- ==== Proof.Windows.lean ====
/-
  What the sample step's windows hold, and what the call leaves in the sample's result: each window but one is its whole
  array; the modulation's window is the array's last 1024 columns.
-/
module

public import proofs.«01_k».proof.Proof.Frame
public import Idealize.ShloMosaic.Lib.Pipeline.Value
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- A window whose every block reads the same holds that at every step. -/
theorem inAt_eq (c : Dev nD) (w : Fin 11) (hclip : ∀ (i : (cfgA m).grid.Coords) a, ((cfgA m).win w).clip i a = none)
    (X : ((cfgA m).win w).block.Idx → Elt F ((cfgA m).win w).elt)
    (h : ∀ t : Fin (cfgA m).N, (((cfgA m).win w).blk t).view.read (Elt F) (V m c (Pipeline.arrRef spec0 w)) = ((cfgA m).win w).cut ((cfgA m).grid.coords t) X)
    (t : Fin (cfgA m).N) : inAt m c w t = X := by
  have hf : ∀ t : Fin (cfgA m).N, ((cfgA m).win w).fill ((cfgA m).grid.coords t) (fun _ => Classical.arbitrary _) ((((cfgA m).win w).blk t).view.read (Elt F) (V m c (Pipeline.arrRef spec0 w))) = X := by
    intro t
    rw [h t]
    exact (Pipeline.fill_of_clip_none (cfg := cfgA m) w _ (hclip _) _ X _).trans (Pipeline.Window.fill_cut _ _ _)
  obtain ⟨n, hn⟩ := t
  induction n with
  | zero => exact hf ⟨0, hn⟩
  | succ n ih =>
    show (if _ then _ else _) = X
    by_cases hfe : ((cfgA m).win w).fetch ⟨n + 1, hn⟩ = true
    · rw [if_pos hfe]; exact hf ⟨n + 1, hn⟩
    · rw [if_neg hfe]; exact ih (Nat.lt_of_succ_lt hn)

theorem in4 (c : Dev nD) (t : Fin (cfgA m).N) : inAt m c 4 t = V m c main_v55 := by
  refine inAt_eq m c 4 (fun _ _ => rfl) (V m c main_v55) (fun t => funext fun y => ?_) t
  refine congrArg (V m c main_v55) (funext fun a => Fin.ext ?_)
  exact Window.rect_emb_val_of_index_zero ((cfgA m).win 4) t a (by revert a; intro a; match a with | 0 => rfl | 1 => rfl) y
theorem in5 (c : Dev nD) (t : Fin (cfgA m).N) : inAt m c 5 t = V m c main_v57 := by
  refine inAt_eq m c 5 (fun _ _ => rfl) (V m c main_v57) (fun t => funext fun y => ?_) t
  refine congrArg (V m c main_v57) (funext fun a => Fin.ext ?_)
  exact Window.rect_emb_val_of_index_zero ((cfgA m).win 5) t a (by revert a; intro a; match a with | 0 => rfl | 1 => rfl) y
theorem in6 (c : Dev nD) (t : Fin (cfgA m).N) : inAt m c 6 t = V m c main_v62 := by
  refine inAt_eq m c 6 (fun _ _ => rfl) (V m c main_v62) (fun t => funext fun y => ?_) t
  refine congrArg (V m c main_v62) (funext fun a => Fin.ext ?_)
  exact Window.rect_emb_val_of_index_zero ((cfgA m).win 6) t a (by revert a; intro a; match a with | 0 => rfl | 1 => rfl) y
theorem in8 (c : Dev nD) (t : Fin (cfgA m).N) : inAt m c 8 t = V m c main_v59 := by
  refine inAt_eq m c 8 (fun _ _ => rfl) (V m c main_v59) (fun t => funext fun y => ?_) t
  refine congrArg (V m c main_v59) (funext fun a => Fin.ext ?_)
  exact Window.rect_emb_val_of_index_zero ((cfgA m).win 8) t a (by revert a; intro a; match a with | 0 => rfl | 1 => rfl) y

/-- The modulation's last 1024 columns. -/
def lastCols (x : Vec F S128x6144 .f32) : Vec F S128x1024 .f32 := fun j => x (ValueIdx.ix2 (j 0) ⟨5120 + (j 1).val, by have h : (j 1).val < 1024 := (j 1).isLt; omega⟩)

theorem in7 (c : Dev nD) (t : Fin (cfgA m).N) : inAt m c 7 t = lastCols (F := F) (V m c main_arg11) := by
  refine inAt_eq m c 7 (fun _ _ => rfl) (lastCols (F := F) (V m c main_arg11)) (fun t => funext fun y => ?_) t
  refine congrArg (V m c main_arg11) (funext fun a => Fin.ext ?_)
  match a with
  | 0 => exact Window.rect_emb_val_of_index_zero ((cfgA m).win 7) t (0 : Fin 2) rfl y
  | 1 =>
    refine (Window.rect_emb_val ((cfgA m).win 7) t y (1 : Fin 2) rfl).trans ?_
    rfl

/-- The sample's result ends at what the last step computes. -/
theorem out10 (c : Dev nD) (t : Fin (cfgA m).N) (ht : t.val = 32) : (dats m 0 c).arrAt 10 (cfgA m).N = sampleAt m c t := by
  have hz : ∀ (t : Fin (cfgA m).N) (a : Fin 2), ((cfgA m).win 10).index t a = (0 : ℕ) := fun t a => by match a with | 0 => rfl | 1 => rfl
  refine (dats m 0 c).arrAt_eq_of_cover 10 (sampleAt m c t) (fun s hs => ?_) (fun i => ⟨t, ?_, ?_⟩)
  · rw [flush10, decide_eq_true_eq] at hs
    obtain rfl : s = t := Fin.ext (hs.trans ht.symm)
    show ((cfgA m).win 10).cut _ ((dats m 0 c).after 10 s) = _
    rw [after_10]
    refine funext fun y => ?_
    refine congrArg (sampleAt m c s) (funext fun a => Fin.ext ?_)
    exact (Window.rect_emb_val_of_index_zero ((cfgA m).win 10) s a (hz s a) y).symm
  · rw [flush10, ht]; rfl
  · refine Finset.mem_coe.1 ?_
    have : (((cfgA m).win 10).blk t).view.emb i = i := funext fun a => Fin.ext (Window.rect_emb_val_of_index_zero ((cfgA m).win 10) t a (hz t a) i)
    exact this ▸ (((cfgA m).win 10).blk t).view.emb_mem_set i

end Cert.KernelIdeal.Moe
-- ==== Proof.WindowsP.lean ====
/-
  What a prompt step's windows hold, and what the call leaves in the prompt's result: the windows are the tile's block of
  every sequence; the modulation's window is the array's last 1024 columns.
-/
module

public import proofs.«01_k».proof.Proof.Windows
public import Idealize.ShloMosaic.Lib.Pipeline.ValueKit.Geometry

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- A window that reads what `X` says at the steps it is fetched, and `X` stays when it is not. -/
theorem inAt_step (c : Dev nD) (w : Fin 11) (hclip : ∀ (i : (cfgA m).grid.Coords) a, ((cfgA m).win w).clip i a = none)
    (X : ℕ → ((cfgA m).win w).block.Idx → Elt F ((cfgA m).win w).elt)
    (h : ∀ t : Fin (cfgA m).N, (((cfgA m).win w).blk t).view.read (Elt F) (V m c (Pipeline.arrRef spec0 w)) = ((cfgA m).win w).cut ((cfgA m).grid.coords t) (X t.val))
    (hs : ∀ t : Fin (cfgA m).N, ((cfgA m).win w).fetch t = false → X (t.val - 1) = X t.val)
    (t : Fin (cfgA m).N) : inAt m c w t = X t.val := by
  have hf : ∀ t : Fin (cfgA m).N, ((cfgA m).win w).fill ((cfgA m).grid.coords t) (fun _ => Classical.arbitrary _) ((((cfgA m).win w).blk t).view.read (Elt F) (V m c (Pipeline.arrRef spec0 w))) = X t.val := by
    intro t
    rw [h t]
    exact (Pipeline.fill_of_clip_none (cfg := cfgA m) w _ (hclip _) _ (X t.val) _).trans (Pipeline.Window.fill_cut _ _ _)
  obtain ⟨n, hn⟩ := t
  induction n with
  | zero => exact hf ⟨0, hn⟩
  | succ n ih =>
    show (if _ then _ else _) = X (n + 1)
    by_cases hfe : ((cfgA m).win w).fetch ⟨n + 1, hn⟩ = true
    · rw [if_pos hfe]; exact hf ⟨n + 1, hn⟩
    · rw [if_neg hfe]; exact (ih (Nat.lt_of_succ_lt hn)).trans (hs ⟨n + 1, hn⟩ (by simpa using hfe))

/-- The block of a prompt array at step `n`. -/
def blockOf {k : ℕ} {α : Type} (X : (⟨3, ![8, 2048, k]⟩ : Shape).Idx → α) (n : ℕ) : (⟨3, ![8, 64, k]⟩ : Shape).Idx → α :=
  fun y => X (ValueIdx.ix3 (y 0) ⟨min n 31 * 64 + (y 1).val, by have h : (y 1).val < 64 := (y 1).isLt; omega⟩ (y 2))

theorem fetch0 : ∀ t : Fin (cfgA m).N, ((cfgA m).win 0).fetch t = decide (t.val ≠ 32) := by
  have h : ∀ t : Fin grid0.N, spec0_0.fetchAt cc0_transform_0 t = decide (t.val ≠ 32) := by decide +kernel
  exact h
theorem fetch1 : ∀ t : Fin (cfgA m).N, ((cfgA m).win 1).fetch t = decide (t.val ≠ 32) := by
  have h : ∀ t : Fin grid0.N, spec0_1.fetchAt cc0_transform_1 t = decide (t.val ≠ 32) := by decide +kernel
  exact h
theorem fetch2 : ∀ t : Fin (cfgA m).N, ((cfgA m).win 2).fetch t = decide (t.val ≠ 32) := by
  have h : ∀ t : Fin grid0.N, spec0_2.fetchAt cc0_transform_2 t = decide (t.val ≠ 32) := by decide +kernel
  exact h

theorem index0 : ∀ t : Fin (cfgA m).N, ((cfgA m).win 0).index t (1 : Fin 3) = min t.val 31 := by
  have h : ∀ t : Fin grid0.N, cc0_transform_0 (grid0.coords t) (1 : Fin 3) = min t.val 31 := by decide +kernel
  exact h
theorem index1 : ∀ t : Fin (cfgA m).N, ((cfgA m).win 1).index t (1 : Fin 3) = min t.val 31 := by
  have h : ∀ t : Fin grid0.N, cc0_transform_1 (grid0.coords t) (1 : Fin 3) = min t.val 31 := by decide +kernel
  exact h
theorem index2 : ∀ t : Fin (cfgA m).N, ((cfgA m).win 2).index t (1 : Fin 3) = min t.val 31 := by
  have h : ∀ t : Fin grid0.N, cc0_transform_2 (grid0.coords t) (1 : Fin 3) = min t.val 31 := by decide +kernel
  exact h
theorem index9 : ∀ t : Fin (cfgA m).N, ((cfgA m).win 9).index t (1 : Fin 3) = min t.val 31 := by
  have h : ∀ t : Fin grid0.N, cc0_transform_12 (grid0.coords t) (1 : Fin 3) = min t.val 31 := by decide +kernel
  exact h

theorem stays {k : ℕ} {α : Type} (X : (⟨3, ![8, 2048, k]⟩ : Shape).Idx → α) (n : ℕ) (h : decide (n ≠ 32) = false) : blockOf X (n - 1) = blockOf X n := by
  obtain rfl : n = 32 := by simpa using h
  rfl

theorem in0 (c : Dev nD) (t : Fin (cfgA m).N) : inAt m c 0 t = blockOf (V m c main_arg0) t.val := by
  refine inAt_step m c 0 (fun _ _ => rfl) (fun n => blockOf (V m c main_arg0) n) (fun t => funext fun y => ?_) (fun t h => stays _ _ ((fetch0 m t).symm.trans h)) t
  refine congrArg (V m c main_arg0) (funext fun a => Fin.ext ?_)
  match a with
  | 0 => exact Window.rect_emb_val_of_index_zero ((cfgA m).win 0) t (0 : Fin 3) rfl y
  | 1 => exact (Window.rect_emb_val ((cfgA m).win 0) t y (1 : Fin 3) rfl).trans (congrArg (fun n : ℕ => n * 64 + (y (1 : Fin 3)).val) (index0 m t))
  | 2 => exact Window.rect_emb_val_of_index_zero ((cfgA m).win 0) t (2 : Fin 3) rfl y
theorem in1 (c : Dev nD) (t : Fin (cfgA m).N) : inAt m c 1 t = blockOf (V m c main_arg1) t.val := by
  refine inAt_step m c 1 (fun _ _ => rfl) (fun n => blockOf (V m c main_arg1) n) (fun t => funext fun y => ?_) (fun t h => stays _ _ ((fetch1 m t).symm.trans h)) t
  refine congrArg (V m c main_arg1) (funext fun a => Fin.ext ?_)
  match a with
  | 0 => exact Window.rect_emb_val_of_index_zero ((cfgA m).win 1) t (0 : Fin 3) rfl y
  | 1 => exact (Window.rect_emb_val ((cfgA m).win 1) t y (1 : Fin 3) rfl).trans (congrArg (fun n : ℕ => n * 64 + (y (1 : Fin 3)).val) (index1 m t))
  | 2 => exact Window.rect_emb_val_of_index_zero ((cfgA m).win 1) t (2 : Fin 3) rfl y
theorem in2 (c : Dev nD) (t : Fin (cfgA m).N) : inAt m c 2 t = blockOf (V m c main_v53) t.val := by
  refine inAt_step m c 2 (fun _ _ => rfl) (fun n => blockOf (V m c main_v53) n) (fun t => funext fun y => ?_) (fun t h => stays _ _ ((fetch2 m t).symm.trans h)) t
  refine congrArg (V m c main_v53) (funext fun a => Fin.ext ?_)
  match a with
  | 0 => exact Window.rect_emb_val_of_index_zero ((cfgA m).win 2) t (0 : Fin 3) rfl y
  | 1 => exact (Window.rect_emb_val ((cfgA m).win 2) t y (1 : Fin 3) rfl).trans (congrArg (fun n : ℕ => n * 64 + (y (1 : Fin 3)).val) (index2 m t))
  | 2 => exact Window.rect_emb_val_of_index_zero ((cfgA m).win 2) t (2 : Fin 3) rfl y

/-- The prompt modulation's last 1024 columns. -/
def lastColsP (x : Vec F S8x6144 .f32) : Vec F S8x1024 .f32 := fun j => x (ValueIdx.ix2 (j 0) ⟨5120 + (j 1).val, by have h : (j 1).val < 1024 := (j 1).isLt; omega⟩)

theorem in3 (c : Dev nD) (t : Fin (cfgA m).N) : inAt m c 3 t = lastColsP (F := F) (V m c main_arg5) := by
  refine inAt_eq m c 3 (fun _ _ => rfl) (lastColsP (F := F) (V m c main_arg5)) (fun t => funext fun y => ?_) t
  refine congrArg (V m c main_arg5) (funext fun a => Fin.ext ?_)
  match a with
  | 0 => exact Window.rect_emb_val_of_index_zero ((cfgA m).win 3) t (0 : Fin 2) rfl y
  | 1 =>
    refine (Window.rect_emb_val ((cfgA m).win 3) t y (1 : Fin 2) rfl).trans ?_
    rfl

/-- The prompt's result is `G` where every prompt step writes `G`'s block. -/
theorem out9 (c : Dev nD) (G : S8x2048x1024.Idx → Elt F .f32) (hG : ∀ t : Fin (cfgA m).N, t.val < 32 → promptAt m c t = blockOf G t.val) :
    (dats m 0 c).arrAt 9 (cfgA m).N = G := by
  refine (dats m 0 c).arrAt_eq_of_cover 9 G (fun s hs => ?_) (fun i => ?_)
  · show ((cfgA m).win 9).cut _ ((dats m 0 c).after 9 s) = _
    rw [after_9, hG (upTo m s) (by show min s.val 31 < 32; omega)]
    refine funext fun y => ?_
    refine congrArg G (funext fun a => Fin.ext ?_)
    match a with
    | 0 => exact (Window.rect_emb_val_of_index_zero ((cfgA m).win 9) s (0 : Fin 3) rfl y).symm
    | 1 =>
      refine Eq.trans ?_ ((Window.rect_emb_val ((cfgA m).win 9) s y (1 : Fin 3) rfl).trans (congrArg (fun n : ℕ => n * 64 + (y (1 : Fin 3)).val) (index9 m s))).symm
      exact congrArg (fun n : ℕ => n * 64 + (y (1 : Fin 3)).val) (Nat.min_eq_left (Nat.min_le_right s.val 31))
    | 2 => exact (Window.rect_emb_val_of_index_zero ((cfgA m).win 9) s (2 : Fin 3) rfl y).symm
  · have h1 : (i (1 : Fin 3)).val < 2048 := (i (1 : Fin 3)).isLt
    have hN : (cfgA m).N = 33 := by show grid0.N = 33; decide +kernel
    let q : ℕ := (i (1 : Fin 3)).val / 64
    let t : Fin (cfgA m).N := ⟨if q = 31 then 32 else q, by rw [hN]; split_ifs <;> omega⟩
    have ht : min t.val 31 = q := by show min (if q = 31 then 32 else q) 31 = q; split_ifs <;> omega
    have hn : t.val ≠ 31 := by show (if q = 31 then 32 else q) ≠ 31; split_ifs <;> omega
    refine ⟨t, ?_, ?_⟩
    · rw [flush9]; exact decide_eq_true hn
    · let y : S8x64x1024.Idx := ValueIdx.ix3 (i (0 : Fin 3)) ⟨(i (1 : Fin 3)).val % 64, Nat.mod_lt _ (by omega)⟩ (i (2 : Fin 3))
      have ea : ∀ a : Fin 3, ((((cfgA m).win 9).blk t).view.emb y a).val = (i a).val := fun a => by
        match a with
        | 0 => exact Window.rect_emb_val_of_index_zero ((cfgA m).win 9) t (0 : Fin 3) rfl y
        | 1 =>
          refine ((Window.rect_emb_val ((cfgA m).win 9) t y (1 : Fin 3) rfl).trans (congrArg (fun n : ℕ => n * 64 + (y (1 : Fin 3)).val) ((index9 m t).trans ht))).trans ?_
          show (i (1 : Fin 3)).val / 64 * 64 + (i (1 : Fin 3)).val % 64 = _
          omega
        | 2 => exact Window.rect_emb_val_of_index_zero ((cfgA m).win 9) t (2 : Fin 3) rfl y
      have e : (((cfgA m).win 9).blk t).view.emb y = i := funext fun a => Fin.ext (ea a)
      refine Finset.mem_coe.1 ?_
      exact e ▸ (((cfgA m).win 9).blk t).view.emb_mem_set y

end Cert.KernelIdeal.Moe
-- ==== Proof.PromptAt.lean ====
/-
  What a prompt step writes, of the call's plain arrays: a token's row is the norm of the token plus the four experts' sum
  of its group times its modulation.
-/
module

public import proofs.«01_k».proof.Proof.FinishP
public import proofs.«01_k».proof.Proof.HostP
public import proofs.«01_k».proof.Proof.WindowsP
public import proofs.«01_k».proof.Proof.Places

@[expose] public section

noncomputable section

namespace Cert.KernelIdeal.Moe

open Cert.KernelIdeal Cert.KernelIdeal.Gen
open Idealize.ShloMosaic Idealize.ShloMosaic.TcCoe Idealize.ShloMosaic.Tactic

/-- The row of sequence `b`'s token `j` in its tile, -/
def tok (b : Fin 8) (j : Fin 64) : Fin 512 := ⟨b.val * 64 + j.val, by omega⟩
/-- and the token's place in its sequence. -/
def pl (n : Fin 32) (j : Fin 64) : Fin 2048 := ⟨n.val * 64 + j.val, by omega⟩

theorem tok_surj (t : Fin 512) : ∃ (b : Fin 8) (j : Fin 64), t = tok b j :=
  ⟨⟨t.val / 64, by omega⟩, ⟨t.val % 64, Nat.mod_lt _ (by omega)⟩, Fin.ext (by show t.val = t.val / 64 * 64 + t.val % 64; omega)⟩

theorem tok_div (b : Fin 8) (j : Fin 64) : (⟨(tok b j).val / 64, by have := (tok b j).isLt; omega⟩ : Fin 8) = b := Fin.ext (by show (b.val * 64 + j.val) / 64 = b.val; omega)
theorem tok_mod (b : Fin 8) (j : Fin 64) : (⟨(tok b j).val % 64, Nat.mod_lt _ (by omega)⟩ : Fin 64) = j := Fin.ext (by show (b.val * 64 + j.val) % 64 = j.val; omega)

theorem block_at {k : ℕ} {α : Type} (X : (⟨3, ![8, 2048, k]⟩ : Shape).Idx → α) (n : Fin 32) (b : Fin 8) (j : Fin 64) (c : Fin k) : blockOf X n.val (ix3 b j c) = X (ix3 b (pl n j) c) := by
  have h : min n.val 31 = n.val := Nat.min_eq_left (by omega)
  unfold blockOf
  refine congrArg X (funext fun a => Fin.ext ?_)
  match a with
  | 0 => rfl
  | 1 => exact congrArg (fun q : ℕ => q * 64 + j.val) h
  | 2 => rfl

theorem flat_tok (v3 : Vec Ideal S8x64x1024 .bf16) (b : Fin 8) (j : Fin 64) (k : Fin 1024) : flat v3 (ix2 (tok b j) k) = v3 (ix3 b j k) := by
  rw [flat_at, tok_div, tok_mod]
theorem flatR_tok (v4 : Vec Ideal S8x64x128 .f32) (b : Fin 8) (j : Fin 64) (k : Fin 128) : k0_pay20 v4 (ix2 (tok b j) k) = v4 (ix3 b j k) := by
  rw [flatR_at, tok_div, tok_mod]

/-- The weight of expert `e` of a prompt token's group. -/
def cwP (a3 : IVec S8x2048x2 32) (a4 : FVec Ideal S8x2048x2 .f32) (b : Fin 8) (s : Fin 2048) (e : Fin 4) : EReal :=
  Scalar.select (IntOp.cmpi .eq (BitVec.ofNat 32 e.val) (a3 (ix3 b s 0))) (a4 (ix3 b s 0)) (Scalar.select (IntOp.cmpi .eq (BitVec.ofNat 32 e.val) (a3 (ix3 b s 1))) (a4 (ix3 b s 1)) 0)

theorem isR_cwP (a3 : IVec S8x2048x2 32) (a4 : FVec Ideal S8x2048x2 .f32) (h : ∀ j, IsR (a4 j)) (b : Fin 8) (s : Fin 2048) (e : Fin 4) : IsR (cwP a3 a4 b s e) := by
  unfold cwP Scalar.select
  split_ifs
  · exact h _
  · exact h _
  · exact isR_zero

/-- The prompt tiles' routing array, of plain arrays. -/
abbrev routePA (a2 : IVec S8x2048 32) (a3 : IVec S8x2048x2 32) (a4 : FVec Ideal S8x2048x2 .f32) (a8 : IVec S128x4 32) (a9 : IVec S128x4x2 32) (a10 : FVec Ideal S128x4x2 .f32) : FVec Ideal S8x2048x128 .f32 :=
  routeP (F := Ideal) (routeOf (F := Ideal) (placesOf (groupsOf a2 a8)) (weightsOf (F := Ideal) (pairsOf (F := Ideal) (e := .i32) a3 a9) (pairsOf (F := Ideal) (e := .f32) a4 a10)))

section

variable (a2 : IVec S8x2048 32) (a3 : IVec S8x2048x2 32) (a4 : FVec Ideal S8x2048x2 .f32) (a8 : IVec S128x4 32) (a9 : IVec S128x4x2 32) (a10 : FVec Ideal S128x4x2 .f32)

/-- The tile as one of the call's. -/
def tile (n : Fin 32) : Fin 33 := ⟨n.val, by omega⟩

theorem grp_tok (n : Fin 32) (b : Fin 8) (j : Fin 64) : grpOf (groupsOf a2 a8) (tile n) (tok b j) = (a2 (ix2 b (pl n j))).toNat :=
  congrArg BitVec.toNat (groups_atP a2 a8 n b j)

theorem weight_tok (n : Fin 32) (b : Fin 8) (j : Fin 64) (e : Fin 4) :
    k0_pay20 (F := Ideal) (blockOf (routePA a2 a3 a4 a8 a9 a10) n.val) (ix2 (tok b j) ⟨e.val, by have := e.isLt; omega⟩) = cwP a3 a4 b (pl n j) e := by
  refine (flatR_tok _ b j _).trans ((block_at _ n b j _).trans ((routeP_lo _ _ n b j e).trans ((weights_at _ _ _ _ e).trans ?_)))
  unfold cwP
  rw [pairs_atP (e := .i32), pairs_atP (e := .i32), pairs_atP (e := .f32), pairs_atP (e := .f32)]
  rfl

theorem place_tok (hG : ∀ j, (a2 j).toNat < 4) (n : Fin 32) (t : Fin 512) :
    k0_pay20 (F := Ideal) (blockOf (routePA a2 a3 a4 a8 a9 a10) n.val) (ix2 t 4) = (((spot (grpOf (groupsOf a2 a8) (tile n)) t).val : ℝ) : EReal) := by
  have h : ∀ r, grpOf (groupsOf a2 a8) (tile n) r < 4 := fun r => by
    obtain ⟨b, j, rfl⟩ := tok_surj r
    rw [grp_tok]
    exact hG _
  obtain ⟨b, j, rfl⟩ := tok_surj t
  refine (flatR_tok _ b j _).trans ((block_at _ n b j _).trans ((routeP_hi _ _ n b j).trans ?_))
  refine (congrArg (FloatOps.sitofp (F := Ideal) .f32) (placesOf_at (groupsOf a2 a8) (tile n) h (tok b j))).trans ?_
  exact row_real _ (spot _ _).isLt

set_option maxHeartbeats 1000000 in
theorem prompt_kernel (a0 : FVec Ideal S8x2048x1024 .f32) (a1 : FVec Ideal S8x2048x1024 .bf16) (a5 : FVec Ideal S8x6144 .f32) (a12 a13 : FVec Ideal S16x1024x256 .bf16) (D : FVec Ideal S4x1024x1024 .bf16) (a15 : FVec Ideal S1024 .f32)
    (hG : ∀ j, (a2 j).toNat < 4) (h1 : ∀ j, IsR (a1 j)) (h4 : ∀ j, IsR (a4 j)) (h12 : ∀ j, IsR (a12 j)) (h13 : ∀ j, IsR (a13 j)) (hD : ∀ j, IsR (D j))
    (i : grid0.Coords) (n : Fin 32) (hi : i 0 = tile n) (b : Fin 8) (j : Fin 64) (g : Fin 4) (hg : (a2 (ix2 b (pl n j))).toNat = g.val) (k : Fin 1024) :
    outP (F := Ideal) (tab (groupsOf a2 a8)) i a12 a13 D (blockOf a0 n.val) (blockOf a1 n.val) (blockOf (routePA a2 a3 a4 a8 a9 a10) n.val) (lastColsP (F := Ideal) a5)
        (shapeCast S1x1024 a15 shapeCasts_S1024_S1x1024) (ix3 b j k)
      = normed (fun x => a0 (ix3 b (pl n j) x) + Yv g a12 a13 D (fun k => a1 (ix3 b (pl n j) k)) (cwP a3 a4 b (pl n j)) x * a5 (ix2 b ⟨5120 + x.val, by omega⟩)) (a15 (ix1 k)) k := by
  have h : ∀ r, grpOf (groupsOf a2 a8) (tile n) r < 4 := fun r => by
    obtain ⟨b, j, rfl⟩ := tok_surj r
    rw [grp_tok]
    exact hG _
  have hr := spot_range (groupsOf a2 a8) (tile n) h (tok b j) g ((grp_tok a2 a8 n b j).trans hg)
  refine (outP_at (groupsOf a2 a8) i a12 a13 D _ _ _ _ _ (spot (grpOf (groupsOf a2 a8) (tile n))) (spot_inj _) (place_tok a2 a3 a4 a8 a9 a10 hG n) h12 h13 hD (fun t k => ?_) (fun t e => ?_) b j (tok b j) rfl g (by rw [hi]; exact hr) k).trans ?_
  · obtain ⟨b, j, rfl⟩ := tok_surj t
    rw [flat_tok, block_at]; exact h1 _
  · obtain ⟨b, j, rfl⟩ := tok_surj t
    rw [weight_tok]; exact isR_cwP a3 a4 h4 _ _ _
  · have e1 : (fun k => flat (blockOf a1 n.val) (ix2 (tok b j) k)) = fun k => a1 (ix3 b (pl n j) k) := funext fun k => (flat_tok _ b j k).trans (block_at a1 n b j k)
    have e2 := funext (weight_tok a2 a3 a4 a8 a9 a10 n b j)
    rw [e1, e2, gain_at]
    refine congrArg (fun Z => normed Z (a15 (ix1 k)) k) (funext fun x => ?_)
    rw [block_at]
    rfl

end

end Cert.KernelIdeal.Moe
-- ==== Proof.CombineP.lean ====
/-
  The reference's prompt result element by element: a token's row is the norm of the token plus its modulation times the
  four experts' sum of its group.
-/
module

public import proofs.«01_k».proof.Proof.RefP
public import proofs.«01_k».proof.Proof.Combine
public import proofs.«01_k».proof.Proof.PromptAt

@[expose] public section

noncomputable section

namespace Cert.ReferenceIdeal.MoeP

open Cert.ReferenceIdeal Cert.ReferenceIdeal.Gen
open Idealize.ShloMosaic Idealize.ShloMosaic.TcCoe Idealize.ShloMosaic.Tactic
open Cert.KernelIdeal.Moe (ex lane Yv normed sum_experts cwP)
open Cert.ReferenceIdeal.Moe (hit pick)
open Cert.Pre_routed.Moe (SaysP)

section

variable (a0 : FVec Ideal S8x2048x1024 .f32) (a1 : FVec Ideal S8x2048x1024 .bf16) (a2 : IVec S8x2048 32) (a3 : IVec S8x2048x2 32) (a4 : FVec Ideal S8x2048x2 .f32) (a5 : FVec Ideal S8x6144 .f32)
  (a12 a13 : FVec Ideal S16x1024x256 .bf16) (a14 : FVec Ideal S16x256x1024 .bf16) (a15 : FVec Ideal S1024 .f32) (S : SaysP a1 a2 a3 a4 a12 a13 a14)

/-- The row of a pair in the flattened order. -/
def row (q : Fin 8) (s : Fin 2048) : Fin 16384 := ⟨q.val * 2048 + s.val, by omega⟩

theorem comb_row (q : Fin 8) (s : Fin 2048) (n : Fin 16) : comb a2 a3 a4 (ix2 (row q s) n)
    = ∑ x : Fin 2, FloatOps.uitofp (F := Ideal) .f32 (IntOp.cmpi .eq (IntOp.addi (IntOp.muli (a2 (ix2 q s)) 4#32) (a3 (ix3 q s x))) (BitVec.ofNat 32 n.val)) * a4 (ix3 q s x) := by
  have hq : (⟨(row q s).val / 2048, by omega⟩ : Fin 8) = q := Fin.ext (by show (q.val * 2048 + s.val) / 2048 = q.val; omega)
  have hs : (⟨(row q s).val % 2048, Nat.mod_lt _ (by omega)⟩ : Fin 2048) = s := Fin.ext (by show (q.val * 2048 + s.val) % 2048 = s.val; omega)
  refine (comb_at a2 a3 a4 (row q s) n).trans ?_
  rw [hq, hs]

theorem up_row (w : FVec Ideal S16x1024x256 .bf16) (q : Fin 8) (s : Fin 2048) (n : Fin 16) (f : Fin 256) : up a1 w (ix3 (row q s) n f) = ∑ k : Fin 1024, a1 (ix3 q s k) * w (ix3 n k f) := by
  have hq : (⟨(row q s).val / 2048, by omega⟩ : Fin 8) = q := Fin.ext (by show (q.val * 2048 + s.val) / 2048 = q.val; omega)
  have hs : (⟨(row q s).val % 2048, Nat.mod_lt _ (by omega)⟩ : Fin 2048) = s := Fin.ext (by show (q.val * 2048 + s.val) % 2048 = s.val; omega)
  refine (up_at a1 w (row q s) n f).trans ?_
  rw [hq, hs]

include S in
theorem comb_in (q : Fin 8) (s : Fin 2048) (g : Fin 4) (hg : (a2 (ix2 q s)).toNat = g.val) (e : Fin 4) : comb a2 a3 a4 (ix2 (row q s) (ex g e)) = cwP a3 a4 q s e := by
  rw [comb_row, Fin.sum_univ_two, hit _ _ (S.group _) (S.expert _), hit _ _ (S.group _) (S.expert _), hg]
  unfold cwP
  rw [pick, pick]
  show (if 4 * g.val + _ = 4 * g.val + e.val then (1 : EReal) else 0) * _ + (if 4 * g.val + _ = 4 * g.val + e.val then (1 : EReal) else 0) * _ = _
  simp only [Nat.add_left_cancel_iff]
  by_cases h0 : (a3 (ix3 q s 0)).toNat = e.val
  · have h1 : ¬(a3 (ix3 q s 1)).toNat = e.val := fun h => S.differ q s (BitVec.eq_of_toNat_eq (h0.trans h.symm))
    rw [if_pos h0, if_neg h1, if_pos h0, one_mul, zero_mul, add_zero]
  · rw [if_neg h0, if_neg h0, zero_mul, zero_add]
    by_cases h1 : (a3 (ix3 q s 1)).toNat = e.val
    · rw [if_pos h1, if_pos h1, one_mul]
    · rw [if_neg h1, if_neg h1, zero_mul]

include S in
theorem comb_out (q : Fin 8) (s : Fin 2048) (g : Fin 4) (hg : (a2 (ix2 q s)).toNat = g.val) (n : Fin 16) (hn : n.val / 4 ≠ g.val) : comb a2 a3 a4 (ix2 (row q s) n) = 0 := by
  have h0 := S.expert (ix3 q s 0)
  have h1 := S.expert (ix3 q s 1)
  rw [comb_row, Fin.sum_univ_two, hit _ _ (S.group _) (S.expert _), hit _ _ (S.group _) (S.expert _), hg, if_neg (by omega), if_neg (by omega), zero_mul, zero_mul, add_zero]

include S in
/-- A token's experts' sum, over its group's four experts. -/
theorem down_row (D : Vec Ideal Cert.KernelIdeal.S4x1024x1024 .bf16) (q : Fin 8) (s : Fin 2048) (g : Fin 4) (hg : (a2 (ix2 q s)).toNat = g.val) (l : Fin 1024)
    (hD : ∀ (e : Fin 4) (f : Fin 256), D (ix3 g (lane e f) l) = a14 (ix3 (ex g e) f l)) :
    down (act (up a1 a12) (up a1 a13) (comb a2 a3 a4)) a14 (ix2 (row q s) l) = Yv g a12 a13 D (fun k => a1 (ix3 q s k)) (cwP a3 a4 q s) l := by
  refine (down_at _ a14 (row q s) l).trans ?_
  rw [← sum_experts g a12 a13 D a14 (fun k => a1 (ix3 q s k)) (cwP a3 a4 q s) (fun n => comb a2 a3 a4 (ix2 (row q s) n)) l hD (comb_in a1 a2 a3 a4 a12 a13 a14 S q s g hg) (comb_out a1 a2 a3 a4 a12 a13 a14 S q s g hg)]
  refine Finset.sum_congr rfl fun n _ => Finset.sum_congr rfl fun f _ => ?_
  rw [act_at, up_row, up_row]

include S in
/-- THE REFERENCE'S PROMPT RESULT at token `s` of sequence `q`. -/
theorem ref_at (D : Vec Ideal Cert.KernelIdeal.S4x1024x1024 .bf16) (q : Fin 8) (s : Fin 2048) (g : Fin 4) (hg : (a2 (ix2 q s)).toNat = g.val) (k : Fin 1024)
    (hD : ∀ (e : Fin 4) (f : Fin 256) (l : Fin 1024), D (ix3 g (lane e f) l) = a14 (ix3 (ex g e) f l)) :
    norm (added a0 a5 (down (act (up a1 a12) (up a1 a13) (comb a2 a3 a4)) a14)) a15 (ix3 q s k)
      = normed (fun x => a0 (ix3 q s x) + Yv g a12 a13 D (fun k => a1 (ix3 q s k)) (cwP a3 a4 q s) x * a5 (ix2 q ⟨5120 + x.val, by omega⟩)) (a15 (ix1 k)) k := by
  refine (norm_at _ a15 q s k).trans ?_
  have h : ∀ x : Fin 1024, added a0 a5 (down (act (up a1 a12) (up a1 a13) (comb a2 a3 a4)) a14) (ix3 q s x)
      = a0 (ix3 q s x) + Yv g a12 a13 D (fun k => a1 (ix3 q s k)) (cwP a3 a4 q s) x * a5 (ix2 q ⟨5120 + x.val, by omega⟩) := fun x => by
    rw [added_at]
    refine congrArg (fun z : EReal => a0 (ix3 q s x) + z) ?_
    refine (mul_comm _ _).trans (congrArg (fun z : EReal => z * a5 (ix2 q ⟨5120 + x.val, by omega⟩)) ?_)
    exact down_row a1 a2 a3 a4 a12 a13 a14 S D q s g hg x fun e f => hD e f x
  unfold normed
  simp only [h]

end

end Cert.ReferenceIdeal.MoeP
-- ==== Proof.Prompt.lean ====
/-
  What the call leaves in the prompt's result is the reference's, element by element.
-/
module

public import proofs.«01_k».proof.Proof.CombineP

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.Sem
open Cert.Pre_routed.Moe (SaysP)
open Cert.ReferenceIdeal.MoeP (norm added down act up comb ref_at)

variable (m : (ℓ : Loc nD τ sig) → Buf (Elt Ideal) ℓ)

/-- The reference's prompt result, of the arguments. -/
def promptRef (c : Dev nD) : S8x2048x1024.Idx → EReal :=
  norm (F := Ideal) (added (m ((c.tc : Thread nD τ).loc main_arg0)) (m ((c.tc : Thread nD τ).loc main_arg5))
      (down (act (up (m ((c.tc : Thread nD τ).loc main_arg1)) (m ((c.tc : Thread nD τ).loc main_arg12))) (up (m ((c.tc : Thread nD τ).loc main_arg1)) (m ((c.tc : Thread nD τ).loc main_arg13)))
        (comb (m ((c.tc : Thread nD τ).loc main_arg2)) (m ((c.tc : Thread nD τ).loc main_arg3)) (m ((c.tc : Thread nD τ).loc main_arg4)))) (m ((c.tc : Thread nD τ).loc main_arg14))))
      (m ((c.tc : Thread nD τ).loc main_arg15))

set_option maxHeartbeats 1000000 in
/-- A prompt step's result, of plain arrays. -/
theorem prompt_core (a0 : FVec Ideal S8x2048x1024 .f32) (a1 : FVec Ideal S8x2048x1024 .bf16) (a2 : IVec S8x2048 32) (a3 : IVec S8x2048x2 32) (a4 : FVec Ideal S8x2048x2 .f32) (a5 : FVec Ideal S8x6144 .f32)
    (a8 : IVec S128x4 32) (a9 : IVec S128x4x2 32) (a10 : FVec Ideal S128x4x2 .f32) (a12 a13 : FVec Ideal S16x1024x256 .bf16) (a14 : FVec Ideal S16x256x1024 .bf16) (a15 : FVec Ideal S1024 .f32) (S : SaysP a1 a2 a3 a4 a12 a13 a14)
    (i : grid0.Coords) (n : Fin 32) (hi : i 0 = tile n) (b : Fin 8) (j : Fin 64) (k : Fin 1024) :
    outP (F := Ideal) (tab (groupsOf a2 a8)) i a12 a13 (shapeCast S4x1024x1024 a14 shapeCasts_S16x256x1024_S4x1024x1024) (blockOf a0 n.val) (blockOf a1 n.val) (blockOf (routePA a2 a3 a4 a8 a9 a10) n.val) (lastColsP (F := Ideal) a5)
        (shapeCast S1x1024 a15 shapeCasts_S1024_S1x1024) (ix3 b j k)
      = norm (F := Ideal) (added a0 a5 (down (act (up a1 a12) (up a1 a13) (comb a2 a3 a4)) a14)) a15 (ix3 b (pl n j) k) := by
  have hg4 := S.group (ix2 b (pl n j))
  refine (prompt_kernel a2 a3 a4 a8 a9 a10 a0 a1 a5 a12 a13 _ a15 S.group S.h S.w S.w1 S.w3 (fun j => S.w2 _) i n hi b j ⟨(a2 (ix2 b (pl n j))).toNat, hg4⟩ rfl k).trans ?_
  exact (ref_at a0 a1 a2 a3 a4 a5 a12 a13 a14 a15 S (shapeCast S4x1024x1024 a14 shapeCasts_S16x256x1024_S4x1024x1024) b (pl n j) ⟨(a2 (ix2 b (pl n j))).toNat, hg4⟩ rfl k (fun e f l => down_rows a14 _ e f l)).symm

set_option maxHeartbeats 2000000 in
theorem prompt_step (c : Dev nD) (t : Fin (cfgA m).N) (ht : t.val < 32)
    (S : SaysP (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg12)) (m ((c.tc : Thread nD τ).loc main_arg13)) (m ((c.tc : Thread nD τ).loc main_arg14))) :
    promptAt m c t = blockOf (promptRef m c) t.val := by
  obtain rfl : c = 0 := Subsingleton.elim _ _
  have hi : (grid0.coords t) 0 = tile ⟨t.val, ht⟩ := Fin.ext (coords_val t)
  have h0 : V m 0 main_arg0 = m (((0 : Dev nD).tc : Thread nD τ).loc main_arg0) := V_of m 0 main_arg0 (by decide)
  have h1 : V m 0 main_arg1 = m (((0 : Dev nD).tc : Thread nD τ).loc main_arg1) := V_of m 0 main_arg1 (by decide)
  have h5 : V m 0 main_arg5 = m (((0 : Dev nD).tc : Thread nD τ).loc main_arg5) := V_of m 0 main_arg5 (by decide)
  have h12 : V m 0 main_arg12 = m (((0 : Dev nD).tc : Thread nD τ).loc main_arg12) := V_of m 0 main_arg12 (by decide)
  have h13 : V m 0 main_arg13 = m (((0 : Dev nD).tc : Thread nD τ).loc main_arg13) := V_of m 0 main_arg13 (by decide)
  unfold promptAt
  rw [in0, in1, in2, in3, in8, h0, h1, h5, h12, h13]
  rw [show V m 0 main_v53 = _ from v53_eq _, show V m 0 main_v58 = _ from v58_eq _, show V m 0 main_v59 = _ from v59_eq _]
  funext y
  obtain ⟨b, j, k, rfl⟩ : ∃ (b : Fin 8) (j : Fin 64) (k : Fin 1024), y = ix3 b j k := ⟨y 0, y 1, y 2, funext fun a => by match a with | 0 => rfl | 1 => rfl | 2 => rfl⟩
  refine (prompt_core _ _ _ _ _ _ _ _ _ _ _ _ _ S (grid0.coords t) ⟨t.val, ht⟩ hi b j k).trans ?_
  exact (block_at (promptRef m 0) ⟨t.val, ht⟩ b j k).symm

/-- THE PROMPT'S RESULT. -/
theorem prompt_value (c : Dev nD)
    (S : SaysP (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg12)) (m ((c.tc : Thread nD τ).loc main_arg13)) (m ((c.tc : Thread nD τ).loc main_arg14))) :
    (dats m 0 c).arrAt 9 (cfgA m).N = promptRef m c :=
  out9 m c (promptRef m c) fun t ht => prompt_step m c t ht S

end Cert.KernelIdeal.Moe
-- ==== Proof.Sample.lean ====
/-
  What the call leaves in the sample's result is the reference's, element by element.
-/
module

public import proofs.«01_k».proof.Proof.Combine
public import proofs.«01_k».proof.Proof.Places
public import proofs.«01_k».proof.Proof.HostRoute
public import proofs.«01_k».proof.Proof.Windows

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.Sem
open Cert.Pre_routed.Moe (Says)
open Cert.ReferenceIdeal.Moe (norm added down act up comb cw ref_at)

variable (m : (ℓ : Loc nD τ sig) → Buf (Elt Ideal) ℓ)

/-- The reference's sample result, of the arguments. -/
def sampleRef (c : Dev nD) : S512x1024.Idx → EReal :=
  norm (F := Ideal) (added (m ((c.tc : Thread nD τ).loc main_arg6)) (m ((c.tc : Thread nD τ).loc main_arg11))
      (down (act (up (m ((c.tc : Thread nD τ).loc main_arg7)) (m ((c.tc : Thread nD τ).loc main_arg12))) (up (m ((c.tc : Thread nD τ).loc main_arg7)) (m ((c.tc : Thread nD τ).loc main_arg13)))
        (comb (m ((c.tc : Thread nD τ).loc main_arg8)) (m ((c.tc : Thread nD τ).loc main_arg9)) (m ((c.tc : Thread nD τ).loc main_arg10)))) (m ((c.tc : Thread nD τ).loc main_arg14))))
      (m ((c.tc : Thread nD τ).loc main_arg15))

theorem isR_cw (a9 : IVec S128x4x2 32) (a10 : FVec Ideal S128x4x2 .f32) (h : ∀ j, IsR (a10 j)) (q : Fin 128) (s e : Fin 4) : IsR (cw a9 a10 q s e) := by
  unfold cw Scalar.select
  split_ifs
  · exact h _
  · exact h _
  · exact isR_zero

/-- The sample tile's routing array, of plain arrays. -/
abbrev routeA (a2 : IVec S8x2048 32) (a3 : IVec S8x2048x2 32) (a4 : FVec Ideal S8x2048x2 .f32) (a8 : IVec S128x4 32) (a9 : IVec S128x4x2 32) (a10 : FVec Ideal S128x4x2 .f32) : FVec Ideal S512x128 .f32 :=
  routeS (F := Ideal) (routeOf (F := Ideal) (placesOf (groupsOf a2 a8)) (weightsOf (F := Ideal) (pairsOf (F := Ideal) (e := .i32) a3 a9) (pairsOf (F := Ideal) (e := .f32) a4 a10)))

set_option maxHeartbeats 1000000 in
/-- The sample step's result, of plain arrays. -/
theorem sample_core (a2 : IVec S8x2048 32) (a3 : IVec S8x2048x2 32) (a4 : FVec Ideal S8x2048x2 .f32) (a6 : FVec Ideal S128x4x1024 .f32) (a7 : FVec Ideal S128x4x1024 .bf16) (a8 : IVec S128x4 32) (a9 : IVec S128x4x2 32) (a10 : FVec Ideal S128x4x2 .f32)
    (a11 : FVec Ideal S128x6144 .f32) (a12 a13 : FVec Ideal S16x1024x256 .bf16) (a14 : FVec Ideal S16x256x1024 .bf16) (a15 : FVec Ideal S1024 .f32) (S : Says a7 a8 a9 a10 a12 a13 a14)
    (i : grid0.Coords) (hi : i 0 = (32 : Fin 33)) (t : Fin 512) (k : Fin 1024) :
    outS (F := Ideal) (tab (groupsOf a2 a8)) i a12 a13 (shapeCast S4x1024x1024 a14 shapeCasts_S16x256x1024_S4x1024x1024) (byTime (F := Ideal) (e := .f32) a6) (byTime (F := Ideal) (e := .bf16) a7)
        (routeA a2 a3 a4 a8 a9 a10) (lastCols (F := Ideal) a11)
        (shapeCast S1x1024 a15 shapeCasts_S1024_S1x1024) (ix2 t k)
      = norm (F := Ideal) (added a6 a11 (down (act (up a7 a12) (up a7 a13) (comb a8 a9 a10)) a14)) a15 (ix2 t k) := by
  have hgrp : ∀ r : Fin 512, grpOf (groupsOf a2 a8) 32 r = (a8 (ix2 ⟨r.val % 128, Nat.mod_lt _ (by omega)⟩ ⟨r.val / 128, by omega⟩)).toNat := fun r => congrArg BitVec.toNat (groups_at a2 a8 r)
  have hG : ∀ r, grpOf (groupsOf a2 a8) 32 r < 4 := fun r => (hgrp r).symm ▸ S.group _
  have hw : ∀ (t : Fin 512) (e : Fin 4), routeA a2 a3 a4 a8 a9 a10 (ix2 t ⟨e.val, by have := e.isLt; omega⟩)
      = cw a9 a10 ⟨t.val % 128, Nat.mod_lt _ (by omega)⟩ ⟨t.val / 128, by omega⟩ e := fun t e => by
    refine (route_lo _ _ t e).trans ((weights_at _ _ 32 t e).trans ?_)
    unfold cw
    rw [pairs_at (e := .i32), pairs_at (e := .i32), pairs_at (e := .f32), pairs_at (e := .f32)]
  have hpos : ∀ t : Fin 512, routeA a2 a3 a4 a8 a9 a10 (ix2 t 4)
      = (((spot (grpOf (groupsOf a2 a8) 32) t).val : ℝ) : EReal) := fun t => by
    refine (route_hi _ _ t).trans ?_
    rw [placesOf_at _ 32 hG]
    exact row_real _ (spot _ t).isLt
  have hg4 := hG t
  have hr := spot_range (groupsOf a2 a8) 32 hG t _ rfl
  refine (outS_at (groupsOf a2 a8) i a12 a13 _ _ _ _ _ _ (spot (grpOf (groupsOf a2 a8) 32)) (spot_inj _) hpos S.w1 S.w3 (fun j => ?_) (fun t k => ?_) (fun t e => ?_) t ⟨grpOf (groupsOf a2 a8) 32 t, hg4⟩ (by rw [hi]; exact hr) k).trans ?_
  · exact S.w2 _
  · rw [byTime_at]; exact S.h _
  · rw [hw]; exact isR_cw a9 a10 S.w _ _ _
  · refine Eq.trans ?_ (ref_at a6 a7 a8 a9 a10 a11 a12 a13 a14 a15 S (shapeCast S4x1024x1024 a14 shapeCasts_S16x256x1024_S4x1024x1024) t ⟨grpOf (groupsOf a2 a8) 32 t, hg4⟩ (hgrp t).symm k (fun e f l => down_rows a14 _ e f l)).symm
    have e1 : (fun k => byTime (F := Ideal) (e := .bf16) a7 (ix2 t k)) = fun k => a7 (ix3 ⟨t.val % 128, Nat.mod_lt _ (by omega)⟩ ⟨t.val / 128, by omega⟩ k) := funext fun k => byTime_at (e := .bf16) a7 t k
    have e2 := funext (hw t)
    rw [e1, e2, gain_at]
    refine congrArg (fun Z => normed Z (a15 (ix1 k)) k) (funext fun x => ?_)
    rw [byTime_at (e := .f32)]
    rfl

set_option maxHeartbeats 2000000 in
theorem sample_value (c : Dev nD) (t : Fin (cfgA m).N) (ht : t.val = 32)
    (S : Says (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14))) :
    sampleAt m c t = sampleRef m c := by
  obtain rfl : c = 0 := Subsingleton.elim _ _
  have hi : (grid0.coords t) 0 = (32 : Fin 33) := Fin.ext ((coords_val t).trans ht)
  have h12 : V m 0 main_arg12 = m (((0 : Dev nD).tc : Thread nD τ).loc main_arg12) := V_of m 0 main_arg12 (by decide)
  have h13 : V m 0 main_arg13 = m (((0 : Dev nD).tc : Thread nD τ).loc main_arg13) := V_of m 0 main_arg13 (by decide)
  have h11 : V m 0 main_arg11 = m (((0 : Dev nD).tc : Thread nD τ).loc main_arg11) := V_of m 0 main_arg11 (by decide)
  unfold sampleAt
  rw [in4, in5, in6, in7, in8, h11, h12, h13]
  rw [show V m 0 main_v55 = _ from v55_eq _, show V m 0 main_v57 = _ from v57_eq _, show V m 0 main_v58 = _ from v58_eq _, show V m 0 main_v59 = _ from v59_eq _, show V m 0 main_v62 = _ from v62_eq _]
  funext j
  obtain ⟨t', k, rfl⟩ : ∃ (t' : Fin 512) (k : Fin 1024), j = ix2 t' k := ⟨j 0, j 1, funext fun a => by match a with | 0 => rfl | 1 => rfl⟩
  exact sample_core _ _ _ _ _ _ _ _ _ _ _ _ _ S (grid0.coords t) hi t' k

end Cert.KernelIdeal.Moe
-- ==== Proof.Values.lean ====
/-
  The program runs, and ends with the prompt's and the sample's results at the reference's.
-/
module

public import proofs.«01_k».proof.Proof.Prompt
public import proofs.«01_k».proof.Proof.Sample

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.Sem
open Cert.Pre_routed.Moe (Says SaysP)

variable (m : (ℓ : Loc nD τ sig) → Buf (Elt Ideal) ℓ) (ρ : Dev nD → PrngReg)

/-- The last step. -/
def lastStep : Fin (cfgA m).N := ⟨32, by show 32 < grid0.N; decide +kernel⟩

theorem run_values (SP : ∀ c : Dev nD, SaysP (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg12)) (m ((c.tc : Thread nD τ).loc main_arg13)) (m ((c.tc : Thread nD τ).loc main_arg14)))
    (S : ∀ c : Dev nD, Says (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14))) :
    θ_run defs (onTc (τ := τ) (main (F := Ideal))) ⟨m, fun _ => 0, ρ⟩ (fun r => ∀ c : Dev nD,
      r.2.mem ((c.tc : Thread nD τ).loc main_v63_0) = promptRef m c
      ∧ r.2.mem ((c.tc : Thread nD τ).loc main_v63_1) = sampleRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    ((h.1 c).1 9).trans (prompt_value m c (SP c)),
    ((h.1 c).1 10).trans ((out10 m c (lastStep m) rfl).trans (sample_value m c (lastStep m) rfl (S c))),
    (kept_in m r h.1 c 0 rfl).trans (V_of m c main_arg0 (by decide)),
    (kept_in m r h.1 c 1 rfl).trans (V_of m c main_arg1 (by decide)),
    kept_rest m r h.1 c main_arg2 (Pipeline.mem_restRefs_of main_arg2 (by decide) (by decide)) (by decide),
    kept_rest m r h.1 c main_arg3 (Pipeline.mem_restRefs_of main_arg3 (by decide) (by decide)) (by decide),
    kept_rest m r h.1 c main_arg4 (Pipeline.mem_restRefs_of main_arg4 (by decide) (by decide)) (by decide),
    (kept_in m r h.1 c 3 rfl).trans (V_of m c main_arg5 (by decide)),
    kept_rest m r h.1 c main_arg6 (Pipeline.mem_restRefs_of main_arg6 (by decide) (by decide)) (by decide),
    kept_rest m r h.1 c main_arg7 (Pipeline.mem_restRefs_of main_arg7 (by decide) (by decide)) (by decide),
    kept_rest m r h.1 c main_arg8 (Pipeline.mem_restRefs_of main_arg8 (by decide) (by decide)) (by decide),
    kept_rest m r h.1 c main_arg9 (Pipeline.mem_restRefs_of main_arg9 (by decide) (by decide)) (by decide),
    kept_rest m r h.1 c main_arg10 (Pipeline.mem_restRefs_of main_arg10 (by decide) (by decide)) (by decide),
    (kept_in m r h.1 c 7 rfl).trans (V_of m c main_arg11 (by decide)),
    kept_rest m r h.1 c main_arg12 (Pipeline.mem_restRefs_of main_arg12 (by decide) (by decide)) (by decide),
    kept_rest m r h.1 c main_arg13 (Pipeline.mem_restRefs_of main_arg13 (by decide) (by decide)) (by decide),
    kept_rest m r h.1 c main_arg14 (Pipeline.mem_restRefs_of main_arg14 (by decide) (by decide)) (by decide),
    kept_rest m r h.1 c main_arg15 (Pipeline.mem_restRefs_of main_arg15 (by decide) (by decide)) (by decide)⟩) (run_main m ρ)

end Cert.KernelIdeal.Moe
-- ==== Proof.Agree.lean ====
/-
  Over the extended reals the kernel's results are the reference's.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Values

@[expose] public section

namespace Cert.Proof

open Idealize.ShloMosaic Idealize.ShloMosaic.TcCoe Idealize.SL.Sem
open Cert.Pre_routed.Moe (unpack)

theorem agree : Cert.algebraic_KernelIdeal_ReferenceIdeal_pre_routed := by
  intro m g m' g' hpre hargs
  have hs := fun c => unpack _ _ _ _ _ _ _ _ _ _ _ _ _ _ _ _ (fun i => nomatch i) (congrFun (hpre c) _)
  refine ⟨fun c => Cert.KernelIdeal.Moe.promptRef m c, fun c => Cert.KernelIdeal.Moe.sampleRef m c, Cert.KernelIdeal.Moe.run_values m g (fun c => (hs c).1) (fun c => (hs c).2), ?_⟩
  refine (θ_run Cert.ReferenceIdeal.defs _ _).mono (fun r h c => ⟨(h c).1.trans ?_, (h c).2.1.trans ?_, (h c).2.2⟩) (Cert.ReferenceIdeal.Value.run (F := Ideal) m' g')
  · refine (Cert.ReferenceIdeal.MoeP.res_eq m' c).trans ?_
    obtain ⟨h0, h1, h2, h3, h4, h5, -, -, -, -, -, -, h12, h13, h14, h15⟩ := hargs c
    rw [h0, h1, h2, h3, h4, h5, h12, h13, h14, h15]
    rfl
  · refine (Cert.ReferenceIdeal.Moe.res_eq m' c).trans ?_
    obtain ⟨-, -, -, -, -, -, h6, h7, h8, h9, h10, h11, h12, h13, h14, h15⟩ := hargs c
    rw [h6, h7, h8, h9, h10, h11, h12, h13, h14, h15]
    rfl

end Cert.Proof
-- ==== Proof.lean ====
/-
  The claims of this directory: the kernel's program runs and leaves its arguments as they were, as printed and over the
  extended reals, and so does the reference; the second is the first's text; and over the extended reals the kernel's
  result is the reference's. The run is Proof/Run.lean's, over any element values; the values are Proof/Agree.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Same
public import proofs.«01_k».proof.Proof.Agree

@[expose] public section

namespace Cert.Proof

open Idealize.ShloMosaic Idealize.ShloMosaic.TcCoe Idealize.SL.Sem

set_option maxHeartbeats 4000000 in
theorem frame_kernel : Cert.quiescent_Kernel := by
  intro m ρ _
  rw [defs_same, funext main_same]
  exact Cert.KernelIdeal.Moe.frame_main (F := Bits) m ρ
theorem frame_ideal : Cert.quiescent_KernelIdeal := fun m ρ _ => Cert.KernelIdeal.Moe.frame_main (F := Ideal) m ρ

theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts, Cert.Pre_routed.Moe.facts, frame_kernel, frame_ideal,
    fun m ρ _ => frame_ideal m ρ trivial, frame_reference, fun m ρ _ => frame_reference m ρ trivial, trivial, agree⟩

end Cert.Proof
